-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v137) = v0 c
          ∧ r.2.mem ((c.tc : Thread Cert.Reference5Ideal.nD Cert.Reference5Ideal.τ).loc Cert.Reference5Ideal.main_v138) = v1 c
          ∧ r.2.mem ((c.tc : Thread Cert.Reference5Ideal.nD Cert.Reference5Ideal.τ).loc Cert.Reference5Ideal.main_v136) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_3)) (v1 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_3) = v0 c
          ∧ r.2.mem ((c.tc : Thread Cert.Kernel6Ideal.nD Cert.Kernel6Ideal.τ).loc Cert.Kernel6Ideal.main_v0_4) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v47_0)) (v1 : (c : Dev Cert.Kernel7Ideal.nD) → Buf (Elt Ideal) ((c.tc : Thread Cert.Kernel7Ideal.nD Cert.Kernel7Ideal.τ).loc Cert.Kernel7Ideal.main_v47_1)) (v2 : (c : Dev Cert.Kernel7Ideal.nD) → Buf (Elt Ideal) ((c.tc : Thread Cert.Kernel7Ideal.nD Cert.Kernel7Ideal.τ).loc Cert.Kernel7Ideal.main_v47_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47_0) = v0 c
          ∧ r.2.mem ((c.tc : Thread Cert.Kernel7Ideal.nD Cert.Kernel7Ideal.τ).loc Cert.Kernel7Ideal.main_v47_1) = v1 c
          ∧ r.2.mem ((c.tc : Thread Cert.Kernel7Ideal.nD Cert.Kernel7Ideal.τ).loc Cert.Kernel7Ideal.main_v47_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v162) = v0 c
          ∧ r.2.mem ((c.tc : Thread Cert.Reference7Ideal.nD Cert.Reference7Ideal.τ).loc Cert.Reference7Ideal.main_v166) = v1 c
          ∧ r.2.mem ((c.tc : Thread Cert.Reference7Ideal.nD Cert.Reference7Ideal.τ).loc Cert.Reference7Ideal.main_v170) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_scores.lean ====
abbrev S12288x1024 : Shape := ⟨2, ![12288, 1024]⟩
abbrev S4x64 : Shape := ⟨2, ![4, 64]⟩
abbrev S1x128 : Shape := ⟨2, ![1, 128]⟩
abbrev S4x2x256x8x2x64 : Shape := ⟨6, ![4, 2, 256, 8, 2, 64]⟩
abbrev S4x2x256x8x128 : Shape := ⟨5, ![4, 2, 256, 8, 128]⟩
abbrev S_ : Shape := ⟨0, ![]⟩

class Facts : Prop where
  bitsLt_bf16_f32 : FTy.bits .bf16 < FTy.bits .f32
  bcast_S_S12288x1024 : S_.BroadcastsInDim S12288x1024 (![] : Fin 0 → Fin S12288x1024.rank)
  reducesTo_S12288x1024_S_d0_1 : S12288x1024.ReducesTo [0, 1] S_
  h_S_ : 0 < S_.numel
  bcast_S_S4x2x256x8x2x64 : S_.BroadcastsInDim S4x2x256x8x2x64 (![] : Fin 0 → Fin S4x2x256x8x2x64.rank)
  reducesTo_S4x2x256x8x2x64_S_d0_1_2_3_4_5 : S4x2x256x8x2x64.ReducesTo [0, 1, 2, 3, 4, 5] S_

variable [Facts]

def fn {F : FTy → Type} [FloatOps F] (main_arg0 : FVec F S12288x1024 .bf16) (main_arg1 : FVec F S12288x1024 .bf16) (main_arg2 : FVec F S12288x1024 .bf16) (main_arg3 : FVec F S4x64 .f32) (main_arg4 : FVec F S1x128 .f32) (main_arg5 : FVec F S4x2x256x8x2x64 .f32) (main_arg6 : FVec F S4x2x256x8x128 .f32) (main_arg7 : FVec F S12288x1024 .bf16) : IVec S_ 1 :=
  let main_v0 : FVec F S12288x1024 .f32 := (extf .f32 · bitsLt_bf16_f32) main_arg0
  let main_v1 : FVec F S12288x1024 .f32 := Host.absf main_v0
  let main_cst : FVec F S_ .f32 := constant S_ .f32 0x7F800000#32
  let main_v2 : FVec F S12288x1024 .f32 := broadcastInDim S12288x1024 ![] bcast_S_S12288x1024 main_cst
  let main_v3 : IVec S12288x1024 1 := cmpf .olt main_v1 main_v2
  let main_c : IVec S_ 1 := constantI S_ 1 1#1
  let main_v4 : IVec S_ 1 := (fun x v => Host.reduce IntOp.andi x v reducesTo_S12288x1024_S_d0_1 h_S_) main_v3 main_c
  let main_v5 : FVec F S12288x1024 .f32 := (extf .f32 · bitsLt_bf16_f32) main_arg1
  let main_v6 : FVec F S12288x1024 .f32 := Host.absf main_v5
  let main_cst_0 : FVec F S_ .f32 := constant S_ .f32 0x7F800000#32
  let main_v7 : FVec F S12288x1024 .f32 := broadcastInDim S12288x1024 ![] bcast_S_S12288x1024 main_cst_0
  let main_v8 : IVec S12288x1024 1 := cmpf .olt main_v6 main_v7
  let main_c_1 : IVec S_ 1 := constantI S_ 1 1#1
  let main_v9 : IVec S_ 1 := (fun x v => Host.reduce IntOp.andi x v reducesTo_S12288x1024_S_d0_1 h_S_) main_v8 main_c_1
  let main_v10 : IVec S_ 1 := andi main_v4 main_v9
  let main_v11 : FVec F S4x2x256x8x2x64 .f32 := Host.absf main_arg5
  let main_cst_2 : FVec F S_ .f32 := constant S_ .f32 0x7F800000#32
  let main_v12 : FVec F S4x2x256x8x2x64 .f32 := broadcastInDim S4x2x256x8x2x64 ![] bcast_S_S4x2x256x8x2x64 main_cst_2
  let main_v13 : IVec S4x2x256x8x2x64 1 := cmpf .olt main_v11 main_v12
  let main_c_3 : IVec S_ 1 := constantI S_ 1 1#1
  let main_v14 : IVec S_ 1 := (fun x v => Host.reduce IntOp.andi x v reducesTo_S4x2x256x8x2x64_S_d0_1_2_3_4_5 h_S_) main_v13 main_c_3
  let main_v15 : IVec S_ 1 := andi main_v10 main_v14
  main_v15
-- ==== Kernel.lean ====
abbrev S12288x1024 : Shape := ⟨2, ![12288, 1024]⟩
abbrev S4x64 : Shape := ⟨2, ![4, 64]⟩
abbrev S1x128 : Shape := ⟨2, ![1, 128]⟩
abbrev S4x2x256x8x2x64 : Shape := ⟨6, ![4, 2, 256, 8, 2, 64]⟩
abbrev S4x2x256x8x128 : Shape := ⟨5, ![4, 2, 256, 8, 128]⟩
abbrev S4x2x256x1024 : Shape := ⟨4, ![4, 2, 256, 1024]⟩
abbrev S256x512 : Shape := ⟨2, ![256, 512]⟩
abbrev S2048x512 : Shape := ⟨2, ![2048, 512]⟩
abbrev S1x1x256x512 : Shape := ⟨4, ![1, 1, 256, 512]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S256x2048 : Shape := ⟨2, ![256, 2048]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S4x64, .f32⟩
  | .hbm, ⟨4, _⟩ => ⟨S1x128, .f32⟩
  | .hbm, ⟨5, _⟩ => ⟨S4x2x256x8x2x64, .f32⟩
  | .hbm, ⟨6, _⟩ => ⟨S4x2x256x8x128, .f32⟩
  | .hbm, ⟨7, _⟩ => ⟨S12288x1024, .bf16⟩
  | .hbm, ⟨8, _⟩ => ⟨S4x2x256x1024, .f32⟩
  | .hbm, ⟨9, _⟩ => ⟨S4x2x256x1024, .f32⟩
  | .hbm, ⟨10, _⟩ => ⟨S12288x1024, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x1x256x512, .f32⟩
  | .local _ .vmem, ⟨7, _⟩ => ⟨S1x1x256x512, .f32⟩
  | .local _ .vmem, ⟨8, _⟩ => ⟨S1x1x256x512, .f32⟩
  | .local _ .vmem, ⟨9, _⟩ => ⟨S1x1x256x512, .f32⟩
  | .local _ .vmem, ⟨10, _⟩ => ⟨S4x64, .f32⟩
  | .local _ .vmem, ⟨11, _⟩ => ⟨S1x128, .f32⟩
  | .local _ .vmem, ⟨12, _⟩ => ⟨S256x512, .bf16⟩
  | .local _ .vmem, ⟨13, _⟩ => ⟨S256x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S12288x1024 : Shape := ⟨2, ![12288, 1024]⟩
abbrev S4x64 : Shape := ⟨2, ![4, 64]⟩
abbrev S1x128 : Shape := ⟨2, ![1, 128]⟩
abbrev S4x2x256x8x2x64 : Shape := ⟨6, ![4, 2, 256, 8, 2, 64]⟩
abbrev S4x2x256x8x128 : Shape := ⟨5, ![4, 2, 256, 8, 128]⟩
abbrev S_ : Shape := ⟨0, ![]⟩
abbrev S1x64 : Shape := ⟨2, ![1, 64]⟩
abbrev S64 : Shape := ⟨1, ![64]⟩
abbrev S8192x1024 : Shape := ⟨2, ![8192, 1024]⟩
abbrev S4x2048x8x2x64 : Shape := ⟨5, ![4, 2048, 8, 2, 64]⟩
abbrev S4x2048x8x128 : Shape := ⟨4, ![4, 2048, 8, 128]⟩
abbrev S4x1x256x8x2x64 : Shape := ⟨6, ![4, 1, 256, 8, 2, 64]⟩
abbrev S4x256x8x2x64 : Shape := ⟨5, ![4, 256, 8, 2, 64]⟩
abbrev S4x2304x8x2x64 : Shape := ⟨5, ![4, 2304, 8, 2, 64]⟩
abbrev S4x1x256x8x128 : Shape := ⟨5, ![4, 1, 256, 8, 128]⟩
abbrev S4x256x8x128 : Shape := ⟨4, ![4, 256, 8, 128]⟩
abbrev S4x2304x8x128 : Shape := ⟨4, ![4, 2304, 8, 128]⟩
abbrev S4x8x2x2048x2304 : Shape := ⟨5, ![4, 8, 2, 2048, 2304]⟩
abbrev S4x8x2x2048 : Shape := ⟨4, ![4, 8, 2, 2048]⟩
abbrev S4x8x2x2048x1 : Shape := ⟨5, ![4, 8, 2, 2048, 1]⟩
abbrev S4x8x1x2048x2304 : Shape := ⟨5, ![4, 8, 1, 2048, 2304]⟩
abbrev S4x8x2048x2304 : Shape := ⟨4, ![4, 8, 2048, 2304]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩
abbrev S128 : Shape := ⟨1, ![128]⟩
abbrev S1x1x1x128 : Shape := ⟨4, ![1, 1, 1, 128]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S4x64, .f32⟩
  | .hbm, ⟨4, _⟩ => ⟨S1x128, .f32⟩
  | .hbm, ⟨5, _⟩ => ⟨S4x2x256x8x2x64, .f32⟩
  | .hbm, ⟨6, _⟩ => ⟨S4x2x256x8x128, .f32⟩
  | .hbm, ⟨7, _⟩ => ⟨S12288x1024, .bf16⟩
  | .hbm, ⟨8, _⟩ => ⟨S12288x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S12288x1024, .f32⟩
  | .hbm, ⟨14, _⟩ => ⟨S12288x1024, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x1024, .f32⟩
  | .hbm, ⟨35, _⟩ => ⟨S4x2048x8x2x64, .f32⟩
  | .hbm, ⟨36, _⟩ => ⟨S8192x1024, .bf16⟩
  | .hbm, ⟨37, _⟩ => ⟨S8192x1024, .f32⟩
  | .hbm, ⟨38, _⟩ => ⟨S4x2048x8x2x64, .f32⟩
  | .hbm, ⟨39, _⟩ => ⟨S8192x1024, .bf16⟩
  | .hbm, ⟨40, _⟩ => ⟨S8192x1024, .f32⟩
  | .hbm, ⟨41, _⟩ => ⟨S4x2048x8x128, .f32⟩
  | .hbm, ⟨42, _⟩ => ⟨S4x1x256x8x2x64, .f32⟩
  | .hbm, ⟨43, _⟩ => ⟨S4x256x8x2x64, .f32⟩
  | .hbm, ⟨44, _⟩ => ⟨S4x2304x8x2x64, .f32⟩
  | .hbm, ⟨45, _⟩ => ⟨S4x1x256x8x128, .f32⟩
  | .hbm, ⟨46, _⟩ => ⟨S4x256x8x128, .f32⟩
  | .hbm, ⟨47, _⟩ => ⟨S4x2304x8x128, .f32⟩
  | .hbm, ⟨48, _⟩ => ⟨S4x8x2x2048x2304, .f32⟩
  | .hbm, ⟨49, _⟩ => ⟨S_, .f32⟩
  | .hbm, ⟨50, _⟩ => ⟨S4x8x2x2048x2304, .f32⟩
  | .hbm, ⟨51, _⟩ => ⟨S4x8x2x2048x2304, .f32⟩
  | .hbm, ⟨52, _⟩ => ⟨S_, .f32⟩
  | .hbm, ⟨53, _⟩ => ⟨S4x8x2x2048, .f32⟩
  | .hbm, ⟨54, _⟩ => ⟨S_, .f32⟩
  | .hbm, ⟨55, _⟩ => ⟨S4x8x2x2048, .f32⟩
  | .hbm, ⟨56, _⟩ => ⟨S4x8x2x2048, .f32⟩
  | .hbm, ⟨57, _⟩ => ⟨S4x8x2x2048x1, .f32⟩
  | .hbm, ⟨58, _⟩ => ⟨S4x8x2x2048x2304, .f32⟩
  | .hbm, ⟨59, _⟩ => ⟨S4x8x2x2048x2304, .f32⟩
  | .hbm, ⟨60, _⟩ => ⟨S4x8x2x2048x2304, .f32⟩
  | .hbm, ⟨61, _⟩ => ⟨S_, .f32⟩
  | .hbm, ⟨62, _⟩ => ⟨S4x8x2x2048, .f32⟩
  | .hbm, ⟨63, _⟩ => ⟨S4x8x2x2048x1, .f32⟩
  | .hbm, ⟨64, _⟩ => ⟨S4x8x2x2048x2304, .f32⟩
  | .hbm, ⟨65, _⟩ => ⟨S4x8x2x2048x2304, .f32⟩
  | .hbm, ⟨66, _⟩ => ⟨S4x8x1x2048x2304, .f32⟩
  | .hbm, ⟨67, _⟩ => ⟨S4x8x2048x2304, .f32⟩
  | .hbm, ⟨68, _⟩ => ⟨S4x8x1x2048x2304, .f32⟩
  | .hbm, ⟨69, _⟩ => ⟨S4x8x2048x2304, .f32⟩
  | .hbm, ⟨70, _⟩ => ⟨S4x8x2048x2304, .f32⟩
  | .hbm, ⟨71, _⟩ => ⟨S4x8x2048x2304, .f32⟩
  | .hbm, ⟨72, _⟩ => ⟨S4x8x2048x2304, .f32⟩
  | .hbm, ⟨73, _⟩ => ⟨S4x8x128x2048, .f32⟩
  | .hbm, ⟨74, _⟩ => ⟨S4x2048x8x128, .f32⟩
  | .hbm, ⟨75, _⟩ => ⟨S4x2048x8x128, .f32⟩
  | .hbm, ⟨76, _⟩ => ⟨S_, .f32⟩
  | .hbm, ⟨77, _⟩ => ⟨S4x2048x8, .f32⟩
  | .hbm, ⟨78, _⟩ => ⟨S4x2048x8x1, .f32⟩
  | .hbm, ⟨79, _⟩ => ⟨S_, .f32⟩
  | .hbm, ⟨80, _⟩ => ⟨S4x2048x8x1, .f32⟩
  | .hbm, ⟨81, _⟩ => ⟨S4x2048x8x1, .f32⟩
  | .hbm, ⟨82, _⟩ => ⟨S_, .f32⟩
  | .hbm, ⟨83, _⟩ => ⟨S4x2048x8x1, .f32⟩
  | .hbm, ⟨84, _⟩ => ⟨S4x2048x8x1, .f32⟩
  | .hbm, ⟨85, _⟩ => ⟨S4x2048x8x1, .f32⟩
  | .hbm, ⟨86, _⟩ => ⟨S4x2048x8x128, .f32⟩
  | .hbm, ⟨87, _⟩ => ⟨S4x2048x8x128, .f32⟩
  | .hbm, ⟨88, _⟩ => ⟨S128, .f32⟩
  | .hbm, ⟨89, _⟩ => ⟨S1x1x1x128, .f32⟩
  | .hbm, ⟨90, _⟩ => ⟨S4x2048x8x128, .f32⟩
  | .hbm, ⟨91, _⟩ => ⟨S4x2048x8x128, .f32⟩
  | .hbm, ⟨92, _⟩ => ⟨S_, .f32⟩
  | .hbm, ⟨93, _⟩ => ⟨S4x2048x8x128, .f32⟩
  | .hbm, ⟨94, _⟩ => ⟨S4x2048x8x128, .f32⟩
  | .hbm, ⟨95, _⟩ => ⟨S4096x1024, .bf16⟩
  | .hbm, ⟨96, _⟩ => ⟨S8192x1024, .f32⟩
  | .hbm, ⟨97, _⟩ => ⟨S8192x1024, .bf16⟩
  | .hbm, ⟨98, _⟩ => ⟨S12288x1024, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S12288x1024 : Shape := ⟨2, ![12288, 1024]⟩
abbrev S8x1x6144 : Shape := ⟨3, ![8, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8x1024 : Shape := ⟨2, ![8, 1024]⟩
abbrev S1024x1024 : Shape := ⟨2, ![1024, 1024]⟩
abbrev S1x1x1024 : Shape := ⟨3, ![1, 1, 1024]⟩
abbrev S1040x1024 : Shape := ⟨2, ![1040, 1024]⟩
abbrev S2x1040x256 : Shape := ⟨3, ![2, 1040, 256]⟩
abbrev S1024x512 : Shape := ⟨2, ![1024, 512]⟩
abbrev S8 : Shape := ⟨1, ![8]⟩
abbrev S8x1 : Shape := ⟨2, ![8, 1]⟩
abbrev S1024 : Shape := ⟨1, ![1024]⟩
abbrev S1024x1 : Shape := ⟨2, ![1024, 1]⟩
abbrev S1024x256 : Shape := ⟨2, ![1024, 256]⟩
abbrev S1040x256 : Shape := ⟨2, ![1040, 256]⟩
abbrev S1x1040x256 : Shape := ⟨3, ![1, 1040, 256]⟩
abbrev S3x256 : Shape := ⟨2, ![3, 256]⟩
abbrev S1x256 : Shape := ⟨2, ![1, 256]⟩
abbrev S130x8x256 : Shape := ⟨3, ![130, 8, 256]⟩
abbrev S128x8x256 : Shape := ⟨3, ![128, 8, 256]⟩
abbrev S32x8x256 : Shape := ⟨3, ![32, 8, 256]⟩
abbrev S1x8x256 : Shape := ⟨3, ![1, 8, 256]⟩
abbrev S31x8x256 : Shape := ⟨3, ![31, 8, 256]⟩
abbrev S1x1x256 : Shape := ⟨3, ![1, 1, 256]⟩
abbrev S512x1024 : Shape := ⟨2, ![512, 1024]⟩
abbrev S256x1024 : Shape := ⟨2, ![256, 1024]⟩

abbrev nBuf : Space → Nat
  | .hbm => 8
  | .vmem => 24
  | .smem => 0
  | _ => 0

abbrev bufTy : (tb : Table) → Fin (tcTables nBuf tb) → BufTy
  | .hbm, ⟨0, _⟩ => ⟨S12288x1024, .f32⟩
  | .hbm, ⟨1, _⟩ => ⟨S8x1x6144, .f32⟩
  | .hbm, ⟨2, _⟩ => ⟨S1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S12288x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1024x1024, .f32⟩
  | .local _ .vmem, ⟨18, _⟩ => ⟨S1024x1024, .f32⟩
  | .local _ .vmem, ⟨19, _⟩ => ⟨S1040x1024, .bf16⟩
  | .local _ .vmem, ⟨20, _⟩ => ⟨S2x1040x256, .f32⟩
  | .local _ .vmem, ⟨21, _⟩ => ⟨S2x1040x256, .f32⟩
  | .local _ .vmem, ⟨22, _⟩ => ⟨S1024x512, .bf16⟩
  | .local _ .vmem, ⟨23, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![12], ![false]⟩

def k0_mult1 : BitVec 32 :=
  let c0_i32_44 : BitVec 32 := 0#32
  c0_i32_44
def k0_mult2 : BitVec 32 :=
  let c2816_i32 : BitVec 32 := 2816#32
  c2816_i32
@[reducible] def k0_t1_loop : Scf.Loop 32 :=
  let c0_i32_56 : BitVec 32 := 0#32
  let c5_i32 : BitVec 32 := 5#32
  let v108 : BitVec 32 := Scalar.addi c0_i32_56 c5_i32
  let c1_i32_57 : BitVec 32 := 1#32
  ⟨c0_i32_56, v108, c1_i32_57⟩
def k0_mult3 (k0_t1 : Fin k0_t1_loop.trips) : BitVec 32 :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_93 : BitVec 32 := 1#32
  let v269 : BitVec 32 := Scalar.addi v268 c1_i32_93
  let c256_i32_96 : BitVec 32 := 256#32
  let v271 : BitVec 32 := Scalar.muli v269 c256_i32_96
  v271
def k0_off1 (k0_t1 : Fin k0_t1_loop.trips) : Fin 2 → Nat :=
  let c0_97 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_93 : BitVec 32 := 1#32
  let v269 : BitVec 32 := Scalar.addi v268 c1_i32_93
  let c256_i32_96 : BitVec 32 := 256#32
  let v271 : BitVec 32 := Scalar.muli v269 c256_i32_96
  let v272 : BitVec 32 := v271
  let v273 : Index := Scalar.indexCast v272
  ![0, v273.toNat]
def k0_mult4 (k0_t1 : Fin k0_t1_loop.trips) : BitVec 32 :=
  let c2816_i32_106 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_102 : BitVec 32 := 1#32
  let v279 : BitVec 32 := Scalar.addi v268 c1_i32_102
  let c256_i32_105 : BitVec 32 := 256#32
  let v281 : BitVec 32 := Scalar.muli v279 c256_i32_105
  let v282 : BitVec 32 := Scalar.addi c2816_i32_106 v281
  v282
def k0_off2 (k0_t1 : Fin k0_t1_loop.trips) : Fin 2 → Nat :=
  let c0_107 : Index := 0#32
  let c2816_i32_106 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_102 : BitVec 32 := 1#32
  let v279 : BitVec 32 := Scalar.addi v268 c1_i32_102
  let c256_i32_105 : BitVec 32 := 256#32
  let v281 : BitVec 32 := Scalar.muli v279 c256_i32_105
  let v282 : BitVec 32 := Scalar.addi c2816_i32_106 v281
  let v283 : BitVec 32 := v282
  let v284 : Index := Scalar.indexCast v283
  ![0, v284.toNat]
def k0_mult5 (k0_t1 : Fin k0_t1_loop.trips) : BitVec 32 :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_112 : BitVec 32 := 256#32
  let v290 : BitVec 32 := Scalar.muli v268 c256_i32_112
  v290
def k0_mult6 (k0_t1 : Fin k0_t1_loop.trips) : BitVec 32 :=
  let c2816_i32_114 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_113 : BitVec 32 := 256#32
  let v292 : BitVec 32 := Scalar.muli v268 c256_i32_113
  let v293 : BitVec 32 := Scalar.addi c2816_i32_114 v292
  v293
def k0_off3 (k0_t1 : Fin k0_t1_loop.trips) : Fin 2 → Nat :=
  let c0_115 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_112 : BitVec 32 := 256#32
  let v290 : BitVec 32 := Scalar.muli v268 c256_i32_112
  let v291 : BitVec 32 := v290
  let v295 : Index := Scalar.indexCast v291
  ![0, v295.toNat]
def k0_off4 (k0_t1 : Fin k0_t1_loop.trips) : Fin 2 → Nat :=
  let c0_116 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_112 : BitVec 32 := 256#32
  let v290 : BitVec 32 := Scalar.muli v268 c256_i32_112
  let v291 : BitVec 32 := v290
  let v297 : Index := Scalar.indexCast v291
  ![0, v297.toNat]
def k0_off5 (k0_t1 : Fin k0_t1_loop.trips) : Fin 2 → Nat :=
  let c0_124 : Index := 0#32
  let c2816_i32_114 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_113 : BitVec 32 := 256#32
  let v292 : BitVec 32 := Scalar.muli v268 c256_i32_113
  let v293 : BitVec 32 := Scalar.addi c2816_i32_114 v292
  let v294 : BitVec 32 := v293
  let v362 : Index := Scalar.indexCast v294
  ![0, v362.toNat]
def k0_off6 (k0_t1 : Fin k0_t1_loop.trips) : Fin 2 → Nat :=
  let c0_125 : Index := 0#32
  let c2816_i32_114 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_113 : BitVec 32 := 256#32
  let v292 : BitVec 32 := Scalar.muli v268 c256_i32_113
  let v293 : BitVec 32 := Scalar.addi c2816_i32_114 v292
  let v294 : BitVec 32 := v293
  let v364 : Index := Scalar.indexCast v294
  ![0, v364.toNat]
def k0_mult7 (k0_t1 : Fin k0_t1_loop.trips) : BitVec 32 :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c1_i32_138 : BitVec 32 := 1#32
  let v441 : BitVec 32 := Scalar.addi v440 c1_i32_138
  let c256_i32_141 : BitVec 32 := 256#32
  let v443 : BitVec 32 := Scalar.muli v441 c256_i32_141
  v443
def k0_off7 (k0_t1 : Fin k0_t1_loop.trips) : Fin 2 → Nat :=
  let c0_142 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c1_i32_138 : BitVec 32 := 1#32
  let v441 : BitVec 32 := Scalar.addi v440 c1_i32_138
  let c256_i32_141 : BitVec 32 := 256#32
  let v443 : BitVec 32 := Scalar.muli v441 c256_i32_141
  let v444 : BitVec 32 := v443
  let v445 : Index := Scalar.indexCast v444
  ![0, v445.toNat]
def k0_mult8 (k0_t1 : Fin k0_t1_loop.trips) : BitVec 32 :=
  let c2816_i32_151 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c1_i32_147 : BitVec 32 := 1#32
  let v451 : BitVec 32 := Scalar.addi v440 c1_i32_147
  let c256_i32_150 : BitVec 32 := 256#32
  let v453 : BitVec 32 := Scalar.muli v451 c256_i32_150
  let v454 : BitVec 32 := Scalar.addi c2816_i32_151 v453
  v454
def k0_off8 (k0_t1 : Fin k0_t1_loop.trips) : Fin 2 → Nat :=
  let c0_152 : Index := 0#32
  let c2816_i32_151 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c1_i32_147 : BitVec 32 := 1#32
  let v451 : BitVec 32 := Scalar.addi v440 c1_i32_147
  let c256_i32_150 : BitVec 32 := 256#32
  let v453 : BitVec 32 := Scalar.muli v451 c256_i32_150
  let v454 : BitVec 32 := Scalar.addi c2816_i32_151 v453
  let v455 : BitVec 32 := v454
  let v456 : Index := Scalar.indexCast v455
  ![0, v456.toNat]
def k0_mult9 (k0_t1 : Fin k0_t1_loop.trips) : BitVec 32 :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_157 : BitVec 32 := 256#32
  let v462 : BitVec 32 := Scalar.muli v440 c256_i32_157
  v462
def k0_mult10 (k0_t1 : Fin k0_t1_loop.trips) : BitVec 32 :=
  let c2816_i32_159 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_158 : BitVec 32 := 256#32
  let v464 : BitVec 32 := Scalar.muli v440 c256_i32_158
  let v465 : BitVec 32 := Scalar.addi c2816_i32_159 v464
  v465
def k0_off9 (k0_t1 : Fin k0_t1_loop.trips) : Fin 2 → Nat :=
  let c0_160 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_157 : BitVec 32 := 256#32
  let v462 : BitVec 32 := Scalar.muli v440 c256_i32_157
  let v463 : BitVec 32 := v462
  let v467 : Index := Scalar.indexCast v463
  ![0, v467.toNat]
def k0_off10 (k0_t1 : Fin k0_t1_loop.trips) : Fin 2 → Nat :=
  let c0_161 : Index := 0#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_157 : BitVec 32 := 256#32
  let v462 : BitVec 32 := Scalar.muli v440 c256_i32_157
  let v463 : BitVec 32 := v462
  let v469 : Index := Scalar.indexCast v463
  ![0, v469.toNat]
def k0_off11 (k0_t1 : Fin k0_t1_loop.trips) : Fin 2 → Nat :=
  let c0_169 : Index := 0#32
  let c2816_i32_159 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_158 : BitVec 32 := 256#32
  let v464 : BitVec 32 := Scalar.muli v440 c256_i32_158
  let v465 : BitVec 32 := Scalar.addi c2816_i32_159 v464
  let v466 : BitVec 32 := v465
  let v534 : Index := Scalar.indexCast v466
  ![0, v534.toNat]
def k0_off12 (k0_t1 : Fin k0_t1_loop.trips) : Fin 2 → Nat :=
  let c0_170 : Index := 0#32
  let c2816_i32_159 : BitVec 32 := 2816#32
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c1_i32_137 : BitVec 32 := 1#32
  let v440 : BitVec 32 := Scalar.addi v268 c1_i32_137
  let c256_i32_158 : BitVec 32 := 256#32
  let v464 : BitVec 32 := Scalar.muli v440 c256_i32_158
  let v465 : BitVec 32 := Scalar.addi c2816_i32_159 v464
  let v466 : BitVec 32 := v465
  let v536 : Index := Scalar.indexCast v466
  ![0, v536.toNat]
def k0_mult11 (k0_t1 : Fin k0_t1_loop.trips) : BitVec 32 :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_181 : BitVec 32 := 256#32
  let v612 : BitVec 32 := Scalar.muli v268 c256_i32_181
  v612
def k0_off13 (k0_t1 : Fin k0_t1_loop.trips) : Fin 2 → Nat :=
  let c2_i32 : BitVec 32 := 2#32
  let c0_i32_56 : BitVec 32 := 0#32
  let c1_i32_57 : BitVec 32 := 1#32
  let arg18 : BitVec 32 := Scf.iv c0_i32_56 c1_i32_57 k0_t1
  let v268 : BitVec 32 := Scalar.muli c2_i32 arg18
  let c256_i32_181 : BitVec 32 := 256#32
  let v612 : BitVec 32 := Scalar.muli v268 c256_i32_181
  let v613 : BitVec 32 := v612
  let v616 : Index := Scalar.indexCast v613
  let c0_186 : Index := 0#32
  ![v616.toNat, 0]
def k0_mult12 : BitVec 32 :=
  let c2560_i32 : BitVec 32 := 2560#32
  c2560_i32
def k0_mult13 : BitVec 32 :=
  let c5376_i32 : BitVec 32 := 5376#32
  c5376_i32
def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1535_i32 : BitVec 32 := 1535#32
  let v2 : BitVec 32 := Scalar.minsi v1 c1535_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c3_i32 : BitVec 32 := 3#32
  let c0_i32_8 : BitVec 32 := 0#32
  ![v21.toNat, c0_i32_7.toNat, c3_i32.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c4_i32 : BitVec 32 := 4#32
  let c0_i32_8 : BitVec 32 := 0#32
  ![v21.toNat, c0_i32_7.toNat, c4_i32.toNat]

def cc0_transform_6 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c5_i32 : BitVec 32 := 5#32
  let c0_i32_8 : BitVec 32 := 0#32
  ![v21.toNat, c0_i32_7.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S12288x1024 : Shape := ⟨2, ![12288, 1024]⟩
abbrev S8x1x6144 : Shape := ⟨3, ![8, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4096x1024 : Shape := ⟨2, ![4096, 1024]⟩
abbrev S16x256x1024 : Shape := ⟨3, ![16, 256, 1024]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S16x256x5632 : Shape := ⟨3, ![16, 256, 5632]⟩
abbrev S16x1x5632 : Shape := ⟨3, ![16, 1, 5632]⟩
abbrev S16x255x5632 : Shape := ⟨3, ![16, 255, 5632]⟩
abbrev S5632 : Shape := ⟨1, ![5632]⟩
abbrev S1x1x5632 : Shape := ⟨3, ![1, 1, 5632]⟩
abbrev S16x256x2816 : Shape := ⟨3, ![16, 256, 2816]⟩
abbrev S8192x1024 : Shape := ⟨2, ![8192, 1024]⟩
abbrev S4x2048x1024 : Shape := ⟨3, ![4, 2048, 1024]⟩
abbrev S4x1x6144 : Shape := ⟨3, ![4, 1, 6144]⟩
abbrev S4x1x1024 : Shape := ⟨3, ![4, 1, 1024]⟩
abbrev S4x2048 : Shape := ⟨2, ![4, 2048]⟩
abbrev S4x2048x1 : Shape := ⟨3, ![4, 2048, 1]⟩
abbrev S4x2048x5632 : Shape := ⟨3, ![4, 2048, 5632]⟩
abbrev S4x1x5632 : Shape := ⟨3, ![4, 1, 5632]⟩
abbrev S4x2047x5632 : Shape := ⟨3, ![4, 2047, 5632]⟩
abbrev S4x2048x2816 : Shape := ⟨3, ![4, 2048, 2816]⟩

abbrev nBuf : Space → Nat
  | .hbm => 162
  | .vmem => 0
  | .smem => 0
  | _ => 0

abbrev hbmTy0_0 (i : Nat) : BufTy := match i % 128 with
  | 0 => ⟨S12288x1024, .f32⟩
  | 1 => ⟨S8x1x6144, .f32⟩
  | 2 => ⟨S1x1024, .f32⟩
  | 3 => ⟨S1024x5632, .bf16⟩
  | 4 => ⟨S3x5632, .f32⟩
  | 5 => ⟨S1x5632, .f32⟩
  | 6 => ⟨S2816x1024, .bf16⟩
  | 7 => ⟨S4096x1024, .f32⟩
  | 8 => ⟨S16x256x1024, .f32⟩
  | 9 => ⟨S1x1x6144, .f32⟩
  | 10 => ⟨S1x1x1024, .f32⟩
  | 11 => ⟨S1x1x1024, .f32⟩
  | 12 => ⟨S1x1x1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1024, .f32⟩
  | 27 => ⟨S1x1x1024, .f32⟩
  | 28 => ⟨S16x256x1024, .f32⟩
  | 29 => ⟨S16x256x1024, .f32⟩
  | 30 => ⟨S_, .f32⟩
  | 31 => ⟨S1x1x1024, .f32⟩
  | 32 => ⟨S1x1x1024, .f32⟩
  | 33 => ⟨S16x256x1024, .f32⟩
  | 34 => ⟨S16x256x1024, .f32⟩
  | 35 => ⟨S16x256x1024, .f32⟩
  | 36 => ⟨S16x256x1024, .f32⟩
  | 37 => ⟨S1024x5632, .f32⟩
  | 38 => ⟨S16x256x5632, .f32⟩
  | 39 => ⟨S_, .f32⟩
  | 40 => ⟨S16x1x5632, .f32⟩
  | 41 => ⟨S16x255x5632, .f32⟩
  | 42 => ⟨S16x256x5632, .f32⟩
  | 43 => ⟨S16x255x5632, .f32⟩
  | 44 => ⟨S16x256x5632, .f32⟩
  | 45 => ⟨S1x5632, .f32⟩
  | 46 => ⟨S5632, .f32⟩
  | 47 => ⟨S1x1x5632, .f32⟩
  | 48 => ⟨S16x256x5632, .f32⟩
  | 49 => ⟨S16x256x5632, .f32⟩
  | 50 => ⟨S1x5632, .f32⟩
  | 51 => ⟨S5632, .f32⟩
  | 52 => ⟨S1x1x5632, .f32⟩
  | 53 => ⟨S16x256x5632, .f32⟩
  | 54 => ⟨S16x256x5632, .f32⟩
  | 55 => ⟨S16x256x5632, .f32⟩
  | 56 => ⟨S1x5632, .f32⟩
  | 57 => ⟨S5632, .f32⟩
  | 58 => ⟨S1x1x5632, .f32⟩
  | 59 => ⟨S16x256x5632, .f32⟩
  | 60 => ⟨S16x256x5632, .f32⟩
  | 61 => ⟨S16x256x5632, .f32⟩
  | 62 => ⟨S5632, .f32⟩
  | 63 => ⟨S1x1x5632, .f32⟩
  | 64 => ⟨S16x256x5632, .f32⟩
  | 65 => ⟨S16x256x5632, .f32⟩
  | 66 => ⟨S16x256x2816, .f32⟩
  | 67 => ⟨S16x256x2816, .f32⟩
  | 68 => ⟨S16x256x2816, .f32⟩
  | 69 => ⟨S16x256x2816, .f32⟩
  | 70 => ⟨S_, .f32⟩
  | 71 => ⟨S16x256x2816, .f32⟩
  | 72 => ⟨S16x256x2816, .f32⟩
  | 73 => ⟨S_, .f32⟩
  | 74 => ⟨S16x256x2816, .f32⟩
  | 75 => ⟨S16x256x2816, .f32⟩
  | 76 => ⟨S16x256x2816, .f32⟩
  | 77 => ⟨S16x256x2816, .f32⟩
  | 78 => ⟨S2816x1024, .f32⟩
  | 79 => ⟨S16x256x1024, .f32⟩
  | 80 => ⟨S16x256x1024, .f32⟩
  | 81 => ⟨S16x256x1024, .f32⟩
  | 82 => ⟨S16x256x1024, .f32⟩
  | 83 => ⟨S8192x1024, .f32⟩
  | 84 => ⟨S4x2048x1024, .f32⟩
  | 85 => ⟨S4x1x6144, .f32⟩
  | 86 => ⟨S4x1x1024, .f32⟩
  | 87 => ⟨S4x1x1024, .f32⟩
  | 88 => ⟨S4x1x1024, .f32⟩
  | 89 => ⟨S4x2048x1024, .f32⟩
  | 90 => ⟨S_, .f32⟩
  | 91 => ⟨S4x2048, .f32⟩
  | 92 => ⟨S4x2048x1, .f32⟩
  | 93 => ⟨S_, .f32⟩
  | 94 => ⟨S4x2048x1, .f32⟩
  | 95 => ⟨S4x2048x1, .f32⟩
  | 96 => ⟨S_, .f32⟩
  | 97 => ⟨S4x2048x1, .f32⟩
  | 98 => ⟨S4x2048x1, .f32⟩
  | 99 => ⟨S4x2048x1, .f32⟩
  | 100 => ⟨S4x2048x1024, .f32⟩
  | 101 => ⟨S4x2048x1024, .f32⟩
  | 102 => ⟨S1024, .f32⟩
  | 103 => ⟨S1x1x1024, .f32⟩
  | 104 => ⟨S4x2048x1024, .f32⟩
  | 105 => ⟨S4x2048x1024, .f32⟩
  | 106 => ⟨S_, .f32⟩
  | 107 => ⟨S4x1x1024, .f32⟩
  | 108 => ⟨S4x1x1024, .f32⟩
  | 109 => ⟨S4x2048x1024, .f32⟩
  | 110 => ⟨S4x2048x1024, .f32⟩
  | 111 => ⟨S4x2048x1024, .f32⟩
  | 112 => ⟨S4x2048x1024, .f32⟩
  | 113 => ⟨S1024x5632, .f32⟩
  | 114 => ⟨S4x2048x5632, .f32⟩
  | 115 => ⟨S_, .f32⟩
  | 116 => ⟨S4x1x5632, .f32⟩
  | 117 => ⟨S4x2047x5632, .f32⟩
  | 118 => ⟨S4x2048x5632, .f32⟩
  | 119 => ⟨S4x2047x5632, .f32⟩
  | 120 => ⟨S4x2048x5632, .f32⟩
  | 121 => ⟨S1x5632, .f32⟩
  | 122 => ⟨S5632, .f32⟩
  | 123 => ⟨S1x1x5632, .f32⟩
  | 124 => ⟨S4x2048x5632, .f32⟩
  | 125 => ⟨S4x2048x5632, .f32⟩
  | 126 => ⟨S1x5632, .f32⟩
  | 127 => ⟨S5632, .f32⟩
  | _ => ⟨S12288x1024, .f32⟩

abbrev hbmTy0_1 (i : Nat) : BufTy := match i % 128 with
  | 0 => ⟨S1x1x5632, .f32⟩
  | 1 => ⟨S4x2048x5632, .f32⟩
  | 2 => ⟨S4x2048x5632, .f32⟩
  | 3 => ⟨S4x2048x5632, .f32⟩
  | 4 => ⟨S1x5632, .f32⟩
  | 5 => ⟨S5632, .f32⟩
  | 6 => ⟨S1x1x5632, .f32⟩
  | 7 => ⟨S4x2048x5632, .f32⟩
  | 8 => ⟨S4x2048x5632, .f32⟩
  | 9 => ⟨S4x2048x5632, .f32⟩
  | 10 => ⟨S5632, .f32⟩
  | 11 => ⟨S1x1x5632, .f32⟩
  | 12 => ⟨S4x2048x5632, .f32⟩
  | 13 => ⟨S4x2048x5632, .f32⟩
  | 14 => ⟨S4x2048x2816, .f32⟩
  | 15 => ⟨S4x2048x2816, .f32⟩
  | 16 => ⟨S4x2048x2816, .f32⟩
  | 17 => ⟨S4x2048x2816, .f32⟩
  | 18 => ⟨S_, .f32⟩
  | 19 => ⟨S4x2048x2816, .f32⟩
  | 20 => ⟨S4x2048x2816, .f32⟩
  | 21 => ⟨S_, .f32⟩
  | 22 => ⟨S4x2048x2816, .f32⟩
  | 23 => ⟨S4x2048x2816, .f32⟩
  | 24 => ⟨S4x2048x2816, .f32⟩
  | 25 => ⟨S4x2048x2816, .f32⟩
  | 26 => ⟨S2816x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4096x1024, .f32⟩
  | 32 => ⟨S8192x1024, .f32⟩
  | 33 => ⟨S12288x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_cst_5 : Ref sig .tc := ⟨.hbm, 93, rfl⟩
abbrev main_v72 : Ref sig .tc := ⟨.hbm, 94, rfl⟩
abbrev main_v73 : Ref sig .tc := ⟨.hbm, 95, rfl⟩
abbrev main_cst_6 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_7 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_8 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩

abbrev nD : Nat := 1
abbrev τ : Topo := Topo.v7x

variable {F : FTy → Type} [FloatOps F]
-- ==== Kernel3.lean ====
abbrev S12288x2048 : Shape := ⟨2, ![12288, 2048]⟩
abbrev S2048x1024 : Shape := ⟨2, ![2048, 1024]⟩
abbrev S12288x1024 : Shape := ⟨2, ![12288, 1024]⟩
abbrev S8x1x6144 : Shape := ⟨3, ![8, 1, 6144]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S12288x2048, .bf16⟩
  | .hbm, ⟨1, _⟩ => ⟨S2048x1024, .bf16⟩
  | .hbm, ⟨2, _⟩ => ⟨S12288x1024, .f32⟩
  | .hbm, ⟨3, _⟩ => ⟨S8x1x6144, .f32⟩
  | .hbm, ⟨4, _⟩ => ⟨S12288x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c2_i32 : BitVec 32 := 2#32
  let c0_i32_8 : BitVec 32 := 0#32
  ![v21.toNat, c0_i32_7.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
abbrev S12288x2048 : Shape := ⟨2, ![12288, 2048]⟩
abbrev S2048x1024 : Shape := ⟨2, ![2048, 1024]⟩
abbrev S12288x1024 : Shape := ⟨2, ![12288, 1024]⟩
abbrev S8x1x6144 : Shape := ⟨3, ![8, 1, 6144]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S12288x2048, .bf16⟩
  | .hbm, ⟨1, _⟩ => ⟨S2048x1024, .bf16⟩
  | .hbm, ⟨2, _⟩ => ⟨S12288x1024, .f32⟩
  | .hbm, ⟨3, _⟩ => ⟨S8x1x6144, .f32⟩
  | .hbm, ⟨4, _⟩ => ⟨S12288x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c2_i32 : BitVec 32 := 2#32
  let c0_i32_8 : BitVec 32 := 0#32
  ![v21.toNat, c0_i32_7.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S12288x2048 : Shape := ⟨2, ![12288, 2048]⟩
abbrev S2048x1024 : Shape := ⟨2, ![2048, 1024]⟩
abbrev S12288x1024 : Shape := ⟨2, ![12288, 1024]⟩
abbrev S8x1x6144 : Shape := ⟨3, ![8, 1, 6144]⟩
abbrev S4096x1024 : Shape := ⟨2, ![4096, 1024]⟩
abbrev S16x256x1024 : Shape := ⟨3, ![16, 256, 1024]⟩
abbrev S4096x2048 : Shape := ⟨2, ![4096, 2048]⟩
abbrev S16x256x2048 : Shape := ⟨3, ![16, 256, 2048]⟩
abbrev S1x1x6144 : Shape := ⟨3, ![1, 1, 6144]⟩
abbrev S1x1x1024 : Shape := ⟨3, ![1, 1, 1024]⟩
abbrev S8192x1024 : Shape := ⟨2, ![8192, 1024]⟩
abbrev S4x2048x1024 : Shape := ⟨3, ![4, 2048, 1024]⟩
abbrev S8192x2048 : Shape := ⟨2, ![8192, 2048]⟩
abbrev S4x2048x2048 : Shape := ⟨3, ![4, 2048, 2048]⟩
abbrev S4x1x6144 : Shape := ⟨3, ![4, 1, 6144]⟩
abbrev S4x1x1024 : Shape := ⟨3, ![4, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2048x1024, .bf16⟩
  | .hbm, ⟨2, _⟩ => ⟨S12288x1024, .f32⟩
  | .hbm, ⟨3, _⟩ => ⟨S8x1x6144, .f32⟩
  | .hbm, ⟨4, _⟩ => ⟨S4096x1024, .f32⟩
  | .hbm, ⟨5, _⟩ => ⟨S16x256x1024, .f32⟩
  | .hbm, ⟨6, _⟩ => ⟨S4096x2048, .bf16⟩
  | .hbm, ⟨7, _⟩ => ⟨S16x256x2048, .bf16⟩
  | .hbm, ⟨8, _⟩ => ⟨S1x1x6144, .f32⟩
  | .hbm, ⟨9, _⟩ => ⟨S1x1x1024, .f32⟩
  | .hbm, ⟨10, _⟩ => ⟨S16x256x2048, .f32⟩
  | .hbm, ⟨11, _⟩ => ⟨S2048x1024, .f32⟩
  | .hbm, ⟨12, _⟩ => ⟨S16x256x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S8192x1024, .f32⟩
  | .hbm, ⟨17, _⟩ => ⟨S4x2048x1024, .f32⟩
  | .hbm, ⟨18, _⟩ => ⟨S8192x2048, .bf16⟩
  | .hbm, ⟨19, _⟩ => ⟨S4x2048x2048, .bf16⟩
  | .hbm, ⟨20, _⟩ => ⟨S4x1x6144, .f32⟩
  | .hbm, ⟨21, _⟩ => ⟨S4x1x1024, .f32⟩
  | .hbm, ⟨22, _⟩ => ⟨S4x2048x2048, .f32⟩
  | .hbm, ⟨23, _⟩ => ⟨S2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4096x1024, .f32⟩
  | .hbm, ⟨29, _⟩ => ⟨S8192x1024, .f32⟩
  | .hbm, ⟨30, _⟩ => ⟨S12288x1024, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel4.lean ====
abbrev S12288x1024 : Shape := ⟨2, ![12288, 1024]⟩
abbrev S1024x1024 : Shape := ⟨2, ![1024, 1024]⟩
abbrev S8x1x6144 : Shape := ⟨3, ![8, 1, 6144]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .bf16⟩
  | .hbm, ⟨2, _⟩ => ⟨S12288x1024, .f32⟩
  | .hbm, ⟨3, _⟩ => ⟨S8x1x6144, .f32⟩
  | .hbm, ⟨4, _⟩ => ⟨S12288x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c2_i32 : BitVec 32 := 2#32
  let c0_i32_8 : BitVec 32 := 0#32
  ![v21.toNat, c0_i32_7.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S12288x1024 : Shape := ⟨2, ![12288, 1024]⟩
abbrev S1024x1024 : Shape := ⟨2, ![1024, 1024]⟩
abbrev S8x1x6144 : Shape := ⟨3, ![8, 1, 6144]⟩
abbrev S4096x1024 : Shape := ⟨2, ![4096, 1024]⟩
abbrev S16x256x1024 : Shape := ⟨3, ![16, 256, 1024]⟩
abbrev S1x1x6144 : Shape := ⟨3, ![1, 1, 6144]⟩
abbrev S1x1x1024 : Shape := ⟨3, ![1, 1, 1024]⟩
abbrev S8192x1024 : Shape := ⟨2, ![8192, 1024]⟩
abbrev S4x2048x1024 : Shape := ⟨3, ![4, 2048, 1024]⟩
abbrev S4x1x6144 : Shape := ⟨3, ![4, 1, 6144]⟩
abbrev S4x1x1024 : Shape := ⟨3, ![4, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .bf16⟩
  | .hbm, ⟨2, _⟩ => ⟨S12288x1024, .f32⟩
  | .hbm, ⟨3, _⟩ => ⟨S8x1x6144, .f32⟩
  | .hbm, ⟨4, _⟩ => ⟨S4096x1024, .f32⟩
  | .hbm, ⟨5, _⟩ => ⟨S16x256x1024, .f32⟩
  | .hbm, ⟨6, _⟩ => ⟨S4096x1024, .bf16⟩
  | .hbm, ⟨7, _⟩ => ⟨S16x256x1024, .bf16⟩
  | .hbm, ⟨8, _⟩ => ⟨S1x1x6144, .f32⟩
  | .hbm, ⟨9, _⟩ => ⟨S1x1x1024, .f32⟩
  | .hbm, ⟨10, _⟩ => ⟨S16x256x1024, .f32⟩
  | .hbm, ⟨11, _⟩ => ⟨S1024x1024, .f32⟩
  | .hbm, ⟨12, _⟩ => ⟨S16x256x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S8192x1024, .f32⟩
  | .hbm, ⟨17, _⟩ => ⟨S4x2048x1024, .f32⟩
  | .hbm, ⟨18, _⟩ => ⟨S8192x1024, .bf16⟩
  | .hbm, ⟨19, _⟩ => ⟨S4x2048x1024, .bf16⟩
  | .hbm, ⟨20, _⟩ => ⟨S4x1x6144, .f32⟩
  | .hbm, ⟨21, _⟩ => ⟨S4x1x1024, .f32⟩
  | .hbm, ⟨22, _⟩ => ⟨S4x2048x1024, .f32⟩
  | .hbm, ⟨23, _⟩ => ⟨S1024x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4096x1024, .f32⟩
  | .hbm, ⟨29, _⟩ => ⟨S8192x1024, .f32⟩
  | .hbm, ⟨30, _⟩ => ⟨S12288x1024, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel5.lean ====
abbrev S12288x1024 : Shape := ⟨2, ![12288, 1024]⟩
abbrev S8x1x6144 : Shape := ⟨3, ![8, 1, 6144]⟩
abbrev S1x1024 : Shape := ⟨2, ![1, 1024]⟩
abbrev S1024x5120 : Shape := ⟨2, ![1024, 5120]⟩
abbrev S1024x512 : Shape := ⟨2, ![1024, 512]⟩
abbrev S3x3072 : Shape := ⟨2, ![3, 3072]⟩
abbrev S1x3072 : Shape := ⟨2, ![1, 3072]⟩
abbrev S1x512 : Shape := ⟨2, ![1, 512]⟩
abbrev S12288x2048 : Shape := ⟨2, ![12288, 2048]⟩
abbrev S12288x3072 : Shape := ⟨2, ![12288, 3072]⟩
abbrev S12288x512 : Shape := ⟨2, ![12288, 512]⟩
abbrev S8x1024 : Shape := ⟨2, ![8, 1024]⟩
abbrev S1024x1024 : Shape := ⟨2, ![1024, 1024]⟩
abbrev S1x1x1024 : Shape := ⟨3, ![1, 1, 1024]⟩
abbrev S1024x2048 : Shape := ⟨2, ![1024, 2048]⟩
abbrev S1024x3072 : Shape := ⟨2, ![1024, 3072]⟩
abbrev S1040x1024 : Shape := ⟨2, ![1040, 1024]⟩
abbrev S2x1040x512 : Shape := ⟨3, ![2, 1040, 512]⟩
abbrev S8 : Shape := ⟨1, ![8]⟩
abbrev S8x1 : Shape := ⟨2, ![8, 1]⟩
abbrev S1024 : Shape := ⟨1, ![1024]⟩
abbrev S1024x1 : Shape := ⟨2, ![1024, 1]⟩
abbrev S1040x512 : Shape := ⟨2, ![1040, 512]⟩
abbrev S1x1040x512 : Shape := ⟨3, ![1, 1040, 512]⟩
abbrev S3x512 : Shape := ⟨2, ![3, 512]⟩
abbrev S130x8x512 : Shape := ⟨3, ![130, 8, 512]⟩
abbrev S128x8x512 : Shape := ⟨3, ![128, 8, 512]⟩
abbrev S32x8x512 : Shape := ⟨3, ![32, 8, 512]⟩
abbrev S1x8x512 : Shape := ⟨3, ![1, 8, 512]⟩
abbrev S31x8x512 : Shape := ⟨3, ![31, 8, 512]⟩
abbrev S1x1x512 : Shape := ⟨3, ![1, 1, 512]⟩

abbrev nBuf : Space → Nat
  | .hbm => 11
  | .vmem => 25
  | .smem => 0
  | _ => 0

abbrev bufTy : (tb : Table) → Fin (tcTables nBuf tb) → BufTy
  | .hbm, ⟨0, _⟩ => ⟨S12288x1024, .f32⟩
  | .hbm, ⟨1, _⟩ => ⟨S8x1x6144, .f32⟩
  | .hbm, ⟨2, _⟩ => ⟨S1x1024, .f32⟩
  | .hbm, ⟨3, _⟩ => ⟨S1024x5120, .bf16⟩
  | .hbm, ⟨4, _⟩ => ⟨S1024x512, .bf16⟩
  | .hbm, ⟨5, _⟩ => ⟨S3x3072, .f32⟩
  | .hbm, ⟨6, _⟩ => ⟨S1x3072, .f32⟩
  | .hbm, ⟨7, _⟩ => ⟨S1x512, .f32⟩
  | .hbm, ⟨8, _⟩ => ⟨S12288x2048, .bf16⟩
  | .hbm, ⟨9, _⟩ => ⟨S12288x3072, .bf16⟩
  | .hbm, ⟨10, _⟩ => ⟨S12288x512, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x5120, .bf16⟩
  | .local _ .vmem, ⟨12, _⟩ => ⟨S1024x512, .bf16⟩
  | .local _ .vmem, ⟨13, _⟩ => ⟨S3x3072, .f32⟩
  | .local _ .vmem, ⟨14, _⟩ => ⟨S1x3072, .f32⟩
  | .local _ .vmem, ⟨15, _⟩ => ⟨S1x512, .f32⟩
  | .local _ .vmem, ⟨16, _⟩ => ⟨S1024x2048, .bf16⟩
  | .local _ .vmem, ⟨17, _⟩ => ⟨S1024x2048, .bf16⟩
  | .local _ .vmem, ⟨18, _⟩ => ⟨S1024x3072, .bf16⟩
  | .local _ .vmem, ⟨19, _⟩ => ⟨S1024x3072, .bf16⟩
  | .local _ .vmem, ⟨20, _⟩ => ⟨S1024x512, .f32⟩
  | .local _ .vmem, ⟨21, _⟩ => ⟨S1024x512, .f32⟩
  | .local _ .vmem, ⟨22, _⟩ => ⟨S1040x1024, .bf16⟩
  | .local _ .vmem, ⟨23, _⟩ => ⟨S1024x1024, .bf16⟩
  | .local _ .vmem, ⟨24, _⟩ => ⟨S2x1040x512, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1535_i32 : BitVec 32 := 1535#32
  let v2 : BitVec 32 := Scalar.minsi v1 c1535_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c1_i32_8 : BitVec 32 := 1#32
  let c0_i32_9 : BitVec 32 := 0#32
  ![v21.toNat, c0_i32_7.toNat, c1_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S12288x1024 : Shape := ⟨2, ![12288, 1024]⟩
abbrev S8x1x6144 : Shape := ⟨3, ![8, 1, 6144]⟩
abbrev S1x1024 : Shape := ⟨2, ![1, 1024]⟩
abbrev S1024x5120 : Shape := ⟨2, ![1024, 5120]⟩
abbrev S1024x512 : Shape := ⟨2, ![1024, 512]⟩
abbrev S3x3072 : Shape := ⟨2, ![3, 3072]⟩
abbrev S1x3072 : Shape := ⟨2, ![1, 3072]⟩
abbrev S1x512 : Shape := ⟨2, ![1, 512]⟩
abbrev S4096x1024 : Shape := ⟨2, ![4096, 1024]⟩
abbrev S16x256x1024 : Shape := ⟨3, ![16, 256, 1024]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S16x256x5120 : Shape := ⟨3, ![16, 256, 5120]⟩
abbrev S16x256x2048 : Shape := ⟨3, ![16, 256, 2048]⟩
abbrev S16x256x3072 : Shape := ⟨3, ![16, 256, 3072]⟩
abbrev S16x1x3072 : Shape := ⟨3, ![16, 1, 3072]⟩
abbrev S16x255x3072 : Shape := ⟨3, ![16, 255, 3072]⟩
abbrev S3072 : Shape := ⟨1, ![3072]⟩
abbrev S1x1x3072 : Shape := ⟨3, ![1, 1, 3072]⟩
abbrev S16x256x512 : Shape := ⟨3, ![16, 256, 512]⟩
abbrev S512 : Shape := ⟨1, ![512]⟩
abbrev S1x1x512 : Shape := ⟨3, ![1, 1, 512]⟩
abbrev S4096x2048 : Shape := ⟨2, ![4096, 2048]⟩
abbrev S4096x3072 : Shape := ⟨2, ![4096, 3072]⟩
abbrev S4096x512 : Shape := ⟨2, ![4096, 512]⟩
abbrev S8192x1024 : Shape := ⟨2, ![8192, 1024]⟩
abbrev S4x2048x1024 : Shape := ⟨3, ![4, 2048, 1024]⟩
abbrev S4x1x6144 : Shape := ⟨3, ![4, 1, 6144]⟩
abbrev S4x1x1024 : Shape := ⟨3, ![4, 1, 1024]⟩
abbrev S4x2048 : Shape := ⟨2, ![4, 2048]⟩
abbrev S4x2048x1 : Shape := ⟨3, ![4, 2048, 1]⟩
abbrev S4x2048x5120 : Shape := ⟨3, ![4, 2048, 5120]⟩
abbrev S4x2048x2048 : Shape := ⟨3, ![4, 2048, 2048]⟩
abbrev S4x2048x3072 : Shape := ⟨3, ![4, 2048, 3072]⟩
abbrev S4x1x3072 : Shape := ⟨3, ![4, 1, 3072]⟩
abbrev S4x2047x3072 : Shape := ⟨3, ![4, 2047, 3072]⟩
abbrev S4x2048x512 : Shape := ⟨3, ![4, 2048, 512]⟩
abbrev S8192x2048 : Shape := ⟨2, ![8192, 2048]⟩
abbrev S8192x3072 : Shape := ⟨2, ![8192, 3072]⟩
abbrev S8192x512 : Shape := ⟨2, ![8192, 512]⟩
abbrev S12288x2048 : Shape := ⟨2, ![12288, 2048]⟩
abbrev S12288x3072 : Shape := ⟨2, ![12288, 3072]⟩
abbrev S12288x512 : Shape := ⟨2, ![12288, 512]⟩

abbrev nBuf : Space → Nat
  | .hbm => 215
  | .vmem => 0
  | .smem => 0
  | _ => 0

abbrev hbmTy0_0 (i : Nat) : BufTy := match i % 128 with
  | 0 => ⟨S12288x1024, .f32⟩
  | 1 => ⟨S8x1x6144, .f32⟩
  | 2 => ⟨S1x1024, .f32⟩
  | 3 => ⟨S1024x5120, .bf16⟩
  | 4 => ⟨S1024x512, .bf16⟩
  | 5 => ⟨S3x3072, .f32⟩
  | 6 => ⟨S1x3072, .f32⟩
  | 7 => ⟨S1x512, .f32⟩
  | 8 => ⟨S4096x1024, .f32⟩
  | 9 => ⟨S16x256x1024, .f32⟩
  | 10 => ⟨S1x1x6144, .f32⟩
  | 11 => ⟨S1x1x1024, .f32⟩
  | 12 => ⟨S1x1x1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1024, .f32⟩
  | 27 => ⟨S1x1x1024, .f32⟩
  | 28 => ⟨S16x256x1024, .f32⟩
  | 29 => ⟨S16x256x1024, .f32⟩
  | 30 => ⟨S_, .f32⟩
  | 31 => ⟨S1x1x1024, .f32⟩
  | 32 => ⟨S1x1x1024, .f32⟩
  | 33 => ⟨S16x256x1024, .f32⟩
  | 34 => ⟨S16x256x1024, .f32⟩
  | 35 => ⟨S16x256x1024, .f32⟩
  | 36 => ⟨S16x256x1024, .f32⟩
  | 37 => ⟨S1024x5120, .f32⟩
  | 38 => ⟨S16x256x5120, .f32⟩
  | 39 => ⟨S16x256x2048, .f32⟩
  | 40 => ⟨S16x256x3072, .f32⟩
  | 41 => ⟨S_, .f32⟩
  | 42 => ⟨S16x1x3072, .f32⟩
  | 43 => ⟨S16x255x3072, .f32⟩
  | 44 => ⟨S16x256x3072, .f32⟩
  | 45 => ⟨S16x255x3072, .f32⟩
  | 46 => ⟨S16x256x3072, .f32⟩
  | 47 => ⟨S1x3072, .f32⟩
  | 48 => ⟨S3072, .f32⟩
  | 49 => ⟨S1x1x3072, .f32⟩
  | 50 => ⟨S16x256x3072, .f32⟩
  | 51 => ⟨S16x256x3072, .f32⟩
  | 52 => ⟨S1x3072, .f32⟩
  | 53 => ⟨S3072, .f32⟩
  | 54 => ⟨S1x1x3072, .f32⟩
  | 55 => ⟨S16x256x3072, .f32⟩
  | 56 => ⟨S16x256x3072, .f32⟩
  | 57 => ⟨S16x256x3072, .f32⟩
  | 58 => ⟨S1x3072, .f32⟩
  | 59 => ⟨S3072, .f32⟩
  | 60 => ⟨S1x1x3072, .f32⟩
  | 61 => ⟨S16x256x3072, .f32⟩
  | 62 => ⟨S16x256x3072, .f32⟩
  | 63 => ⟨S16x256x3072, .f32⟩
  | 64 => ⟨S3072, .f32⟩
  | 65 => ⟨S1x1x3072, .f32⟩
  | 66 => ⟨S16x256x3072, .f32⟩
  | 67 => ⟨S16x256x3072, .f32⟩
  | 68 => ⟨S1024x512, .f32⟩
  | 69 => ⟨S16x256x512, .f32⟩
  | 70 => ⟨S512, .f32⟩
  | 71 => ⟨S1x1x512, .f32⟩
  | 72 => ⟨S16x256x512, .f32⟩
  | 73 => ⟨S16x256x512, .f32⟩
  | 74 => ⟨S16x256x2048, .f32⟩
  | 75 => ⟨S16x256x2048, .f32⟩
  | 76 => ⟨S_, .f32⟩
  | 77 => ⟨S16x256x2048, .f32⟩
  | 78 => ⟨S16x256x2048, .f32⟩
  | 79 => ⟨S_, .f32⟩
  | 80 => ⟨S16x256x2048, .f32⟩
  | 81 => ⟨S16x256x2048, .f32⟩
  | 82 => ⟨S16x256x2048, .f32⟩
  | 83 => ⟨S16x256x3072, .f32⟩
  | 84 => ⟨S16x256x3072, .f32⟩
  | 85 => ⟨S_, .f32⟩
  | 86 => ⟨S16x256x3072, .f32⟩
  | 87 => ⟨S16x256x3072, .f32⟩
  | 88 => ⟨S_, .f32⟩
  | 89 => ⟨S16x256x3072, .f32⟩
  | 90 => ⟨S16x256x3072, .f32⟩
  | 91 => ⟨S16x256x3072, .f32⟩
  | 92 => ⟨S_, .f32⟩
  | 93 => ⟨S16x256x512, .f32⟩
  | 94 => ⟨S16x256x512, .f32⟩
  | 95 => ⟨S16x256x512, .f32⟩
  | 96 => ⟨S16x256x512, .f32⟩
  | 97 => ⟨S16x256x512, .i1⟩
  | 98 => ⟨S16x256x512, .f32⟩
  | 99 => ⟨S16x256x512, .f32⟩
  | 100 => ⟨S16x256x512, .f32⟩
  | 101 => ⟨S16x256x512, .f32⟩
  | 102 => ⟨S16x256x512, .f32⟩
  | 103 => ⟨S16x256x512, .f32⟩
  | 104 => ⟨S16x256x512, .f32⟩
  | 105 => ⟨S16x256x512, .f32⟩
  | 106 => ⟨S4096x2048, .f32⟩
  | 107 => ⟨S4096x3072, .f32⟩
  | 108 => ⟨S4096x512, .f32⟩
  | 109 => ⟨S8192x1024, .f32⟩
  | 110 => ⟨S4x2048x1024, .f32⟩
  | 111 => ⟨S4x1x6144, .f32⟩
  | 112 => ⟨S4x1x1024, .f32⟩
  | 113 => ⟨S4x1x1024, .f32⟩
  | 114 => ⟨S4x2048x1024, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S_, .f32⟩
  | 122 => ⟨S4x2048x1, .f32⟩
  | 123 => ⟨S4x2048x1, .f32⟩
  | 124 => ⟨S4x2048x1, .f32⟩
  | 125 => ⟨S4x2048x1024, .f32⟩
  | 126 => ⟨S4x2048x1024, .f32⟩
  | 127 => ⟨S1024, .f32⟩
  | _ => ⟨S12288x1024, .f32⟩

abbrev hbmTy0_1 (i : Nat) : BufTy := match i % 128 with
  | 0 => ⟨S1x1x1024, .f32⟩
  | 1 => ⟨S4x2048x1024, .f32⟩
  | 2 => ⟨S4x2048x1024, .f32⟩
  | 3 => ⟨S_, .f32⟩
  | 4 => ⟨S4x1x1024, .f32⟩
  | 5 => ⟨S4x1x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S1024x5120, .f32⟩
  | 11 => ⟨S4x2048x5120, .f32⟩
  | 12 => ⟨S4x2048x2048, .f32⟩
  | 13 => ⟨S4x2048x3072, .f32⟩
  | 14 => ⟨S_, .f32⟩
  | 15 => ⟨S4x1x3072, .f32⟩
  | 16 => ⟨S4x2047x3072, .f32⟩
  | 17 => ⟨S4x2048x3072, .f32⟩
  | 18 => ⟨S4x2047x3072, .f32⟩
  | 19 => ⟨S4x2048x3072, .f32⟩
  | 20 => ⟨S1x3072, .f32⟩
  | 21 => ⟨S3072, .f32⟩
  | 22 => ⟨S1x1x3072, .f32⟩
  | 23 => ⟨S4x2048x3072, .f32⟩
  | 24 => ⟨S4x2048x3072, .f32⟩
  | 25 => ⟨S1x3072, .f32⟩
  | 26 => ⟨S3072, .f32⟩
  | 27 => ⟨S1x1x3072, .f32⟩
  | 28 => ⟨S4x2048x3072, .f32⟩
  | 29 => ⟨S4x2048x3072, .f32⟩
  | 30 => ⟨S4x2048x3072, .f32⟩
  | 31 => ⟨S1x3072, .f32⟩
  | 32 => ⟨S3072, .f32⟩
  | 33 => ⟨S1x1x3072, .f32⟩
  | 34 => ⟨S4x2048x3072, .f32⟩
  | 35 => ⟨S4x2048x3072, .f32⟩
  | 36 => ⟨S4x2048x3072, .f32⟩
  | 37 => ⟨S3072, .f32⟩
  | 38 => ⟨S1x1x3072, .f32⟩
  | 39 => ⟨S4x2048x3072, .f32⟩
  | 40 => ⟨S4x2048x3072, .f32⟩
  | 41 => ⟨S1024x512, .f32⟩
  | 42 => ⟨S4x2048x512, .f32⟩
  | 43 => ⟨S512, .f32⟩
  | 44 => ⟨S1x1x512, .f32⟩
  | 45 => ⟨S4x2048x512, .f32⟩
  | 46 => ⟨S4x2048x512, .f32⟩
  | 47 => ⟨S4x2048x2048, .f32⟩
  | 48 => ⟨S4x2048x2048, .f32⟩
  | 49 => ⟨S_, .f32⟩
  | 50 => ⟨S4x2048x2048, .f32⟩
  | 51 => ⟨S4x2048x2048, .f32⟩
  | 52 => ⟨S_, .f32⟩
  | 53 => ⟨S4x2048x2048, .f32⟩
  | 54 => ⟨S4x2048x2048, .f32⟩
  | 55 => ⟨S4x2048x2048, .f32⟩
  | 56 => ⟨S4x2048x3072, .f32⟩
  | 57 => ⟨S4x2048x3072, .f32⟩
  | 58 => ⟨S_, .f32⟩
  | 59 => ⟨S4x2048x3072, .f32⟩
  | 60 => ⟨S4x2048x3072, .f32⟩
  | 61 => ⟨S_, .f32⟩
  | 62 => ⟨S4x2048x3072, .f32⟩
  | 63 => ⟨S4x2048x3072, .f32⟩
  | 64 => ⟨S4x2048x3072, .f32⟩
  | 65 => ⟨S_, .f32⟩
  | 66 => ⟨S4x2048x512, .f32⟩
  | 67 => ⟨S4x2048x512, .f32⟩
  | 68 => ⟨S4x2048x512, .f32⟩
  | 69 => ⟨S4x2048x512, .f32⟩
  | 70 => ⟨S4x2048x512, .i1⟩
  | 71 => ⟨S4x2048x512, .f32⟩
  | 72 => ⟨S4x2048x512, .f32⟩
  | 73 => ⟨S4x2048x512, .f32⟩
  | 74 => ⟨S4x2048x512, .f32⟩
  | 75 => ⟨S4x2048x512, .f32⟩
  | 76 => ⟨S4x2048x512, .f32⟩
  | 77 => ⟨S4x2048x512, .f32⟩
  | 78 => ⟨S4x2048x512, .f32⟩
  | 79 => ⟨S8192x2048, .f32⟩
  | 80 => ⟨S8192x3072, .f32⟩
  | 81 => ⟨S8192x512, .f32⟩
  | 82 => ⟨S12288x2048, .f32⟩
  | 83 => ⟨S12288x3072, .f32⟩
  | 84 => ⟨S12288x512, .f32⟩
  | 85 => ⟨S12288x2048, .bf16⟩
  | 86 => ⟨S12288x3072, .bf16⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_4 : Ref sig .tc := ⟨.hbm, 115, rfl⟩
abbrev main_v73 : Ref sig .tc := ⟨.hbm, 116, rfl⟩
abbrev main_v74 : Ref sig .tc := ⟨.hbm, 117, rfl⟩
abbrev main_cst_5 : Ref sig .tc := ⟨.hbm, 118, rfl⟩
abbrev main_v75 : Ref sig .tc := ⟨.hbm, 119, rfl⟩
abbrev main_v76 : Ref sig .tc := ⟨.hbm, 120, rfl⟩
abbrev main_cst_6 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_7 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_8 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call3_v0 : Ref sig .tc := ⟨.hbm, 175, rfl⟩
abbrev main_call3_v1 : Ref sig .tc := ⟨.hbm, 176, rfl⟩
abbrev main_call3_cst : Ref sig .tc := ⟨.hbm, 177, rfl⟩
abbrev main_call3_v2 : Ref sig .tc := ⟨.hbm, 178, rfl⟩
abbrev main_call3_v3 : Ref sig .tc := ⟨.hbm, 179, rfl⟩
abbrev main_call3_cst_0 : Ref sig .tc := ⟨.hbm, 180, rfl⟩
abbrev main_call3_v4 : Ref sig .tc := ⟨.hbm, 181, rfl⟩
abbrev main_call3_v5 : Ref sig .tc := ⟨.hbm, 182, rfl⟩
abbrev main_v128 : Ref sig .tc := ⟨.hbm, 183, rfl⟩
abbrev main_call4_v0 : Ref sig .tc := ⟨.hbm, 184, rfl⟩
abbrev main_call4_v1 : Ref sig .tc := ⟨.hbm, 185, rfl⟩
abbrev main_call4_cst : Ref sig .tc := ⟨.hbm, 186, rfl⟩
abbrev main_call4_v2 : Ref sig .tc := ⟨.hbm, 187, rfl⟩
abbrev main_call4_v3 : Ref sig .tc := ⟨.hbm, 188, rfl⟩
abbrev main_call4_cst_0 : Ref sig .tc := ⟨.hbm, 189, rfl⟩
abbrev main_call4_v4 : Ref sig .tc := ⟨.hbm, 190, rfl⟩
abbrev main_call4_v5 : Ref sig .tc := ⟨.hbm, 191, rfl⟩
abbrev main_v129 : Ref sig .tc := ⟨.hbm, 192, rfl⟩
abbrev main_call5_cst : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩

abbrev nD : Nat := 1
abbrev τ : Topo := Topo.v7x

variable {F : FTy → Type} [FloatOps F]
-- ==== Kernel6.lean ====
abbrev S12288x1024 : Shape := ⟨2, ![12288, 1024]⟩
abbrev S8x1x6144 : Shape := ⟨3, ![8, 1, 6144]⟩
abbrev S1x1024 : Shape := ⟨2, ![1, 1024]⟩
abbrev S1024x3072 : Shape := ⟨2, ![1024, 3072]⟩
abbrev S16x2x256x1024 : Shape := ⟨4, ![16, 2, 256, 1024]⟩
abbrev S512x1024 : Shape := ⟨2, ![512, 1024]⟩
abbrev S1x1x1024 : Shape := ⟨3, ![1, 1, 1024]⟩
abbrev S2x1x256x1024 : Shape := ⟨4, ![2, 1, 256, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2x256x256 : Shape := ⟨3, ![2, 256, 256]⟩
abbrev S2x1x256x256 : Shape := ⟨4, ![2, 1, 256, 256]⟩

abbrev nBuf : Space → Nat
  | .hbm => 11
  | .vmem => 19
  | .smem => 0
  | _ => 0

abbrev bufTy : (tb : Table) → Fin (tcTables nBuf tb) → BufTy
  | .hbm, ⟨0, _⟩ => ⟨S12288x1024, .f32⟩
  | .hbm, ⟨1, _⟩ => ⟨S8x1x6144, .f32⟩
  | .hbm, ⟨2, _⟩ => ⟨S1x1024, .f32⟩
  | .hbm, ⟨3, _⟩ => ⟨S1024x3072, .bf16⟩
  | .hbm, ⟨4, _⟩ => ⟨S16x2x256x1024, .f32⟩
  | .hbm, ⟨5, _⟩ => ⟨S16x2x256x1024, .f32⟩
  | .hbm, ⟨6, _⟩ => ⟨S12288x1024, .bf16⟩
  | .hbm, ⟨7, _⟩ => ⟨S12288x1024, .bf16⟩
  | .hbm, ⟨8, _⟩ => ⟨S12288x1024, .bf16⟩
  | .hbm, ⟨9, _⟩ => ⟨S16x2x256x1024, .f32⟩
  | .hbm, ⟨10, _⟩ => ⟨S16x2x256x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S2x1x256x1024, .f32⟩
  | .local _ .vmem, ⟨15, _⟩ => ⟨S2x1x256x1024, .f32⟩
  | .local _ .vmem, ⟨16, _⟩ => ⟨S2x1x256x1024, .f32⟩
  | .local _ .vmem, ⟨17, _⟩ => ⟨S2x1x256x1024, .f32⟩
  | .local _ .vmem, ⟨18, _⟩ => ⟨S512x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c1_i32_9 : BitVec 32 := 1#32
  let c0_i32_10 : BitVec 32 := 0#32
  ![v22.toNat, c0_i32_8.toNat, c1_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S12288x1024 : Shape := ⟨2, ![12288, 1024]⟩
abbrev S8x1x6144 : Shape := ⟨3, ![8, 1, 6144]⟩
abbrev S1x1024 : Shape := ⟨2, ![1, 1024]⟩
abbrev S1024x3072 : Shape := ⟨2, ![1024, 3072]⟩
abbrev S16x2x256x1024 : Shape := ⟨4, ![16, 2, 256, 1024]⟩
abbrev S4096x1024 : Shape := ⟨2, ![4096, 1024]⟩
abbrev S16x256x1024 : Shape := ⟨3, ![16, 256, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S16x256x3072 : Shape := ⟨3, ![16, 256, 3072]⟩
abbrev S16x1x256x1024 : Shape := ⟨4, ![16, 1, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x1x6144, .f32⟩
  | .hbm, ⟨2, _⟩ => ⟨S1x1024, .f32⟩
  | .hbm, ⟨3, _⟩ => ⟨S1024x3072, .bf16⟩
  | .hbm, ⟨4, _⟩ => ⟨S16x2x256x1024, .f32⟩
  | .hbm, ⟨5, _⟩ => ⟨S16x2x256x1024, .f32⟩
  | .hbm, ⟨6, _⟩ => ⟨S4096x1024, .f32⟩
  | .hbm, ⟨7, _⟩ => ⟨S16x256x1024, .f32⟩
  | .hbm, ⟨8, _⟩ => ⟨S1x1x1024, .f32⟩
  | .hbm, ⟨9, _⟩ => ⟨S1x1x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S1024x3072, .f32⟩
  | .hbm, ⟨35, _⟩ => ⟨S16x256x3072, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S16x1x256x1024, .f32⟩
  | .hbm, ⟨40, _⟩ => ⟨S16x256x1024, .f32⟩
  | .hbm, ⟨41, _⟩ => ⟨S16x1x256x1024, .f32⟩
  | .hbm, ⟨42, _⟩ => ⟨S16x1x256x1024, .f32⟩
  | .hbm, ⟨43, _⟩ => ⟨S16x2x256x1024, .f32⟩
  | .hbm, ⟨44, _⟩ => ⟨S16x1x256x1024, .f32⟩
  | .hbm, ⟨45, _⟩ => ⟨S16x256x1024, .f32⟩
  | .hbm, ⟨46, _⟩ => ⟨S16x1x256x1024, .f32⟩
  | .hbm, ⟨47, _⟩ => ⟨S16x1x256x1024, .f32⟩
  | .hbm, ⟨48, _⟩ => ⟨S16x2x256x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel7.lean ====
abbrev S12288x1024 : Shape := ⟨2, ![12288, 1024]⟩
abbrev S8x1x6144 : Shape := ⟨3, ![8, 1, 6144]⟩
abbrev S1x1024 : Shape := ⟨2, ![1, 1024]⟩
abbrev S1024x3072 : Shape := ⟨2, ![1024, 3072]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 63
  | .vmem => 21
  | .smem => 0
  | _ => 0

abbrev bufTy : (tb : Table) → Fin (tcTables nBuf tb) → BufTy
  | .hbm, ⟨0, _⟩ => ⟨S12288x1024, .f32⟩
  | .hbm, ⟨1, _⟩ => ⟨S8x1x6144, .f32⟩
  | .hbm, ⟨2, _⟩ => ⟨S1x1024, .f32⟩
  | .hbm, ⟨3, _⟩ => ⟨S1024x3072, .bf16⟩
  | .hbm, ⟨4, _⟩ => ⟨S12288x1024, .bf16⟩
  | .hbm, ⟨5, _⟩ => ⟨S12288x1024, .bf16⟩
  | .hbm, ⟨6, _⟩ => ⟨S12288x1024, .bf16⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S64, .f32⟩
  | .hbm, ⟨11, _⟩ => ⟨S1x64, .f32⟩
  | .hbm, ⟨12, _⟩ => ⟨S32x64, .f32⟩
  | .hbm, ⟨13, _⟩ => ⟨S2048, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S_, .f32⟩
  | .hbm, ⟨45, _⟩ => ⟨S2048x16, .f32⟩
  | .hbm, ⟨46, _⟩ => ⟨S2048x64, .f32⟩
  | .hbm, ⟨47, _⟩ => ⟨S2048x16, .f32⟩
  | .hbm, ⟨48, _⟩ => ⟨S2048x16, .f32⟩
  | .hbm, ⟨49, _⟩ => ⟨S2048x64, .f32⟩
  | .hbm, ⟨50, _⟩ => ⟨S2048x64, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S1x2048x1x64, .f32⟩
  | .hbm, ⟨55, _⟩ => ⟨S1x2048x2x64, .f32⟩
  | .hbm, ⟨56, _⟩ => ⟨S2048x128, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S12288x1024, .bf16⟩
  | .hbm, ⟨61, _⟩ => ⟨S12288x1024, .bf16⟩
  | .hbm, ⟨62, _⟩ => ⟨S12288x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let v21 : BitVec 32 := Scalar.addi c1_i32_5 v20
  let c0_i32_6 : BitVec 32 := 0#32
  let v22 : BitVec 32 := Scalar.select v2 c0_i32_6 v21
  let c0_i32_7 : BitVec 32 := 0#32
  let c0_i32_8 : BitVec 32 := 0#32
  let c0_i32_9 : BitVec 32 := 0#32
  ![v22.toNat, c0_i32_7.toNat, c0_i32_8.toNat]

def cc0_transform_3 (i : grid0.Coords) : Fin 3 → Nat :=
  let arg0 : BitVec 32 := BitVec.ofNat 32 (i 0).val
  let c8_i32 : BitVec 32 := 8#32
  let v0 : BitVec 32 := Scalar.addi c8_i32 arg0
  let c512_i32 : BitVec 32 := 512#32
  let v1 : BitVec 32 := Scalar.muli v0 c512_i32
  let c4096_i32 : BitVec 32 := 4096#32
  let v2 : BitVec 1 := Scalar.cmpi .slt v1 c4096_i32
  let c4096_i32_0 : BitVec 32 := 4096#32
  let v3 : BitVec 32 := Scalar.subi v1 c4096_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let v21 : BitVec 32 := Scalar.addi c1_i32_5 v20
  let c0_i32_6 : BitVec 32 := 0#32
  let v22 : BitVec 32 := Scalar.select v2 c0_i32_6 v21
  let c0_i32_7 : BitVec 32 := 0#32
  let c1_i32_8 : BitVec 32 := 1#32
  let c0_i32_9 : BitVec 32 := 0#32
  ![v22.toNat, c0_i32_7.toNat, c1_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S12288x1024 : Shape := ⟨2, ![12288, 1024]⟩
abbrev S8x1x6144 : Shape := ⟨3, ![8, 1, 6144]⟩
abbrev S1x1024 : Shape := ⟨2, ![1, 1024]⟩
abbrev S1024x3072 : Shape := ⟨2, ![1024, 3072]⟩
abbrev S8192x1024 : Shape := ⟨2, ![8192, 1024]⟩
abbrev S4x2048x1024 : Shape := ⟨3, ![4, 2048, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x3072 : Shape := ⟨3, ![4, 2048, 3072]⟩
abbrev S4x2048x8x2x64 : Shape := ⟨5, ![4, 2048, 8, 2, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S4x2048x8x2x32 : Shape := ⟨5, ![4, 2048, 8, 2, 32]⟩
abbrev S4x2048x8x2x16 : Shape := ⟨5, ![4, 2048, 8, 2, 16]⟩
abbrev S4096x1024 : Shape := ⟨2, ![4096, 1024]⟩

abbrev nBuf : Space → Nat
  | .hbm => 193
  | .vmem => 0
  | .smem => 0
  | _ => 0

abbrev hbmTy0_0 (i : Nat) : BufTy := match i % 128 with
  | 0 => ⟨S12288x1024, .f32⟩
  | 1 => ⟨S8x1x6144, .f32⟩
  | 2 => ⟨S1x1024, .f32⟩
  | 3 => ⟨S1024x3072, .bf16⟩
  | 4 => ⟨S12288x1024, .bf16⟩
  | 5 => ⟨S12288x1024, .bf16⟩
  | 6 => ⟨S12288x1024, .bf16⟩
  | 7 => ⟨S8192x1024, .f32⟩
  | 8 => ⟨S4x2048x1024, .f32⟩
  | 9 => ⟨S4x1x1024, .f32⟩
  | 10 => ⟨S4x1x1024, .f32⟩
  | 11 => ⟨S4x2048x1024, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x1024, .f32⟩
  | 23 => ⟨S4x2048x1024, .f32⟩
  | 24 => ⟨S1024, .f32⟩
  | 25 => ⟨S1x1x1024, .f32⟩
  | 26 => ⟨S4x2048x1024, .f32⟩
  | 27 => ⟨S4x2048x1024, .f32⟩
  | 28 => ⟨S_, .f32⟩
  | 29 => ⟨S4x1x1024, .f32⟩
  | 30 => ⟨S4x1x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S1024x3072, .f32⟩
  | 36 => ⟨S4x2048x3072, .f32⟩
  | 37 => ⟨S4x2048x1024, .f32⟩
  | 38 => ⟨S4x2048x1024, .f32⟩
  | 39 => ⟨S4x2048x1024, .f32⟩
  | 40 => ⟨S4x2048x8x2x64, .f32⟩
  | 41 => ⟨S32, .f32⟩
  | 42 => ⟨S32x64, .f32⟩
  | 43 => ⟨S2048, .f32⟩
  | 44 => ⟨S64, .f32⟩
  | 45 => ⟨S1x64, .f32⟩
  | 46 => ⟨S32x64, .f32⟩
  | 47 => ⟨S2048, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2048x1, .f32⟩
  | 65 => ⟨S1x16, .f32⟩
  | 66 => ⟨S2048x16, .f32⟩
  | 67 => ⟨S2048x16, .f32⟩
  | 68 => ⟨S2048x16, .f32⟩
  | 69 => ⟨S1x2048x1x1x16, .f32⟩
  | 70 => ⟨S2048x1, .f32⟩
  | 71 => ⟨S1x16, .f32⟩
  | 72 => ⟨S2048x16, .f32⟩
  | 73 => ⟨S2048x16, .f32⟩
  | 74 => ⟨S2048x16, .f32⟩
  | 75 => ⟨S1x2048x1x1x16, .f32⟩
  | 76 => ⟨S4x2048x8x2x32, .f32⟩
  | 77 => ⟨S4x2048x8x2x32, .f32⟩
  | 78 => ⟨S1x2048x1x1x16, .f32⟩
  | 79 => ⟨S1x2048x1x1x16, .f32⟩
  | 80 => ⟨S4x2048x8x2x16, .f32⟩
  | 81 => ⟨S4x2048x8x2x16, .f32⟩
  | 82 => ⟨S4x2048x8x2x16, .f32⟩
  | 83 => ⟨S4x2048x8x2x16, .f32⟩
  | 84 => ⟨S4x2048x8x2x16, .f32⟩
  | 85 => ⟨S4x2048x8x2x16, .f32⟩
  | 86 => ⟨S4x2048x8x2x16, .f32⟩
  | 87 => ⟨S4x2048x8x2x16, .f32⟩
  | 88 => ⟨S4x2048x8x2x16, .f32⟩
  | 89 => ⟨S4x2048x8x2x16, .f32⟩
  | 90 => ⟨S4x2048x8x2x16, .f32⟩
  | 91 => ⟨S4x2048x8x2x16, .f32⟩
  | 92 => ⟨S4x2048x8x2x32, .f32⟩
  | 93 => ⟨S1x2048x1x1x16, .f32⟩
  | 94 => ⟨S1x2048x1x1x16, .f32⟩
  | 95 => ⟨S4x2048x8x2x16, .f32⟩
  | 96 => ⟨S4x2048x8x2x16, .f32⟩
  | 97 => ⟨S4x2048x8x2x16, .f32⟩
  | 98 => ⟨S4x2048x8x2x16, .f32⟩
  | 99 => ⟨S4x2048x8x2x16, .f32⟩
  | 100 => ⟨S4x2048x8x2x16, .f32⟩
  | 101 => ⟨S4x2048x8x2x16, .f32⟩
  | 102 => ⟨S4x2048x8x2x16, .f32⟩
  | 103 => ⟨S4x2048x8x2x16, .f32⟩
  | 104 => ⟨S4x2048x8x2x16, .f32⟩
  | 105 => ⟨S4x2048x8x2x16, .f32⟩
  | 106 => ⟨S4x2048x8x2x16, .f32⟩
  | 107 => ⟨S4x2048x8x2x32, .f32⟩
  | 108 => ⟨S4x2048x8x2x64, .f32⟩
  | 109 => ⟨S_, .f32⟩
  | 110 => ⟨S4x2048x8x2x64, .f32⟩
  | 111 => ⟨S4x2048x8x2x64, .f32⟩
  | 112 => ⟨S4x2048x8x2x64, .f32⟩
  | 113 => ⟨S32, .f32⟩
  | 114 => ⟨S32x64, .f32⟩
  | 115 => ⟨S2048, .f32⟩
  | 116 => ⟨S64, .f32⟩
  | 117 => ⟨S1x64, .f32⟩
  | 118 => ⟨S32x64, .f32⟩
  | 119 => ⟨S2048, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S12288x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S16, .f32⟩
  | 8 => ⟨S2048x1, .f32⟩
  | 9 => ⟨S1x16, .f32⟩
  | 10 => ⟨S2048x16, .f32⟩
  | 11 => ⟨S2048x16, .f32⟩
  | 12 => ⟨S2048x16, .f32⟩
  | 13 => ⟨S1x2048x1x1x16, .f32⟩
  | 14 => ⟨S2048x1, .f32⟩
  | 15 => ⟨S1x16, .f32⟩
  | 16 => ⟨S2048x16, .f32⟩
  | 17 => ⟨S2048x16, .f32⟩
  | 18 => ⟨S2048x16, .f32⟩
  | 19 => ⟨S1x2048x1x1x16, .f32⟩
  | 20 => ⟨S4x2048x8x2x32, .f32⟩
  | 21 => ⟨S4x2048x8x2x32, .f32⟩
  | 22 => ⟨S1x2048x1x1x16, .f32⟩
  | 23 => ⟨S1x2048x1x1x16, .f32⟩
  | 24 => ⟨S4x2048x8x2x16, .f32⟩
  | 25 => ⟨S4x2048x8x2x16, .f32⟩
  | 26 => ⟨S4x2048x8x2x16, .f32⟩
  | 27 => ⟨S4x2048x8x2x16, .f32⟩
  | 28 => ⟨S4x2048x8x2x16, .f32⟩
  | 29 => ⟨S4x2048x8x2x16, .f32⟩
  | 30 => ⟨S4x2048x8x2x16, .f32⟩
  | 31 => ⟨S4x2048x8x2x16, .f32⟩
  | 32 => ⟨S4x2048x8x2x16, .f32⟩
  | 33 => ⟨S4x2048x8x2x16, .f32⟩
  | 34 => ⟨S4x2048x8x2x16, .f32⟩
  | 35 => ⟨S4x2048x8x2x16, .f32⟩
  | 36 => ⟨S4x2048x8x2x32, .f32⟩
  | 37 => ⟨S1x2048x1x1x16, .f32⟩
  | 38 => ⟨S1x2048x1x1x16, .f32⟩
  | 39 => ⟨S4x2048x8x2x16, .f32⟩
  | 40 => ⟨S4x2048x8x2x16, .f32⟩
  | 41 => ⟨S4x2048x8x2x16, .f32⟩
  | 42 => ⟨S4x2048x8x2x16, .f32⟩
  | 43 => ⟨S4x2048x8x2x16, .f32⟩
  | 44 => ⟨S4x2048x8x2x16, .f32⟩
  | 45 => ⟨S4x2048x8x2x16, .f32⟩
  | 46 => ⟨S4x2048x8x2x16, .f32⟩
  | 47 => ⟨S4x2048x8x2x16, .f32⟩
  | 48 => ⟨S4x2048x8x2x16, .f32⟩
  | 49 => ⟨S4x2048x8x2x16, .f32⟩
  | 50 => ⟨S4x2048x8x2x16, .f32⟩
  | 51 => ⟨S4x2048x8x2x32, .f32⟩
  | 52 => ⟨S4x2048x8x2x64, .f32⟩
  | 53 => ⟨S4096x1024, .bf16⟩
  | 54 => ⟨S8192x1024, .f32⟩
  | 55 => ⟨S8192x1024, .bf16⟩
  | 56 => ⟨S12288x1024, .bf16⟩
  | 57 => ⟨S4096x1024, .bf16⟩
  | 58 => ⟨S8192x1024, .f32⟩
  | 59 => ⟨S8192x1024, .bf16⟩
  | 60 => ⟨S12288x1024, .bf16⟩
  | 61 => ⟨S4096x1024, .bf16⟩
  | 62 => ⟨S8192x1024, .f32⟩
  | 63 => ⟨S8192x1024, .bf16⟩
  | 64 => ⟨S12288x1024, .bf16⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_9 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_cst_13 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩

abbrev nD : Nat := 1
abbrev τ : Topo := Topo.v7x

variable {F : FTy → Type} [FloatOps F]
-- ==== Kernel8.lean ====
abbrev S12288x1024 : Shape := ⟨2, ![12288, 1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S12288x1024 : Shape := ⟨2, ![12288, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S12288x1024 : Shape := ⟨2, ![12288, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S12288x1024 : Shape := ⟨2, ![12288, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Pre.lean ====
/- What the precondition says: the queries, the keys and the cached keys are real numbers. -/
module

public import proofs.«01_k».proof.Defs
public import proofs.«01_k».proof.Proof.Gen.KernelIdeal
public import Idealize.ShloMosaic.Lib.ReduceAll
public import Idealize.ShloMosaic.Lib.Pointwise
public import Idealize.ShloMosaic.PureOps.Ideal.Laws

@[expose] public section

set_option maxRecDepth 16384

noncomputable section

namespace Cert.Proof.Pre

open Idealize.ShloMosaic Idealize.SL.Sem Cert.Pre_finite_scores

instance facts : Cert.Pre_finite_scores.Facts where
  bitsLt_bf16_f32 := by decide
  bcast_S_S12288x1024 := by decide
  reducesTo_S12288x1024_S_d0_1 := by decide
  h_S_ := by decide
  bcast_S_S4x2x256x8x2x64 := by decide
  reducesTo_S4x2x256x8x2x64_S_d0_1_2_3_4_5 := by decide

theorem inf_eq : Ideal.ofBits .f32 0x7F800000#32 = ⊤ := by simp [Ideal.ofBits, Ideal.ieee]

/-- A value whose magnitude is below the greatest extended real is real. -/
theorem real_of_lt (x : EReal) (h : FloatOps.cmpf (F := Ideal) (φ := .f32) .olt (max x (-x)) (Ideal.ofBits .f32 0x7F800000#32) = 1#1) : ∃ r : ℝ, x = (r : EReal) := by
  rw [inf_eq] at h
  induction x with
  | bot => simp [Ideal.cmpf_def, Ideal.cmp] at h
  | top => simp [Ideal.cmpf_def, Ideal.cmp] at h
  | coe r => exact ⟨r, rfl⟩

instance : Subsingleton S_.Idx := ⟨fun a b => funext fun i => i.elim0⟩

theorem and_one (a b : BitVec 1) (h : IntOp.andi a b = 1#1) : a = 1#1 ∧ b = 1#1 := by
  revert a b; decide

/-- The three arrays are arrays of real numbers. -/
theorem reals (x0 x1 x2 : FVec Ideal S12288x1024 .bf16) (x3 : FVec Ideal S4x64 .f32) (x4 : FVec Ideal S1x128 .f32)
    (x5 : FVec Ideal S4x2x256x8x2x64 .f32) (x6 : FVec Ideal S4x2x256x8x128 .f32) (x7 : FVec Ideal S12288x1024 .bf16)
    (h : Cert.Pre_finite_scores.fn (F := Ideal) x0 x1 x2 x3 x4 x5 x6 x7 = fun _ => 1#1) :
    (∃ X0 : S12288x1024.Idx → ℝ, x0 = fun i => (X0 i : EReal)) ∧ (∃ X1 : S12288x1024.Idx → ℝ, x1 = fun i => (X1 i : EReal))
      ∧ ∃ X5 : S4x2x256x8x2x64.Idx → ℝ, x5 = fun i => (X5 i : EReal) := by
  have h' := congrFun h (Shape.Idx.first Facts.h_S_)
  obtain ⟨h01, h5⟩ := and_one _ _ h'
  obtain ⟨h0, h1⟩ := and_one _ _ h01
  have r0 : ∀ i, ∃ r : ℝ, x0 i = (r : EReal) := fun i => real_of_lt _ (Host.reduce_andi_all _ _ _ _ _ h0 i)
  have r1 : ∀ i, ∃ r : ℝ, x1 i = (r : EReal) := fun i => real_of_lt _ (Host.reduce_andi_all _ _ _ _ _ h1 i)
  have r5 : ∀ i, ∃ r : ℝ, x5 i = (r : EReal) := fun i => real_of_lt _ (Host.reduce_andi_all _ _ _ _ _ h5 i)
  exact ⟨⟨fun i => (r0 i).choose, funext fun i => (r0 i).choose_spec⟩, ⟨fun i => (r1 i).choose, funext fun i => (r1 i).choose_spec⟩,
    ⟨fun i => (r5 i).choose, funext fun i => (r5 i).choose_spec⟩⟩

end Cert.Proof.Pre

end
-- ==== Proof.Block.lean ====
/- What one grid point of the attention call leaves in its block: four heads side by side, each the same function of
   its slices of the point's input blocks. -/
module

public import proofs.«01_k».proof.Proof.Gen.KernelIdeal.Value
public import Idealize.ShloMosaic.Lib.Pipeline.ValueKit
public import Idealize.ShloMosaic.Lib.Pipeline.Value

@[expose] public section

set_option maxRecDepth 16384

noncomputable section

namespace Cert.Proof.Block

open Idealize.ShloMosaic Idealize.SL.Sem Cert.KernelIdeal Cert.KernelIdeal.Gen Idealize.ShloMosaic.TcCoe

variable {F : FTy → Type} [FloatOps F]

/-- One head's normalized difference of two attentions: the queries `q`, the keys `k` and values `v` of the sequence, the
    cached keys `kc` and values `vc`, the four vectors that set the weight, and the gain. -/
def head (q : Vec F S256x128 .bf16) (k v : Vec F S2048x128 .bf16) (kc vc : Vec F S1x1x256x128 .f32)
    (lv : Vec F S4x64 .f32) (g : Vec F S1x128 .f32) : FVec F S256x128 .bf16 :=
  k0_pay24 g
    (k0_pay22 (k0_pay1 lv) (k0_pay8 q k) (k0_pay9 (k0_pay5 q) kc) (k0_pay18 (k0_pay6 q k) (k0_pay7 q kc))
      (k0_pay19 (k0_pay6 q k) (k0_pay7 q kc)) (k0_pay20 (k0_pay6 q k) (k0_pay7 q kc))
      (k0_pay21 (k0_pay6 q k) (k0_pay7 q kc)) v vc)
    (k0_pay23 (k0_pay1 lv) (k0_pay8 q k) (k0_pay9 (k0_pay5 q) kc) (k0_pay18 (k0_pay6 q k) (k0_pay7 q kc))
      (k0_pay19 (k0_pay6 q k) (k0_pay7 q kc)) (k0_pay20 (k0_pay6 q k) (k0_pay7 q kc))
      (k0_pay21 (k0_pay6 q k) (k0_pay7 q kc)) v vc)

/-- After the body at point `t` the output's block holds the four heads, at columns 0, 128, 256 and 384. -/
theorem outsAt_eq (m : (ℓ : Loc nD τ sig) → Buf (Elt F) ℓ) (c : Dev nD) (t : Fin cfg0.N) :
    outsAt0 m c t = View.canon
      [⟨Rect.unit ![0, 384] ![256, 128] inb_S256x512_S256x128_0_384,
        head (View.ld (iblk m c 0 t) (Rect.unit ![0, 384] ![256, 128] inb_S256x512_S256x128_0_384))
          (View.ld (iblk m c 1 t) (Rect.unit ![0, 384] ![2048, 128] inb_S2048x512_S2048x128_0_384))
          (View.ld (iblk m c 2 t) (Rect.unit ![0, 384] ![2048, 128] inb_S2048x512_S2048x128_0_384))
          (View.ld (iblk m c 3 t) (Rect.unit ![0, 0, 0, 384] ![1, 1, 256, 128] inb_S1x1x256x512_S1x1x256x128_0_0_0_384))
          (View.ld (iblk m c 4 t) (Rect.unit ![0, 0, 0, 384] ![1, 1, 256, 128] inb_S1x1x256x512_S1x1x256x128_0_0_0_384))
          (iblk m c 5 t) (iblk m c 6 t)⟩,
      ⟨Rect.unit ![0, 256] ![256, 128] inb_S256x512_S256x128_0_256,
        head (View.ld (iblk m c 0 t) (Rect.unit ![0, 256] ![256, 128] inb_S256x512_S256x128_0_256))
          (View.ld (iblk m c 1 t) (Rect.unit ![0, 256] ![2048, 128] inb_S2048x512_S2048x128_0_256))
          (View.ld (iblk m c 2 t) (Rect.unit ![0, 256] ![2048, 128] inb_S2048x512_S2048x128_0_256))
          (View.ld (iblk m c 3 t) (Rect.unit ![0, 0, 0, 256] ![1, 1, 256, 128] inb_S1x1x256x512_S1x1x256x128_0_0_0_256))
          (View.ld (iblk m c 4 t) (Rect.unit ![0, 0, 0, 256] ![1, 1, 256, 128] inb_S1x1x256x512_S1x1x256x128_0_0_0_256))
          (iblk m c 5 t) (iblk m c 6 t)⟩,
      ⟨Rect.unit ![0, 128] ![256, 128] inb_S256x512_S256x128_0_128,
        head (View.ld (iblk m c 0 t) (Rect.unit ![0, 128] ![256, 128] inb_S256x512_S256x128_0_128))
          (View.ld (iblk m c 1 t) (Rect.unit ![0, 128] ![2048, 128] inb_S2048x512_S2048x128_0_128))
          (View.ld (iblk m c 2 t) (Rect.unit ![0, 128] ![2048, 128] inb_S2048x512_S2048x128_0_128))
          (View.ld (iblk m c 3 t) (Rect.unit ![0, 0, 0, 128] ![1, 1, 256, 128] inb_S1x1x256x512_S1x1x256x128_0_0_0_128))
          (View.ld (iblk m c 4 t) (Rect.unit ![0, 0, 0, 128] ![1, 1, 256, 128] inb_S1x1x256x512_S1x1x256x128_0_0_0_128))
          (iblk m c 5 t) (iblk m c 6 t)⟩,
      ⟨Rect.unit ![0, 0] ![256, 128] inb_S256x512_S256x128_0_0,
        head (View.ld (iblk m c 0 t) (Rect.unit ![0, 0] ![256, 128] inb_S256x512_S256x128_0_0))
          (View.ld (iblk m c 1 t) (Rect.unit ![0, 0] ![2048, 128] inb_S2048x512_S2048x128_0_0))
          (View.ld (iblk m c 2 t) (Rect.unit ![0, 0] ![2048, 128] inb_S2048x512_S2048x128_0_0))
          (View.ld (iblk m c 3 t) (Rect.unit ![0, 0, 0, 0] ![1, 1, 256, 128] inb_S1x1x256x512_S1x1x256x128_0_0_0_0))
          (View.ld (iblk m c 4 t) (Rect.unit ![0, 0, 0, 0] ![1, 1, 256, 128] inb_S1x1x256x512_S1x1x256x128_0_0_0_0))
          (iblk m c 5 t) (iblk m c 6 t)⟩] := by
  unfold outsAt0
  frame_out
  rfl

end Cert.Proof.Block

end
-- ==== Proof.Mix.lean ====
/- The equation between the two ways of taking the difference of two attentions, over the extended reals: unnormalized
   weights in base two, divided at the end, against two softmaxes subtracted. Scores are real numbers; values and the weight
   of the second softmax are arbitrary. -/
module

public import Idealize.ShloMosaic.PureOps.Ideal.Laws
public import Mathlib.Analysis.SpecialFunctions.Pow.Real

@[expose] public section

noncomputable section

namespace Cert.Proof.Mix

open Idealize.ShloMosaic

/-- The word the maxima start from. -/
def ninf : EReal := Ideal.ofBits .f32 0xFF800000#32

theorem ninf_eq : ninf = ⊥ := by simp [ninf, Ideal.ofBits, Ideal.ieee]

/-- The greatest score of a row, over the sequence and over the cache. -/
def peak (s : Fin 2048 → EReal) (t : Fin 256 → EReal) : EReal :=
  max (Finset.univ.fold max ninf s) (Finset.univ.fold max ninf t)

/-- The sum of a row's unnormalized weights. -/
def den (s : Fin 2048 → EReal) (t : Fin 256 → EReal) : EReal :=
  ∑ n, Ideal.exp2 (s n - peak s t) + ∑ n, Ideal.exp2 (t n - peak s t)

/-- What the second map's unnormalized weights are multiplied by. -/
def coef (lam : EReal) (s1 : Fin 2048 → EReal) (t1 : Fin 256 → EReal) (s2 : Fin 2048 → EReal) (t2 : Fin 256 → EReal) : EReal :=
  Ideal.div (lam * den s1 t1) (den s2 t2)

/-- The difference of the two attentions, normalized by the first map's sum at the end. -/
def mix (lam : EReal) (s1 : Fin 2048 → EReal) (t1 : Fin 256 → EReal) (s2 : Fin 2048 → EReal) (t2 : Fin 256 → EReal)
    (V : Fin 2048 → EReal) (C : Fin 256 → EReal) : EReal :=
  Ideal.div
    (∑ n, (Ideal.exp2 (s1 n - peak s1 t1) - coef lam s1 t1 s2 t2 * Ideal.exp2 (s2 n - peak s2 t2)) * V n
      + ∑ n, (Ideal.exp2 (t1 n - peak s1 t1) - coef lam s1 t1 s2 t2 * Ideal.exp2 (t2 n - peak s2 t2)) * C n)
    (den s1 t1)

/-- A row over its mean square, times a gain and the layer's constant. -/
def normed (o g : Fin 128 → EReal) (j : Fin 128) : EReal :=
  o j * Ideal.rsqrt (Ideal.div (∑ d, o d * o d) (Ideal.ofBits .f32 0x43000000#32) + Ideal.ofBits .f32 0x358637BD#32) * g j
    * Ideal.ofBits .f32 0x3F24FD5C#32

/-- One softmax weight. -/
def soft (S : Fin 2304 → EReal) (M : EReal) (k : Fin 2304) : EReal :=
  Ideal.div (Ideal.exp (S k - M)) (∑ n, Ideal.exp (S n - M))

/-- The maximum of finitely many real numbers, at least one, is a real number. -/
theorem fold_max_real {n : ℕ} (f : Fin (n + 1) → ℝ) :
    ∃ r : ℝ, Finset.univ.fold max ninf (fun i => (f i : EReal)) = (r : EReal) := by
  have hb : Finset.univ.fold max ninf (fun i => (f i : EReal)) ≠ ⊥ := by
    have : (f 0 : EReal) ≤ Finset.univ.fold max ninf (fun i => (f i : EReal)) :=
      (Finset.le_fold_max _).mpr (Or.inr ⟨0, Finset.mem_univ _, le_refl _⟩)
    intro h
    rw [h] at this
    exact absurd (le_bot_iff.mp this) (EReal.coe_ne_bot _)
  have ht : Finset.univ.fold max ninf (fun i => (f i : EReal)) ≠ ⊤ := by
    refine ne_of_lt ((Finset.fold_max_lt _).mpr ⟨?_, fun i _ => EReal.coe_lt_top _⟩)
    rw [ninf_eq]; exact bot_lt_top
  exact ⟨_, (EReal.coe_toReal ht hb).symm⟩

theorem max_real (a b : ℝ) : max (a : EReal) (b : EReal) = ((max a b : ℝ) : EReal) :=
  (EReal.coe_strictMono.monotone.map_max).symm

theorem peak_real (S : Fin 2304 → ℝ) :
    ∃ r : ℝ, peak (fun n => ((S ⟨256 + n.val, by omega⟩ : ℝ) : EReal)) (fun n => ((S ⟨n.val, by omega⟩ : ℝ) : EReal)) = (r : EReal) := by
  obtain ⟨a, ha⟩ := fold_max_real (n := 2047) fun n => S ⟨256 + n.val, by omega⟩
  obtain ⟨b, hb⟩ := fold_max_real (n := 255) fun n => S ⟨n.val, by omega⟩
  exact ⟨max a b, by unfold peak; rw [ha, hb, max_real]⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A positive real factor passes through a sum of extended reals. -/
theorem mul_sum {ι : Type} (s : Finset ι) (l : ℝ) (hl : 0 ≤ l) (f : ι → EReal) :
    ∑ i ∈ s, (l : EReal) * f i = (l : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hl) (EReal.coe_ne_top _)]

theorem mul_sub' (l : ℝ) (hl : 0 ≤ l) (a b : EReal) : (l : EReal) * (a - b) = (l : EReal) * a - (l : EReal) * b := by
  rw [sub_eq_add_neg, EReal.left_distrib_of_nonneg_of_ne_top (by exact_mod_cast hl) (EReal.coe_ne_top _), mul_neg, ← sub_eq_add_neg]

/-- A sum over the joined axis is the sum over the sequence plus the sum over the cache. -/
theorem sum_join (f : Fin 2304 → EReal) :
    ∑ k, f k = (∑ n : Fin 2048, f ⟨256 + n.val, by omega⟩) + ∑ n : Fin 256, f ⟨n.val, by omega⟩ := by
  rw [add_comm]
  exact Fin.sum_univ_add (a := 256) (b := 2048) f

theorem exp2_real (a b : ℝ) : Ideal.exp2 ((a : EReal) - (b : EReal)) = ((Real.rpow 2 (a - b) : ℝ) : EReal) := by
  rw [← EReal.coe_sub, Ideal.exp2_coe]

theorem exp_real (a b : ℝ) : Ideal.exp ((a : EReal) - (b : EReal)) = ((Real.exp (a - b) : ℝ) : EReal) := by
  rw [← EReal.coe_sub, Ideal.exp_coe]

theorem sum_pos2 (S : Fin 2304 → ℝ) (m : ℝ) : 0 < ∑ k, Real.rpow 2 (S k - m) :=
  Finset.sum_pos (fun k _ => Real.rpow_pos_of_pos (by norm_num) _) ⟨0, Finset.mem_univ _⟩

theorem den_real (S : Fin 2304 → ℝ) (m : ℝ)
    (hm : peak (fun n => ((S ⟨256 + n.val, by omega⟩ : ℝ) : EReal)) (fun n => ((S ⟨n.val, by omega⟩ : ℝ) : EReal)) = (m : EReal)) :
    den (fun n => ((S ⟨256 + n.val, by omega⟩ : ℝ) : EReal)) (fun n => ((S ⟨n.val, by omega⟩ : ℝ) : EReal))
      = ((∑ k, Real.rpow 2 (S k - m) : ℝ) : EReal) := by
  unfold den
  rw [hm, ← coe_sum, sum_join]
  simp only [exp2_real]

/-- A softmax weight is the unnormalized base-two weight over its sum, whatever real number either side subtracts. -/
theorem soft_real (S : Fin 2304 → ℝ) (m M : ℝ) (k : Fin 2304) :
    soft (fun n => ((Real.log 2 * S n : ℝ) : EReal)) (M : EReal) k
      = ((Real.rpow 2 (S k - m) / ∑ n, Real.rpow 2 (S n - m) : ℝ) : EReal) := by
  have he : ∀ n, Real.exp (Real.log 2 * S n - M) = Real.exp (Real.log 2 * m - M) * Real.rpow 2 (S n - m) := by
    intro n
    show _ = _ * (2 : ℝ) ^ (S n - m)
    rw [Real.rpow_def_of_pos (by norm_num), ← Real.exp_add]
    congr 1
    ring
  have hp := sum_pos2 S m
  have hs : ∑ n, Real.exp (Real.log 2 * S n - M) = Real.exp (Real.log 2 * m - M) * ∑ n, Real.rpow 2 (S n - m) := by
    rw [Finset.mul_sum]; exact Finset.sum_congr rfl fun n _ => he n
  have hx := Real.exp_pos (Real.log 2 * m - M)
  unfold soft
  simp only [exp_real]
  rw [coe_sum, hs, Ideal.div_coe (mul_pos hx hp).ne', he k, ← EReal.coe_mul]
  congr 1
  field_simp

/-- The two ways agree. -/
theorem mix_eq (lam : EReal) (S1 S2 : Fin 2304 → ℝ) (M1 M2 : ℝ) (V : Fin 2304 → EReal) :
    mix lam (fun n => ((S1 ⟨256 + n.val, by omega⟩ : ℝ) : EReal)) (fun n => ((S1 ⟨n.val, by omega⟩ : ℝ) : EReal))
        (fun n => ((S2 ⟨256 + n.val, by omega⟩ : ℝ) : EReal)) (fun n => ((S2 ⟨n.val, by omega⟩ : ℝ) : EReal))
        (fun n => V ⟨256 + n.val, by omega⟩) (fun n => V ⟨n.val, by omega⟩)
      = ∑ k, V k * (soft (fun n => ((Real.log 2 * S1 n : ℝ) : EReal)) (M1 : EReal) k
          - lam * soft (fun n => ((Real.log 2 * S2 n : ℝ) : EReal)) (M2 : EReal) k) := by
  obtain ⟨m1, h1⟩ := peak_real S1
  obtain ⟨m2, h2⟩ := peak_real S2
  have d1 := den_real S1 m1 h1
  have d2 := den_real S2 m2 h2
  unfold mix coef
  rw [d1, d2, h1, h2]
  have p1 := sum_pos2 S1 m1
  have p2 := sum_pos2 S2 m2
  simp only [soft_real S1 m1 M1, soft_real S2 m2 M2, exp2_real]
  generalize hl1 : ∑ k, Real.rpow 2 (S1 k - m1) = l1 at p1
  generalize hl2 : ∑ k, Real.rpow 2 (S2 k - m2) = l2 at p2
  rw [← sum_join fun k => (((Real.rpow 2 (S1 k - m1) : ℝ) : EReal)
    - Ideal.div (lam * (l1 : EReal)) (l2 : EReal) * ((Real.rpow 2 (S2 k - m2) : ℝ) : EReal)) * V k]
  have hk : ∀ k, (((Real.rpow 2 (S1 k - m1) : ℝ) : EReal)
      - Ideal.div (lam * (l1 : EReal)) (l2 : EReal) * ((Real.rpow 2 (S2 k - m2) : ℝ) : EReal)) * V k
      = (l1 : EReal) * (V k * (((Real.rpow 2 (S1 k - m1) / l1 : ℝ) : EReal) - lam * ((Real.rpow 2 (S2 k - m2) / l2 : ℝ) : EReal))) := by
    intro k
    rw [← mul_assoc, mul_comm (l1 : EReal) (V k), mul_assoc, mul_sub' l1 p1.le, mul_comm _ (V k)]
    refine congrArg (V k * ·) (congrArg₂ (· - ·) ?_ ?_)
    · rw [← EReal.coe_mul, show l1 * (Real.rpow 2 (S1 k - m1) / l1) = Real.rpow 2 (S1 k - m1) by field_simp]
    · rw [Ideal.div_coe p2.ne', mul_comm lam, mul_assoc, mul_assoc, ← EReal.coe_mul,
        show 1 / l2 * Real.rpow 2 (S2 k - m2) = Real.rpow 2 (S2 k - m2) / l2 by field_simp]
  rw [Finset.sum_congr rfl fun k _ => hk k, mul_sum _ _ p1.le, Ideal.div_coe p1.ne', mul_comm (l1 : EReal), mul_assoc, ← EReal.coe_mul,
    show l1 * (1 / l1) = 1 by field_simp, EReal.coe_one, mul_one]

end Cert.Proof.Mix

end
-- ==== Proof.Head.lean ====
/- One head of the attention call read at an index, over the extended reals. -/
module

public import proofs.«01_k».proof.Proof.Block
public import proofs.«01_k».proof.Proof.Mix
public import Idealize.ShloMosaic.Lib.Pointwise
public import Idealize.ShloMosaic.PureOps.Ideal.Laws

@[expose] public section

set_option maxRecDepth 16384

noncomputable section

namespace Cert.Proof.Head

open Idealize.ShloMosaic Idealize.SL.Sem Cert.KernelIdeal Cert.KernelIdeal.Gen Idealize.ShloMosaic.TcCoe
open Cert.Proof.Mix Cert.Proof.Block

/-- The weight of the second map, from the four vectors that set it. -/
def weight (lv : Vec Ideal S4x64 .f32) : EReal :=
  Ideal.exp (∑ x : Fin 64, lv (ix2 0 x) * lv (ix2 1 x)) - Ideal.exp (∑ x : Fin 64, lv (ix2 2 x) * lv (ix2 3 x))
    + Ideal.ofBits .f32 0x3EB60549#32

/-- The product of a query and a key over the lanes of the first map. -/
def dot1 (q k : Fin 128 → EReal) : EReal := ∑ d : Fin 64, q ⟨d.val, by omega⟩ * k ⟨d.val, by omega⟩

/-- The product of a query and a key over the lanes of the second map. -/
def dot2 (q k : Fin 128 → EReal) : EReal := ∑ d : Fin 64, q ⟨64 + d.val, by omega⟩ * k ⟨64 + d.val, by omega⟩

theorem lane (x : ℕ) (hx : x < 128) : IntOp.cmpi CmpIPredicate.slt (BitVec.ofNat 32 x) 64#32 = if x < 64 then 1#1 else 0#1 := by
  have := (by decide : ∀ x : Fin 128, IntOp.cmpi CmpIPredicate.slt (BitVec.ofNat 32 x.val) 64#32 = if x.val < 64 then 1#1 else 0#1)
  exact this ⟨x, hx⟩

theorem sum_first (f : Fin 128 → EReal) :
    ∑ x : Fin 128, Scalar.select (IntOp.cmpi CmpIPredicate.slt (BitVec.ofNat 32 x.val) 64#32) (f x) 0
      = ∑ d : Fin 64, f ⟨d.val, by omega⟩ := by
  rw [Fin.sum_univ_add (a := 64) (b := 64)]
  have h1 : ∀ d : Fin 64, Scalar.select (IntOp.cmpi CmpIPredicate.slt (BitVec.ofNat 32 (Fin.castAdd 64 d).val) 64#32) (f (Fin.castAdd 64 d)) 0
      = f ⟨d.val, by omega⟩ := fun d => by
    rw [lane _ (by simp; omega), if_pos (by simp)]; rfl
  have h2 : ∀ d : Fin 64, Scalar.select (IntOp.cmpi CmpIPredicate.slt (BitVec.ofNat 32 (Fin.natAdd 64 d).val) 64#32) (f (Fin.natAdd 64 d)) 0
      = 0 := fun d => by
    rw [lane _ (by simp; omega), if_neg (by simp)]; rfl
  simp only [h1, h2, Finset.sum_const_zero, add_zero]

theorem sum_second (f : Fin 128 → EReal) :
    ∑ x : Fin 128, Scalar.select (IntOp.cmpi CmpIPredicate.slt (BitVec.ofNat 32 x.val) 64#32) 0 (f x)
      = ∑ d : Fin 64, f ⟨64 + d.val, by omega⟩ := by
  rw [Fin.sum_univ_add (a := 64) (b := 64)]
  have h1 : ∀ d : Fin 64, Scalar.select (IntOp.cmpi CmpIPredicate.slt (BitVec.ofNat 32 (Fin.castAdd 64 d).val) 64#32) 0 (f (Fin.castAdd 64 d))
      = 0 := fun d => by
    rw [lane _ (by simp; omega), if_pos (by simp)]; rfl
  have h2 : ∀ d : Fin 64, Scalar.select (IntOp.cmpi CmpIPredicate.slt (BitVec.ofNat 32 (Fin.natAdd 64 d).val) 64#32) 0 (f (Fin.natAdd 64 d))
      = f ⟨64 + d.val, by omega⟩ := fun d => by
    rw [lane _ (by simp; omega), if_neg (by simp)]; rfl
  simp only [h1, h2, Finset.sum_const_zero, zero_add]

variable (q : Vec Ideal S256x128 .bf16) (k v : Vec Ideal S2048x128 .bf16) (kc vc : Vec Ideal S1x1x256x128 .f32)
  (lv : Vec Ideal S4x64 .f32) (g : Vec Ideal S1x128 .f32)

theorem pay6 (r : Fin 256) (n : Fin 2048) :
    k0_pay6 q k (ix2 r n) = dot1 (fun d => q (ix2 r d)) (fun d => k (ix2 n d)) := by
  pointwise [k0_pay6, k0_pay4, k0_pay2, k0_pay3]
  exact sum_first fun x => q (ix2 r x) * k (ix2 n x)

theorem pay7 (r n : Fin 256) :
    k0_pay7 q kc (ix2 r n) = dot1 (fun d => q (ix2 r d)) (fun d => kc (ix4 0 0 n d)) := by
  pointwise [k0_pay7, k0_pay4, k0_pay2, k0_pay3]
  exact sum_first fun x => q (ix2 r x) * kc (ix4 0 0 n x)

theorem pay8 (r : Fin 256) (n : Fin 2048) :
    k0_pay8 q k (ix2 r n) = dot2 (fun d => q (ix2 r d)) (fun d => k (ix2 n d)) := by
  pointwise [k0_pay8, k0_pay5, k0_pay2, k0_pay3]
  exact sum_second fun x => q (ix2 r x) * k (ix2 n x)

theorem pay9 (r n : Fin 256) :
    k0_pay9 (k0_pay5 q) kc (ix2 r n) = dot2 (fun d => q (ix2 r d)) (fun d => kc (ix4 0 0 n d)) := by
  pointwise [k0_pay9, k0_pay5, k0_pay2, k0_pay3]
  exact sum_second fun x => q (ix2 r x) * kc (ix4 0 0 n x)

theorem pay1 : k0_pay1 lv (ix2 0 0) = weight lv := by
  pointwise [k0_pay1]
  rfl

variable (a : FVec Ideal S256x2048 .f32) (b : FVec Ideal S256x256 .f32)

theorem pay18 (r : Fin 256) (n : Fin 2048) :
    k0_pay18 a b (ix2 r n) = Ideal.exp2 (a (ix2 r n) - peak (fun n => a (ix2 r n)) (fun n => b (ix2 r n))) := by
  pointwise [k0_pay18, k0_pay17]
  rfl

theorem pay20 (r n : Fin 256) :
    k0_pay20 a b (ix2 r n) = Ideal.exp2 (b (ix2 r n) - peak (fun n => a (ix2 r n)) (fun n => b (ix2 r n))) := by
  pointwise [k0_pay20, k0_pay17]
  rfl

theorem pay19 (r : Fin 256) :
    k0_pay19 a b (ix2 r 0) = ∑ n, Ideal.exp2 (a (ix2 r n) - peak (fun n => a (ix2 r n)) (fun n => b (ix2 r n))) := by
  pointwise [k0_pay19, pay18]

theorem pay21 (r : Fin 256) :
    k0_pay21 a b (ix2 r 0) = ∑ n, Ideal.exp2 (b (ix2 r n) - peak (fun n => a (ix2 r n)) (fun n => b (ix2 r n))) := by
  pointwise [k0_pay21, pay20]

theorem pay22 (w : FVec Ideal S1x1 .f32) (a' : FVec Ideal S256x2048 .f32) (b' : FVec Ideal S256x256 .f32) (r : Fin 256) (l : Fin 128) :
    k0_pay22 w a' b' (k0_pay18 a b) (k0_pay19 a b) (k0_pay20 a b) (k0_pay21 a b) v vc (ix2 r l)
      = mix (w (ix2 0 0)) (fun n => a (ix2 r n)) (fun n => b (ix2 r n)) (fun n => a' (ix2 r n)) (fun n => b' (ix2 r n))
          (fun n => v (ix2 n l)) (fun n => vc (ix4 0 0 n l)) := by
  pointwise [k0_pay22, pay18, pay19, pay20, pay21]
  rfl

theorem pay24 (o : FVec Ideal S256x128 .f32) (w a' b' c d e f i j) (ho : o = k0_pay22 w a' b' c d e f i j) (r : Fin 256) (l : Fin 128) :
    k0_pay24 g o (k0_pay23 w a' b' c d e f i j) (ix2 r l) = normed (fun d => o (ix2 r d)) (fun d => g (ix2 0 d)) l := by
  subst ho
  have h : k0_pay23 w a' b' c d e f i j (ix2 r 0)
      = Ideal.rsqrt (Ideal.div (∑ x : Fin 128, k0_pay22 w a' b' c d e f i j (ix2 r x) * k0_pay22 w a' b' c d e f i j (ix2 r x))
          (Ideal.ofBits .f32 0x43000000#32) + Ideal.ofBits .f32 0x358637BD#32) := by
    unfold k0_pay23
    generalize k0_pay22 w a' b' c d e f i j = o
    pointwise []
  generalize k0_pay23 w a' b' c d e f i j = z at h
  generalize k0_pay22 w a' b' c d e f i j = o at h
  pointwise [k0_pay24]
  rw [h]
  rfl

/-- A head at row `r`, lane `l`. -/
theorem head_apply (r : Fin 256) (l : Fin 128) :
    head q k v kc vc lv g (ix2 r l)
      = normed (fun d => mix (weight lv)
          (fun n => dot1 (fun d => q (ix2 r d)) (fun d => k (ix2 n d)))
          (fun n => dot1 (fun d => q (ix2 r d)) (fun d => kc (ix4 0 0 n d)))
          (fun n => dot2 (fun d => q (ix2 r d)) (fun d => k (ix2 n d)))
          (fun n => dot2 (fun d => q (ix2 r d)) (fun d => kc (ix4 0 0 n d)))
          (fun n => v (ix2 n d)) (fun n => vc (ix4 0 0 n d))) (fun d => g (ix2 0 d)) l := by
  unfold head
  rw [pay24 g _ _ _ _ _ _ _ _ _ _ rfl]
  simp only [pay22, pay6, pay7, pay8, pay9, pay1]

end Cert.Proof.Head

end
-- ==== Proof.Arr.lean ====
/- The attention call's result array after the run, element by element, as a function of its arguments. -/
module

public import proofs.«01_k».proof.Proof.Head
public import Idealize.ShloMosaic.Lib.Claim

@[expose] public section

set_option maxRecDepth 16384

noncomputable section

namespace Cert.Proof.Arr

open Idealize.ShloMosaic Idealize.SL.Sem Cert.KernelIdeal Cert.KernelIdeal.Gen Idealize.ShloMosaic.TcCoe
open Cert.Proof.Mix Cert.Proof.Block Cert.Proof.Head
open Idealize.ShloMosaic.Pipeline (Dat)

variable (m : (ℓ : Loc nD τ sig) → Buf (Elt Ideal) ℓ) (c : Dev nD)

theorem V_v0 : V m c main_v0 = shapeCast S4x2x256x1024 (m ((c : Thread nD τ).loc main_arg5)) shapeCasts_S4x2x256x8x2x64_S4x2x256x1024 := by
  unfold_abbrev_sides
  after_results
  rfl

theorem V_v1 : V m c main_v1 = shapeCast S4x2x256x1024 (m ((c : Thread nD τ).loc main_arg6)) shapeCasts_S4x2x256x8x128_S4x2x256x1024 := by
  unfold_abbrev_sides
  after_results
  rfl

theorem V_v2 : V m c main_v2 = m ((c : Thread nD τ).loc main_arg7) := by
  unfold_abbrev_sides
  after_results
  rfl

/-- The coordinates of a point: the sequence, the group of heads, the block of queries. -/
abbrev pb (t : Fin grid0.N) : ℕ := t.val / 16
abbrev ph (t : Fin grid0.N) : ℕ := t.val / 8 % 2
abbrev pq (t : Fin grid0.N) : ℕ := t.val % 8

theorem e0 : ∀ t, win0_0.index t = ![16 + 8 * pb t + pq t, ph t] := (by decide +kernel : ∀ t : Fin grid0.N, win0_0.index t = ![16 + 8 * pb t + pq t, ph t])
theorem e1 : ∀ t, win0_1.index t = ![2 + pb t, ph t] := (by decide +kernel : ∀ t : Fin grid0.N, win0_1.index t = ![2 + pb t, ph t])
theorem e2 : ∀ t, win0_2.index t = ![2 + pb t, ph t] := (by decide +kernel : ∀ t : Fin grid0.N, win0_2.index t = ![2 + pb t, ph t])
theorem e3 : ∀ t, win0_3.index t = ![pb t, 0, 0, ph t] := (by decide +kernel : ∀ t : Fin grid0.N, win0_3.index t = ![pb t, 0, 0, ph t])
theorem e4 : ∀ t, win0_4.index t = ![pb t, 0, 0, ph t] := (by decide +kernel : ∀ t : Fin grid0.N, win0_4.index t = ![pb t, 0, 0, ph t])
theorem e5 : ∀ t, win0_5.index t = ![0, 0] := (by decide +kernel : ∀ t : Fin grid0.N, win0_5.index t = ![0, 0])
theorem e6 : ∀ t, win0_6.index t = ![0, 0] := (by decide +kernel : ∀ t : Fin grid0.N, win0_6.index t = ![0, 0])
theorem e7 : ∀ t, win0_7.index t = ![16 + 8 * pb t + pq t, ph t] := (by decide +kernel : ∀ t : Fin grid0.N, win0_7.index t = ![16 + 8 * pb t + pq t, ph t])

theorem pb_lt (t : Fin cfg0.N) : pb t < 4 := (by decide +kernel : ∀ t : Fin grid0.N, pb t < 4) t
theorem ph_lt (t : Fin cfg0.N) : ph t < 2 := (by decide +kernel : ∀ t : Fin grid0.N, ph t < 2) t
theorem pq_lt (t : Fin cfg0.N) : pq t < 8 := (by decide +kernel : ∀ t : Fin grid0.N, pq t < 8) t

theorem blk0 (t : Fin cfg0.N) (r : Fin 256) (l : Fin 512) (i : S12288x1024.Idx)
    (h0 : (i 0).val = 4096 + 2048 * pb t + 256 * pq t + r.val) (h1 : (i 1).val = 512 * ph t + l.val) :
    iblk m c 0 t (ix2 r l) = m ((c : Thread nD τ).loc main_arg0) i := by
  unfold iblk
  rw [show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    refine Eq.trans ?_ h0.symm
    omega
  | ⟨1, _⟩ =>
    blk_simp [e0]
    refine Eq.trans ?_ h1.symm
    omega

theorem blk1 (t : Fin cfg0.N) (r : Fin 2048) (l : Fin 512) (i : S12288x1024.Idx)
    (h0 : (i 0).val = 4096 + 2048 * pb t + r.val) (h1 : (i 1).val = 512 * ph t + l.val) :
    iblk m c 1 t (ix2 r l) = m ((c : Thread nD τ).loc main_arg1) i := by
  unfold iblk
  rw [show V m c (Pipeline.arrRef spec0 1) = m ((c : Thread nD τ).loc main_arg1) from V_main_arg1 m c]
  show m ((c : Thread nD τ).loc main_arg1) _ = _
  congr 1
  funext a
  apply Fin.ext
  match a with
  | ⟨0, _⟩ =>
    blk_simp [e1]
    refine Eq.trans ?_ h0.symm
    omega
  | ⟨1, _⟩ =>
    blk_simp [e1]
    refine Eq.trans ?_ h1.symm
    omega

theorem blk2 (t : Fin cfg0.N) (r : Fin 2048) (l : Fin 512) (i : S12288x1024.Idx)
    (h0 : (i 0).val = 4096 + 2048 * pb t + r.val) (h1 : (i 1).val = 512 * ph t + l.val) :
    iblk m c 2 t (ix2 r l) = m ((c : Thread nD τ).loc main_arg2) i := by
  unfold iblk
  rw [show V m c (Pipeline.arrRef spec0 2) = m ((c : Thread nD τ).loc main_arg2) from V_main_arg2 m c]
  show m ((c : Thread nD τ).loc main_arg2) _ = _
  congr 1
  funext a
  apply Fin.ext
  match a with
  | ⟨0, _⟩ =>
    blk_simp [e2]
    refine Eq.trans ?_ h0.symm
    omega
  | ⟨1, _⟩ =>
    blk_simp [e2]
    refine Eq.trans ?_ h1.symm
    omega

theorem blk3 (t : Fin cfg0.N) (n : Fin 256) (l : Fin 512) (i : S4x2x256x1024.Idx) (h0 : (i 0).val = pb t) (h1 : (i 1).val = 0)
    (h2 : (i 2).val = n.val) (h3 : (i 3).val = 512 * ph t + l.val) :
    iblk m c 3 t (ix4 0 0 n l) = shapeCast S4x2x256x1024 (m ((c : Thread nD τ).loc main_arg5)) shapeCasts_S4x2x256x8x2x64_S4x2x256x1024 i := by
  unfold iblk
  rw [show V m c (Pipeline.arrRef spec0 3) = _ from V_v0 m c]
  generalize shapeCast S4x2x256x1024 (m ((c : Thread nD τ).loc main_arg5)) shapeCasts_S4x2x256x8x2x64_S4x2x256x1024 = X
  show X _ = _
  congr 1
  funext a
  apply Fin.ext
  match a with
  | ⟨0, _⟩ =>
    blk_simp [e3]
    refine Eq.trans ?_ h0.symm
    try omega
  | ⟨1, _⟩ =>
    blk_simp [e3]
    refine Eq.trans ?_ h1.symm
    try omega
  | ⟨2, _⟩ =>
    blk_simp [e3]
    refine Eq.trans ?_ h2.symm
    try omega
  | ⟨3, _⟩ =>
    blk_simp [e3]
    refine Eq.trans ?_ h3.symm
    try omega

theorem blk4 (t : Fin cfg0.N) (n : Fin 256) (l : Fin 512) (i : S4x2x256x1024.Idx) (h0 : (i 0).val = pb t) (h1 : (i 1).val = 0)
    (h2 : (i 2).val = n.val) (h3 : (i 3).val = 512 * ph t + l.val) :
    iblk m c 4 t (ix4 0 0 n l) = shapeCast S4x2x256x1024 (m ((c : Thread nD τ).loc main_arg6)) shapeCasts_S4x2x256x8x128_S4x2x256x1024 i := by
  unfold iblk
  rw [show V m c (Pipeline.arrRef spec0 4) = _ from V_v1 m c]
  generalize shapeCast S4x2x256x1024 (m ((c : Thread nD τ).loc main_arg6)) shapeCasts_S4x2x256x8x128_S4x2x256x1024 = X
  show X _ = _
  congr 1
  funext a
  apply Fin.ext
  match a with
  | ⟨0, _⟩ =>
    blk_simp [e4]
    refine Eq.trans ?_ h0.symm
    try omega
  | ⟨1, _⟩ =>
    blk_simp [e4]
    refine Eq.trans ?_ h1.symm
    try omega
  | ⟨2, _⟩ =>
    blk_simp [e4]
    refine Eq.trans ?_ h2.symm
    try omega
  | ⟨3, _⟩ =>
    blk_simp [e4]
    refine Eq.trans ?_ h3.symm
    try omega

theorem blk5 (t : Fin cfg0.N) : iblk m c 5 t = m ((c : Thread nD τ).loc main_arg3) := by
  unfold iblk
  rw [show V m c (Pipeline.arrRef spec0 5) = m ((c : Thread nD τ).loc main_arg3) from V_main_arg3 m c]
  funext i
  show m ((c : Thread nD τ).loc main_arg3) _ = _
  congr 1
  funext a
  apply Fin.ext
  match a with
  | ⟨0, _⟩ =>
    blk_simp [e5]
  | ⟨1, _⟩ =>
    blk_simp [e5]

theorem blk6 (t : Fin cfg0.N) : iblk m c 6 t = m ((c : Thread nD τ).loc main_arg4) := by
  unfold iblk
  rw [show V m c (Pipeline.arrRef spec0 6) = m ((c : Thread nD τ).loc main_arg4) from V_main_arg4 m c]
  funext i
  show m ((c : Thread nD τ).loc main_arg4) _ = _
  congr 1
  funext a
  apply Fin.ext
  match a with
  | ⟨0, _⟩ =>
    blk_simp [e6]
  | ⟨1, _⟩ =>
    blk_simp [e6]

/-- A cached key at its flat lane: head `h`, lane `d`. -/
theorem key_flat (x : Vec Ideal S4x2x256x8x2x64 .f32) (b : Fin 4) (n : Fin 256) (h : Fin 8) (d : Fin 128) (i : S4x2x256x1024.Idx)
    (h0 : i 0 = b) (h1 : i 1 = (0 : Fin 2)) (h2 : i 2 = n) (h3 : (i 3).val = 128 * h.val + d.val) :
    shapeCast S4x2x256x1024 x shapeCasts_S4x2x256x8x2x64_S4x2x256x1024 i
      = x (ix6 b 0 n h ⟨d.val / 64, by omega⟩ ⟨d.val % 64, by omega⟩) := by
  have hi : i = ix4 b (0 : Fin 2) n (⟨128 * h.val + d.val, by omega⟩ : Fin 1024) := by
    funext a
    match a with
    | ⟨0, _⟩ => exact h0
    | ⟨1, _⟩ => exact h1
    | ⟨2, _⟩ => exact h2
    | ⟨3, _⟩ => exact Fin.ext h3
  rw [hi]
  pointwise
  congr 2
  · apply Fin.ext
    show _ / 64 % 2 = _ / 64
    omega
  · apply Fin.ext
    show _ % 64 = _ % 64
    omega

theorem value_flat (x : Vec Ideal S4x2x256x8x128 .f32) (b : Fin 4) (n : Fin 256) (h : Fin 8) (d : Fin 128) (i : S4x2x256x1024.Idx)
    (h0 : i 0 = b) (h1 : i 1 = (0 : Fin 2)) (h2 : i 2 = n) (h3 : (i 3).val = 128 * h.val + d.val) :
    shapeCast S4x2x256x1024 x shapeCasts_S4x2x256x8x128_S4x2x256x1024 i = x (ix5 b 0 n h d) := by
  have hi : i = ix4 b (0 : Fin 2) n (⟨128 * h.val + d.val, by omega⟩ : Fin 1024) := by
    funext a
    match a with
    | ⟨0, _⟩ => exact h0
    | ⟨1, _⟩ => exact h1
    | ⟨2, _⟩ => exact h2
    | ⟨3, _⟩ => exact Fin.ext h3
  rw [hi]
  pointwise

/-- The attention at sequence `b`, query `i`, head `h`, lane `j`: of the prescaled queries `x0`, the keys `x1` and values `x2`,
    the weight's vectors `x3`, the gain `x4`, and the cached keys `x5` and values `x6`. -/
def att (x0 x1 x2 : Vec Ideal S12288x1024 .bf16) (x3 : Vec Ideal S4x64 .f32) (x4 : Vec Ideal S1x128 .f32)
    (x5 : Vec Ideal S4x2x256x8x2x64 .f32) (x6 : Vec Ideal S4x2x256x8x128 .f32) (b : Fin 4) (i : Fin 2048) (h : Fin 8) (j : Fin 128) : EReal :=
  let q : Fin 128 → EReal := fun e => x0 (ix2 ⟨4096 + 2048 * b.val + i.val, by omega⟩ ⟨128 * h.val + e.val, by omega⟩)
  let k : Fin 2048 → Fin 128 → EReal := fun n e => x1 (ix2 ⟨4096 + 2048 * b.val + n.val, by omega⟩ ⟨128 * h.val + e.val, by omega⟩)
  let kc : Fin 256 → Fin 128 → EReal := fun n e => x5 (ix6 b 0 n h ⟨e.val / 64, by omega⟩ ⟨e.val % 64, by omega⟩)
  normed (fun d => mix (weight x3) (fun n => dot1 q (k n)) (fun n => dot1 q (kc n)) (fun n => dot2 q (k n)) (fun n => dot2 q (kc n))
    (fun n => x2 (ix2 ⟨4096 + 2048 * b.val + n.val, by omega⟩ ⟨128 * h.val + d.val, by omega⟩)) (fun n => x6 (ix5 b 0 n h d)))
    (fun d => x4 (ix2 0 d)) j

/-- `att` of the call's arguments. -/
abbrev attm (b : Fin 4) (i : Fin 2048) (h : Fin 8) (j : Fin 128) : EReal :=
  att (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b i h j

/-- Head `o` of point `t`'s block. -/
theorem head_at (t : Fin cfg0.N) (o : Fin 4) (off : ℕ) (ho : off = 128 * o.val)
    (i0 : ∀ a, (![0, off] : Fin 2 → Nat) a + S256x128.size a ≤ S256x512.size a) (i1 : ∀ a, (![0, off] : Fin 2 → Nat) a + S2048x128.size a ≤ S2048x512.size a)
    (i3 : ∀ a, (![0, 0, 0, off] : Fin 4 → Nat) a + S1x1x256x128.size a ≤ S1x1x256x512.size a) (r : Fin 256) (l : Fin 128) :
    head (View.ld (iblk m c 0 t) (Rect.unit (s := S256x512) ![0, off] ![256, 128] i0))
      (View.ld (iblk m c 1 t) (Rect.unit (s := S2048x512) ![0, off] ![2048, 128] i1))
      (View.ld (iblk m c 2 t) (Rect.unit (s := S2048x512) ![0, off] ![2048, 128] i1))
      (View.ld (iblk m c 3 t) (Rect.unit (s := S1x1x256x512) ![0, 0, 0, off] ![1, 1, 256, 128] i3))
      (View.ld (iblk m c 4 t) (Rect.unit (s := S1x1x256x512) ![0, 0, 0, off] ![1, 1, 256, 128] i3))
      (iblk m c 5 t) (iblk m c 6 t) (ix2 r l)
    = attm m c ⟨pb t, pb_lt t⟩ ⟨256 * pq t + r.val, by have := pq_lt t; omega⟩ ⟨4 * ph t + o.val, by have := ph_lt t; omega⟩ l := by
  have hb := pb_lt t
  have hh := ph_lt t
  have hq := pq_lt t
  subst ho
  have r0 : ∀ e : Fin 128, View.ld (iblk m c 0 t) (Rect.unit (s := S256x512) ![0, 128 * o.val] ![256, 128] i0) (ix2 r e)
      = m ((c : Thread nD τ).loc main_arg0) (ix2 ⟨4096 + 2048 * pb t + (256 * pq t + r.val), by omega⟩ ⟨128 * (4 * ph t + o.val) + e.val, by omega⟩) := fun e =>
    (View.ld_unit_apply_of (S := S256x512) _ _ _ i0 _ (ix2 r ⟨128 * o.val + e.val, by omega⟩) (Fin.forall_fin_two.2 ⟨(Nat.zero_add _).symm, rfl⟩)).trans
      (blk0 m c t r _ _ (by show _ + _ = _; omega) (by show _ + _ = _ + (_ + _); omega))
  have r1 : ∀ (n : Fin 2048) (e : Fin 128), View.ld (iblk m c 1 t) (Rect.unit (s := S2048x512) ![0, 128 * o.val] ![2048, 128] i1) (ix2 n e)
      = m ((c : Thread nD τ).loc main_arg1) (ix2 ⟨4096 + 2048 * pb t + n.val, by omega⟩ ⟨128 * (4 * ph t + o.val) + e.val, by omega⟩) := fun n e =>
    (View.ld_unit_apply_of (S := S2048x512) _ _ _ i1 _ (ix2 n ⟨128 * o.val + e.val, by omega⟩) (Fin.forall_fin_two.2 ⟨(Nat.zero_add _).symm, rfl⟩)).trans
      (blk1 m c t n _ _ rfl (by show _ + _ = _ + (_ + _); omega))
  have r2 : ∀ (n : Fin 2048) (e : Fin 128), View.ld (iblk m c 2 t) (Rect.unit (s := S2048x512) ![0, 128 * o.val] ![2048, 128] i1) (ix2 n e)
      = m ((c : Thread nD τ).loc main_arg2) (ix2 ⟨4096 + 2048 * pb t + n.val, by omega⟩ ⟨128 * (4 * ph t + o.val) + e.val, by omega⟩) := fun n e =>
    (View.ld_unit_apply_of (S := S2048x512) _ _ _ i1 _ (ix2 n ⟨128 * o.val + e.val, by omega⟩) (Fin.forall_fin_two.2 ⟨(Nat.zero_add _).symm, rfl⟩)).trans
      (blk2 m c t n _ _ rfl (by show _ + _ = _ + (_ + _); omega))
  have r3 : ∀ (n : Fin 256) (e : Fin 128), View.ld (iblk m c 3 t) (Rect.unit (s := S1x1x256x512) ![0, 0, 0, 128 * o.val] ![1, 1, 256, 128] i3) (ix4 0 0 n e)
      = m ((c : Thread nD τ).loc main_arg5) (ix6 ⟨pb t, hb⟩ 0 n ⟨4 * ph t + o.val, by omega⟩ ⟨e.val / 64, by omega⟩ ⟨e.val % 64, by omega⟩) := fun n e =>
    (View.ld_unit_apply_of (S := S1x1x256x512) _ _ _ i3 _ (ix4 0 0 n ⟨128 * o.val + e.val, by omega⟩)
      (fun a => match a with | ⟨0, _⟩ => rfl | ⟨1, _⟩ => rfl | ⟨2, _⟩ => (Nat.zero_add _).symm | ⟨3, _⟩ => rfl)).trans
      ((blk3 m c t n _ (ix4 ⟨pb t, hb⟩ (0 : Fin 2) n (⟨128 * (4 * ph t + o.val) + e.val, by omega⟩ : Fin 1024)) rfl rfl rfl
        (by show _ + _ = _ + (_ + _); omega)).trans (key_flat _ ⟨pb t, hb⟩ n ⟨4 * ph t + o.val, by omega⟩ e _ rfl rfl rfl rfl))
  have r4 : ∀ (n : Fin 256) (e : Fin 128), View.ld (iblk m c 4 t) (Rect.unit (s := S1x1x256x512) ![0, 0, 0, 128 * o.val] ![1, 1, 256, 128] i3) (ix4 0 0 n e)
      = m ((c : Thread nD τ).loc main_arg6) (ix5 ⟨pb t, hb⟩ 0 n ⟨4 * ph t + o.val, by omega⟩ e) := fun n e =>
    (View.ld_unit_apply_of (S := S1x1x256x512) _ _ _ i3 _ (ix4 0 0 n ⟨128 * o.val + e.val, by omega⟩)
      (fun a => match a with | ⟨0, _⟩ => rfl | ⟨1, _⟩ => rfl | ⟨2, _⟩ => (Nat.zero_add _).symm | ⟨3, _⟩ => rfl)).trans
      ((blk4 m c t n _ (ix4 ⟨pb t, hb⟩ (0 : Fin 2) n (⟨128 * (4 * ph t + o.val) + e.val, by omega⟩ : Fin 1024)) rfl rfl rfl
        (by show _ + _ = _ + (_ + _); omega)).trans (value_flat _ ⟨pb t, hb⟩ n ⟨4 * ph t + o.val, by omega⟩ e _ rfl rfl rfl rfl))
  refine (head_apply _ _ _ _ _ _ _ r l).trans ?_
  simp only [r0, r1, r2, r3, r4, blk5, blk6]
  rfl

/-- What point `t` leaves in its block, at row `r` and column `y`. -/
theorem outs_at (t : Fin cfg0.N) (r : Fin 256) (o : Fin 4) (l : Fin 128) :
    outsAt0 m c t (ix2 r ⟨128 * o.val + l.val, by omega⟩)
      = attm m c ⟨pb t, pb_lt t⟩ ⟨256 * pq t + r.val, by have := pq_lt t; omega⟩ ⟨4 * ph t + o.val, by have := ph_lt t; omega⟩ l := by
  rw [outsAt_eq]
  have hx : ∀ (x : S256x128.Idx) (off : ℕ) (w : Fin 4), off = 128 * w.val → r.val = (x 0).val → 128 * o.val + l.val = off + (x 1).val → (x 1).val < 128 →
      o = w ∧ x = ix2 r l := by
    intro x off w e h0 h1 h2
    refine ⟨Fin.ext (by omega), ?_⟩
    funext a
    match a with
    | ⟨0, _⟩ => exact Fin.ext h0.symm
    | ⟨1, _⟩ => exact Fin.ext (by show (x 1).val = l.val; omega)
  canon_tiles x h
  · obtain ⟨rfl, rfl⟩ := hx x 384 3 rfl h0 h1 x1_lt
    exact head_at m c t 3 384 rfl _ _ _ r l
  · obtain ⟨rfl, rfl⟩ := hx x 256 2 rfl h0 h1 x1_lt
    exact head_at m c t 2 256 rfl _ _ _ r l
  · obtain ⟨rfl, rfl⟩ := hx x 128 1 rfl h0 h1 x1_lt
    exact head_at m c t 1 128 rfl _ _ _ r l
  · obtain ⟨rfl, rfl⟩ := hx x 0 0 rfl h0 (h1.trans (Nat.zero_add _).symm) x1_lt
    exact head_at m c t 0 0 rfl _ _ _ r l

/-- The array after the run, at a row of the sequences. -/
theorem arr_seq (b : Fin 4) (i : Fin 2048) (h : Fin 8) (j : Fin 128) :
    (dats m 0 c).arrAt 7 cfg0.N (ix2 (⟨4096 + 2048 * b.val + i.val, by omega⟩ : Fin 12288) (⟨128 * h.val + j.val, by omega⟩ : Fin 1024))
      = attm m c b i h j := by
  have ht : 16 * b.val + 8 * (h.val / 4) + i.val / 256 < 64 := by omega
  let t : Fin cfg0.N := ⟨16 * b.val + 8 * (h.val / 4) + i.val / 256, ht⟩
  have tb : pb t = b.val := by show (16 * b.val + 8 * (h.val / 4) + i.val / 256) / 16 = _; omega
  have th : ph t = h.val / 4 := by show (16 * b.val + 8 * (h.val / 4) + i.val / 256) / 8 % 2 = _; omega
  have tq : pq t = i.val / 256 := by show (16 * b.val + 8 * (h.val / 4) + i.val / 256) % 8 = _; omega
  have hw := congrFun (Cert.KernelIdeal.Value.blocks7 m c t (flush0_7 t))
    (ix2 (⟨i.val % 256, by omega⟩ : Fin 256) (⟨128 * (h.val % 4) + j.val, by omega⟩ : Fin 512))
  rw [Cert.KernelIdeal.Value.flushed7] at hw
  refine Eq.trans ?_ (hw.trans ((outs_at m c t ⟨i.val % 256, by omega⟩ ⟨h.val % 4, by omega⟩ j).trans ?_))
  · generalize (dats m 0 c).arrAt 7 cfg0.N = X
    show X _ = X _
    congr 1
    funext a
    apply Fin.ext
    match a with
    | ⟨0, _⟩ =>
      blk_simp [e7]
      show 4096 + 2048 * b.val + i.val = _ * 256 + i.val % 256
      rw [tb, tq]
      omega
    | ⟨1, _⟩ =>
      blk_simp [e7]
      show 128 * h.val + j.val = _ * 512 + (128 * (h.val % 4) + j.val)
      rw [th]
      omega
  · congr 1 <;> apply Fin.ext
    · exact tb
    · show 256 * pq t + i.val % 256 = i.val
      omega
    · show 4 * ph t + h.val % 4 = h.val
      omega

/-- The array after the run, at a row before the sequences: the buffer the call was given. -/
theorem arr_rest (i : S12288x1024.Idx) (hi : (i 0).val < 4096) :
    (dats m 0 c).arrAt 7 cfg0.N i = m ((c : Thread nD τ).loc main_arg7) i := by
  refine (Cert.KernelIdeal.Value.entry7 m c i fun t _ hm => ?_).trans (congrFun (V_v2 m c) i)
  mem_blk [e7] at hm
  omega

end Cert.Proof.Arr

end
-- ==== Proof.Ref.lean ====
/- The reference's result, element by element. -/
module

public import proofs.«01_k».proof.Proof.Gen.ReferenceIdeal.Read
public import proofs.«01_k».proof.Proof.Mix
public import Idealize.ShloMosaic.Lib.Pointwise
public import Idealize.ShloMosaic.Lib.KernelVsHost

@[expose] public section

set_option maxRecDepth 16384

noncomputable section

namespace Cert.Proof.Ref

open Idealize.ShloMosaic Idealize.SL.Sem Cert.ReferenceIdeal Cert.ReferenceIdeal.Gen Cert.ReferenceIdeal.Read Idealize.ShloMosaic.TcCoe
open Cert.Proof.Mix

variable (x0 x1 x2 : Vec Ideal S12288x1024 .bf16) (x3 : Vec Ideal S4x64 .f32) (x4 : Vec Ideal S1x128 .f32)
    (x5 : Vec Ideal S4x2x256x8x2x64 .f32) (x6 : Vec Ideal S4x2x256x8x128 .f32) (x7 : Vec Ideal S12288x1024 .bf16)

theorem v73 (b : Fin 4) (i : Fin 2048) (h : Fin 8) (j : Fin 128) :
    val_main_v73 (F := Ideal) x0 x1 x2 x3 x4 x5 x6 (ix4 b i h j)
      = normed (fun d => val_main_v56 (F := Ideal) x0 x1 x2 x3 x5 x6 (ix4 b h d i)) (fun d => x4 (ix2 0 d)) j := by
  pointwise [val_main_v73, val_main_v72, val_main_cst_11, val_main_v71, val_main_v70, val_main_v69, val_main_v68, val_main_v67, val_main_v66,
    val_main_v65, val_main_v64, val_main_v63, val_main_cst_10, val_main_v62, val_main_v61, val_main_cst_9, val_main_v60, val_main_v59,
    val_main_cst_8, val_main_v58, val_main_v57, normed]

theorem v56 (b : Fin 4) (h : Fin 8) (d : Fin 128) (i : Fin 2048) :
    val_main_v56 (F := Ideal) x0 x1 x2 x3 x5 x6 (ix4 b h d i)
      = ∑ k : Fin 2304, val_main_v34 (F := Ideal) x2 x6 (ix4 b k h d) * val_main_v55 (F := Ideal) x0 x1 x3 x5 (ix4 b h i k) := by
  rw [val_main_v56_apply]
  refine Finset.sum_congr rfl fun k _ => congrArg₂ (· * ·) (congrArg _ ?_) (congrArg _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem v55 (b : Fin 4) (h : Fin 8) (i : Fin 2048) (k : Fin 2304) :
    val_main_v55 (F := Ideal) x0 x1 x3 x5 (ix4 b h i k)
      = val_main_v48 (F := Ideal) x0 x1 x5 (ix5 b h 0 i k) - val_main_v20 (F := Ideal) x3 ix0 * val_main_v48 (F := Ideal) x0 x1 x5 (ix5 b h 1 i k) := by
  rw [val_main_v55_apply, val_main_v54_apply, val_main_v53_apply, val_main_v52_apply, val_main_v51_apply, val_main_v50_apply, val_main_v49_apply]
  have h0 := b.isLt
  have h1 := h.isLt
  have h2 := i.isLt
  have h3 := k.isLt
  have d0 : (((b.val * 8 + h.val) * 2048 + i.val) * 2304 + k.val) / 37748736 = b.val := by omega
  have d1 : (((b.val * 8 + h.val) * 2048 + i.val) * 2304 + k.val) / 4718592 % 8 = h.val := by omega
  have d3 : (((b.val * 8 + h.val) * 2048 + i.val) * 2304 + k.val) / 2304 % 2048 = i.val := by omega
  have d4 : (((b.val * 8 + h.val) * 2048 + i.val) * 2304 + k.val) % 2304 = k.val := by omega
  have e1 : idx_main_v49 (idx_main_v50 (ix4 b h i k)) = ix5 b h 0 i k := funext fun a => Fin.ext (match a with
    | ⟨0, _⟩ => d0
    | ⟨1, _⟩ => d1
    | ⟨2, _⟩ => rfl
    | ⟨3, _⟩ => d3
    | ⟨4, _⟩ => d4)
  have e2 : idx_main_v51 (idx_main_v52 (ix4 b h i k)) = ix5 b h 1 i k := funext fun a => Fin.ext (match a with
    | ⟨0, _⟩ => d0
    | ⟨1, _⟩ => d1
    | ⟨2, _⟩ => rfl
    | ⟨3, _⟩ => d3
    | ⟨4, _⟩ => d4)
  have e3 : idx_main_v53 (ix4 b h i k) = ix0 := funext fun a => a.elim0
  rw [e1, e2, e3]
  rfl

theorem v20 : val_main_v20 (F := Ideal) x3 ix0 = Ideal.exp (∑ x : Fin 64, x3 (ix2 0 x) * x3 (ix2 1 x))
    - Ideal.exp (∑ x : Fin 64, x3 (ix2 2 x) * x3 (ix2 3 x)) + Ideal.ofBits .f32 0x3EB60549#32 := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_cst_1, val_main_cst_2, val_main_cst_3]

theorem v48 (b : Fin 4) (h : Fin 8) (e : Fin 2) (i : Fin 2048) (k : Fin 2304) :
    val_main_v48 (F := Ideal) x0 x1 x5 (ix5 b h e i k)
      = soft (fun n => val_main_v37 (F := Ideal) x0 x1 x5 (ix5 b h e i n)) (val_main_v40 (F := Ideal) x0 x1 x5 (ix4 b h e i)) k := by
  pointwise [val_main_v48, val_main_v47, val_main_v46, val_main_v45, val_main_v44, val_main_v43, val_main_v42, val_main_v41, val_main_cst_7, soft]

/-- The host's maximum along the last axis of the scores. -/
theorem last_max (y : FVec Ideal S4x8x2x2048x2304 .f32) (j : S4x8x2x2048.Idx) :
    Host.reduce FloatOps.maximumf y (constant (F := Ideal) S_ .f32 0xFF800000#32) reducesTo_S4x8x2x2048x2304_S4x8x2x2048_d4 h_S_ j
      = Finset.univ.fold max ninf (fun n : Fin 2304 => y (idx_main_v45 j n)) := by
  have hr : S4x8x2x2048x2304.Reduces [4] S4x8x2x2048 := by decide
  have hf : FKind.Formats FTy.f32 := by decide
  refine (congrFun (hostReduce_maximumf_eq_multiReduction y 0xFF800000#32 reducesTo_S4x8x2x2048x2304_S4x8x2x2048_d4 h_S_ hr hf rfl) j).trans ?_
  refine (Ideal.multiReduction_maximumf_single y 0xFF800000#32 hr hf rfl j).trans ?_
  refine congrArg (Finset.fold max ninf · Finset.univ) (funext fun n => ?_)
  exact congrArg y (funext fun a => Fin.ext (by match a with | ⟨0, _⟩ => rfl | ⟨1, _⟩ => rfl | ⟨2, _⟩ => rfl | ⟨3, _⟩ => rfl | ⟨4, _⟩ => rfl))

theorem v40 (b : Fin 4) (h : Fin 8) (e : Fin 2) (i : Fin 2048) :
    val_main_v40 (F := Ideal) x0 x1 x5 (ix4 b h e i)
      = max ninf (Finset.univ.fold max ninf (fun n : Fin 2304 => val_main_v37 (F := Ideal) x0 x1 x5 (ix5 b h e i n))) := by
  refine (val_main_v40_apply x0 x1 x5 _).trans (congrArg (max ninf) ?_)
  unfold val_main_v38 val_main_cst_5
  rw [last_max]
  refine congrArg (Finset.fold max ninf · Finset.univ) (funext fun n => congrArg _ ?_)
  funext a
  match a with
  | ⟨0, _⟩ => rfl
  | ⟨1, _⟩ => rfl
  | ⟨2, _⟩ => rfl
  | ⟨3, _⟩ => rfl
  | ⟨4, _⟩ => rfl

theorem v37 (b : Fin 4) (h : Fin 8) (e : Fin 2) (i : Fin 2048) (k : Fin 2304) :
    val_main_v37 (F := Ideal) x0 x1 x5 (ix5 b h e i k)
      = (∑ d : Fin 64, val_main_v22 (F := Ideal) x0 (ix5 b i h e d) * val_main_v31 (F := Ideal) x1 x5 (ix5 b k h e d)) * Ideal.ofBits .f32 0x3E000000#32 := by
  pointwise [val_main_v37, val_main_v36, val_main_v35, val_main_cst_4]

theorem v22 (b : Fin 4) (i : Fin 2048) (h : Fin 8) (e : Fin 2) (d : Fin 64) :
    val_main_v22 (F := Ideal) x0 (ix5 b i h e d)
      = x0 (ix2 ⟨4096 + 2048 * b.val + i.val, by omega⟩ ⟨128 * h.val + 64 * e.val + d.val, by omega⟩)
        * Ideal.div (Ideal.log (Ideal.ofBits .f32 0x40000000#32)) (Ideal.ofBits .f32 0x3E000000#32) := by
  pointwise [val_main_v22, val_main_v21, val_main_v4, val_main_v3, val_main_v2, val_main_v1, val_main_v0, val_main_cst, val_main_cst_0]
  simp only [Nat.mul_comm, Nat.add_assoc, Nat.add_comm, Nat.add_left_comm]

theorem v31 (b : Fin 4) (k : Fin 2304) (h : Fin 8) (e : Fin 2) (d : Fin 64) :
    val_main_v31 (F := Ideal) x1 x5 (ix5 b k h e d)
      = if hk : k.val < 256 then x5 (ix6 b 0 ⟨k.val, hk⟩ h e d)
        else x1 (ix2 ⟨4096 + 2048 * b.val + (k.val - 256), by omega⟩ ⟨128 * h.val + 64 * e.val + d.val, by omega⟩) := by
  pointwise [val_main_v31, val_main_v30, val_main_v29, val_main_v25, val_main_v24, val_main_v23]
  simp only [Nat.mul_comm, Nat.add_assoc, Nat.add_comm, Nat.add_left_comm]

theorem v34 (b : Fin 4) (k : Fin 2304) (h : Fin 8) (d : Fin 128) :
    val_main_v34 (F := Ideal) x2 x6 (ix4 b k h d)
      = if hk : k.val < 256 then x6 (ix5 b 0 ⟨k.val, hk⟩ h d)
        else x2 (ix2 ⟨4096 + 2048 * b.val + (k.val - 256), by omega⟩ ⟨128 * h.val + d.val, by omega⟩) := by
  pointwise [val_main_v34, val_main_v33, val_main_v32, val_main_v28, val_main_v27, val_main_v26]
  simp only [Nat.mul_comm, Nat.add_assoc, Nat.add_comm, Nat.add_left_comm]

theorem v77 (r : Fin 12288) (y : Fin 1024) :
    val_main_v77 (F := Ideal) x0 x1 x2 x3 x4 x5 x6 x7 (ix2 r y)
      = if hr : r.val < 4096 then x7 (ix2 r y)
        else val_main_v73 (F := Ideal) x0 x1 x2 x3 x4 x5 x6 (ix4 ⟨(r.val - 4096) / 2048, by omega⟩ ⟨(r.val - 4096) % 2048, by omega⟩
          ⟨y.val / 128, by omega⟩ ⟨y.val % 128, by omega⟩) := by
  pointwise [val_main_v77, val_main_v76, val_main_v75, val_main_v74]

end Cert.Proof.Ref

end
-- ==== Proof.Alg.lean ====
/- The kernel's result and the reference's are one array. -/
module

public import proofs.«01_k».proof.Proof.Arr
public import proofs.«01_k».proof.Proof.Ref

@[expose] public section

set_option maxRecDepth 16384

noncomputable section

namespace Cert.Proof.Alg

open Idealize.ShloMosaic Idealize.SL.Sem Cert.ReferenceIdeal Cert.ReferenceIdeal.Gen Cert.ReferenceIdeal.Read Idealize.ShloMosaic.TcCoe
open Cert.Proof.Mix

theorem eighth : Ideal.ofBits .f32 0x3E000000#32 = (((1 : ℝ) / 8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

/-- What the reference multiplies a prescaled query by. -/
theorem unscale : Ideal.div (Ideal.log (Ideal.ofBits .f32 0x40000000#32)) (Ideal.ofBits .f32 0x3E000000#32) = ((Real.log 2 * 8 : ℝ) : EReal) := by
  rw [two, eighth, Ideal.log_coe, if_neg (by norm_num), Ideal.div_coe (by norm_num), ← EReal.coe_mul]
  norm_num

variable (X0 X1 : S12288x1024.Idx → ℝ) (X5 : S4x2x256x8x2x64.Idx → ℝ)

/-- A key over the joined axis, the cache first. -/
def key (b : Fin 4) (h : Fin 8) (e : Fin 2) (k : Fin 2304) (d : Fin 64) : ℝ :=
  if hk : k.val < 256 then X5 (ix6 b 0 ⟨k.val, hk⟩ h e d)
  else X1 (ix2 ⟨4096 + 2048 * b.val + (k.val - 256), by omega⟩ ⟨128 * h.val + 64 * e.val + d.val, by omega⟩)

/-- The score of a query and a key, of the prescaled query. -/
def score (b : Fin 4) (i : Fin 2048) (h : Fin 8) (e : Fin 2) (k : Fin 2304) : ℝ :=
  ∑ d : Fin 64, X0 (ix2 ⟨4096 + 2048 * b.val + i.val, by omega⟩ ⟨128 * h.val + 64 * e.val + d.val, by omega⟩) * key X1 X5 b h e k d

/-- The array of a real array's values. -/
abbrev up {s : Shape} (X : s.Idx → ℝ) : s.Idx → EReal := fun i => (X i : EReal)

theorem score_ref (b : Fin 4) (i : Fin 2048) (h : Fin 8) (e : Fin 2) (k : Fin 2304) :
    val_main_v37 (F := Ideal) (up X0) (up X1) (up X5) (ix5 b h e i k) = ((Real.log 2 * score X0 X1 X5 b i h e k : ℝ) : EReal) := by
  rw [Ref.v37]
  have h31 : ∀ d, val_main_v31 (F := Ideal) (up X1) (up X5) (ix5 b k h e d) = (key X1 X5 b h e k d : EReal) := fun d => by
    rw [Ref.v31]
    unfold key
    split <;> rfl
  have h22 : ∀ d, val_main_v22 (F := Ideal) (up X0) (ix5 b i h e d)
      = ((X0 (ix2 ⟨4096 + 2048 * b.val + i.val, by omega⟩ ⟨128 * h.val + 64 * e.val + d.val, by omega⟩) * (Real.log 2 * 8) : ℝ) : EReal) := fun d => by
    rw [Ref.v22, unscale, ← EReal.coe_mul]
  simp only [h22, h31, eighth, ← EReal.coe_mul, coe_sum]
  rw [EReal.coe_eq_coe_iff]
  unfold score
  rw [Finset.sum_mul, Finset.mul_sum]
  exact Finset.sum_congr rfl fun d _ => by ring

theorem peak_ref (b : Fin 4) (i : Fin 2048) (h : Fin 8) (e : Fin 2) :
    ∃ M : ℝ, val_main_v40 (F := Ideal) (up X0) (up X1) (up X5) (ix4 b h e i) = (M : EReal) := by
  obtain ⟨r, hr⟩ := fold_max_real (n := 2303) fun n => Real.log 2 * score X0 X1 X5 b i h e n
  refine ⟨r, ?_⟩
  rw [Ref.v40]
  simp only [score_ref]
  rw [ninf_eq, max_eq_right bot_le, ← ninf_eq]
  exact hr

theorem dot1_seq (b : Fin 4) (i : Fin 2048) (h : Fin 8) (n : Fin 2048) :
    Head.dot1 (fun e => up X0 (ix2 ⟨4096 + 2048 * b.val + i.val, by omega⟩ ⟨128 * h.val + e.val, by omega⟩))
      (fun e => up X1 (ix2 ⟨4096 + 2048 * b.val + n.val, by omega⟩ ⟨128 * h.val + e.val, by omega⟩))
    = (score X0 X1 X5 b i h 0 ⟨256 + n.val, by omega⟩ : EReal) := by
  unfold Head.dot1 score key up
  simp only [← EReal.coe_mul, coe_sum]
  rw [EReal.coe_eq_coe_iff]
  refine Finset.sum_congr rfl fun d _ => ?_
  rw [dif_neg (by simp)]
  congr 3 <;> first | rfl | (apply Fin.ext; simp)

theorem dot2_seq (b : Fin 4) (i : Fin 2048) (h : Fin 8) (n : Fin 2048) :
    Head.dot2 (fun e => up X0 (ix2 ⟨4096 + 2048 * b.val + i.val, by omega⟩ ⟨128 * h.val + e.val, by omega⟩))
      (fun e => up X1 (ix2 ⟨4096 + 2048 * b.val + n.val, by omega⟩ ⟨128 * h.val + e.val, by omega⟩))
    = (score X0 X1 X5 b i h 1 ⟨256 + n.val, by omega⟩ : EReal) := by
  unfold Head.dot2 score key up
  simp only [← EReal.coe_mul, coe_sum]
  rw [EReal.coe_eq_coe_iff]
  refine Finset.sum_congr rfl fun d _ => ?_
  rw [dif_neg (by simp)]
  congr 3 <;> first | rfl | (apply Fin.ext; simp; try omega)

theorem dot1_cache (b : Fin 4) (i : Fin 2048) (h : Fin 8) (n : Fin 256) :
    Head.dot1 (fun e => up X0 (ix2 ⟨4096 + 2048 * b.val + i.val, by omega⟩ ⟨128 * h.val + e.val, by omega⟩))
      (fun e => up X5 (ix6 b 0 n h ⟨e.val / 64, by omega⟩ ⟨e.val % 64, by omega⟩))
    = (score X0 X1 X5 b i h 0 ⟨n.val, by omega⟩ : EReal) := by
  unfold Head.dot1 score key up
  simp only [← EReal.coe_mul, coe_sum]
  rw [EReal.coe_eq_coe_iff]
  refine Finset.sum_congr rfl fun d _ => ?_
  rw [dif_pos n.isLt]
  congr 3 <;> first | rfl | (apply Fin.ext; simp; try omega)

theorem dot2_cache (b : Fin 4) (i : Fin 2048) (h : Fin 8) (n : Fin 256) :
    Head.dot2 (fun e => up X0 (ix2 ⟨4096 + 2048 * b.val + i.val, by omega⟩ ⟨128 * h.val + e.val, by omega⟩))
      (fun e => up X5 (ix6 b 0 n h ⟨e.val / 64, by omega⟩ ⟨e.val % 64, by omega⟩))
    = (score X0 X1 X5 b i h 1 ⟨n.val, by omega⟩ : EReal) := by
  unfold Head.dot2 score key up
  simp only [← EReal.coe_mul, coe_sum]
  rw [EReal.coe_eq_coe_iff]
  refine Finset.sum_congr rfl fun d _ => ?_
  rw [dif_pos n.isLt]
  congr 3 <;> first | rfl | (apply Fin.ext; simp; try omega)

/-- The kernel's attention at an index is the reference's. -/
theorem att_eq (x2 : Vec Ideal S12288x1024 .bf16) (x3 : Vec Ideal S4x64 .f32) (x4 : Vec Ideal S1x128 .f32) (x6 : Vec Ideal S4x2x256x8x128 .f32)
    (b : Fin 4) (i : Fin 2048) (h : Fin 8) (j : Fin 128) :
    Arr.att (up X0) (up X1) x2 x3 x4 (up X5) x6 b i h j = val_main_v73 (F := Ideal) (up X0) (up X1) x2 x3 x4 (up X5) x6 (ix4 b i h j) := by
  rw [Ref.v73]
  unfold Arr.att
  refine congrArg (normed · _ j) (funext fun d => ?_)
  dsimp only
  obtain ⟨M1, h1⟩ := peak_ref X0 X1 X5 b i h 0
  obtain ⟨M2, h2⟩ := peak_ref X0 X1 X5 b i h 1
  rw [Ref.v56]
  simp only [Ref.v55, Ref.v48, h1, h2, score_ref]
  simp only [dot1_seq X0 X1 X5, dot2_seq X0 X1 X5, dot1_cache X0 X1 X5, dot2_cache X0 X1 X5]
  have hw : val_main_v20 (F := Ideal) x3 ix0 = Head.weight x3 := by rw [Ref.v20]; rfl
  rw [hw]
  have hV : (fun n : Fin 2048 => x2 (ix2 (⟨4096 + 2048 * b.val + n.val, by omega⟩ : Fin 12288) (⟨128 * h.val + d.val, by omega⟩ : Fin 1024)))
      = fun n : Fin 2048 => val_main_v34 (F := Ideal) x2 x6 (ix4 b ⟨256 + n.val, by omega⟩ h d) := by
    funext n
    rw [Ref.v34, dif_neg (by simp)]
    simp only [Nat.add_sub_cancel_left]
  have hC : (fun n : Fin 256 => x6 (ix5 b 0 n h d)) = fun n : Fin 256 => val_main_v34 (F := Ideal) x2 x6 (ix4 b ⟨n.val, by omega⟩ h d) := by
    funext n
    rw [Ref.v34, dif_pos n.isLt]
  rw [hV, hC]
  generalize val_main_v34 (F := Ideal) x2 x6 = V
  have e := mix_eq (Head.weight x3) (score X0 X1 X5 b i h 0) (score X0 X1 X5 b i h 1) M1 M2 (fun k => V (ix4 b k h d))
  generalize score X0 X1 X5 b i h 0 = S1 at e ⊢
  generalize score X0 X1 X5 b i h 1 = S2 at e ⊢
  exact e

open Cert.KernelIdeal.Gen in
/-- The whole array after the kernel's run is the reference's result. -/
theorem arr_eq (m : (ℓ : Loc Cert.KernelIdeal.nD Cert.KernelIdeal.τ Cert.KernelIdeal.sig) → Buf (Elt Ideal) ℓ) (c : Dev Cert.KernelIdeal.nD)
    (h0 : m ((c.tc : Thread Cert.KernelIdeal.nD Cert.KernelIdeal.τ).loc Cert.KernelIdeal.main_arg0) = up X0)
    (h1 : m ((c.tc : Thread Cert.KernelIdeal.nD Cert.KernelIdeal.τ).loc Cert.KernelIdeal.main_arg1) = up X1)
    (h5 : m ((c.tc : Thread Cert.KernelIdeal.nD Cert.KernelIdeal.τ).loc Cert.KernelIdeal.main_arg5) = up X5) :
    (dats m 0 c).arrAt 7 Cert.KernelIdeal.cfg0.N
      = val_main_v77 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  funext (i : S12288x1024.Idx)
  obtain ⟨r, y, rfl⟩ : ∃ (r : Fin 12288) (y : Fin 1024), i = ix2 r y := ⟨i 0, i 1, funext fun a => match a with | ⟨0, _⟩ => rfl | ⟨1, _⟩ => rfl⟩
  rw [Ref.v77]
  by_cases hr : r.val < 4096
  · rw [dif_pos hr]
    exact Arr.arr_rest m c (ix2 r y) hr
  · rw [dif_neg hr, h0, h1, h5, ← att_eq]
    have e := Arr.arr_seq m c ⟨(r.val - 4096) / 2048, by omega⟩ ⟨(r.val - 4096) % 2048, by omega⟩ ⟨y.val / 128, by omega⟩ ⟨y.val % 128, by omega⟩
    unfold Arr.attm at e
    rw [show m ((c : Thread Cert.KernelIdeal.nD Cert.KernelIdeal.τ).loc Cert.KernelIdeal.main_arg0) = up X0 from h0,
      show m ((c : Thread Cert.KernelIdeal.nD Cert.KernelIdeal.τ).loc Cert.KernelIdeal.main_arg1) = up X1 from h1,
      show m ((c : Thread Cert.KernelIdeal.nD Cert.KernelIdeal.τ).loc Cert.KernelIdeal.main_arg5) = up X5 from h5] at e
    have hr' : r = ⟨4096 + 2048 * ((r.val - 4096) / 2048) + (r.val - 4096) % 2048, by omega⟩ := Fin.ext (by dsimp only; omega)
    have hy : y = ⟨128 * (y.val / 128) + y.val % 128, by omega⟩ := Fin.ext (by dsimp only; omega)
    exact (congrArg₂ (fun p q => (dats m 0 c).arrAt 7 Cert.KernelIdeal.cfg0.N (ix2 p q)) hr' hy).trans e

end Cert.Proof.Alg

end
-- ==== Proof.Ffn.RunIdeal.lean ====
module

public import proofs.«01_k».proof.Proof.Gen.Kernel2Ideal.Frame
public import proofs.«01_k».proof.Proof.Gen.Kernel2Ideal.Loops

@[expose] public section

set_option maxRecDepth 16384

noncomputable section

/-! The run of the feed-forward call's body on whole buffers: what it stores in its output block. -/

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body runs on whole buffers: the inputs keep their contents, the five scratch buffers, found at any contents,
    end at some contents, and the output block ends with the listed stores over what it held. -/
def run (c : Dev nD) (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1040x1024 .bf16) (harg13 : arg13.IsWhole) (arg14 : Memref sig .tc .vmem S2x1040x256 .f32) (harg14 : arg14.IsWhole) (arg15 : Memref sig .tc .vmem S2x1040x256 .f32) (harg15 : arg15.IsWhole) (arg16 : Memref sig .tc .vmem S1024x512 .bf16) (harg16 : arg16.IsWhole) (arg17 : Memref sig .tc .vmem S1024x1024 .f32) (harg17 : arg17.IsWhole)
    (x0 : Vec F S8x1024 .f32) (x1 : Vec F S1024x1024 .f32) (x2 : Vec F S8x1024 .f32) (x3 : Vec F S1x1024 .f32) (x4 : Vec F S1x1x1024 .f32) (x5 : Vec F S1x1x1024 .f32) (x6 : Vec F S1x1x1024 .f32) (x7 : Vec F S1024x5632 .bf16) (x8 : Vec F S3x5632 .f32) (x9 : Vec F S1x5632 .f32) (x10 : Vec F S2816x1024 .bf16)
    (g0 : BufTy.Contents (Elt F) arg13.view.ty) (g1 : BufTy.Contents (Elt F) arg14.view.ty) (g2 : BufTy.Contents (Elt F) arg15.view.ty) (g3 : BufTy.Contents (Elt F) arg16.view.ty) (g4 : BufTy.Contents (Elt F) arg17.view.ty) :
    { L : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (arg13.view.loc (c : Thread nD τ) ↦[arg13.view.set]{fullShare} g0) ∗ (arg14.view.loc (c : Thread nD τ) ↦[arg14.view.set]{fullShare} g1) ∗ (arg15.view.loc (c : Thread nD τ) ↦[arg15.view.set]{fullShare} g2) ∗ (arg16.view.loc (c : Thread nD τ) ↦[arg16.view.set]{fullShare} g3) ∗ (arg17.view.loc (c : Thread nD τ) ↦[arg17.view.set]{fullShare} g4)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, (arg12.view.loc (c : Thread nD τ) ↦[arg12.view.set]{fullShare} arg12.view.writes (Elt F) f L)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
          ⊢ wp frame (wpE (defs₀ (F := F)) Variants.none c none) E (cc0_conv_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_conv_ffn_eq_skeleton]; unfold cc0_conv_ffn_skel
    simp only [k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, S0, S1, S2, S3, S4, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [S0]
    · iexists _; iexact S0
    isplitl [S1]
    · iexists _; iexact S1
    isplitl [S2]
    · iexists _; iexact S2
    isplitl [S3]
    · iexists _; iexact S3
    iexists _; iexact S4

end Cert.Kernel2Ideal.Ffn

end
-- ==== Proof.Ffn.FrameIdeal.lean ====
module

public import proofs.«01_k».proof.Proof.Ffn.RunIdeal
public import Idealize.ShloMosaic.Lib.Claim

@[expose] public section

set_option maxRecDepth 16384

noncomputable section

/-! The feed-forward call's frame, and its run once what each output block ends with is known. -/

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the core's output block is said to hold after each point. -/
abbrev Outs (F : FTy → Type) := Dev nD → Fin cfg0.N → Vec F S1024x1024 .f32

/-- The proof data: inputs stay at their blocks, the output block is `O`'s, the scratch is at some contents. -/
def dats (O : Outs F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => O c t
  Φ _ := Pipeline.ΦA spec0 c
  q w := Pipeline.shareOf spec0 w
  owed _ := 0

variable (O : Outs F)

theorem A_eq (c : Dev nD) (w : Fin cfg0.W) : (dats m O 0 c).A w = V m c (Pipeline.arrRef spec0 w) := by
  dsimp only [dats]

theorem after_0 (c : Dev nD) (t : Fin cfg0.N) : (dats m O 0 c).after 0 t = iblk m c 0 t := by dsimp only [dats]
theorem after_1 (c : Dev nD) (t : Fin cfg0.N) : (dats m O 0 c).after 1 t = iblk m c 1 t := by dsimp only [dats]
theorem after_2 (c : Dev nD) (t : Fin cfg0.N) : (dats m O 0 c).after 2 t = iblk m c 2 t := by dsimp only [dats]
theorem after_3 (c : Dev nD) (t : Fin cfg0.N) : (dats m O 0 c).after 3 t = iblk m c 3 t := by dsimp only [dats]
theorem after_4 (c : Dev nD) (t : Fin cfg0.N) : (dats m O 0 c).after 4 t = iblk m c 4 t := by dsimp only [dats]
theorem after_5 (c : Dev nD) (t : Fin cfg0.N) : (dats m O 0 c).after 5 t = iblk m c 5 t := by dsimp only [dats]
theorem after_6 (c : Dev nD) (t : Fin cfg0.N) : (dats m O 0 c).after 6 t = iblk m c 6 t := by dsimp only [dats]
theorem after_7 (c : Dev nD) (t : Fin cfg0.N) : (dats m O 0 c).after 7 t = iblk m c 7 t := by dsimp only [dats]
theorem after_8 (c : Dev nD) (t : Fin cfg0.N) : (dats m O 0 c).after 8 t = iblk m c 8 t := by dsimp only [dats]
theorem after_9 (c : Dev nD) (t : Fin cfg0.N) : (dats m O 0 c).after 9 t = iblk m c 9 t := by dsimp only [dats]
theorem after_10 (c : Dev nD) (t : Fin cfg0.N) : (dats m O 0 c).after 10 t = iblk m c 10 t := by dsimp only [dats]
theorem after_11 (c : Dev nD) (t : Fin cfg0.N) : (dats m O 0 c).after 11 t = O c t := by dsimp only [dats]

theorem before_0 (c : Dev nD) (t : Fin cfg0.N) (d) : (dats m O 0 c).before 0 t d = iblk m c 0 t :=
  before0_0_of m (dats m O 0 c) (A_eq m O c 0) (after_0 m O c) t d
theorem before_1 (c : Dev nD) (t : Fin cfg0.N) (d) : (dats m O 0 c).before 1 t d = iblk m c 1 t :=
  before0_1_of m (dats m O 0 c) (A_eq m O c 1) (after_1 m O c) t d
theorem before_2 (c : Dev nD) (t : Fin cfg0.N) (d) : (dats m O 0 c).before 2 t d = iblk m c 2 t :=
  before0_2_of m (dats m O 0 c) (A_eq m O c 2) (after_2 m O c) t d
theorem before_3 (c : Dev nD) (t : Fin cfg0.N) (d) : (dats m O 0 c).before 3 t d = iblk m c 3 t :=
  before0_3_of m (dats m O 0 c) (A_eq m O c 3) (after_3 m O c) t d
theorem before_4 (c : Dev nD) (t : Fin cfg0.N) (d) : (dats m O 0 c).before 4 t d = iblk m c 4 t :=
  before0_4_of m (dats m O 0 c) (A_eq m O c 4) (after_4 m O c) t d
theorem before_5 (c : Dev nD) (t : Fin cfg0.N) (d) : (dats m O 0 c).before 5 t d = iblk m c 5 t :=
  before0_5_of m (dats m O 0 c) (A_eq m O c 5) (after_5 m O c) t d
theorem before_6 (c : Dev nD) (t : Fin cfg0.N) (d) : (dats m O 0 c).before 6 t d = iblk m c 6 t :=
  before0_6_of m (dats m O 0 c) (A_eq m O c 6) (after_6 m O c) t d
theorem before_7 (c : Dev nD) (t : Fin cfg0.N) (d) : (dats m O 0 c).before 7 t d = iblk m c 7 t :=
  before0_7_of m (dats m O 0 c) (A_eq m O c 7) (after_7 m O c) t d
theorem before_8 (c : Dev nD) (t : Fin cfg0.N) (d) : (dats m O 0 c).before 8 t d = iblk m c 8 t :=
  before0_8_of m (dats m O 0 c) (A_eq m O c 8) (after_8 m O c) t d
theorem before_9 (c : Dev nD) (t : Fin cfg0.N) (d) : (dats m O 0 c).before 9 t d = iblk m c 9 t :=
  before0_9_of m (dats m O 0 c) (A_eq m O c 9) (after_9 m O c) t d
theorem before_10 (c : Dev nD) (t : Fin cfg0.N) (d) : (dats m O 0 c).before 10 t d = iblk m c 10 t :=
  before0_10_of m (dats m O 0 c) (A_eq m O c 10) (after_10 m O c) t d

omit [FloatOps F] in
/-- The five scratch buffers, each whole at some contents. -/
theorem rest_eq (c : Dev nD) : (Pipeline.scopedRest (Ix := Unit) (Name := ℕ) (U := UR sig nD τ) (Lvl := ℕ) (Val := Elt F) spec0 c : sProp 𝕄)
    = iprop((∃ f : Buf (Elt F) ((c : Thread nD τ).loc cc0_scratch0), (Memref.whole (cc0_scratch0 : Ref sig .tc)).view.loc (c : Thread nD τ) ↦[(Memref.whole (cc0_scratch0 : Ref sig .tc)).view.set]{fullShare} f) ∗ (∃ f : Buf (Elt F) ((c : Thread nD τ).loc cc0_scratch1), (Memref.whole (cc0_scratch1 : Ref sig .tc)).view.loc (c : Thread nD τ) ↦[(Memref.whole (cc0_scratch1 : Ref sig .tc)).view.set]{fullShare} f) ∗ (∃ f : Buf (Elt F) ((c : Thread nD τ).loc cc0_scratch2), (Memref.whole (cc0_scratch2 : Ref sig .tc)).view.loc (c : Thread nD τ) ↦[(Memref.whole (cc0_scratch2 : Ref sig .tc)).view.set]{fullShare} f) ∗ (∃ f : Buf (Elt F) ((c : Thread nD τ).loc cc0_scratch3), (Memref.whole (cc0_scratch3 : Ref sig .tc)).view.loc (c : Thread nD τ) ↦[(Memref.whole (cc0_scratch3 : Ref sig .tc)).view.set]{fullShare} f) ∗ (∃ f : Buf (Elt F) ((c : Thread nD τ).loc cc0_scratch4), (Memref.whole (cc0_scratch4 : Ref sig .tc)).view.loc (c : Thread nD τ) ↦[(Memref.whole (cc0_scratch4 : Ref sig .tc)).view.set]{fullShare} f)) := by
  rw [scopedRest0_eq, show (Memref.whole (cc0_scratch0 : Ref sig .tc)).view.set = Finset.univ from View.set_whole _, show (Memref.whole (cc0_scratch1 : Ref sig .tc)).view.set = Finset.univ from View.set_whole _, show (Memref.whole (cc0_scratch2 : Ref sig .tc)).view.set = Finset.univ from View.set_whole _, show (Memref.whole (cc0_scratch3 : Ref sig .tc)).view.set = Finset.univ from View.set_whole _, show (Memref.whole (cc0_scratch4 : Ref sig .tc)).view.set = Finset.univ from View.set_whole _]

/-- The stores of the body at point `t` into its output block, the scratch found at `g0 … g4`. -/
def pieces (c : Dev nD) (t : Fin cfg0.N) (g0 : BufTy.Contents (Elt F) (Memref.whole (cc0_scratch0 : Ref sig .tc)).view.ty) (g1 : BufTy.Contents (Elt F) (Memref.whole (cc0_scratch1 : Ref sig .tc)).view.ty) (g2 : BufTy.Contents (Elt F) (Memref.whole (cc0_scratch2 : Ref sig .tc)).view.ty) (g3 : BufTy.Contents (Elt F) (Memref.whole (cc0_scratch3 : Ref sig .tc)).view.ty) (g4 : BufTy.Contents (Elt F) (Memref.whole (cc0_scratch4 : Ref sig .tc)).view.ty) : List (View.Piece (Elt F) S1024x1024 .f32) :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) g0 g1 g2 g3 g4).1

/-- Whatever the scratch holds, the output block ends at `O`. -/
def Ends (O : Outs F) : Prop := ∀ (c : Dev nD) (t : Fin cfg0.N) (g0 : BufTy.Contents (Elt F) (Memref.whole (cc0_scratch0 : Ref sig .tc)).view.ty) (g1 : BufTy.Contents (Elt F) (Memref.whole (cc0_scratch1 : Ref sig .tc)).view.ty) (g2 : BufTy.Contents (Elt F) (Memref.whole (cc0_scratch2 : Ref sig .tc)).view.ty) (g3 : BufTy.Contents (Elt F) (Memref.whole (cc0_scratch3 : Ref sig .tc)).view.ty) (g4 : BufTy.Contents (Elt F) (Memref.whole (cc0_scratch4 : Ref sig .tc)).view.ty) (e), (win0_11.stage (cfg0.slots t 11)).view.read (Elt F) ((win0_11.stage (cfg0.slots t 11)).view.writes (Elt F) e (pieces m c t g0 g1 g2 g3 g4)) = O c t

/-- The body's precondition at point `t`, the windows one by one, -/
def bodyPre (c : Dev nD) (t : Fin cfg0.N) : sProp 𝕄 :=
  iprop((dats m O 0 c).Φ t.castSucc ∗ (dats m O 0 c).owesAt () t.castSucc
    ∗ (∃ d, owns (c : Thread nD τ) (win0_0.stage (cfg0.slots t 0)) fullShare ((dats m O 0 c).before 0 t d))
    ∗ (∃ d, owns (c : Thread nD τ) (win0_1.stage (cfg0.slots t 1)) fullShare ((dats m O 0 c).before 1 t d))
    ∗ (∃ d, owns (c : Thread nD τ) (win0_2.stage (cfg0.slots t 2)) fullShare ((dats m O 0 c).before 2 t d))
    ∗ (∃ d, owns (c : Thread nD τ) (win0_3.stage (cfg0.slots t 3)) fullShare ((dats m O 0 c).before 3 t d))
    ∗ (∃ d, owns (c : Thread nD τ) (win0_4.stage (cfg0.slots t 4)) fullShare ((dats m O 0 c).before 4 t d))
    ∗ (∃ d, owns (c : Thread nD τ) (win0_5.stage (cfg0.slots t 5)) fullShare ((dats m O 0 c).before 5 t d))
    ∗ (∃ d, owns (c : Thread nD τ) (win0_6.stage (cfg0.slots t 6)) fullShare ((dats m O 0 c).before 6 t d))
    ∗ (∃ d, owns (c : Thread nD τ) (win0_7.stage (cfg0.slots t 7)) fullShare ((dats m O 0 c).before 7 t d))
    ∗ (∃ d, owns (c : Thread nD τ) (win0_8.stage (cfg0.slots t 8)) fullShare ((dats m O 0 c).before 8 t d))
    ∗ (∃ d, owns (c : Thread nD τ) (win0_9.stage (cfg0.slots t 9)) fullShare ((dats m O 0 c).before 9 t d))
    ∗ (∃ d, owns (c : Thread nD τ) (win0_10.stage (cfg0.slots t 10)) fullShare ((dats m O 0 c).before 10 t d))
    ∗ (∃ d, owns (c : Thread nD τ) (win0_11.stage (cfg0.slots t 11)) fullShare ((dats m O 0 c).before 11 t d)))

/-- the same with the output block at anything, -/
def loosePre (c : Dev nD) (t : Fin cfg0.N) : sProp 𝕄 :=
  iprop((dats m O 0 c).Φ t.castSucc ∗ (dats m O 0 c).owesAt () t.castSucc
    ∗ (∃ d, owns (c : Thread nD τ) (win0_0.stage (cfg0.slots t 0)) fullShare ((dats m O 0 c).before 0 t d))
    ∗ (∃ d, owns (c : Thread nD τ) (win0_1.stage (cfg0.slots t 1)) fullShare ((dats m O 0 c).before 1 t d))
    ∗ (∃ d, owns (c : Thread nD τ) (win0_2.stage (cfg0.slots t 2)) fullShare ((dats m O 0 c).before 2 t d))
    ∗ (∃ d, owns (c : Thread nD τ) (win0_3.stage (cfg0.slots t 3)) fullShare ((dats m O 0 c).before 3 t d))
    ∗ (∃ d, owns (c : Thread nD τ) (win0_4.stage (cfg0.slots t 4)) fullShare ((dats m O 0 c).before 4 t d))
    ∗ (∃ d, owns (c : Thread nD τ) (win0_5.stage (cfg0.slots t 5)) fullShare ((dats m O 0 c).before 5 t d))
    ∗ (∃ d, owns (c : Thread nD τ) (win0_6.stage (cfg0.slots t 6)) fullShare ((dats m O 0 c).before 6 t d))
    ∗ (∃ d, owns (c : Thread nD τ) (win0_7.stage (cfg0.slots t 7)) fullShare ((dats m O 0 c).before 7 t d))
    ∗ (∃ d, owns (c : Thread nD τ) (win0_8.stage (cfg0.slots t 8)) fullShare ((dats m O 0 c).before 8 t d))
    ∗ (∃ d, owns (c : Thread nD τ) (win0_9.stage (cfg0.slots t 9)) fullShare ((dats m O 0 c).before 9 t d))
    ∗ (∃ d, owns (c : Thread nD τ) (win0_10.stage (cfg0.slots t 10)) fullShare ((dats m O 0 c).before 10 t d))
    ∗ (∃ X, owns (c : Thread nD τ) (win0_11.stage (cfg0.slots t 11)) fullShare X))

/-- and what it returns, -/
def bodyPost (c : Dev nD) (t : Fin cfg0.N) : sProp 𝕄 :=
  iprop((dats m O 0 c).Φ t.succ ∗ (dats m O 0 c).owesAt () t.succ
    ∗ owns (c : Thread nD τ) (win0_0.stage (cfg0.slots t 0)) fullShare ((dats m O 0 c).after 0 t)
    ∗ owns (c : Thread nD τ) (win0_1.stage (cfg0.slots t 1)) fullShare ((dats m O 0 c).after 1 t)
    ∗ owns (c : Thread nD τ) (win0_2.stage (cfg0.slots t 2)) fullShare ((dats m O 0 c).after 2 t)
    ∗ owns (c : Thread nD τ) (win0_3.stage (cfg0.slots t 3)) fullShare ((dats m O 0 c).after 3 t)
    ∗ owns (c : Thread nD τ) (win0_4.stage (cfg0.slots t 4)) fullShare ((dats m O 0 c).after 4 t)
    ∗ owns (c : Thread nD τ) (win0_5.stage (cfg0.slots t 5)) fullShare ((dats m O 0 c).after 5 t)
    ∗ owns (c : Thread nD τ) (win0_6.stage (cfg0.slots t 6)) fullShare ((dats m O 0 c).after 6 t)
    ∗ owns (c : Thread nD τ) (win0_7.stage (cfg0.slots t 7)) fullShare ((dats m O 0 c).after 7 t)
    ∗ owns (c : Thread nD τ) (win0_8.stage (cfg0.slots t 8)) fullShare ((dats m O 0 c).after 8 t)
    ∗ owns (c : Thread nD τ) (win0_9.stage (cfg0.slots t 9)) fullShare ((dats m O 0 c).after 9 t)
    ∗ owns (c : Thread nD τ) (win0_10.stage (cfg0.slots t 10)) fullShare ((dats m O 0 c).after 10 t)
    ∗ owns (c : Thread nD τ) (win0_11.stage (cfg0.slots t 11)) fullShare ((dats m O 0 c).after 11 t))

/-- or returns of the output block nothing. -/
def loosePost (c : Dev nD) (t : Fin cfg0.N) : sProp 𝕄 :=
  iprop((dats m O 0 c).Φ t.succ ∗ (dats m O 0 c).owesAt () t.succ
    ∗ owns (c : Thread nD τ) (win0_0.stage (cfg0.slots t 0)) fullShare ((dats m O 0 c).after 0 t)
    ∗ owns (c : Thread nD τ) (win0_1.stage (cfg0.slots t 1)) fullShare ((dats m O 0 c).after 1 t)
    ∗ owns (c : Thread nD τ) (win0_2.stage (cfg0.slots t 2)) fullShare ((dats m O 0 c).after 2 t)
    ∗ owns (c : Thread nD τ) (win0_3.stage (cfg0.slots t 3)) fullShare ((dats m O 0 c).after 3 t)
    ∗ owns (c : Thread nD τ) (win0_4.stage (cfg0.slots t 4)) fullShare ((dats m O 0 c).after 4 t)
    ∗ owns (c : Thread nD τ) (win0_5.stage (cfg0.slots t 5)) fullShare ((dats m O 0 c).after 5 t)
    ∗ owns (c : Thread nD τ) (win0_6.stage (cfg0.slots t 6)) fullShare ((dats m O 0 c).after 6 t)
    ∗ owns (c : Thread nD τ) (win0_7.stage (cfg0.slots t 7)) fullShare ((dats m O 0 c).after 7 t)
    ∗ owns (c : Thread nD τ) (win0_8.stage (cfg0.slots t 8)) fullShare ((dats m O 0 c).after 8 t)
    ∗ owns (c : Thread nD τ) (win0_9.stage (cfg0.slots t 9)) fullShare ((dats m O 0 c).after 9 t)
    ∗ owns (c : Thread nD τ) (win0_10.stage (cfg0.slots t 10)) fullShare ((dats m O 0 c).after 10 t)
    ∗ (∃ X, owns (c : Thread nD τ) (win0_11.stage (cfg0.slots t 11)) fullShare X))

set_option maxHeartbeats 1600000 in
/-- The body at any point, its output block not described. -/
theorem sound_loose (c : Dev nD) (t : Fin cfg0.N) :
    loosePre m O c t ⊢ wp frame (wpE (defs₀ (F := F)) Variants.none c none) Set.univ (bodyAt0 t) (fun _ => loosePost m O c t) := by
  unfold loosePre loosePost bodyAt0
  simp only [before_0, before_1, before_2, before_3, before_4, before_5, before_6, before_7, before_8, before_9, before_10]
  rw [show (dats m O 0 c).Φ t.succ = (dats m O 0 c).Φ t.castSucc from rfl,
    show (dats m O 0 c).owesAt () t.succ = (dats m O 0 c).owesAt () t.castSucc from rfl,
    after_0, after_1, after_2, after_3, after_4, after_5, after_6, after_7, after_8, after_9, after_10]
  rw [show (dats m O 0 c).Φ t.castSucc = Pipeline.ΦA spec0 c from rfl]
  unfold Pipeline.ΦA
  rw [rest_eq]
  iintro ⟨⟨⟨⟨%g0, S0⟩, ⟨%g1, S1⟩, ⟨%g2, S2⟩, ⟨%g3, S3⟩, ⟨%g4, S4⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run c (grid0.coords t) _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) g0 g1 g2 g3 g4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, ⟨%e, H11⟩, ⟨%u0, S0⟩, ⟨%u1, S1⟩, ⟨%u2, S2⟩, ⟨%u3, S3⟩, ⟨%u4, S4⟩⟩
  isplitl [S0 S1 S2 S3 S4 HR]
  · isplitr [HR]
    · isplitl [S0]; · iexists _; iexact S0
      isplitl [S1]; · iexists _; iexact S1
      isplitl [S2]; · iexists _; iexact S2
      isplitl [S3]; · iexists _; iexact S3
      iexists _; iexact S4
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; unfold owns; iexists _; isplitr
  swap; · iexact H11
  ipureintro; rfl

set_option maxHeartbeats 1600000 in
/-- The body at any point, its output block at `O`. -/
theorem sound_body (h : Ends m O) (c : Dev nD) (t : Fin cfg0.N) :
    bodyPre m O c t ⊢ wp frame (wpE (defs₀ (F := F)) Variants.none c none) Set.univ (bodyAt0 t) (fun _ => bodyPost m O c t) := by
  unfold bodyPre bodyPost bodyAt0
  simp only [before_0, before_1, before_2, before_3, before_4, before_5, before_6, before_7, before_8, before_9, before_10]
  rw [show (dats m O 0 c).Φ t.succ = (dats m O 0 c).Φ t.castSucc from rfl,
    show (dats m O 0 c).owesAt () t.succ = (dats m O 0 c).owesAt () t.castSucc from rfl,
    after_0, after_1, after_2, after_3, after_4, after_5, after_6, after_7, after_8, after_9, after_10, after_11]
  rw [show (dats m O 0 c).Φ t.castSucc = Pipeline.ΦA spec0 c from rfl]
  unfold Pipeline.ΦA
  rw [rest_eq]
  iintro ⟨⟨⟨⟨%g0, S0⟩, ⟨%g1, S1⟩, ⟨%g2, S2⟩, ⟨%g3, S3⟩, ⟨%g4, S4⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run c (grid0.coords t) _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) g0 g1 g2 g3 g4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, ⟨%e, H11⟩, ⟨%u0, S0⟩, ⟨%u1, S1⟩, ⟨%u2, S2⟩, ⟨%u3, S3⟩, ⟨%u4, S4⟩⟩
  isplitl [S0 S1 S2 S3 S4 HR]
  · isplitr [HR]
    · isplitl [S0]; · iexists _; iexact S0
      isplitl [S1]; · iexists _; iexact S1
      isplitl [S2]; · iexists _; iexact S2
      isplitl [S3]; · iexists _; iexact S3
      iexists _; iexact S4
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact h c t g0 g1 g2 g3 g4 e

theorem row (t : Fin cfg0.N) :
    defs₀ (F := F) .tc cfg0.body (cfg0.bodyArgs t (cfg0.slots t)) = bodyAt0 t := by
  unfold defs₀; rw [Defs.onTc_tc]

/-- The window that is not described. -/
abbrev out11 : Fin cfg0.W → Bool := fun w => w.val == 11

theorem loose_obligation (c : Dev nD) : BodyObligationLoose (dats (F := F) m O 0 c) (defs₀ (F := F)) Variants.none () Set.univ out11 := fun t => by
  rw [bigSep_W0, bigSep_W0, row]
  exact triple_restated (sound_loose m O c t) rfl .rfl fun _ => .rfl

theorem obligation (h : Ends m O) (c : Dev nD) : BodyObligation (dats (F := F) m O 0 c) (defs₀ (F := F)) Variants.none () Set.univ := fun t => by
  rw [bigSep_W0, bigSep_W0, row]
  exact triple_restated (sound_body m O h c t) rfl .rfl fun _ => .rfl

set_option backward.isDefEq.respectTransparency.types false in
/-- The call's run when every output block is known to end at `O`. -/
theorem run_exact (h : Ends m O) : θ_run defs (onTc (τ := τ) (main (F := F))) (s₀ m ρ) (fun r => (Pipeline.FramePost cfgs (dats m O) 0 (V m)) r ∧ r.2.sem = fun _ => 0) :=
  Pipeline.θ_run_frame_shared (Q' := _) cfgs (dats m O) (0 : Fin 1) launch₀0 defs₀ Variants.none m ρ main
    (hbody := fun c => (obligation m O h c).loose) (hq := fun _ _ _ => rfl)
    (howed := fun _ _ => rfl) (V := V m) (hmain := hmain m Variants.none) (hA := A_eq m O) (hΦ := fun _ _ => rfl)

set_option backward.isDefEq.respectTransparency.types false in
/-- The call's run with nothing said of the output. -/
theorem run_loose : θ_run defs (onTc (τ := τ) (main (F := F))) (s₀ m ρ) (fun r => (RDat.FramePost (cfgs 0) (fun c => (dats m O 0 c).toRForget out11) (V m)) r ∧ r.2.sem = fun _ => 0) :=
  Pipeline.θ_run_frame_forget_shared (Q' := _) cfgs (dats m O) (0 : Fin 1) launch₀0 defs₀ Variants.none out11 m ρ main
    (hbody := loose_obligation m O) (hq := fun _ _ _ => rfl)
    (howed := fun _ _ => rfl) (V := V m) (hmain := hmain m Variants.none) (hA := A_eq m O) (hΦ := fun _ _ => rfl)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨RDat.FramePost.arr_in h.1 c 2 rfl,
    RDat.FramePost.arr_in h.1 c 6 rfl,
    RDat.FramePost.arr_in h.1 c 3 rfl,
    RDat.FramePost.arr_in h.1 c 7 rfl,
    RDat.FramePost.arr_in h.1 c 8 rfl,
    RDat.FramePost.arr_in h.1 c 9 rfl,
    RDat.FramePost.arr_in h.1 c 10 rfl⟩, h.2⟩)
    (run_loose m ρ (fun c t => iblk m c 1 t))

end Cert.Kernel2Ideal.Ffn

end
-- ==== Proof.Ffn.Conv.lean ====
/- What the three row windows, the depthwise convolution and the gate of one tile of columns compute, element by element. -/
module

public import proofs.«01_k».proof.Proof.Gen.Kernel2Ideal.Skeleton
public import Idealize.ShloMosaic.PureOps.Ideal.Laws
public import Idealize.ShloMosaic.Lib.Pointwise

@[expose] public section

set_option maxRecDepth 16384

noncomputable section

namespace Cert.Kernel2Ideal.Ffn

open Idealize.ShloMosaic Idealize.ShloMosaic.TcCoe
open Cert.Kernel2Ideal.Gen

/-- Row `r`, column `c` of a tile of the widened rows. -/
def cell (u : Vec Ideal S1x1040x256 .f32) (r : ℕ) (c : Fin 256) : EReal :=
  if h : r < 1040 then u (ix3 0 ⟨r, h⟩ c) else 0

theorem cell_eq (u : Vec Ideal S1x1040x256 .f32) (r : ℕ) (h : r < 1040) (c : Fin 256) : u (ix3 0 ⟨r, h⟩ c) = cell u r c := by
  unfold cell
  rw [dif_pos h]

/-- What the row before, and the row after, of row `p` of a block is multiplied by: the factor `kc` where a sequence of
    256 rows starts, or ends, inside the block. -/
def cutb (kc : EReal) (p : ℕ) : EReal := if p = 256 ∨ p = 512 ∨ p = 768 then kc else 1
def cuta (kc : EReal) (p : ℕ) : EReal := if p = 255 ∨ p = 511 ∨ p = 767 then kc else 1

/-- The convolution along the rows at row `p` of a block, of the widened rows of one column. -/
def cv (kc : EReal) (u : ℕ → EReal) (w0 w1 w2 b : EReal) (p : ℕ) : EReal :=
  u (p + 7) * cutb kc p * w0 + u (p + 8) * w1 + u (p + 9) * cuta kc p * w2 + b

/-- The gate: the activation of one half times the other. -/
def act (a v : EReal) : EReal := Ideal.div a (1 + Ideal.exp (0 - a)) * v

theorem word0 : Ideal.ofBits .f32 0x00000000#32 = 0 := by simp [Ideal.ofBits, Ideal.ieee]
theorem word1 : Ideal.ofBits .f32 0x3F800000#32 = 1 := by
  simp [Ideal.ofBits, Ideal.ieee]
  rw [← EReal.coe_mul]
  norm_num

theorem lane_eq (l k : Fin 8) {α : Type} (x y : α) :
    Scalar.select (IntOp.cmpi CmpIPredicate.eq (BitVec.ofNat 32 l.val) (BitVec.ofNat 32 k.val)) x y = if l = k then x else y := by
  revert l k
  have h : ∀ l k : Fin 8, IntOp.cmpi CmpIPredicate.eq (BitVec.ofNat 32 l.val) (BitVec.ofNat 32 k.val) = if l = k then 1#1 else 0#1 := by decide
  intro l k
  rw [h]
  split <;> simp [Scalar.select]

variable (kc : EReal) (u : Vec Ideal S1x1040x256 .f32) (w : Vec Ideal S3x256 .f32) (b : Vec Ideal S1x256 .f32)

theorem after_at (n : Fin 128) (l : Fin 8) (c : Fin 256) :
    k0_pay5 (F := Ideal) kc u (ix3 n l c) = cell u (8 * n.val + l.val + 9) c * cuta kc (8 * n.val + l.val) := by
  pointwise [k0_pay5, k0_pay4]
  simp only [cell_eq]
  rw [show (7#32 : BitVec 32) = BitVec.ofNat 32 (7 : Fin 8).val from rfl, lane_eq]
  by_cases hl : l = 7
  · subst hl
    rw [if_pos rfl]
    unfold cuta
    split_ifs <;> first
      | (exfalso; simp at *; omega)
      | exact congrArg (fun r => cell u r c * kc) (by simp; omega)
      | (rw [mul_one]; exact congrArg (fun r => cell u r c) (by simp; omega))
  · rw [if_neg hl]
    have h7 : l.val ≠ 7 := fun e => hl (Fin.ext e)
    unfold cuta
    rw [if_neg (by omega), mul_one]
    exact congrArg (fun r => cell u r c) (by omega)

theorem before_at (n : Fin 128) (l : Fin 8) (c : Fin 256) :
    k0_pay6 (F := Ideal) kc w u (ix3 n l c) = cell u (8 * n.val + l.val + 7) c * cutb kc (8 * n.val + l.val) * w (ix2 0 c)
      + cell u (8 * n.val + l.val + 8) c * w (ix2 1 c) := by
  pointwise [k0_pay6, k0_pay4]
  simp only [cell_eq]
  rw [show (0#32 : BitVec 32) = BitVec.ofNat 32 (0 : Fin 8).val from rfl, lane_eq]
  have e : (1 + n.val) * 8 + l.val = 8 * n.val + l.val + 8 := by omega
  rw [e]
  congr 2
  by_cases hl : l = 0
  · subst hl
    rw [if_pos rfl]
    unfold cutb
    split_ifs <;> first
      | (exfalso; simp at *; omega)
      | exact congrArg (fun r => cell u r c * kc) (by simp; omega)
      | (rw [mul_one]; exact congrArg (fun r => cell u r c) (by simp; omega))
  · rw [if_neg hl]
    have h7 : l.val ≠ 0 := fun e => hl (Fin.ext e)
    unfold cutb
    rw [if_neg (by omega), mul_one]
    exact congrArg (fun r => cell u r c) (by omega)

/-- The convolution of a tile, as the first of the five copies computes it. -/
def conv : FVec Ideal S1024x256 .f32 := k0_pay7 (F := Ideal) w b (k0_pay5 (F := Ideal) kc u) (k0_pay6 (F := Ideal) kc w u)

theorem conv_at (p : Fin 1024) (c : Fin 256) :
    conv kc u w b (ix2 p c) = cv kc (fun r => cell u r c) (w (ix2 0 c)) (w (ix2 1 c)) (w (ix2 2 c)) (b (ix2 0 c)) p.val := by
  unfold conv
  pointwise [k0_pay7]
  rw [after_at, before_at]
  have e : 8 * (p.val / 8) + p.val % 8 = p.val := by omega
  simp only [e]
  rfl

/-- The gate of two tiles' convolutions. -/
def glu (ua : Vec Ideal S1x1040x256 .f32) (wa : Vec Ideal S3x256 .f32) (ba : Vec Ideal S1x256 .f32)
    (uv : Vec Ideal S1x1040x256 .f32) (wv : Vec Ideal S3x256 .f32) (bv : Vec Ideal S1x256 .f32) : FVec Ideal S1024x256 .bf16 :=
  fun x => act (conv kc ua wa ba x) (conv kc uv wv bv x)

variable (ua : Vec Ideal S1x1040x256 .f32) (wa : Vec Ideal S3x256 .f32) (ba : Vec Ideal S1x256 .f32)
    (uv : Vec Ideal S1x1040x256 .f32) (wv : Vec Ideal S3x256 .f32) (bv : Vec Ideal S1x256 .f32)

theorem gate_of (A V : FVec Ideal S1024x256 .f32) (x : S1024x256.Idx) :
    shapeCast S1024x256 (truncf (F := Ideal) .bf16 (mulf (divf A (addf (broadcast S1024x256 (Scalar.ofBits (F := Ideal) .f32 0x3F800000#32))
      (exp (subf (broadcast S1024x256 (Scalar.ofBits (F := Ideal) .f32 0x00000000#32)) A)))) V) bitsLt_bf16_f32) shapeCasts_S1024x256_S1024x256 x
      = act (A x) (V x) := by
  obtain ⟨p, c, rfl⟩ : ∃ p c, x = ix2 p c := ⟨x 0, x 1, by funext a; match a with | ⟨0, _⟩ => rfl | ⟨1, _⟩ => rfl⟩
  pointwise
  rfl

theorem glu1 : k0_pay15 (F := Ideal) (k0_pay7 (F := Ideal) wa ba (k0_pay5 (F := Ideal) kc ua) (k0_pay6 (F := Ideal) kc wa ua)) wv bv (k0_pay8 uv)
    (iota .tc S128x8x256 32 [1] iota_S128x8x256_d1_w32) (k0_pay10 uv) (k0_pay11 (F := Ideal) kc uv) (k0_pay12 (F := Ideal) kc uv) k0_pay13 (k0_pay14 uv)
      = glu kc ua wa ba uv wv bv :=
  funext fun x => gate_of (conv kc ua wa ba) (conv kc uv wv bv) x

theorem conv2 : k0_pay28 (F := Ideal) kc w b (k0_pay19 u) (iota .tc S128x8x256 32 [1] iota_S128x8x256_d1_w32) (k0_pay20 u) (k0_pay21 u)
    (k0_pay22 u) (k0_pay23 u) (k0_pay24 (F := Ideal) kc u) (k0_pay25 u) (k0_pay26 (F := Ideal) kc u) (k0_pay27 u) = conv kc u w b := rfl

theorem glu2 : k0_pay47 (F := Ideal) (k0_pay28 (F := Ideal) kc wa ba (k0_pay19 ua) (iota .tc S128x8x256 32 [1] iota_S128x8x256_d1_w32) (k0_pay20 ua)
      (k0_pay21 ua) (k0_pay22 ua) (k0_pay23 ua) (k0_pay24 (F := Ideal) kc ua) (k0_pay25 ua) (k0_pay26 (F := Ideal) kc ua) (k0_pay27 ua)) bv
    (k0_pay31 (F := Ideal) kc wv (k0_pay29 uv)) (k0_pay32 (F := Ideal) kc wv (k0_pay29 uv))
      = glu kc ua wa ba uv wv bv :=
  funext fun x => gate_of (conv kc ua wa ba) (conv kc uv wv bv) x

theorem conv3 : k0_pay56 (F := Ideal) w b (k0_pay49 u) (iota .tc S128x8x256 32 [1] iota_S128x8x256_d1_w32) (k0_pay51 u) (k0_pay52 (F := Ideal) kc u)
    (k0_pay53 (F := Ideal) kc u) k0_pay54 (k0_pay55 u) = conv kc u w b := rfl

theorem glu3 : k0_pay64 (F := Ideal) kc (k0_pay56 (F := Ideal) wa ba (k0_pay49 ua) (iota .tc S128x8x256 32 [1] iota_S128x8x256_d1_w32) (k0_pay51 ua)
      (k0_pay52 (F := Ideal) kc ua) (k0_pay53 (F := Ideal) kc ua) k0_pay54 (k0_pay55 ua)) wv bv
    (k0_pay57 uv) (iota .tc S128x8x256 32 [1] iota_S128x8x256_d1_w32) (k0_pay58 uv) (k0_pay59 uv) (k0_pay60 (F := Ideal) kc uv) (k0_pay61 uv) (k0_pay62 uv) (k0_pay63 uv)
      = glu kc ua wa ba uv wv bv :=
  funext fun x => gate_of (conv kc ua wa ba) (conv kc uv wv bv) x

end Cert.Kernel2Ideal.Ffn

end
-- ==== Proof.Ffn.Tile.lean ====
/- One tile of columns: the widened rows, and the gate as a function of the whole arrays. -/
module

public import proofs.«01_k».proof.Proof.Ffn.Conv
public import Idealize.ShloMosaic.Lib.Pipeline.ValueKit.Tiles
public import Idealize.ShloMosaic.Lib.VecWindow

@[expose] public section

set_option maxRecDepth 16384

noncomputable section

namespace Cert.Kernel2Ideal.Ffn

open Idealize.ShloMosaic Idealize.ShloMosaic.TcCoe
open Cert.Kernel2Ideal.Gen

/-- The arrays of the feed-forward network at natural indices, zero outside. -/
def hr (H : Vec Ideal S1040x1024 .bf16) (r : ℕ) (k : Fin 1024) : EReal := if h : r < 1040 then H (ix2 ⟨r, h⟩ k) else 0
def wu (W : Vec Ideal S1024x5632 .bf16) (k : Fin 1024) (q : ℕ) : EReal := if h : q < 5632 then W (ix2 k ⟨q, h⟩) else 0
def tap (T : Vec Ideal S3x5632 .f32) (j : Fin 3) (q : ℕ) : EReal := if h : q < 5632 then T (ix2 j ⟨q, h⟩) else 0
def bias (B : Vec Ideal S1x5632 .f32) (q : ℕ) : EReal := if h : q < 5632 then B (ix2 0 ⟨q, h⟩) else 0
def wd (D : Vec Ideal S2816x1024 .bf16) (q : ℕ) (d : Fin 1024) : EReal := if h : q < 2816 then D (ix2 ⟨q, h⟩ d) else 0

/-- Row `r` widened, at column `q`. -/
def wide (H : Vec Ideal S1040x1024 .bf16) (W : Vec Ideal S1024x5632 .bf16) (r q : ℕ) : EReal := ∑ k : Fin 1024, hr H r k * wu W k q

/-- The convolution at row `p` of the block, column `q`. -/
def cvq (kc : EReal) (H : Vec Ideal S1040x1024 .bf16) (W : Vec Ideal S1024x5632 .bf16) (T : Vec Ideal S3x5632 .f32) (B : Vec Ideal S1x5632 .f32)
    (p q : ℕ) : EReal :=
  cv kc (fun r => wide H W r q) (tap T 0 q) (tap T 1 q) (tap T 2 q) (bias B q) p

/-- The gate at row `p` of the block, column `q` of 2816. -/
def gv (kc : EReal) (H : Vec Ideal S1040x1024 .bf16) (W : Vec Ideal S1024x5632 .bf16) (T : Vec Ideal S3x5632 .f32) (B : Vec Ideal S1x5632 .f32)
    (p q : ℕ) : EReal :=
  act (cvq kc H W T B p q) (cvq kc H W T B p (q + 2816))

theorem mm1 (X : Vec Ideal S1040x1024 .bf16) (Y : Vec Ideal S1024x256 .bf16) (r : Fin 1040) (c : Fin 256) :
    k0_pay45 (F := Ideal) X Y (ix3 0 r c) = ∑ k : Fin 1024, X (ix2 r k) * Y (ix2 k c) := by
  pointwise [k0_pay45]

theorem mm2 (X : Vec Ideal S1040x1024 .bf16) (Y : Vec Ideal S1024x256 .bf16) : k0_pay46 (F := Ideal) X Y = k0_pay45 (F := Ideal) X Y := rfl
theorem mm3 (X : Vec Ideal S1040x1024 .bf16) (Y : Vec Ideal S1024x256 .bf16) : k0_pay2 (F := Ideal) X Y = k0_pay45 (F := Ideal) X Y := rfl
theorem mm4 (X : Vec Ideal S1040x1024 .bf16) (Y : Vec Ideal S1024x256 .bf16) : k0_pay3 (F := Ideal) X Y = k0_pay45 (F := Ideal) X Y := rfl
theorem mm5 (X : Vec Ideal S1040x1024 .bf16) (Y : Vec Ideal S1024x256 .bf16) :
    k0_pay17 (k0_pay16 (F := Ideal) X Y) = k0_pay45 (F := Ideal) X Y := rfl
theorem mm6 (X : Vec Ideal S1040x1024 .bf16) (Y : Vec Ideal S1024x256 .bf16) : k0_pay18 (F := Ideal) X Y = k0_pay45 (F := Ideal) X Y := rfl

/-- The tile `u` holds the widened rows at columns `o` to `o + 255`. -/
def Holds (H : Vec Ideal S1040x1024 .bf16) (W : Vec Ideal S1024x5632 .bf16) (u : Vec Ideal S1x1040x256 .f32) (o : ℕ) : Prop :=
  ∀ (r : ℕ) (c : Fin 256), cell u r c = wide H W r (o + c.val)

theorem holds_mm (H : Vec Ideal S1040x1024 .bf16) (W : Vec Ideal S1024x5632 .bf16) (off : Fin 2 → ℕ) (inb : ∀ a, off a + S1024x256.size a ≤ S1024x5632.size a)
    (o : ℕ) (ho : off = ![0, o]) :
    Holds H W (k0_pay45 (F := Ideal) H (View.ld W (Rect.unit (s := S1024x5632) off S1024x256.size inb))) o := by
  subst ho
  have hb : o + 256 ≤ 5632 := inb 1
  intro r c
  unfold cell wide
  by_cases h : r < 1040
  · rw [dif_pos h, mm1]
    refine Finset.sum_congr rfl fun k _ => ?_
    unfold hr wu
    rw [dif_pos h, dif_pos (by omega)]
    congr 1
    refine View.ld_unit_apply_of W _ _ inb (ix2 k c) _ fun a => ?_
    match a with
    | ⟨0, _⟩ => exact (Nat.zero_add _).symm
    | ⟨1, _⟩ => rfl
  · rw [dif_neg h]
    symm
    refine Finset.sum_eq_zero fun k _ => ?_
    unfold hr
    rw [dif_neg h, zero_mul]

theorem tap_ld (T : Vec Ideal S3x5632 .f32) (off : Fin 2 → ℕ) (inb : ∀ a, off a + S3x256.size a ≤ S3x5632.size a)
    (o : ℕ) (ho : off = ![0, o]) (j : Fin 3) (c : Fin 256) :
    View.ld T (Rect.unit (s := S3x5632) off S3x256.size inb) (ix2 j c) = tap T j (o + c.val) := by
  subst ho
  have hb : o + 256 ≤ 5632 := inb 1
  unfold tap
  rw [dif_pos (by omega)]
  refine View.ld_unit_apply_of T _ _ inb (ix2 j c) _ fun a => ?_
  match a with
  | ⟨0, _⟩ => exact (Nat.zero_add _).symm
  | ⟨1, _⟩ => rfl

theorem bias_ld (B : Vec Ideal S1x5632 .f32) (off : Fin 2 → ℕ) (inb : ∀ a, off a + S1x256.size a ≤ S1x5632.size a)
    (o : ℕ) (ho : off = ![0, o]) (c : Fin 256) :
    View.ld B (Rect.unit (s := S1x5632) off S1x256.size inb) (ix2 0 c) = bias B (o + c.val) := by
  subst ho
  have hb : o + 256 ≤ 5632 := inb 1
  unfold bias
  rw [dif_pos (by omega)]
  refine View.ld_unit_apply_of B _ _ inb (ix2 0 c) _ fun a => ?_
  match a with
  | ⟨0, _⟩ => rfl
  | ⟨1, _⟩ => rfl

/-- The gate of two tiles that hold the widened rows at columns `o` and `o + 2816` on. -/
theorem glu_gv (kc : EReal) (H : Vec Ideal S1040x1024 .bf16) (W : Vec Ideal S1024x5632 .bf16) (T : Vec Ideal S3x5632 .f32) (B : Vec Ideal S1x5632 .f32)
    (ua uv : Vec Ideal S1x1040x256 .f32) (o o' : ℕ) (ho' : o' = o + 2816) (ha : Holds H W ua o) (hv : Holds H W uv o')
    (off1 off2 off3 off4 : Fin 2 → ℕ) (inb1 : ∀ a, off1 a + S3x256.size a ≤ S3x5632.size a) (inb2 : ∀ a, off2 a + S1x256.size a ≤ S1x5632.size a)
    (inb3 : ∀ a, off3 a + S3x256.size a ≤ S3x5632.size a) (inb4 : ∀ a, off4 a + S1x256.size a ≤ S1x5632.size a)
    (h1 : off1 = ![0, o]) (h2 : off2 = ![0, o]) (h3 : off3 = ![0, o']) (h4 : off4 = ![0, o']) (p : Fin 1024) (c : Fin 256) :
    glu kc ua (View.ld T (Rect.unit (s := S3x5632) off1 S3x256.size inb1)) (View.ld B (Rect.unit (s := S1x5632) off2 S1x256.size inb2))
      uv (View.ld T (Rect.unit (s := S3x5632) off3 S3x256.size inb3)) (View.ld B (Rect.unit (s := S1x5632) off4 S1x256.size inb4)) (ix2 p c)
      = gv kc H W T B p.val (o + c.val) := by
  unfold glu gv cvq
  rw [conv_at, conv_at, tap_ld T off1 inb1 o h1, tap_ld T off1 inb1 o h1, tap_ld T off1 inb1 o h1, bias_ld B off2 inb2 o h2,
    tap_ld T off3 inb3 o' h3, tap_ld T off3 inb3 o' h3, tap_ld T off3 inb3 o' h3, bias_ld B off4 inb4 o' h4]
  have e : o' + c.val = o + c.val + 2816 := by omega
  simp only [ha _ c, hv _ c, e]

/-- What a buffer of two tiles reads after both were stored. -/
theorem read_tile0 {sig : RefSig} {κ : Kind} {sp : Space} (v : View sig κ sp S2x1040x256 .f32) (f : v.ty.Contents (Elt Ideal))
    (A B : Vec Ideal S1x1040x256 .f32) (L : List (View.Piece (Elt Ideal) S2x1040x256 .f32)) :
    v.readAt (Elt Ideal) (Rect.unit (s := S2x1040x256) ![0, 0, 0] S1x1040x256.size inb_S2x1040x256_S1x1040x256_0_0_0).toLoadRect
      (v.writes (Elt Ideal) f (⟨Rect.unit ![1, 0, 0] S1x1040x256.size inb_S2x1040x256_S1x1040x256_1_0_0, B⟩
        :: ⟨Rect.unit ![0, 0, 0] S1x1040x256.size inb_S2x1040x256_S1x1040x256_0_0_0, A⟩ :: L)) = A := by
  funext x
  rw [View.readAt_apply]
  rw [View.read_writes_cons_unit_of_not_mem v f _ _ _ _ rfl 0 (Or.inl (by
    show 0 + 1 * (x 0).val < 1
    have : (x 0).val < 1 := (x 0).isLt
    omega))]
  exact View.read_writes_cons_unit_of_mem v f _ A L _ x rfl (fun a => by
    show (![0, 0, 0] : Fin 3 → ℕ) a + 1 * (x a).val = _
    rw [Nat.one_mul])

theorem read_tile1 {sig : RefSig} {κ : Kind} {sp : Space} (v : View sig κ sp S2x1040x256 .f32) (f : v.ty.Contents (Elt Ideal))
    (B : Vec Ideal S1x1040x256 .f32) (L : List (View.Piece (Elt Ideal) S2x1040x256 .f32)) :
    v.readAt (Elt Ideal) (Rect.unit (s := S2x1040x256) ![1, 0, 0] S1x1040x256.size inb_S2x1040x256_S1x1040x256_1_0_0).toLoadRect
      (v.writes (Elt Ideal) f (⟨Rect.unit ![1, 0, 0] S1x1040x256.size inb_S2x1040x256_S1x1040x256_1_0_0, B⟩ :: L)) = B := by
  funext x
  rw [View.readAt_apply]
  exact View.read_writes_cons_unit_of_mem v f _ B L _ x rfl (fun a => by
    show (![1, 0, 0] : Fin 3 → ℕ) a + 1 * (x a).val = _
    rw [Nat.one_mul])

/-- What the buffer of two gates reads after both were stored. -/
theorem read_pair {sig : RefSig} {κ : Kind} {sp : Space} (v : View sig κ sp S1024x512 .bf16) (f : v.ty.Contents (Elt Ideal))
    (A B : Vec Ideal S1024x256 .bf16) (G : ℕ → ℕ → EReal) (o : ℕ) (hA : ∀ (p : Fin 1024) (c : Fin 256), A (ix2 p c) = G p.val (o + c.val))
    (hB : ∀ (p : Fin 1024) (c : Fin 256), B (ix2 p c) = G p.val (o + 256 + c.val)) (p : Fin 1024) (e : Fin 512) :
    v.readAt (Elt Ideal) (Rect.unit (s := S1024x512) ![0, 0] S1024x512.size inb_S1024x512_S1024x512_0_0).toLoadRect
      (v.writes (Elt Ideal) f [⟨Rect.unit ![0, 256] S1024x256.size inb_S1024x512_S1024x256_0_256, B⟩,
        ⟨Rect.unit ![0, 0] S1024x256.size inb_S1024x512_S1024x256_0_0, A⟩]) (ix2 p e) = G p.val (o + e.val) := by
  rw [View.readAt_apply]
  by_cases h : e.val < 256
  · rw [View.read_writes_cons_unit_of_not_mem v f _ _ _ _ rfl 1 (Or.inl (by
      show 0 + 1 * e.val < 256
      omega))]
    rw [← hA p ⟨e.val, h⟩]
    exact View.read_writes_cons_unit_of_mem v f _ A [] _ (ix2 p ⟨e.val, h⟩) rfl (fun a => by
      match a with
      | ⟨0, _⟩ => show 0 + 1 * p.val = 0 + p.val; omega
      | ⟨1, _⟩ => show 0 + 1 * e.val = 0 + e.val; omega)
  · have he : o + e.val = o + 256 + (⟨e.val - 256, by omega⟩ : Fin 256).val := by
      show o + e.val = o + 256 + (e.val - 256)
      omega
    rw [he, ← hB p ⟨e.val - 256, by omega⟩]
    exact View.read_writes_cons_unit_of_mem v f _ B _ _ (ix2 p ⟨e.val - 256, by omega⟩) rfl (fun a => by
      match a with
      | ⟨0, _⟩ => show 0 + 1 * p.val = 0 + p.val; omega
      | ⟨1, _⟩ => show 0 + 1 * e.val = 256 + (e.val - 256); omega)

/-- One step of the accumulation. -/
theorem acc_step (X : Vec Ideal S1024x1024 .f32) (Y : Vec Ideal S1024x512 .bf16) (D : Vec Ideal S2816x1024 .bf16) (off : Fin 2 → ℕ)
    (inb : ∀ a, off a + S512x1024.size a ≤ S2816x1024.size a) (o : ℕ) (ho : off = ![o, 0]) (G : ℕ → ℕ → EReal)
    (hY : ∀ (p : Fin 1024) (e : Fin 512), Y (ix2 p e) = G p.val (o + e.val)) (p d : Fin 1024)
    (hX : X (ix2 p d) = ∑ q ∈ Finset.range o, G p.val q * wd D q d) :
    k0_pay48 (F := Ideal) X Y (View.ld D (Rect.unit (s := S2816x1024) off S512x1024.size inb)) (ix2 p d)
      = ∑ q ∈ Finset.range (o + 512), G p.val q * wd D q d := by
  subst ho
  have hb : o + 512 ≤ 2816 := inb 0
  pointwise [k0_pay48]
  rw [hX, Finset.sum_range_add]
  congr 1
  rw [← Fin.sum_univ_eq_sum_range (fun x => G p.val (o + x) * wd D (o + x) d) 512]
  refine Finset.sum_congr rfl fun e _ => ?_
  rw [hY]
  congr 1
  unfold wd
  rw [dif_pos (by omega)]

/-- The block stored at the end. -/
theorem out_at (Y : Vec Ideal S1024x256 .bf16) (D : Vec Ideal S2816x1024 .bf16) (x : Vec Ideal S1024x1024 .f32) (g : Vec Ideal S1x1x1024 .f32)
    (X : Vec Ideal S1024x1024 .f32) (G : ℕ → ℕ → EReal)
    (hY : ∀ (p : Fin 1024) (e : Fin 256), Y (ix2 p e) = G p.val (2560 + e.val)) (p d : Fin 1024)
    (hX : X (ix2 p d) = ∑ q ∈ Finset.range 2560, G p.val q * wd D q d) :
    k0_pay1 (F := Ideal) Y (View.ld D (Rect.unit (s := S2816x1024) ![2560, 0] S256x1024.size inb_S2816x1024_S256x1024_2560_0)) x g X (ix2 p d)
      = x (ix2 p d) + g (ix3 0 0 d) * ∑ q ∈ Finset.range 2816, G p.val q * wd D q d := by
  have e : (∑ q ∈ Finset.range 2816, G p.val q * wd D q d)
      = ∑ q ∈ Finset.range 2560, G p.val q * wd D q d + ∑ x : Fin 256, G p.val (2560 + x.val) * wd D (2560 + x.val) d := by
    rw [show 2816 = 2560 + 256 from rfl, Finset.sum_range_add, ← Fin.sum_univ_eq_sum_range (fun x => G p.val (2560 + x) * wd D (2560 + x) d) 256]
  rw [e, ← hX]
  pointwise [k0_pay1]
  congr 3
  refine Finset.sum_congr rfl fun e _ => ?_
  rw [hY]
  congr 1
  unfold wd
  rw [dif_pos (by omega)]

end Cert.Kernel2Ideal.Ffn

end
-- ==== Proof.Ffn.Norm.lean ====
/- The rows the body works on: the modulated norm of the block's rows and of the row before and after it. -/
module

public import proofs.«01_k».proof.Proof.Ffn.Tile

@[expose] public section

set_option maxRecDepth 16384

noncomputable section

namespace Cert.Kernel2Ideal.Ffn

open Idealize.ShloMosaic Idealize.ShloMosaic.TcCoe
open Cert.Kernel2Ideal.Gen

/-- The modulated norm of one row. -/
def nrm (x g sh sc : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- The rows with their halo. -/
abbrev halo (kp kn : EReal) (x0 : Vec Ideal S8x1024 .f32) (x1 : Vec Ideal S1024x1024 .f32) (x2 : Vec Ideal S8x1024 .f32)
    (g : Vec Ideal S1x1024 .f32) (sh sc : Vec Ideal S1x1x1024 .f32) : Vec Ideal S1040x1024 .bf16 :=
  k0_pay42 (F := Ideal) kn (k0_pay39 kp (k0_pay35 sh) (k0_pay36 sc) (k0_pay37 x0) (k0_pay38 g)) (k0_pay40 g (k0_pay35 sh) (k0_pay36 sc) x1)
    (k0_pay41 g (k0_pay35 sh) (k0_pay36 sc) x2)

variable (kp kn : EReal) (x0 : Vec Ideal S8x1024 .f32) (x1 : Vec Ideal S1024x1024 .f32) (x2 : Vec Ideal S8x1024 .f32)
    (g : Vec Ideal S1x1024 .f32) (sh sc : Vec Ideal S1x1x1024 .f32)

theorem norm8 (r : Fin 8) (d : Fin 1024) : k0_pay39 (F := Ideal) kp (k0_pay35 sh) (k0_pay36 sc) (k0_pay37 x0) (k0_pay38 g) (ix2 r d)
    = nrm (fun k => x0 (ix2 r k)) (fun k => g (ix2 0 k)) (fun k => sh (ix3 0 0 k)) (fun k => sc (ix3 0 0 k)) d * kp := by
  pointwise [k0_pay39, k0_pay35, k0_pay36, k0_pay37, k0_pay38, nrm]

theorem norm1024 (r : Fin 1024) (d : Fin 1024) : k0_pay40 (F := Ideal) g (k0_pay35 sh) (k0_pay36 sc) x1 (ix2 r d)
    = nrm (fun k => x1 (ix2 r k)) (fun k => g (ix2 0 k)) (fun k => sh (ix3 0 0 k)) (fun k => sc (ix3 0 0 k)) d := by
  pointwise [k0_pay40, k0_pay35, k0_pay36, nrm]

theorem norm8' (r : Fin 8) (d : Fin 1024) : k0_pay41 (F := Ideal) g (k0_pay35 sh) (k0_pay36 sc) x2 (ix2 r d)
    = nrm (fun k => x2 (ix2 r k)) (fun k => g (ix2 0 k)) (fun k => sh (ix3 0 0 k)) (fun k => sc (ix3 0 0 k)) d := by
  pointwise [k0_pay41, k0_pay35, k0_pay36, nrm]

theorem join_at (A : FVec Ideal S8x1024 .f32) (B : FVec Ideal S1024x1024 .f32) (C : FVec Ideal S8x1024 .f32) (r : Fin 1040) (d : Fin 1024) :
    k0_pay42 (F := Ideal) kn A B C (ix2 r d)
      = if h : r.val < 8 then A (ix2 ⟨r.val, h⟩ d)
        else if h' : r.val < 1032 then B (ix2 ⟨r.val - 8, by omega⟩ d) else C (ix2 ⟨r.val - 1032, by omega⟩ d) * kn := by
  pointwise [k0_pay42]
  split
  · rfl
  · split
    · rw [dif_pos (by omega)]
    · rw [dif_neg (by omega)]
      simp only [Nat.sub_sub]

/-- Row `p + 8` is the block's row `p`. -/
theorem halo_main (p : ℕ) (hp : p < 1024) (d : Fin 1024) : hr (halo kp kn x0 x1 x2 g sh sc) (p + 8) d
    = nrm (fun k => x1 (ix2 ⟨p, hp⟩ k)) (fun k => g (ix2 0 k)) (fun k => sh (ix3 0 0 k)) (fun k => sc (ix3 0 0 k)) d := by
  unfold hr halo
  rw [dif_pos (by omega), join_at, dif_neg (by show ¬ (p + 8 < 8); omega), dif_pos (by show p + 8 < 1032; omega), norm1024]
  rfl

/-- Row 7 is the last row of the eight before the block, -/
theorem halo_prev (d : Fin 1024) : hr (halo kp kn x0 x1 x2 g sh sc) 7 d
    = nrm (fun k => x0 (ix2 7 k)) (fun k => g (ix2 0 k)) (fun k => sh (ix3 0 0 k)) (fun k => sc (ix3 0 0 k)) d * kp := by
  unfold hr halo
  rw [dif_pos (by omega), join_at, dif_pos (by show 7 < 8; omega), norm8]
  rfl

/-- and row 1032 the first of the eight after it. -/
theorem halo_next (d : Fin 1024) : hr (halo kp kn x0 x1 x2 g sh sc) 1032 d
    = nrm (fun k => x2 (ix2 0 k)) (fun k => g (ix2 0 k)) (fun k => sh (ix3 0 0 k)) (fun k => sc (ix3 0 0 k)) d * kn := by
  unfold hr halo
  rw [dif_pos (by omega), join_at, dif_neg (by show ¬ (1032 < 8); omega), dif_neg (by show ¬ (1032 < 1032); omega), norm8']
  rfl

end Cert.Kernel2Ideal.Ffn

end
-- ==== Proof.Ffn.Trips.lean ====
/- The loop over the tiles of columns: what its buffers hold after every trip. -/
module

public import proofs.«01_k».proof.Proof.Gen.Kernel2Ideal.Loops
public import proofs.«01_k».proof.Proof.Ffn.Tile

@[expose] public section

set_option maxRecDepth 16384

noncomputable section

namespace Cert.Kernel2Ideal.Ffn

open Idealize.ShloMosaic Idealize.ShloMosaic.TcCoe
open Cert.Kernel2Ideal.Gen

variable (c : Dev nD) (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1040x1024 .bf16) (harg13 : arg13.IsWhole) (arg14 : Memref sig .tc .vmem S2x1040x256 .f32) (harg14 : arg14.IsWhole) (arg15 : Memref sig .tc .vmem S2x1040x256 .f32) (harg15 : arg15.IsWhole) (arg16 : Memref sig .tc .vmem S1024x512 .bf16) (harg16 : arg16.IsWhole) (arg17 : Memref sig .tc .vmem S1024x1024 .f32) (harg17 : arg17.IsWhole)
  (kc : EReal) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X13 : BufTy.Contents (Elt Ideal) arg13.view.ty)

/-- The pieces of one trip. -/
abbrev trip (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) :=
  tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc 0#32 X8 X9 X10 X11 X13 k f14 f15 f16 f17

/-- The rows the trips read. -/
abbrev rows : Vec Ideal S1040x1024 .bf16 := arg13.view.readAt (Elt Ideal) (Rect.unit (s := S1040x1024) ![0, 0] S1040x1024.size inb_S1040x1024_S1040x1024_0_0).toLoadRect X13

theorem trip_tiles (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) :
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 k f14 f15 f16 f17).1
      = [⟨Rect.unit ![1, 0, 0] S1x1040x256.size inb_S2x1040x256_S1x1040x256_1_0_0, k0_pay18 (F := Ideal) (rows arg13 X13) (arg8.view.readAt (Elt Ideal) (Rect.unit (s := S1024x5632) (k0_off8 k) S1024x256.size (k0_off8_inb k)).toLoadRect X8)⟩,
        ⟨Rect.unit ![0, 0, 0] S1x1040x256.size inb_S2x1040x256_S1x1040x256_0_0_0, k0_pay17 (k0_pay16 (F := Ideal) (rows arg13 X13) (arg8.view.readAt (Elt Ideal) (Rect.unit (s := S1024x5632) (k0_off7 k) S1024x256.size (k0_off7_inb k)).toLoadRect X8))⟩] := by
  unfold trip tripL_k0_t1 trip_k0_t1
  rfl

/-- The two tiles of a trip's second half. -/
abbrev mid (k : Fin k0_t1_loop.trips) : List (View.Piece (Elt Ideal) S2x1040x256 .f32) :=
  [⟨Rect.unit ![1, 0, 0] S1x1040x256.size inb_S2x1040x256_S1x1040x256_1_0_0, k0_pay3 (F := Ideal) (rows arg13 X13) (arg8.view.readAt (Elt Ideal) (Rect.unit (s := S1024x5632) (k0_off2 k) S1024x256.size (k0_off2_inb k)).toLoadRect X8)⟩,
    ⟨Rect.unit ![0, 0, 0] S1x1040x256.size inb_S2x1040x256_S1x1040x256_0_0_0, k0_pay2 (F := Ideal) (rows arg13 X13) (arg8.view.readAt (Elt Ideal) (Rect.unit (s := S1024x5632) (k0_off1 k) S1024x256.size (k0_off1_inb k)).toLoadRect X8)⟩]

theorem trip_acc (k : Fin k0_t1_loop.trips) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) :
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 k f14 f15 f16 f17).2.2.2
      = [⟨Rect.unit ![0, 0] S1024x1024.size inb_S1024x1024_S1024x1024_0_0,
          k0_pay48 (F := Ideal) (arg17.view.readAt (Elt Ideal) (Rect.unit (s := S1024x1024) ![0, 0] S1024x1024.size inb_S1024x1024_S1024x1024_0_0).toLoadRect f17)
            (arg16.view.readAt (Elt Ideal) (Rect.unit (s := S1024x512) ![0, 0] S1024x512.size inb_S1024x512_S1024x512_0_0).toLoadRect
              (arg16.view.writes (Elt Ideal) arg16.view.junk
                [⟨Rect.unit ![0, 256] S1024x256.size inb_S1024x512_S1024x256_0_256,
                  glu kc (arg15.view.readAt (Elt Ideal) (Rect.unit (s := S2x1040x256) ![0, 0, 0] S1x1040x256.size inb_S2x1040x256_S1x1040x256_0_0_0).toLoadRect (arg15.view.writes (Elt Ideal) arg15.view.junk (mid arg8 arg13 X8 X13 k))) (arg9.view.readAt (Elt Ideal) (Rect.unit (s := S3x5632) (k0_off9 k) S3x256.size (k0_off9_inb k)).toLoadRect X9) (arg10.view.readAt (Elt Ideal) (Rect.unit (s := S1x5632) (k0_off10 k) S1x256.size (k0_off10_inb k)).toLoadRect X10)
                    (arg15.view.readAt (Elt Ideal) (Rect.unit (s := S2x1040x256) ![1, 0, 0] S1x1040x256.size inb_S2x1040x256_S1x1040x256_1_0_0).toLoadRect (arg15.view.writes (Elt Ideal) arg15.view.junk (mid arg8 arg13 X8 X13 k))) (arg9.view.readAt (Elt Ideal) (Rect.unit (s := S3x5632) (k0_off11 k) S3x256.size (k0_off11_inb k)).toLoadRect X9) (arg10.view.readAt (Elt Ideal) (Rect.unit (s := S1x5632) (k0_off12 k) S1x256.size (k0_off12_inb k)).toLoadRect X10)⟩,
                 ⟨Rect.unit ![0, 0] S1024x256.size inb_S1024x512_S1024x256_0_0,
                  glu kc (arg14.view.readAt (Elt Ideal) (Rect.unit (s := S2x1040x256) ![0, 0, 0] S1x1040x256.size inb_S2x1040x256_S1x1040x256_0_0_0).toLoadRect (f14)) (arg9.view.readAt (Elt Ideal) (Rect.unit (s := S3x5632) (k0_off3 k) S3x256.size (k0_off3_inb k)).toLoadRect X9) (arg10.view.readAt (Elt Ideal) (Rect.unit (s := S1x5632) (k0_off4 k) S1x256.size (k0_off4_inb k)).toLoadRect X10)
                    (arg14.view.readAt (Elt Ideal) (Rect.unit (s := S2x1040x256) ![1, 0, 0] S1x1040x256.size inb_S2x1040x256_S1x1040x256_1_0_0).toLoadRect (f14)) (arg9.view.readAt (Elt Ideal) (Rect.unit (s := S3x5632) (k0_off5 k) S3x256.size (k0_off5_inb k)).toLoadRect X9) (arg10.view.readAt (Elt Ideal) (Rect.unit (s := S1x5632) (k0_off6 k) S1x256.size (k0_off6_inb k)).toLoadRect X10)⟩]))
            (arg11.view.readAt (Elt Ideal) (Rect.unit (s := S2816x1024) (k0_off13 k) S512x1024.size (k0_off13_inb k)).toLoadRect X11)⟩] := by
  rw [← glu1, ← glu2]
  unfold trip tripL_k0_t1 trip_k0_t1
  rfl

variable (G14 : BufTy.Contents (Elt Ideal) arg14.view.ty) (G15 : BufTy.Contents (Elt Ideal) arg15.view.ty) (G16 : BufTy.Contents (Elt Ideal) arg16.view.ty) (G17 : BufTy.Contents (Elt Ideal) arg17.view.ty)

/-- The pieces of the trips before `k`. -/
abbrev pcs (k : ℕ) := pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc 0#32 X8 X9 X10 X11 X13 G14 G15 G16 G17 k

/-- The arrays read whole. -/
abbrev W8 : Vec Ideal S1024x5632 .bf16 := arg8.view.read (Elt Ideal) X8
abbrev T9 : Vec Ideal S3x5632 .f32 := arg9.view.read (Elt Ideal) X9
abbrev B10 : Vec Ideal S1x5632 .f32 := arg10.view.read (Elt Ideal) X10
abbrev D11 : Vec Ideal S2816x1024 .bf16 := arg11.view.read (Elt Ideal) X11

/-- Before trip `k`: the first tile buffer holds the widened rows of the trip's first tile, and the accumulator the sum over the
    columns before it. -/
theorem trips_inv (h0 : Holds (rows arg13 X13) (W8 arg8 X8) (arg14.view.readAt (Elt Ideal) (Rect.unit (s := S2x1040x256) ![0, 0, 0] S1x1040x256.size inb_S2x1040x256_S1x1040x256_0_0_0).toLoadRect (G14)) 0)
    (h1 : Holds (rows arg13 X13) (W8 arg8 X8) (arg14.view.readAt (Elt Ideal) (Rect.unit (s := S2x1040x256) ![1, 0, 0] S1x1040x256.size inb_S2x1040x256_S1x1040x256_1_0_0).toLoadRect (G14)) 2816)
    (hz : ∀ p d : Fin 1024, arg17.view.read (Elt Ideal) G17 (ix2 p d) = 0) (k : ℕ) (hk : k ≤ k0_t1_loop.trips) :
    Holds (rows arg13 X13) (W8 arg8 X8) (arg14.view.readAt (Elt Ideal) (Rect.unit (s := S2x1040x256) ![0, 0, 0] S1x1040x256.size inb_S2x1040x256_S1x1040x256_0_0_0).toLoadRect (arg14.view.writes (Elt Ideal) G14 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 k).1)) (512 * k)
    ∧ Holds (rows arg13 X13) (W8 arg8 X8) (arg14.view.readAt (Elt Ideal) (Rect.unit (s := S2x1040x256) ![1, 0, 0] S1x1040x256.size inb_S2x1040x256_S1x1040x256_1_0_0).toLoadRect (arg14.view.writes (Elt Ideal) G14 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 k).1)) (512 * k + 2816)
    ∧ ∀ p d : Fin 1024, arg17.view.read (Elt Ideal) (arg17.view.writes (Elt Ideal) G17 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 k).2.2.2) (ix2 p d)
        = ∑ q ∈ Finset.range (512 * k), gv kc (rows arg13 X13) (W8 arg8 X8) (T9 arg9 X9) (B10 arg10 X10) p.val q * wd (D11 arg11 X11) q d := by
  induction k with
  | zero =>
    refine ⟨h0, h1, fun p d => ?_⟩
    rw [Nat.mul_zero, Finset.range_zero, Finset.sum_empty]
    exact hz p d
  | succ n ih =>
    obtain ⟨ha, hv, hs⟩ := ih (by omega)
    have hn : n < k0_t1_loop.trips := hk
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc 0#32 X8 X9 X10 X11 X13 G14 G15 G16 G17 ⟨n, hn⟩
    have e1 : (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 (n + 1)).1 = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 ⟨n, hn⟩ (arg14.view.writes (Elt Ideal) G14 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).1) (arg15.view.writes (Elt Ideal) G15 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.1)
      (arg16.view.writes (Elt Ideal) G16 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.2.1) (arg17.view.writes (Elt Ideal) G17 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.2.2)).1 ++ (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).1 := congrArg (fun z => z.1) e
    have e4 : (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 (n + 1)).2.2.2 = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 ⟨n, hn⟩ (arg14.view.writes (Elt Ideal) G14 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).1) (arg15.view.writes (Elt Ideal) G15 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.1)
      (arg16.view.writes (Elt Ideal) G16 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.2.1) (arg17.view.writes (Elt Ideal) G17 (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.2.2)).2.2.2 ++ (pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 kc X8 X9 X10 X11 X13 G14 G15 G16 G17 n).2.2.2 := congrArg (fun z => z.2.2.2) e
    rw [trip_tiles] at e1
    rw [trip_acc] at e4
    have k5 : n < 5 := hn
    refine ⟨?_, ?_, fun p d => ?_⟩
    · rw [e1]
      simp only [List.cons_append, List.nil_append]
      rw [read_tile0, mm5]
      refine holds_mm _ _ _ _ _ ?_
      rw [k0_off7_eq]
      rfl
    · rw [e1]
      simp only [List.cons_append, List.nil_append]
      rw [read_tile1, mm6]
      refine holds_mm _ _ _ _ _ ?_
      rw [k0_off8_eq]
      rw [show 512 * (n + 1) + 2816 = 512 * n + 3328 by omega]
    · rw [e4]
      simp only [List.cons_append, List.nil_append]
      rw [View.read_writes_full]
      rw [show 512 * (n + 1) = 512 * n + 512 by omega]
      refine acc_step _ _ (D11 arg11 X11) _ _ (512 * n) (k0_off13_eq ⟨n, hn⟩)
        (gv kc (rows arg13 X13) (W8 arg8 X8) (T9 arg9 X9) (B10 arg10 X10)) (fun p e => ?_) p d ?_
      · refine read_pair _ _ _ _ (gv kc (rows arg13 X13) (W8 arg8 X8) (T9 arg9 X9) (B10 arg10 X10)) (512 * n) (fun p c => ?_) (fun p c => ?_) p e
        · exact glu_gv kc _ _ (T9 arg9 X9) (B10 arg10 X10) _ _ (512 * n) (512 * n + 2816) rfl ha hv _ _ _ _ _ _ _ _
            (k0_off3_eq ⟨n, hn⟩) (k0_off4_eq ⟨n, hn⟩) (k0_off5_eq ⟨n, hn⟩) (k0_off6_eq ⟨n, hn⟩) p c
        · rw [read_tile0, read_tile1, mm3, mm4]
          exact glu_gv kc _ _ (T9 arg9 X9) (B10 arg10 X10) _ _ (512 * n + 256) (512 * n + 3072) (by omega)
            (holds_mm _ _ _ _ _ (k0_off1_eq ⟨n, hn⟩)) (holds_mm _ _ _ _ _ (k0_off2_eq ⟨n, hn⟩)) _ _ _ _ _ _ _ _
            (k0_off9_eq ⟨n, hn⟩) (k0_off10_eq ⟨n, hn⟩) (k0_off11_eq ⟨n, hn⟩) (k0_off12_eq ⟨n, hn⟩) p c
      · rw [View.readAt_full]
        exact hs p d

end Cert.Kernel2Ideal.Ffn

end
-- ==== Proof.Ffn.End.lean ====
/- What the body leaves in its output block, of the blocks it reads. -/
module

public import proofs.«01_k».proof.Proof.Ffn.RunIdeal
public import proofs.«01_k».proof.Proof.Ffn.Norm
public import proofs.«01_k».proof.Proof.Ffn.Trips

@[expose] public section

set_option maxRecDepth 16384

noncomputable section

namespace Cert.Kernel2Ideal.Ffn

open Idealize.ShloMosaic Idealize.ShloMosaic.TcCoe
open Cert.Kernel2Ideal.Gen

variable (c : Dev nD) (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1040x1024 .bf16) (harg13 : arg13.IsWhole) (arg14 : Memref sig .tc .vmem S2x1040x256 .f32) (harg14 : arg14.IsWhole) (arg15 : Memref sig .tc .vmem S2x1040x256 .f32) (harg15 : arg15.IsWhole) (arg16 : Memref sig .tc .vmem S1024x512 .bf16) (harg16 : arg16.IsWhole) (arg17 : Memref sig .tc .vmem S1024x1024 .f32) (harg17 : arg17.IsWhole)
  (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) (x6 : Vec Ideal S1x1x1024 .f32) (x7 : Vec Ideal S1024x5632 .bf16) (x8 : Vec Ideal S3x5632 .f32) (x9 : Vec Ideal S1x5632 .f32) (x10 : Vec Ideal S2816x1024 .bf16)
  (g0 : BufTy.Contents (Elt Ideal) arg13.view.ty) (g1 : BufTy.Contents (Elt Ideal) arg14.view.ty) (g2 : BufTy.Contents (Elt Ideal) arg15.view.ty) (g3 : BufTy.Contents (Elt Ideal) arg16.view.ty) (g4 : BufTy.Contents (Elt Ideal) arg17.view.ty) (e : BufTy.Contents (Elt Ideal) arg12.view.ty)

/-- The rows with their halo, read from the input blocks. -/
abbrev haloOf (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) : Vec Ideal S1040x1024 .bf16 :=
  halo (k0_pay33 (F := Ideal) i) (k0_pay34 (F := Ideal) i) (arg1.view.readAt (Elt Ideal) (Rect.unit (s := S8x1024) ![0, 0] S8x1024.size inb_S8x1024_S8x1024_0_0).toLoadRect (harg1.unread x0)) (arg2.view.readAt (Elt Ideal) (Rect.unit (s := S1024x1024) ![0, 0] S1024x1024.size inb_S1024x1024_S1024x1024_0_0).toLoadRect (harg2.unread x1)) (arg3.view.readAt (Elt Ideal) (Rect.unit (s := S8x1024) ![0, 0] S8x1024.size inb_S8x1024_S8x1024_0_0).toLoadRect (harg3.unread x2)) (arg4.view.readAt (Elt Ideal) (Rect.unit (s := S1x1024) ![0, 0] S1x1024.size inb_S1x1024_S1x1024_0_0).toLoadRect (harg4.unread x3)) (arg5.view.readAt (Elt Ideal) (Rect.unit (s := S1x1x1024) ![0, 0, 0] S1x1x1024.size inb_S1x1x1024_S1x1x1024_0_0_0).toLoadRect (harg5.unread x4)) (arg6.view.readAt (Elt Ideal) (Rect.unit (s := S1x1x1024) ![0, 0, 0] S1x1x1024.size inb_S1x1x1024_S1x1x1024_0_0_0).toLoadRect (harg6.unread x5))

theorem haloOf_eq : haloOf i arg1 harg1 arg2 harg2 arg3 harg3 arg4 harg4 arg5 harg5 arg6 harg6 x0 x1 x2 x3 x4 x5 = halo (k0_pay33 (F := Ideal) i) (k0_pay34 (F := Ideal) i) x0 x1 x2 x3 x4 x5 := by
  unfold haloOf
  rw [View.readAt_full, View.readAt_full, View.readAt_full, View.readAt_full, View.readAt_full, View.readAt_full,
    harg1.read_unread, harg2.read_unread, harg3.read_unread, harg4.read_unread, harg5.read_unread, harg6.read_unread]

/-- The rows as the first products read them. -/
abbrev first (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg13 : Memref sig .tc .vmem S1040x1024 .bf16) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) : Vec Ideal S1040x1024 .bf16 :=
  arg13.view.readCov [⟨Rect.unit ![0, 0] S1040x1024.size inb_S1040x1024_S1040x1024_0_0, haloOf i arg1 harg1 arg2 harg2 arg3 harg3 arg4 harg4 arg5 harg5 arg6 harg6 x0 x1 x2 x3 x4 x5⟩] (Rect.unit (s := S1040x1024) ![0, 0] S1040x1024.size inb_S1040x1024_S1040x1024_0_0).toLoadRect

theorem first_eq : first i arg1 harg1 arg2 harg2 arg3 harg3 arg4 harg4 arg5 harg5 arg6 harg6 arg13 x0 x1 x2 x3 x4 x5 = halo (k0_pay33 (F := Ideal) i) (k0_pay34 (F := Ideal) i) x0 x1 x2 x3 x4 x5 := by
  unfold first
  rw [View.readCov_cons_toLoadRect, haloOf_eq]

/-- The first two tiles. -/
abbrev two (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S1024x5632 .bf16) (harg8 : arg8.IsWhole) (arg13 : Memref sig .tc .vmem S1040x1024 .bf16) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) (x7 : Vec Ideal S1024x5632 .bf16) : List (View.Piece (Elt Ideal) S2x1040x256 .f32) :=
  [⟨Rect.unit ![1, 0, 0] S1x1040x256.size inb_S2x1040x256_S1x1040x256_1_0_0, k0_pay46 (F := Ideal) (first i arg1 harg1 arg2 harg2 arg3 harg3 arg4 harg4 arg5 harg5 arg6 harg6 arg13 x0 x1 x2 x3 x4 x5) (arg8.view.readAt (Elt Ideal) (Rect.unit (s := S1024x5632) ![0, 2816] S1024x256.size inb_S1024x5632_S1024x256_0_2816).toLoadRect (harg8.unread x7))⟩,
      ⟨Rect.unit ![0, 0, 0] S1x1040x256.size inb_S2x1040x256_S1x1040x256_0_0_0, k0_pay45 (F := Ideal) (first i arg1 harg1 arg2 harg2 arg3 harg3 arg4 harg4 arg5 harg5 arg6 harg6 arg13 x0 x1 x2 x3 x4 x5) (arg8.view.readAt (Elt Ideal) (Rect.unit (s := S1024x5632) ![0, 0] S1024x256.size inb_S1024x5632_S1024x256_0_0).toLoadRect (harg8.unread x7))⟩]

/-- The pieces of all trips. -/
abbrev pb (c : Dev nD) (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1040x1024 .bf16) (harg13 : arg13.IsWhole) (arg14 : Memref sig .tc .vmem S2x1040x256 .f32) (harg14 : arg14.IsWhole) (arg15 : Memref sig .tc .vmem S2x1040x256 .f32) (harg15 : arg15.IsWhole) (arg16 : Memref sig .tc .vmem S1024x512 .bf16) (harg16 : arg16.IsWhole) (arg17 : Memref sig .tc .vmem S1024x1024 .f32) (harg17 : arg17.IsWhole) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) (x6 : Vec Ideal S1x1x1024 .f32) (x7 : Vec Ideal S1024x5632 .bf16) (x8 : Vec Ideal S3x5632 .f32) (x9 : Vec Ideal S1x5632 .f32) (x10 : Vec Ideal S2816x1024 .bf16) (g2 : BufTy.Contents (Elt Ideal) arg15.view.ty) (g3 : BufTy.Contents (Elt Ideal) arg16.view.ty) := pcs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay43 (F := Ideal) (BitVec.ofNat 32 (i 0).val)) (harg8.unread x7) (harg9.unread x8) (harg10.unread x9) (harg11.unread x10) (arg13.view.writes (Elt Ideal) arg13.view.junk [⟨Rect.unit ![0, 0] S1040x1024.size inb_S1040x1024_S1040x1024_0_0, haloOf i arg1 harg1 arg2 harg2 arg3 harg3 arg4 harg4 arg5 harg5 arg6 harg6 x0 x1 x2 x3 x4 x5⟩]) (arg14.view.writes (Elt Ideal) arg14.view.junk (two i arg1 harg1 arg2 harg2 arg3 harg3 arg4 harg4 arg5 harg5 arg6 harg6 arg8 harg8 arg13 x0 x1 x2 x3 x4 x5 x7)) g2 g3 (arg17.view.writes (Elt Ideal) arg17.view.junk [⟨Rect.unit ![0, 0] S1024x1024.size inb_S1024x1024_S1024x1024_0_0, k0_pay44 (F := Ideal)⟩]) k0_t1_loop.trips

/-- The gate of the last tile, from the buffers. -/
abbrev lastGate (c : Dev nD) (i : grid0.Coords) (arg1 : Memref sig .tc .vmem S8x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1040x1024 .bf16) (harg13 : arg13.IsWhole) (arg14 : Memref sig .tc .vmem S2x1040x256 .f32) (harg14 : arg14.IsWhole) (arg15 : Memref sig .tc .vmem S2x1040x256 .f32) (harg15 : arg15.IsWhole) (arg16 : Memref sig .tc .vmem S1024x512 .bf16) (harg16 : arg16.IsWhole) (arg17 : Memref sig .tc .vmem S1024x1024 .f32) (harg17 : arg17.IsWhole) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) (x6 : Vec Ideal S1x1x1024 .f32) (x7 : Vec Ideal S1024x5632 .bf16) (x8 : Vec Ideal S3x5632 .f32) (x9 : Vec Ideal S1x5632 .f32) (x10 : Vec Ideal S2816x1024 .bf16) (g2 : BufTy.Contents (Elt Ideal) arg15.view.ty) (g3 : BufTy.Contents (Elt Ideal) arg16.view.ty) : FVec Ideal S1024x256 .bf16 :=
  glu (k0_pay43 (F := Ideal) (BitVec.ofNat 32 (i 0).val)) (arg14.view.readCov ((pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3).1 ++ two i arg1 harg1 arg2 harg2 arg3 harg3 arg4 harg4 arg5 harg5 arg6 harg6 arg8 harg8 arg13 x0 x1 x2 x3 x4 x5 x7) (Rect.unit (s := S2x1040x256) ![0, 0, 0] S1x1040x256.size inb_S2x1040x256_S1x1040x256_0_0_0).toLoadRect)
    (arg9.view.readAt (Elt Ideal) (Rect.unit (s := S3x5632) ![0, 2560] S3x256.size inb_S3x5632_S3x256_0_2560).toLoadRect (harg9.unread x8)) (arg10.view.readAt (Elt Ideal) (Rect.unit (s := S1x5632) ![0, 2560] S1x256.size inb_S1x5632_S1x256_0_2560).toLoadRect (harg10.unread x9))
    (arg14.view.readCov ((pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3).1 ++ two i arg1 harg1 arg2 harg2 arg3 harg3 arg4 harg4 arg5 harg5 arg6 harg6 arg8 harg8 arg13 x0 x1 x2 x3 x4 x5 x7) (Rect.unit (s := S2x1040x256) ![1, 0, 0] S1x1040x256.size inb_S2x1040x256_S1x1040x256_1_0_0).toLoadRect)
    (arg9.view.readAt (Elt Ideal) (Rect.unit (s := S3x5632) ![0, 5376] S3x256.size inb_S3x5632_S3x256_0_5376).toLoadRect (harg9.unread x8)) (arg10.view.readAt (Elt Ideal) (Rect.unit (s := S1x5632) ![0, 5376] S1x256.size inb_S1x5632_S1x256_0_5376).toLoadRect (harg10.unread x9))

theorem lastGate_eq (L : List (View.Piece (Elt Ideal) S1024x512 .bf16)) (A : FVec Ideal S1024x256 .bf16)
    (h : A = lastGate c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3) :
    arg16.view.readCov (⟨Rect.unit ![0, 0] S1024x256.size inb_S1024x512_S1024x256_0_0, A⟩ :: L)
      (Rect.unit (s := S1024x512) ![0, 0] S1024x256.size inb_S1024x512_S1024x256_0_0).toLoadRect = lastGate c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3 := by
  rw [View.readCov_cons_toLoadRect, h]

theorem run_eq : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g0 g1 g2 g3 g4).1
    = [⟨Rect.unit ![0, 0] S1024x1024.size inb_S1024x1024_S1024x1024_0_0,
        k0_pay1 (F := Ideal) (lastGate c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3)
          (arg11.view.readAt (Elt Ideal) (Rect.unit (s := S2816x1024) ![2560, 0] S256x1024.size inb_S2816x1024_S256x1024_2560_0).toLoadRect (harg11.unread x10))
          (arg2.view.readAt (Elt Ideal) (Rect.unit (s := S1024x1024) ![0, 0] S1024x1024.size inb_S1024x1024_S1024x1024_0_0).toLoadRect (harg2.unread x1)) (arg7.view.readAt (Elt Ideal) (Rect.unit (s := S1x1x1024) ![0, 0, 0] S1x1x1024.size inb_S1x1x1024_S1x1x1024_0_0_0).toLoadRect (harg7.unread x6))
          (arg17.view.readCov ((pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3).2.2.2 ++ [⟨Rect.unit ![0, 0] S1024x1024.size inb_S1024x1024_S1024x1024_0_0, k0_pay44 (F := Ideal)⟩]) (Rect.unit (s := S1024x1024) ![0, 0] S1024x1024.size inb_S1024x1024_S1024x1024_0_0).toLoadRect)⟩] := by
  rw [← lastGate_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3 _ _ (glu3 (k0_pay43 (F := Ideal) (BitVec.ofNat 32 (i 0).val)) (arg14.view.readCov ((pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3).1 ++ two i arg1 harg1 arg2 harg2 arg3 harg3 arg4 harg4 arg5 harg5 arg6 harg6 arg8 harg8 arg13 x0 x1 x2 x3 x4 x5 x7) (Rect.unit (s := S2x1040x256) ![0, 0, 0] S1x1040x256.size inb_S2x1040x256_S1x1040x256_0_0_0).toLoadRect)
    (arg9.view.readAt (Elt Ideal) (Rect.unit (s := S3x5632) ![0, 2560] S3x256.size inb_S3x5632_S3x256_0_2560).toLoadRect (harg9.unread x8)) (arg10.view.readAt (Elt Ideal) (Rect.unit (s := S1x5632) ![0, 2560] S1x256.size inb_S1x5632_S1x256_0_2560).toLoadRect (harg10.unread x9))
    (arg14.view.readCov ((pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g2 g3).1 ++ two i arg1 harg1 arg2 harg2 arg3 harg3 arg4 harg4 arg5 harg5 arg6 harg6 arg8 harg8 arg13 x0 x1 x2 x3 x4 x5 x7) (Rect.unit (s := S2x1040x256) ![1, 0, 0] S1x1040x256.size inb_S2x1040x256_S1x1040x256_1_0_0).toLoadRect)
    (arg9.view.readAt (Elt Ideal) (Rect.unit (s := S3x5632) ![0, 5376] S3x256.size inb_S3x5632_S3x256_0_5376).toLoadRect (harg9.unread x8)) (arg10.view.readAt (Elt Ideal) (Rect.unit (s := S1x5632) ![0, 5376] S1x256.size inb_S1x5632_S1x256_0_5376).toLoadRect (harg10.unread x9)))]
  unfold run
  rfl

/-- The output block, of the blocks the body reads. -/
def outv (i : grid0.Coords) (x0 : Vec Ideal S8x1024 .f32) (x1 : Vec Ideal S1024x1024 .f32) (x2 : Vec Ideal S8x1024 .f32) (x3 : Vec Ideal S1x1024 .f32) (x4 : Vec Ideal S1x1x1024 .f32) (x5 : Vec Ideal S1x1x1024 .f32) (x6 : Vec Ideal S1x1x1024 .f32) (x7 : Vec Ideal S1024x5632 .bf16) (x8 : Vec Ideal S3x5632 .f32) (x9 : Vec Ideal S1x5632 .f32) (x10 : Vec Ideal S2816x1024 .bf16) (p d : Fin 1024) : EReal :=
  x1 (ix2 p d) + x6 (ix3 0 0 d) * ∑ q ∈ Finset.range 2816, gv (k0_pay43 (F := Ideal) (BitVec.ofNat 32 (i 0).val)) (halo (k0_pay33 (F := Ideal) i) (k0_pay34 (F := Ideal) i) x0 x1 x2 x3 x4 x5) x7 x8 x9 p.val q * wd x10 q d

theorem zeros_at (p d : Fin 1024) : k0_pay44 (F := Ideal) (ix2 p d) = 0 := by
  pointwise [k0_pay44]

set_option maxHeartbeats 600000 in
theorem run_at (p d : Fin 1024) : arg12.view.read (Elt Ideal) (arg12.view.writes (Elt Ideal) e (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 g0 g1 g2 g3 g4).1) (ix2 p d)
    = outv i x0 x1 x2 x3 x4 x5 x6 x7 x8 x9 x10 p d := by
  have eH : rows arg13 (arg13.view.writes (Elt Ideal) arg13.view.junk [⟨Rect.unit ![0, 0] S1040x1024.size inb_S1040x1024_S1040x1024_0_0, haloOf i arg1 harg1 arg2 harg2 arg3 harg3 arg4 harg4 arg5 harg5 arg6 harg6 x0 x1 x2 x3 x4 x5⟩]) = halo (k0_pay33 (F := Ideal) i) (k0_pay34 (F := Ideal) i) x0 x1 x2 x3 x4 x5 := first_eq i arg1 harg1 arg2 harg2 arg3 harg3 arg4 harg4 arg5 harg5 arg6 harg6 arg13 x0 x1 x2 x3 x4 x5
  have e8 : W8 arg8 (harg8.unread x7) = x7 := harg8.read_unread x7
  have e9 : T9 arg9 (harg9.unread x8) = x8 := harg9.read_unread x8
  have e10 : B10 arg10 (harg10.unread x9) = x9 := harg10.read_unread x9
  have e11 : D11 arg11 (harg11.unread x10) = x10 := harg11.read_unread x10
  have inv := trips_inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay43 (F := Ideal) (BitVec.ofNat 32 (i 0).val)) (harg8.unread x7) (harg9.unread x8) (harg10.unread x9) (harg11.unread x10) (arg13.view.writes (Elt Ideal) arg13.view.junk [⟨Rect.unit ![0, 0] S1040x1024.size inb_S1040x1024_S1040x1024_0_0, haloOf i arg1 harg1 arg2 harg2 arg3 harg3 arg4 harg4 arg5 harg5 arg6 harg6 x0 x1 x2 x3 x4 x5⟩])
    (G14 := (arg14.view.writes (Elt Ideal) arg14.view.junk (two i arg1 harg1 arg2 harg2 arg3 harg3 arg4 harg4 arg5 harg5 arg6 harg6 arg8 harg8 arg13 x0 x1 x2 x3 x4 x5 x7))) (G15 := g2) (G16 := g3) (G17 := (arg17.view.writes (Elt Ideal) arg17.view.junk [⟨Rect.unit ![0, 0] S1024x1024.size inb_S1024x1024_S1024x1024_0_0, k0_pay44 (F := Ideal)⟩])) (by
      unfold two
      rw [read_tile0, first_eq, eH]
      exact holds_mm _ _ _ _ 0 rfl) (by
      unfold two
      rw [read_tile1, first_eq, eH, mm2]
      exact holds_mm _ _ _ _ 2816 rfl) (fun p d => by
      rw [View.read_writes_full]
      exact zeros_at p d) k0_t1_loop.trips le_rfl
  obtain ⟨ha, hv, hs⟩ := inv
  rw [← View.writes_append] at ha hv
  rw [eH, e8] at ha hv
  rw [run_eq, View.read_writes_full]
  unfold outv
  refine (out_at _ (D11 arg11 (harg11.unread x10)) _ _ _ (gv (k0_pay43 (F := Ideal) (BitVec.ofNat 32 (i 0).val)) (halo (k0_pay33 (F := Ideal) i) (k0_pay34 (F := Ideal) i) x0 x1 x2 x3 x4 x5) x7 x8 x9) (fun p e => ?_) p d ?_).trans ?_
  · unfold lastGate
    have r := glu_gv (k0_pay43 (F := Ideal) (BitVec.ofNat 32 (i 0).val)) _ _ (T9 arg9 (harg9.unread x8)) (B10 arg10 (harg10.unread x9)) _ _ 2560 5376 rfl ha hv _ _ _ _
      inb_S3x5632_S3x256_0_2560 inb_S1x5632_S1x256_0_2560 inb_S3x5632_S3x256_0_5376 inb_S1x5632_S1x256_0_5376 rfl rfl rfl rfl p e
    refine r.trans ?_
    rw [e9, e10]
  · have r := hs p d
    rw [← View.writes_append, eH, e8, e9, e10] at r
    refine Eq.trans ?_ r
    unfold View.readCov
    rw [View.readAt_full]
  · rw [e11, View.readAt_full, View.readAt_full, harg2.read_unread, harg7.read_unread]

end Cert.Kernel2Ideal.Ffn

end
-- ==== Proof.Ffn.Spec.lean ====
/- The feed-forward network as one function of the whole arrays, and the body's block as its rows. -/
module

public import proofs.«01_k».proof.Proof.Ffn.Norm

@[expose] public section

set_option maxRecDepth 16384

noncomputable section

namespace Cert.Kernel2Ideal.Ffn

open Idealize.ShloMosaic Idealize.ShloMosaic.TcCoe
open Cert.Kernel2Ideal.Gen

/-- The modulation's row for the array's row `R`. -/
def mrow (R : ℕ) : ℕ := if R < 4096 then 0 else (R - 4096) / 2048 + 1

/-- Row `R` opens its sequence, -/
abbrev opens (R : ℕ) : Prop := (R < 4096 ∧ R % 256 = 0) ∨ (4096 ≤ R ∧ R % 2048 = 0)
/-- or closes it. -/
abbrev closes (R : ℕ) : Prop := (R < 4096 ∧ (R + 1) % 256 = 0) ∨ (4096 ≤ R ∧ (R + 1) % 2048 = 0)

/-- Row `R` of the array, zero outside. -/
def xr (x0 : Vec Ideal S12288x1024 .f32) (R : ℕ) (d : Fin 1024) : EReal := if h : R < 12288 then x0 (ix2 ⟨R, h⟩ d) else 0

/-- The `j`-th of the six modulations for the array's row `R`. -/
def md (x1 : Vec Ideal S8x1x6144 .f32) (j : Fin 6) (R : ℕ) (d : Fin 1024) : EReal :=
  if h : mrow R < 8 then x1 (ix3 ⟨mrow R, h⟩ 0 ⟨1024 * j.val + d.val, by omega⟩) else 0

variable (x0 : Vec Ideal S12288x1024 .f32) (x1 : Vec Ideal S8x1x6144 .f32) (x2 : Vec Ideal S1x1024 .f32) (x3 : Vec Ideal S1024x5632 .bf16)
    (x4 : Vec Ideal S3x5632 .f32) (x5 : Vec Ideal S1x5632 .f32) (x6 : Vec Ideal S2816x1024 .bf16)

/-- The modulated norm of row `R`, -/
def HN (R : ℕ) (d : Fin 1024) : EReal := nrm (xr x0 R) (fun k => x2 (ix2 0 k)) (md x1 3 R) (md x1 4 R) d
/-- widened at column `q`, -/
def U (R q : ℕ) : EReal := ∑ k : Fin 1024, HN x0 x1 x2 R k * wu x3 k q
/-- convolved along its sequence, -/
def CV (R q : ℕ) : EReal :=
  (if opens R then 0 else U x0 x1 x2 x3 (R - 1) q) * tap x4 0 q + U x0 x1 x2 x3 R q * tap x4 1 q
    + (if closes R then 0 else U x0 x1 x2 x3 (R + 1) q) * tap x4 2 q + bias x5 q
/-- gated, -/
def GV (R q : ℕ) : EReal := act (CV x0 x1 x2 x3 x4 x5 R q) (CV x0 x1 x2 x3 x4 x5 R (q + 2816))
/-- and narrowed, gated again and added to the row. -/
def OUT (R : ℕ) (d : Fin 1024) : EReal :=
  xr x0 R d + md x1 5 R d * ∑ q ∈ Finset.range 2816, GV x0 x1 x2 x3 x4 x5 R q * wd x6 q d

theorem md_congr (j : Fin 6) (R R' : ℕ) (h : mrow R = mrow R') (d : Fin 1024) : md x1 j R d = md x1 j R' d := by
  unfold md
  simp only [h]

theorem HN_congr (R R' : ℕ) (h : mrow R = mrow R') (x : Fin 1024 → EReal) (hx : ∀ k, x k = xr x0 R k) (d : Fin 1024) :
    nrm x (fun k => x2 (ix2 0 k)) (md x1 3 R') (md x1 4 R') d = HN x0 x1 x2 R d := by
  unfold HN
  rw [show x = xr x0 R from funext hx, show md x1 3 R' = md x1 3 R from funext fun d => md_congr x1 3 _ _ h.symm d,
    show md x1 4 R' = md x1 4 R from funext fun d => md_congr x1 4 _ _ h.symm d]

variable (t : ℕ) (ht : t < 12) (kc kp kn : EReal) (X0 : Vec Ideal S8x1024 .f32) (X1 : Vec Ideal S1024x1024 .f32) (X2 : Vec Ideal S8x1024 .f32)
    (sh sc : Vec Ideal S1x1x1024 .f32)
    (hkc : kc = if 1024 * t < 4096 then 0 else 1) (hkp : kp = if opens (1024 * t) then 0 else 1)
    (hkn : kn = if closes (1024 * t + 1023) then 0 else 1)
    (h0 : 0 < t → ∀ k, X0 (ix2 7 k) = xr x0 (1024 * t - 1) k) (h1 : ∀ (p : Fin 1024) (k : Fin 1024), X1 (ix2 p k) = xr x0 (1024 * t + p.val) k)
    (h2 : t < 11 → ∀ k, X2 (ix2 0 k) = xr x0 (1024 * t + 1024) k)
    (hsh : ∀ k, sh (ix3 0 0 k) = md x1 3 (1024 * t) k) (hsc : ∀ k, sc (ix3 0 0 k) = md x1 4 (1024 * t) k)

include ht in
theorem mrow_block (p : ℕ) (hp : p < 1024) : mrow (1024 * t + p) = mrow (1024 * t) := by
  unfold mrow
  split_ifs <;> omega

include ht h1 hsh hsc in
theorem wide_main (p : ℕ) (hp : p < 1024) (q : ℕ) : wide (halo kp kn X0 X1 X2 x2 sh sc) x3 (p + 8) q = U x0 x1 x2 x3 (1024 * t + p) q := by
  unfold wide U
  refine Finset.sum_congr rfl fun k _ => congrArg (· * wu x3 k q) ?_
  rw [halo_main kp kn X0 X1 X2 x2 sh sc p hp k]
  rw [show (fun k => sh (ix3 0 0 k)) = md x1 3 (1024 * t) from funext hsh, show (fun k => sc (ix3 0 0 k)) = md x1 4 (1024 * t) from funext hsc]
  exact HN_congr x0 x1 x2 (1024 * t + p) (1024 * t) (mrow_block t ht p hp) _ (fun k => h1 ⟨p, hp⟩ k) k

include ht hkp h0 hsh hsc in
theorem wide_prev (q : ℕ) : wide (halo kp kn X0 X1 X2 x2 sh sc) x3 7 q = if opens (1024 * t) then 0 else U x0 x1 x2 x3 (1024 * t - 1) q := by
  unfold wide
  simp only [halo_prev kp kn X0 X1 X2 x2 sh sc]
  rw [hkp]
  split
  · simp only [mul_zero, zero_mul, Finset.sum_const_zero]
  · rename_i ho
    unfold U
    refine Finset.sum_congr rfl fun k _ => congrArg (· * wu x3 k q) ?_
    rw [mul_one, show (fun k => sh (ix3 0 0 k)) = md x1 3 (1024 * t) from funext hsh, show (fun k => sc (ix3 0 0 k)) = md x1 4 (1024 * t) from funext hsc]
    refine HN_congr x0 x1 x2 (1024 * t - 1) (1024 * t) ?_ _ (h0 (by omega)) k
    unfold mrow
    split_ifs <;> omega

include ht hkn h2 hsh hsc in
theorem wide_next (q : ℕ) : wide (halo kp kn X0 X1 X2 x2 sh sc) x3 1032 q = if closes (1024 * t + 1023) then 0 else U x0 x1 x2 x3 (1024 * t + 1024) q := by
  unfold wide
  simp only [halo_next kp kn X0 X1 X2 x2 sh sc]
  rw [hkn]
  split
  · simp only [mul_zero, zero_mul, Finset.sum_const_zero]
  · rename_i ho
    unfold U
    refine Finset.sum_congr rfl fun k _ => congrArg (· * wu x3 k q) ?_
    rw [mul_one, show (fun k => sh (ix3 0 0 k)) = md x1 3 (1024 * t) from funext hsh, show (fun k => sc (ix3 0 0 k)) = md x1 4 (1024 * t) from funext hsc]
    refine HN_congr x0 x1 x2 (1024 * t + 1024) (1024 * t) ?_ _ (h2 (by omega)) k
    unfold mrow
    split_ifs <;> omega

include ht hkc hkp hkn h0 h1 h2 hsh hsc in
theorem cv_block (p : Fin 1024) (q : ℕ) : cvq kc (halo kp kn X0 X1 X2 x2 sh sc) x3 x4 x5 p.val q = CV x0 x1 x2 x3 x4 x5 (1024 * t + p.val) q := by
  have hp := p.isLt
  have hm := wide_main x0 x1 x2 x3 t ht kp kn X0 X1 X2 sh sc h1 hsh hsc
  have eb : wide (halo kp kn X0 X1 X2 x2 sh sc) x3 (p.val + 7) q * cutb kc p.val
      = if opens (1024 * t + p.val) then 0 else U x0 x1 x2 x3 (1024 * t + p.val - 1) q := by
    by_cases h : p.val = 0
    · rw [h, Nat.zero_add, wide_prev x0 x1 x2 x3 t ht kp kn X0 X1 X2 sh sc hkp h0 hsh hsc q]
      unfold cutb
      rw [if_neg (show ¬((0 : ℕ) = 256 ∨ (0 : ℕ) = 512 ∨ (0 : ℕ) = 768) by omega), mul_one]
      rfl
    · have e := hm (p.val - 1) (by omega) q
      rw [show p.val - 1 + 8 = p.val + 7 by omega, show 1024 * t + (p.val - 1) = 1024 * t + p.val - 1 by omega] at e
      rw [e]
      unfold cutb
      rw [hkc]
      split_ifs <;> first
        | (exfalso; omega)
        | rw [mul_zero]
        | rw [mul_one]
  have ea : wide (halo kp kn X0 X1 X2 x2 sh sc) x3 (p.val + 9) q * cuta kc p.val
      = if closes (1024 * t + p.val) then 0 else U x0 x1 x2 x3 (1024 * t + p.val + 1) q := by
    by_cases h : p.val = 1023
    · rw [h, wide_next x0 x1 x2 x3 t ht kp kn X0 X1 X2 sh sc hkn h2 hsh hsc q]
      unfold cuta
      rw [if_neg (show ¬((1023 : ℕ) = 255 ∨ (1023 : ℕ) = 511 ∨ (1023 : ℕ) = 767) by omega), mul_one]
    · have e := hm (p.val + 1) (by omega) q
      rw [show p.val + 1 + 8 = p.val + 9 by omega, show 1024 * t + (p.val + 1) = 1024 * t + p.val + 1 by omega] at e
      rw [e]
      unfold cuta
      rw [hkc]
      split_ifs <;> first
        | (exfalso; omega)
        | rw [mul_zero]
        | rw [mul_one]
  unfold cvq cv CV
  dsimp only
  rw [eb, ea, hm p.val hp q]

include ht hkc hkp hkn h0 h1 h2 hsh hsc in
theorem out_block (gt : Vec Ideal S1x1x1024 .f32) (hgt : ∀ k, gt (ix3 0 0 k) = md x1 5 (1024 * t) k) (p d : Fin 1024) :
    X1 (ix2 p d) + gt (ix3 0 0 d) * ∑ q ∈ Finset.range 2816, gv kc (halo kp kn X0 X1 X2 x2 sh sc) x3 x4 x5 p.val q * wd x6 q d
      = OUT x0 x1 x2 x3 x4 x5 x6 (1024 * t + p.val) d := by
  have hc := cv_block x0 x1 x2 x3 x4 x5 t ht kc kp kn X0 X1 X2 sh sc hkc hkp hkn h0 h1 h2 hsh hsc p
  unfold OUT gv GV
  simp only [hc]
  rw [h1, hgt, md_congr x1 5 _ _ (mrow_block t ht p.val p.isLt).symm]

end Cert.Kernel2Ideal.Ffn

end
-- ==== Proof.Ffn.Blocks.lean ====
/- The blocks each grid point reads, and the result array after the run. -/
module

public import proofs.«01_k».proof.Proof.Ffn.FrameIdeal
public import proofs.«01_k».proof.Proof.Ffn.End
public import proofs.«01_k».proof.Proof.Ffn.Spec
public import proofs.«01_k».proof.Proof.Gen.Kernel2Ideal.Points
public import Idealize.ShloMosaic.Lib.Pipeline.ValueKit.Geometry

@[expose] public section

set_option maxRecDepth 16384

noncomputable section

namespace Cert.Kernel2Ideal.Ffn

open Idealize.ShloMosaic Idealize.SL.Sem Idealize.ShloMosaic.TcCoe
open Cert.Kernel2Ideal.Gen
open Idealize.ShloMosaic.Pipeline (Dat)

variable (m : (ℓ : Loc nD τ sig) → Buf (Elt Ideal) ℓ) (c : Dev nD)

theorem e0 : ∀ t, win0_0.index t = ![128 * t.val - 1, 0] := (by decide +kernel : ∀ t : Fin grid0.N, win0_0.index t = ![128 * t.val - 1, 0])
theorem e1 : ∀ t, win0_1.index t = ![t.val, 0] := (by decide +kernel : ∀ t : Fin grid0.N, win0_1.index t = ![t.val, 0])
theorem e2 : ∀ t, win0_2.index t = ![min (128 * t.val + 128) 1535, 0] :=
  (by decide +kernel : ∀ t : Fin grid0.N, win0_2.index t = ![min (128 * t.val + 128) 1535, 0])
theorem e3 : ∀ t, win0_3.index t = ![0, 0] := (by decide +kernel : ∀ t : Fin grid0.N, win0_3.index t = ![0, 0])
theorem e4 : ∀ t, win0_4.index t = ![mrow (1024 * t.val), 0, 3] := (by decide +kernel : ∀ t : Fin grid0.N, win0_4.index t = ![mrow (1024 * t.val), 0, 3])
theorem e5 : ∀ t, win0_5.index t = ![mrow (1024 * t.val), 0, 4] := (by decide +kernel : ∀ t : Fin grid0.N, win0_5.index t = ![mrow (1024 * t.val), 0, 4])
theorem e6 : ∀ t, win0_6.index t = ![mrow (1024 * t.val), 0, 5] := (by decide +kernel : ∀ t : Fin grid0.N, win0_6.index t = ![mrow (1024 * t.val), 0, 5])
theorem e7 : ∀ t, win0_7.index t = ![0, 0] := (by decide +kernel : ∀ t : Fin grid0.N, win0_7.index t = ![0, 0])
theorem e8 : ∀ t, win0_8.index t = ![0, 0] := (by decide +kernel : ∀ t : Fin grid0.N, win0_8.index t = ![0, 0])
theorem e9 : ∀ t, win0_9.index t = ![0, 0] := (by decide +kernel : ∀ t : Fin grid0.N, win0_9.index t = ![0, 0])
theorem e10 : ∀ t, win0_10.index t = ![0, 0] := (by decide +kernel : ∀ t : Fin grid0.N, win0_10.index t = ![0, 0])
theorem e11 : ∀ t, win0_11.index t = ![t.val, 0] := (by decide +kernel : ∀ t : Fin grid0.N, win0_11.index t = ![t.val, 0])

theorem t_lt (t : Fin cfg0.N) : t.val < 12 := (by decide +kernel : ∀ t : Fin grid0.N, t.val < 12) t
theorem mrow_lt (t : Fin cfg0.N) : mrow (1024 * t.val) < 8 := (by decide +kernel : ∀ t : Fin grid0.N, mrow (1024 * t.val) < 8) t

theorem blk0 (t : Fin cfg0.N) (ht0 : 0 < t.val) (k : Fin 1024) (i : S12288x1024.Idx) (h0 : (i 0).val = 1024 * t.val - 1) (h1 : (i 1).val = k.val) :
    iblk m c 0 t (ix2 7 k) = m ((c : Thread nD τ).loc main_arg0) i := by
  have ht := t_lt t
  unfold iblk
  rw [show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    refine Eq.trans ?_ h0.symm
    try omega
  | ⟨1, _⟩ =>
    blk_simp [e0]
    refine Eq.trans ?_ h1.symm
    try omega

theorem blk1 (t : Fin cfg0.N) (p k : Fin 1024) (i : S12288x1024.Idx) (h0 : (i 0).val = 1024 * t.val + p.val) (h1 : (i 1).val = k.val) :
    iblk m c 1 t (ix2 p k) = m ((c : Thread nD τ).loc main_arg0) i := by
  have ht := t_lt t
  unfold iblk
  rw [show V m c (Pipeline.arrRef spec0 1) = m ((c : Thread nD τ).loc main_arg0) from V_main_arg0 m c]
  show m ((c : Thread nD τ).loc main_arg0) _ = _
  congr 1
  funext a
  apply Fin.ext
  match a with
  | ⟨0, _⟩ =>
    blk_simp [e1]
    refine Eq.trans ?_ h0.symm
    try omega
  | ⟨1, _⟩ =>
    blk_simp [e1]
    refine Eq.trans ?_ h1.symm
    try omega

theorem blk2 (t : Fin cfg0.N) (ht0 : t.val < 11) (k : Fin 1024) (i : S12288x1024.Idx) (h0 : (i 0).val = 1024 * t.val + 1024) (h1 : (i 1).val = k.val) :
    iblk m c 2 t (ix2 0 k) = m ((c : Thread nD τ).loc main_arg0) i := by
  have ht := t_lt t
  unfold iblk
  rw [show V m c (Pipeline.arrRef spec0 2) = m ((c : Thread nD τ).loc main_arg0) from V_main_arg0 m c]
  show m ((c : Thread nD τ).loc main_arg0) _ = _
  congr 1
  funext a
  apply Fin.ext
  match a with
  | ⟨0, _⟩ =>
    blk_simp [e2]
    refine Eq.trans ?_ h0.symm
    try omega
  | ⟨1, _⟩ =>
    blk_simp [e2]
    refine Eq.trans ?_ h1.symm
    try omega

theorem blk4 (t : Fin cfg0.N) (k : Fin 1024) (i : S8x1x6144.Idx) (h0 : (i 0).val = mrow (1024 * t.val)) (h1 : (i 1).val = 0) (h2 : (i 2).val = 3072 + k.val) :
    iblk m c 4 t (ix3 0 0 k) = m ((c : Thread nD τ).loc main_arg1) i := by
  have ht := t_lt t
  unfold iblk
  rw [show V m c (Pipeline.arrRef spec0 4) = m ((c : Thread nD τ).loc main_arg1) from V_main_arg1 m c]
  show m ((c : Thread nD τ).loc main_arg1) _ = _
  congr 1
  funext a
  apply Fin.ext
  match a with
  | ⟨0, _⟩ =>
    blk_simp [e4]
    refine Eq.trans ?_ h0.symm
    try omega
  | ⟨1, _⟩ =>
    blk_simp [e4]
    first | rfl | omega
  | ⟨2, _⟩ =>
    blk_simp [e4]
    refine Eq.trans ?_ h2.symm
    try omega

theorem blk5 (t : Fin cfg0.N) (k : Fin 1024) (i : S8x1x6144.Idx) (h0 : (i 0).val = mrow (1024 * t.val)) (h1 : (i 1).val = 0) (h2 : (i 2).val = 4096 + k.val) :
    iblk m c 5 t (ix3 0 0 k) = m ((c : Thread nD τ).loc main_arg1) i := by
  have ht := t_lt t
  unfold iblk
  rw [show V m c (Pipeline.arrRef spec0 5) = m ((c : Thread nD τ).loc main_arg1) from V_main_arg1 m c]
  show m ((c : Thread nD τ).loc main_arg1) _ = _
  congr 1
  funext a
  apply Fin.ext
  match a with
  | ⟨0, _⟩ =>
    blk_simp [e5]
    refine Eq.trans ?_ h0.symm
    try omega
  | ⟨1, _⟩ =>
    blk_simp [e5]
    first | rfl | omega
  | ⟨2, _⟩ =>
    blk_simp [e5]
    refine Eq.trans ?_ h2.symm
    try omega

theorem blk6 (t : Fin cfg0.N) (k : Fin 1024) (i : S8x1x6144.Idx) (h0 : (i 0).val = mrow (1024 * t.val)) (h1 : (i 1).val = 0) (h2 : (i 2).val = 5120 + k.val) :
    iblk m c 6 t (ix3 0 0 k) = m ((c : Thread nD τ).loc main_arg1) i := by
  have ht := t_lt t
  unfold iblk
  rw [show V m c (Pipeline.arrRef spec0 6) = m ((c : Thread nD τ).loc main_arg1) from V_main_arg1 m c]
  show m ((c : Thread nD τ).loc main_arg1) _ = _
  congr 1
  funext a
  apply Fin.ext
  match a with
  | ⟨0, _⟩ =>
    blk_simp [e6]
    refine Eq.trans ?_ h0.symm
    try omega
  | ⟨1, _⟩ =>
    blk_simp [e6]
    first | rfl | omega
  | ⟨2, _⟩ =>
    blk_simp [e6]
    refine Eq.trans ?_ h2.symm
    try omega

theorem blk3 (t : Fin cfg0.N) : iblk m c 3 t = m ((c : Thread nD τ).loc main_arg2) := by
  unfold iblk
  rw [show V m c (Pipeline.arrRef spec0 3) = m ((c : Thread nD τ).loc main_arg2) from V_main_arg2 m c]
  funext i
  show m ((c : Thread nD τ).loc main_arg2) _ = _
  congr 1
  funext a
  apply Fin.ext
  match a with
  | ⟨0, _⟩ =>
    blk_simp [e3]
  | ⟨1, _⟩ =>
    blk_simp [e3]

theorem blk7 (t : Fin cfg0.N) : iblk m c 7 t = m ((c : Thread nD τ).loc main_arg3) := by
  unfold iblk
  rw [show V m c (Pipeline.arrRef spec0 7) = m ((c : Thread nD τ).loc main_arg3) from V_main_arg3 m c]
  funext i
  show m ((c : Thread nD τ).loc main_arg3) _ = _
  congr 1
  funext a
  apply Fin.ext
  match a with
  | ⟨0, _⟩ =>
    blk_simp [e7]
  | ⟨1, _⟩ =>
    blk_simp [e7]

theorem blk8 (t : Fin cfg0.N) : iblk m c 8 t = m ((c : Thread nD τ).loc main_arg4) := by
  unfold iblk
  rw [show V m c (Pipeline.arrRef spec0 8) = m ((c : Thread nD τ).loc main_arg4) from V_main_arg4 m c]
  funext i
  show m ((c : Thread nD τ).loc main_arg4) _ = _
  congr 1
  funext a
  apply Fin.ext
  match a with
  | ⟨0, _⟩ =>
    blk_simp [e8]
  | ⟨1, _⟩ =>
    blk_simp [e8]

theorem blk9 (t : Fin cfg0.N) : iblk m c 9 t = m ((c : Thread nD τ).loc main_arg5) := by
  unfold iblk
  rw [show V m c (Pipeline.arrRef spec0 9) = m ((c : Thread nD τ).loc main_arg5) from V_main_arg5 m c]
  funext i
  show m ((c : Thread nD τ).loc main_arg5) _ = _
  congr 1
  funext a
  apply Fin.ext
  match a with
  | ⟨0, _⟩ =>
    blk_simp [e9]
  | ⟨1, _⟩ =>
    blk_simp [e9]

theorem blk10 (t : Fin cfg0.N) : iblk m c 10 t = m ((c : Thread nD τ).loc main_arg6) := by
  unfold iblk
  rw [show V m c (Pipeline.arrRef spec0 10) = m ((c : Thread nD τ).loc main_arg6) from V_main_arg6 m c]
  funext i
  show m ((c : Thread nD τ).loc main_arg6) _ = _
  congr 1
  funext a
  apply Fin.ext
  match a with
  | ⟨0, _⟩ =>
    blk_simp [e10]
  | ⟨1, _⟩ =>
    blk_simp [e10]

/-- The three factors that cut the rows of other sequences off. -/
theorem cut_at : ∀ t : Fin cfg0.N, k0_pay43 (F := Ideal) (BitVec.ofNat 32 (grid0.coords t 0).val) = if 1024 * t.val < 4096 then 0 else 1 := by
  have h : ∀ t : Fin grid0.N, Scalar.cmpi .slt (Scalar.muli (BitVec.ofNat 32 (grid0.coords t 0).val) 1024#32) 4096#32
      = if 1024 * t.val < 4096 then 1#1 else 0#1 := by decide +kernel
  intro t
  unfold k0_pay43
  dsimp only
  rw [h t]
  split
  · exact word0
  · exact word1

theorem first_at : ∀ t : Fin cfg0.N, k0_pay33 (F := Ideal) (grid0.coords t) = if opens (1024 * t.val) then 0 else 1 := by
  have h : ∀ t : Fin grid0.N, Scalar.cmpi .eq (Scalar.andi (Scalar.muli (BitVec.ofNat 32 (grid0.coords t 0).val) 1024#32)
      (Scalar.subi (Scalar.select (Scalar.cmpi .slt (Scalar.muli (BitVec.ofNat 32 (grid0.coords t 0).val) 1024#32) 4096#32) 256#32 2048#32) 1#32)) 0#32
      = if opens (1024 * t.val) then 1#1 else 0#1 := by decide +kernel
  intro t
  unfold k0_pay33
  dsimp only
  rw [h t]
  split
  · exact word0
  · exact word1

theorem last_at : ∀ t : Fin cfg0.N, k0_pay34 (F := Ideal) (grid0.coords t) = if closes (1024 * t.val + 1023) then 0 else 1 := by
  have h : ∀ t : Fin grid0.N, Scalar.cmpi .eq (Scalar.andi (Scalar.muli (Scalar.addi (BitVec.ofNat 32 (grid0.coords t 0).val) 1#32) 1024#32)
      (Scalar.subi (Scalar.select (Scalar.cmpi .slt (Scalar.muli (BitVec.ofNat 32 (grid0.coords t 0).val) 1024#32) 4096#32) 256#32 2048#32) 1#32)) 0#32
      = if closes (1024 * t.val + 1023) then 1#1 else 0#1 := by decide +kernel
  intro t
  unfold k0_pay34
  dsimp only
  rw [h t]
  split
  · exact word0
  · exact word1

/-- The network's result at the array's row `R`, of the call's arguments. -/
abbrev outm (R : ℕ) (d : Fin 1024) : EReal :=
  OUT (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) R d

/-- What the body leaves in the output block of point `t`: rows `1024 t` on of the result. -/
def outs : Outs Ideal := fun c t x => outm m c (1024 * t.val + (x 0).val) (x 1)

theorem mod_at (t : Fin cfg0.N) (j : Fin 6) (k : Fin 1024) (z : EReal)
    (hz : ∀ i : S8x1x6144.Idx, (i 0).val = mrow (1024 * t.val) → (i 1).val = 0 → (i 2).val = 1024 * j.val + k.val → z = m ((c : Thread nD τ).loc main_arg1) i) :
    z = md (m ((c : Thread nD τ).loc main_arg1)) j (1024 * t.val) k := by
  unfold md
  rw [dif_pos (mrow_lt t)]
  exact hz _ rfl rfl rfl

theorem row_at (R : ℕ) (hR : R < 12288) (k : Fin 1024) (z : EReal)
    (hz : ∀ i : S12288x1024.Idx, (i 0).val = R → (i 1).val = k.val → z = m ((c : Thread nD τ).loc main_arg0) i) :
    z = xr (m ((c : Thread nD τ).loc main_arg0)) R k := by
  unfold xr
  rw [dif_pos hR]
  exact hz _ rfl rfl

theorem ends : Ends m (outs m) := by
  intro c t g0 g1 g2 g3 g4 e
  funext (x : S1024x1024.Idx)
  obtain ⟨p, d, rfl⟩ : ∃ (p d : Fin 1024), x = ix2 p d := ⟨x 0, x 1, funext fun a => match a with | ⟨0, _⟩ => rfl | ⟨1, _⟩ => rfl⟩
  unfold pieces
  rw [run_at]
  unfold outv
  rw [blk3, blk7, blk8, blk9, blk10]
  have ht := t_lt t
  exact out_block _ _ _ _ _ _ _ t.val ht _ _ _ (iblk m c 0 t) (iblk m c 1 t) (iblk m c 2 t) (iblk m c 4 t) (iblk m c 5 t)
    (cut_at t) (first_at t) (last_at t)
    (fun h k => row_at m c _ (by omega) k _ fun i i0 i1 => blk0 m c t h k i i0 i1)
    (fun p k => row_at m c _ (by omega) k _ fun i i0 i1 => blk1 m c t p k i i0 i1)
    (fun h k => row_at m c _ (by omega) k _ fun i i0 i1 => blk2 m c t h k i i0 i1)
    (fun k => mod_at m c t 3 k _ fun i i0 i1 i2 => blk4 m c t k i i0 i1 i2)
    (fun k => mod_at m c t 4 k _ fun i i0 i1 i2 => blk5 m c t k i i0 i1 i2)
    (iblk m c 6 t) (fun k => mod_at m c t 5 k _ fun i i0 i1 i2 => blk6 m c t k i i0 i1 i2) p d

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (Fin.ext (by
    have h' : win0_11.index t = win0_11.index t' := h
    rw [e11, e11] at h'
    exact congrFun h' 0))

/-- The result array after the run, at row `R`. -/
theorem arr_at (R : Fin 12288) (d : Fin 1024) : (dats m (outs m) 0 c).arrAt 11 cfg0.N (ix2 R d) = outm m c R.val d := by
  have hR := R.isLt
  have ht : R.val / 1024 < 12 := by omega
  let t : Fin cfg0.N := ⟨R.val / 1024, ht⟩
  have hw := congrFun ((dats m (outs m) 0 c).read_blk_arrAt_eq_flushed 11 disjoint11 cfg0.N t t.isLt (flush0_11 t))
    (ix2 (⟨R.val % 1024, by omega⟩ : Fin 1024) d)
  refine Eq.trans ?_ (hw.trans ?_)
  · generalize (dats m (outs m) 0 c).arrAt 11 cfg0.N = X
    show X _ = X _
    congr 1
    funext a
    apply Fin.ext
    match a with
    | ⟨0, _⟩ =>
      blk_simp [e11]
      show R.val = R.val / 1024 * 1024 + R.val % 1024
      omega
    | ⟨1, _⟩ =>
      blk_simp [e11]
  · show outm m c (1024 * (R.val / 1024) + R.val % 1024) d = _
    rw [Nat.div_add_mod]

end Cert.Kernel2Ideal.Ffn

end
-- ==== Proof.Ffn.Ref.lean ====
/- The reference's result, element by element: the network of the specification. -/
module

public import proofs.«01_k».proof.Proof.Gen.Reference2Ideal.Read
public import proofs.«01_k».proof.Proof.Ffn.Spec
public import Idealize.ShloMosaic.Lib.Pointwise
public import Idealize.ShloMosaic.Lib.KernelVsHost

@[expose] public section

set_option maxRecDepth 16384

noncomputable section

namespace Cert.Reference2Ideal.Ffn

open Idealize.ShloMosaic Idealize.SL.Sem Cert.Reference2Ideal Cert.Reference2Ideal.Gen Cert.Reference2Ideal.Read Idealize.ShloMosaic.TcCoe
open Cert.Kernel2Ideal.Ffn (xr md mrow HN U CV GV OUT wu wd tap bias act nrm opens closes word0 word1)

variable (x0 : Vec Ideal S12288x1024 .f32) (x1 : Vec Ideal S8x1x6144 .f32) (x2 : Vec Ideal S1x1024 .f32) (x3 : Vec Ideal S1024x5632 .bf16)
    (x4 : Vec Ideal S3x5632 .f32) (x5 : Vec Ideal S1x5632 .f32) (x6 : Vec Ideal S2816x1024 .bf16)

/-- The activation written as a product with the logistic function is the quotient. -/
theorem silu (a v : EReal) :
    a * Ideal.div (Ideal.ofBits .f32 0x3F800000#32) (Ideal.ofBits .f32 0x3F800000#32 + Ideal.exp (-a)) * v = act a v := by
  have hz : (1 : EReal) + Ideal.exp (-a) ≠ 0 := by
    have h0 : (0 : EReal) ≤ Ideal.exp (-a) := by
      induction -a with
      | bot => exact le_refl _
      | top => exact le_top
      | coe r => exact EReal.coe_nonneg.mpr (Real.exp_pos r).le
    have : (0 : EReal) < 1 + Ideal.exp (-a) := lt_of_lt_of_le zero_lt_one (le_add_of_nonneg_right h0)
    exact this.ne'
  unfold act
  rw [word1, zero_sub]
  unfold Ideal.div
  rw [if_neg hz, if_neg hz, one_mul]

section Prompts

/-- Row `b`, `s` of this half of the rows. -/
theorem rowP (b : Fin 16) (s : Fin 256) (d : Fin 1024) : val_main_v1 (F := Ideal) x0 (ix3 b s d) = xr x0 (256 * b.val + s.val) d := by
  have hb := b.isLt
  have hs := s.isLt
  have hd := d.isLt
  unfold xr
  rw [dif_pos (by omega), val_main_v1_apply, val_main_v0_apply]
  refine congrArg x0 (funext fun a => Fin.ext ?_)
  match a with
  | ⟨0, _⟩ => show ((b.val * 256 + s.val) * 1024 + d.val) / 1024 = 256 * b.val + s.val; omega
  | ⟨1, _⟩ => show ((b.val * 256 + s.val) * 1024 + d.val) % 1024 = d.val; omega

theorem mrowP (b : Fin 16) (s : Fin 256) : mrow (256 * b.val + s.val) = 0 := by
  have hb := b.isLt
  have hs := s.isLt
  unfold mrow
  rw [if_pos (by omega)]

/-- The shift, -/
theorem mod3P (b : Fin 16) (s : Fin 256) (d : Fin 1024) :
    val_main_v3 (F := Ideal) x1 (ix3 0 0 d) = md x1 3 (256 * b.val + s.val) d := by
  have hb := b.isLt
  have hm := mrowP b s
  unfold md
  rw [dif_pos (by omega), val_main_v3_apply, val_main_v2_apply]
  refine congrArg x1 (funext fun a => Fin.ext ?_)
  match a with
  | ⟨0, _⟩ => exact hm.symm
  | ⟨1, _⟩ => rfl
  | ⟨2, _⟩ => rfl

/-- the scale -/
theorem mod4P (b : Fin 16) (s : Fin 256) (d : Fin 1024) :
    val_main_v4 (F := Ideal) x1 (ix3 0 0 d) = md x1 4 (256 * b.val + s.val) d := by
  have hb := b.isLt
  have hm := mrowP b s
  unfold md
  rw [dif_pos (by omega), val_main_v4_apply, val_main_v2_apply]
  refine congrArg x1 (funext fun a => Fin.ext ?_)
  match a with
  | ⟨0, _⟩ => exact hm.symm
  | ⟨1, _⟩ => rfl
  | ⟨2, _⟩ => rfl

/-- and the gate. -/
theorem mod5P (b : Fin 16) (s : Fin 256) (d : Fin 1024) :
    val_main_v5 (F := Ideal) x1 (ix3 0 0 d) = md x1 5 (256 * b.val + s.val) d := by
  have hb := b.isLt
  have hm := mrowP b s
  unfold md
  rw [dif_pos (by omega), val_main_v5_apply, val_main_v2_apply]
  refine congrArg x1 (funext fun a => Fin.ext ?_)
  match a with
  | ⟨0, _⟩ => exact hm.symm
  | ⟨1, _⟩ => rfl
  | ⟨2, _⟩ => rfl

/-- The modulated norm. -/
theorem normP (b : Fin 16) (s : Fin 256) (d : Fin 1024) : val_main_v25 (F := Ideal) x0 x1 x2 (ix3 b s d) = HN x0 x1 x2 (256 * b.val + s.val) d := by
  have h : val_main_v25 (F := Ideal) x0 x1 x2 (ix3 b s d) = nrm (fun k => val_main_v1 (F := Ideal) x0 (ix3 b s k)) (fun k => x2 (ix2 0 k))
      (fun k => val_main_v3 (F := Ideal) x1 (ix3 0 0 k)) (fun k => val_main_v4 (F := Ideal) x1 (ix3 0 0 k)) d := by
    pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, nrm]
  rw [h]
  unfold HN
  simp only [rowP]
  rw [show (fun k => val_main_v3 (F := Ideal) x1 (ix3 0 0 k)) = md x1 3 (256 * b.val + s.val) from funext fun k => mod3P x1 b s k,
    show (fun k => val_main_v4 (F := Ideal) x1 (ix3 0 0 k)) = md x1 4 (256 * b.val + s.val) from funext fun k => mod4P x1 b s k]

/-- The widened rows. -/
theorem wideP (b : Fin 16) (s : Fin 256) (q : Fin 5632) :
    val_main_v27 (F := Ideal) x0 x1 x2 x3 (ix3 b s q) = U x0 x1 x2 x3 (256 * b.val + s.val) q.val := by
  rw [val_main_v27_apply]
  unfold U wu
  refine Finset.sum_congr rfl fun k _ => ?_
  rw [dif_pos q.isLt, ← normP x0 x1 x2 b s k]
  refine congrArg₂ (· * ·) (congrArg _ ?_) ((val_main_v26_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

/-- The row before, nothing before the first, -/
theorem beforeP (b : Fin 16) (s : Fin 256) (q : Fin 5632) : val_main_v30 (F := Ideal) x0 x1 x2 x3 (ix3 b s q)
    = if opens (256 * b.val + s.val) then 0 else U x0 x1 x2 x3 (256 * b.val + s.val - 1) q.val := by
  have hb := b.isLt
  have hs := s.isLt
  have h : val_main_v30 (F := Ideal) x0 x1 x2 x3 (ix3 b s q)
      = if h : s.val < 1 then Ideal.ofBits .f32 0x00000000#32 else val_main_v27 (F := Ideal) x0 x1 x2 x3 (ix3 b ⟨s.val - 1, by omega⟩ q) := by
    pointwise [val_main_v30, val_main_v28, val_main_cst_3, val_main_v29]
  rw [h]
  by_cases h0 : s.val < 1
  · rw [dif_pos h0, if_pos (by omega), word0]
  · rw [dif_neg h0, if_neg (by omega), wideP]
    exact congrArg (U x0 x1 x2 x3 · q.val) (by simp only; omega)

/-- and the row after, nothing after the last. -/
theorem afterP (b : Fin 16) (s : Fin 256) (q : Fin 5632) : val_main_v32 (F := Ideal) x0 x1 x2 x3 (ix3 b s q)
    = if closes (256 * b.val + s.val) then 0 else U x0 x1 x2 x3 (256 * b.val + s.val + 1) q.val := by
  have hb := b.isLt
  have hs := s.isLt
  have h : val_main_v32 (F := Ideal) x0 x1 x2 x3 (ix3 b s q)
      = if h : s.val < 255 then val_main_v27 (F := Ideal) x0 x1 x2 x3 (ix3 b ⟨1 + s.val, by omega⟩ q) else Ideal.ofBits .f32 0x00000000#32 := by
    pointwise [val_main_v32, val_main_v28, val_main_cst_3, val_main_v31]
  rw [h]
  by_cases h0 : s.val < 255
  · rw [dif_pos h0, if_neg (by omega), wideP]
    exact congrArg (U x0 x1 x2 x3 · q.val) (by simp only; omega)
  · rw [dif_neg h0, if_pos (by omega), word0]

theorem convP (b : Fin 16) (s : Fin 256) (q : Fin 5632) :
    val_main_v53 (F := Ideal) x0 x1 x2 x3 x4 x5 (ix3 b s q) = CV x0 x1 x2 x3 x4 x5 (256 * b.val + s.val) q.val := by
  have h : val_main_v53 (F := Ideal) x0 x1 x2 x3 x4 x5 (ix3 b s q)
      = val_main_v30 (F := Ideal) x0 x1 x2 x3 (ix3 b s q) * x4 (ix2 0 q) + val_main_v27 (F := Ideal) x0 x1 x2 x3 (ix3 b s q) * x4 (ix2 1 q)
        + val_main_v32 (F := Ideal) x0 x1 x2 x3 (ix3 b s q) * x4 (ix2 2 q) + x5 (ix2 0 q) := by
    pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33]
  rw [h, beforeP, afterP, wideP]
  unfold CV tap bias
  rw [dif_pos q.isLt, dif_pos q.isLt, dif_pos q.isLt, dif_pos q.isLt]

theorem gateP (b : Fin 16) (s : Fin 256) (q : Fin 2816) :
    val_main_v57 (F := Ideal) x0 x1 x2 x3 x4 x5 (ix3 b s q) = GV x0 x1 x2 x3 x4 x5 (256 * b.val + s.val) q.val := by
  have hq := q.isLt
  have h : val_main_v57 (F := Ideal) x0 x1 x2 x3 x4 x5 (ix3 b s q)
      = val_main_v53 (F := Ideal) x0 x1 x2 x3 x4 x5 (ix3 b s ⟨q.val, by omega⟩)
          * Ideal.div (Ideal.ofBits .f32 0x3F800000#32)
              (Ideal.ofBits .f32 0x3F800000#32 + Ideal.exp (-val_main_v53 (F := Ideal) x0 x1 x2 x3 x4 x5 (ix3 b s ⟨q.val, by omega⟩)))
          * val_main_v53 (F := Ideal) x0 x1 x2 x3 x4 x5 (ix3 b s ⟨2816 + q.val, by omega⟩) := by
    pointwise [val_main_v57, val_main_v56, val_main_v55, val_main_v54, val_main_call0_v5, val_main_call0_v4, val_main_call0_v3, val_main_call0_v2, val_main_call0_v1, val_main_call0_v0, val_main_call0_cst, val_main_call0_cst_0]
  rw [h, convP, convP]
  unfold GV
  rw [Nat.add_comm q.val 2816]
  exact silu _ _

theorem outP (b : Fin 16) (s : Fin 256) (d : Fin 1024) :
    val_main_v62 (F := Ideal) x0 x1 x2 x3 x4 x5 x6 (ix3 b s d) = OUT x0 x1 x2 x3 x4 x5 x6 (256 * b.val + s.val) d := by
  have h : val_main_v62 (F := Ideal) x0 x1 x2 x3 x4 x5 x6 (ix3 b s d)
      = val_main_v1 (F := Ideal) x0 (ix3 b s d) + val_main_v5 (F := Ideal) x1 (ix3 0 0 d) * val_main_v59 (F := Ideal) x0 x1 x2 x3 x4 x5 x6 (ix3 b s d) := by
    pointwise [val_main_v62, val_main_v61, val_main_v60]
  rw [h, rowP, mod5P x1 b s d, val_main_v59_apply]
  unfold OUT
  rw [← Fin.sum_univ_eq_sum_range (fun q => GV x0 x1 x2 x3 x4 x5 (256 * b.val + s.val) q * wd x6 q d) 2816]
  refine congrArg (fun z => _ + _ * z) (Finset.sum_congr rfl fun q _ => ?_)
  unfold wd
  rw [dif_pos q.isLt, ← gateP x0 x1 x2 x3 x4 x5 b s q]
  refine congrArg₂ (· * ·) (congrArg _ ?_) ((val_main_v58_apply x6 _).trans (congrArg x6 ?_))
  · funext a
    match a with
    | ⟨0, _⟩ => rfl
    | ⟨1, _⟩ => rfl
    | ⟨2, _⟩ => rfl
  · funext a
    match a with
    | ⟨0, _⟩ => rfl
    | ⟨1, _⟩ => rfl

end Prompts

section Samples

/-- Row `b`, `s` of this half of the rows. -/
theorem rowS (b : Fin 4) (s : Fin 2048) (d : Fin 1024) : val_main_v64 (F := Ideal) x0 (ix3 b s d) = xr x0 (4096 + 2048 * b.val + s.val) d := by
  have hb := b.isLt
  have hs := s.isLt
  have hd := d.isLt
  unfold xr
  rw [dif_pos (by omega), val_main_v64_apply, val_main_v63_apply]
  refine congrArg x0 (funext fun a => Fin.ext ?_)
  match a with
  | ⟨0, _⟩ => show 4096 + ((b.val * 2048 + s.val) * 1024 + d.val) / 1024 = 4096 + 2048 * b.val + s.val; omega
  | ⟨1, _⟩ => show ((b.val * 2048 + s.val) * 1024 + d.val) % 1024 = d.val; omega

theorem mrowS (b : Fin 4) (s : Fin 2048) : mrow (4096 + 2048 * b.val + s.val) = b.val + 1 := by
  have hb := b.isLt
  have hs := s.isLt
  unfold mrow
  rw [if_neg (by omega)]
  omega

/-- The shift, -/
theorem mod3S (b : Fin 4) (s : Fin 2048) (d : Fin 1024) :
    val_main_v66 (F := Ideal) x1 (ix3 b 0 d) = md x1 3 (4096 + 2048 * b.val + s.val) d := by
  have hb := b.isLt
  have hm := mrowS b s
  unfold md
  rw [dif_pos (by omega), val_main_v66_apply, val_main_v65_apply]
  refine congrArg x1 (funext fun a => Fin.ext ?_)
  match a with
  | ⟨0, _⟩ => exact (Nat.add_comm 1 b.val).trans hm.symm
  | ⟨1, _⟩ => rfl
  | ⟨2, _⟩ => rfl

/-- the scale -/
theorem mod4S (b : Fin 4) (s : Fin 2048) (d : Fin 1024) :
    val_main_v67 (F := Ideal) x1 (ix3 b 0 d) = md x1 4 (4096 + 2048 * b.val + s.val) d := by
  have hb := b.isLt
  have hm := mrowS b s
  unfold md
  rw [dif_pos (by omega), val_main_v67_apply, val_main_v65_apply]
  refine congrArg x1 (funext fun a => Fin.ext ?_)
  match a with
  | ⟨0, _⟩ => exact (Nat.add_comm 1 b.val).trans hm.symm
  | ⟨1, _⟩ => rfl
  | ⟨2, _⟩ => rfl

/-- and the gate. -/
theorem mod5S (b : Fin 4) (s : Fin 2048) (d : Fin 1024) :
    val_main_v68 (F := Ideal) x1 (ix3 b 0 d) = md x1 5 (4096 + 2048 * b.val + s.val) d := by
  have hb := b.isLt
  have hm := mrowS b s
  unfold md
  rw [dif_pos (by omega), val_main_v68_apply, val_main_v65_apply]
  refine congrArg x1 (funext fun a => Fin.ext ?_)
  match a with
  | ⟨0, _⟩ => exact (Nat.add_comm 1 b.val).trans hm.symm
  | ⟨1, _⟩ => rfl
  | ⟨2, _⟩ => rfl

/-- The modulated norm. -/
theorem normS (b : Fin 4) (s : Fin 2048) (d : Fin 1024) : val_main_v88 (F := Ideal) x0 x1 x2 (ix3 b s d) = HN x0 x1 x2 (4096 + 2048 * b.val + s.val) d := by
  have h : val_main_v88 (F := Ideal) x0 x1 x2 (ix3 b s d) = nrm (fun k => val_main_v64 (F := Ideal) x0 (ix3 b s k)) (fun k => x2 (ix2 0 k))
      (fun k => val_main_v66 (F := Ideal) x1 (ix3 b 0 k)) (fun k => val_main_v67 (F := Ideal) x1 (ix3 b 0 k)) d := by
    pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_cst_4, val_main_cst_5, val_main_cst_6, val_main_cst_7, nrm]
  rw [h]
  unfold HN
  simp only [rowS]
  rw [show (fun k => val_main_v66 (F := Ideal) x1 (ix3 b 0 k)) = md x1 3 (4096 + 2048 * b.val + s.val) from funext fun k => mod3S x1 b s k,
    show (fun k => val_main_v67 (F := Ideal) x1 (ix3 b 0 k)) = md x1 4 (4096 + 2048 * b.val + s.val) from funext fun k => mod4S x1 b s k]

/-- The widened rows. -/
theorem wideS (b : Fin 4) (s : Fin 2048) (q : Fin 5632) :
    val_main_v90 (F := Ideal) x0 x1 x2 x3 (ix3 b s q) = U x0 x1 x2 x3 (4096 + 2048 * b.val + s.val) q.val := by
  rw [val_main_v90_apply]
  unfold U wu
  refine Finset.sum_congr rfl fun k _ => ?_
  rw [dif_pos q.isLt, ← normS x0 x1 x2 b s k]
  refine congrArg₂ (· * ·) (congrArg _ ?_) ((val_main_v89_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

/-- The row before, nothing before the first, -/
theorem beforeS (b : Fin 4) (s : Fin 2048) (q : Fin 5632) : val_main_v93 (F := Ideal) x0 x1 x2 x3 (ix3 b s q)
    = if opens (4096 + 2048 * b.val + s.val) then 0 else U x0 x1 x2 x3 (4096 + 2048 * b.val + s.val - 1) q.val := by
  have hb := b.isLt
  have hs := s.isLt
  have h : val_main_v93 (F := Ideal) x0 x1 x2 x3 (ix3 b s q)
      = if h : s.val < 1 then Ideal.ofBits .f32 0x00000000#32 else val_main_v90 (F := Ideal) x0 x1 x2 x3 (ix3 b ⟨s.val - 1, by omega⟩ q) := by
    pointwise [val_main_v93, val_main_v91, val_main_cst_8, val_main_v92]
  rw [h]
  by_cases h0 : s.val < 1
  · rw [dif_pos h0, if_pos (by omega), word0]
  · rw [dif_neg h0, if_neg (by omega), wideS]
    exact congrArg (U x0 x1 x2 x3 · q.val) (by simp only; omega)

/-- and the row after, nothing after the last. -/
theorem afterS (b : Fin 4) (s : Fin 2048) (q : Fin 5632) : val_main_v95 (F := Ideal) x0 x1 x2 x3 (ix3 b s q)
    = if closes (4096 + 2048 * b.val + s.val) then 0 else U x0 x1 x2 x3 (4096 + 2048 * b.val + s.val + 1) q.val := by
  have hb := b.isLt
  have hs := s.isLt
  have h : val_main_v95 (F := Ideal) x0 x1 x2 x3 (ix3 b s q)
      = if h : s.val < 2047 then val_main_v90 (F := Ideal) x0 x1 x2 x3 (ix3 b ⟨1 + s.val, by omega⟩ q) else Ideal.ofBits .f32 0x00000000#32 := by
    pointwise [val_main_v95, val_main_v91, val_main_cst_8, val_main_v94]
  rw [h]
  by_cases h0 : s.val < 2047
  · rw [dif_pos h0, if_neg (by omega), wideS]
    exact congrArg (U x0 x1 x2 x3 · q.val) (by simp only; omega)
  · rw [dif_neg h0, if_pos (by omega), word0]

theorem convS (b : Fin 4) (s : Fin 2048) (q : Fin 5632) :
    val_main_v116 (F := Ideal) x0 x1 x2 x3 x4 x5 (ix3 b s q) = CV x0 x1 x2 x3 x4 x5 (4096 + 2048 * b.val + s.val) q.val := by
  have h : val_main_v116 (F := Ideal) x0 x1 x2 x3 x4 x5 (ix3 b s q)
      = val_main_v93 (F := Ideal) x0 x1 x2 x3 (ix3 b s q) * x4 (ix2 0 q) + val_main_v90 (F := Ideal) x0 x1 x2 x3 (ix3 b s q) * x4 (ix2 1 q)
        + val_main_v95 (F := Ideal) x0 x1 x2 x3 (ix3 b s q) * x4 (ix2 2 q) + x5 (ix2 0 q) := by
    pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96]
  rw [h, beforeS, afterS, wideS]
  unfold CV tap bias
  rw [dif_pos q.isLt, dif_pos q.isLt, dif_pos q.isLt, dif_pos q.isLt]

theorem gateS (b : Fin 4) (s : Fin 2048) (q : Fin 2816) :
    val_main_v120 (F := Ideal) x0 x1 x2 x3 x4 x5 (ix3 b s q) = GV x0 x1 x2 x3 x4 x5 (4096 + 2048 * b.val + s.val) q.val := by
  have hq := q.isLt
  have h : val_main_v120 (F := Ideal) x0 x1 x2 x3 x4 x5 (ix3 b s q)
      = val_main_v116 (F := Ideal) x0 x1 x2 x3 x4 x5 (ix3 b s ⟨q.val, by omega⟩)
          * Ideal.div (Ideal.ofBits .f32 0x3F800000#32)
              (Ideal.ofBits .f32 0x3F800000#32 + Ideal.exp (-val_main_v116 (F := Ideal) x0 x1 x2 x3 x4 x5 (ix3 b s ⟨q.val, by omega⟩)))
          * val_main_v116 (F := Ideal) x0 x1 x2 x3 x4 x5 (ix3 b s ⟨2816 + q.val, by omega⟩) := by
    pointwise [val_main_v120, val_main_v119, val_main_v118, val_main_v117, val_main_call1_v5, val_main_call1_v4, val_main_call1_v3, val_main_call1_v2, val_main_call1_v1, val_main_call1_v0, val_main_call1_cst, val_main_call1_cst_0]
  rw [h, convS, convS]
  unfold GV
  rw [Nat.add_comm q.val 2816]
  exact silu _ _

theorem outS (b : Fin 4) (s : Fin 2048) (d : Fin 1024) :
    val_main_v125 (F := Ideal) x0 x1 x2 x3 x4 x5 x6 (ix3 b s d) = OUT x0 x1 x2 x3 x4 x5 x6 (4096 + 2048 * b.val + s.val) d := by
  have h : val_main_v125 (F := Ideal) x0 x1 x2 x3 x4 x5 x6 (ix3 b s d)
      = val_main_v64 (F := Ideal) x0 (ix3 b s d) + val_main_v68 (F := Ideal) x1 (ix3 b 0 d) * val_main_v122 (F := Ideal) x0 x1 x2 x3 x4 x5 x6 (ix3 b s d) := by
    pointwise [val_main_v125, val_main_v124, val_main_v123]
  rw [h, rowS, mod5S x1 b s d, val_main_v122_apply]
  unfold OUT
  rw [← Fin.sum_univ_eq_sum_range (fun q => GV x0 x1 x2 x3 x4 x5 (4096 + 2048 * b.val + s.val) q * wd x6 q d) 2816]
  refine congrArg (fun z => _ + _ * z) (Finset.sum_congr rfl fun q _ => ?_)
  unfold wd
  rw [dif_pos q.isLt, ← gateS x0 x1 x2 x3 x4 x5 b s q]
  refine congrArg₂ (· * ·) (congrArg _ ?_) ((val_main_v121_apply x6 _).trans (congrArg x6 ?_))
  · funext a
    match a with
    | ⟨0, _⟩ => rfl
    | ⟨1, _⟩ => rfl
    | ⟨2, _⟩ => rfl
  · funext a
    match a with
    | ⟨0, _⟩ => rfl
    | ⟨1, _⟩ => rfl

end Samples

/-- The two halves joined. -/
theorem result (R : Fin 12288) (d : Fin 1024) :
    val_main_v128 (F := Ideal) x0 x1 x2 x3 x4 x5 x6 (ix2 R d) = OUT x0 x1 x2 x3 x4 x5 x6 R.val d := by
  have hR := R.isLt
  have hd := d.isLt
  have h : val_main_v128 (F := Ideal) x0 x1 x2 x3 x4 x5 x6 (ix2 R d)
      = if h : R.val < 4096 then val_main_v126 (F := Ideal) x0 x1 x2 x3 x4 x5 x6 (ix2 ⟨R.val, h⟩ d)
        else val_main_v127 (F := Ideal) x0 x1 x2 x3 x4 x5 x6 (ix2 ⟨R.val - 4096, by omega⟩ d) := by
    pointwise [val_main_v128]
  rw [h]
  by_cases hp : R.val < 4096
  · rw [dif_pos hp, val_main_v126_apply]
    rw [show idx_main_v126 (ix2 ⟨R.val, hp⟩ d) = ix3 ⟨R.val / 256, by omega⟩ ⟨R.val % 256, by omega⟩ d from funext fun a => Fin.ext (by
      match a with
      | ⟨0, _⟩ => show (R.val * 1024 + d.val) / 262144 = R.val / 256; omega
      | ⟨1, _⟩ => show (R.val * 1024 + d.val) / 1024 % 256 = R.val % 256; omega
      | ⟨2, _⟩ => show (R.val * 1024 + d.val) % 1024 = d.val; omega), outP]
    exact congrArg (OUT x0 x1 x2 x3 x4 x5 x6 · d) (by simp only; omega)
  · rw [dif_neg hp, val_main_v127_apply]
    rw [show idx_main_v127 (ix2 ⟨R.val - 4096, by omega⟩ d) = ix3 ⟨(R.val - 4096) / 2048, by omega⟩ ⟨(R.val - 4096) % 2048, by omega⟩ d from
      funext fun a => Fin.ext (by
      match a with
      | ⟨0, _⟩ => show ((R.val - 4096) * 1024 + d.val) / 2097152 = (R.val - 4096) / 2048; omega
      | ⟨1, _⟩ => show ((R.val - 4096) * 1024 + d.val) / 1024 % 2048 = (R.val - 4096) % 2048; omega
      | ⟨2, _⟩ => show ((R.val - 4096) * 1024 + d.val) % 1024 = d.val; omega), outS]
    exact congrArg (OUT x0 x1 x2 x3 x4 x5 x6 · d) (by simp only; omega)

end Cert.Reference2Ideal.Ffn

end
-- ==== Proof.Ffn.Alg.lean ====
/- The feed-forward call's run and result, and that the reference's result is the same array. -/
module

public import proofs.«01_k».proof.Proof.Ffn.Blocks
public import proofs.«01_k».proof.Proof.Ffn.Ref

@[expose] public section

set_option maxRecDepth 16384

noncomputable section

namespace Cert.Kernel2Ideal.Ffn

open Idealize.ShloMosaic Idealize.SL.Sem Idealize.ShloMosaic.TcCoe
open Cert.Kernel2Ideal.Gen

variable (m : (ℓ : Loc nD τ sig) → Buf (Elt Ideal) ℓ) (ρ : Dev nD → PrngReg)

/-- The run leaves the result array and the arguments as they were. -/
theorem run_result : θ_run (defs (F := Ideal)) (onTc (τ := τ) (main (F := Ideal))) ⟨m, fun _ => 0, ρ⟩ (fun r => ∀ c : Dev nD,
    r.2.mem ((c : Thread nD τ).loc main_v0) = (dats m (outs m) 0 c).arrAt 11 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) := by
  refine (θ_run _ _ _).mono (fun r hr c => ?_) (run_exact m ρ (outs m) (ends m))
  have h := (hr.1 c).1
  exact ⟨h 11,
    (h 2).trans (((dats m (outs m) 0 c).arrAt_in 2 rfl _).trans ((A_eq m (outs m) c 2).trans (V_main_arg0 m c))),
    (h 6).trans (((dats m (outs m) 0 c).arrAt_in 6 rfl _).trans ((A_eq m (outs m) c 6).trans (V_main_arg1 m c))),
    (h 3).trans (((dats m (outs m) 0 c).arrAt_in 3 rfl _).trans ((A_eq m (outs m) c 3).trans (V_main_arg2 m c))),
    (h 7).trans (((dats m (outs m) 0 c).arrAt_in 7 rfl _).trans ((A_eq m (outs m) c 7).trans (V_main_arg3 m c))),
    (h 8).trans (((dats m (outs m) 0 c).arrAt_in 8 rfl _).trans ((A_eq m (outs m) c 8).trans (V_main_arg4 m c))),
    (h 9).trans (((dats m (outs m) 0 c).arrAt_in 9 rfl _).trans ((A_eq m (outs m) c 9).trans (V_main_arg5 m c))),
    (h 10).trans (((dats m (outs m) 0 c).arrAt_in 10 rfl _).trans ((A_eq m (outs m) c 10).trans (V_main_arg6 m c)))⟩

/-- The whole result array is the reference's. -/
theorem arr_eq (c : Dev nD) : (dats m (outs m) 0 c).arrAt 11 cfg0.N
    = Cert.Reference2Ideal.Read.val_main_v128 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  funext (i : S12288x1024.Idx)
  obtain ⟨R, d, rfl⟩ : ∃ (R : Fin 12288) (d : Fin 1024), i = ix2 R d := ⟨i 0, i 1, funext fun a => match a with | ⟨0, _⟩ => rfl | ⟨1, _⟩ => rfl⟩
  exact (arr_at m c R d).trans (Cert.Reference2Ideal.Ffn.result _ _ _ _ _ _ _ R d).symm

end Cert.Kernel2Ideal.Ffn

end
-- ==== Proof.Out.Spec.lean ====
/- What the call `proj_res` computes: a row, plus its gate times the row's projection. -/
module

public import proofs.«01_k».proof.Proof.Ffn.Spec

@[expose] public section

noncomputable section

namespace Cert.Proof.Out

open Idealize.ShloMosaic
open Cert.Kernel2Ideal.Ffn (xr md)

/-- Row `R` of the residual stream, plus the gate times the row of `y` contracted with the weights. -/
def RES {K : ℕ} (y : Fin 12288 → Fin K → EReal) (w : Fin K → Fin 1024 → EReal) (x : Vec Ideal Cert.Kernel2Ideal.S12288x1024 .f32)
    (g : Vec Ideal Cert.Kernel2Ideal.S8x1x6144 .f32) (R : Fin 12288) (d : Fin 1024) : EReal :=
  xr x R.val d + md g 2 R.val d * ∑ k : Fin K, y R k * w k d

end Cert.Proof.Out

end
-- ==== Proof.Out.Ssd.lean ====
/- The call `proj_res` over the scan mixer's 2048 columns: the blocks each grid point reads, the result array after the run, and that the
   reference's result is the same array. -/
module

public import proofs.«01_k».proof.Proof.Gen.Kernel3Ideal.Value
public import proofs.«01_k».proof.Proof.Gen.Kernel3Ideal.Points
public import proofs.«01_k».proof.Proof.Gen.Reference3Ideal.Read
public import proofs.«01_k».proof.Proof.Out.Spec
public import Idealize.ShloMosaic.Lib.Pointwise
public import Idealize.ShloMosaic.Lib.KernelVsHost
public import Idealize.ShloMosaic.Lib.Pipeline.ValueKit

@[expose] public section

set_option maxRecDepth 16384

noncomputable section

namespace Cert.Kernel3Ideal.Out

open Idealize.ShloMosaic Idealize.SL.Sem Cert.Kernel3Ideal Cert.Kernel3Ideal.Gen Idealize.ShloMosaic.TcCoe
open Cert.Kernel2Ideal.Ffn (xr md mrow md_congr)
open Cert.Proof.Out (RES)

variable (m : (ℓ : Loc nD τ sig) → Buf (Elt Ideal) ℓ) (c : Dev nD)

theorem e0 : ∀ t, win0_0.index t = ![t.val, 0] := (by decide +kernel : ∀ t : Fin grid0.N, win0_0.index t = ![t.val, 0])
theorem e1 : ∀ t, win0_1.index t = ![0, 0] := (by decide +kernel : ∀ t : Fin grid0.N, win0_1.index t = ![0, 0])
theorem e2 : ∀ t, win0_2.index t = ![t.val, 0] := (by decide +kernel : ∀ t : Fin grid0.N, win0_2.index t = ![t.val, 0])
theorem e3 : ∀ t, win0_3.index t = ![mrow (512 * t.val), 0, 2] := (by decide +kernel : ∀ t : Fin grid0.N, win0_3.index t = ![mrow (512 * t.val), 0, 2])
theorem e4 : ∀ t, win0_4.index t = ![t.val, 0] := (by decide +kernel : ∀ t : Fin grid0.N, win0_4.index t = ![t.val, 0])

theorem t_lt (t : Fin cfg0.N) : t.val < 24 := (by decide +kernel : ∀ t : Fin grid0.N, t.val < 24) t
theorem mrow_lt (t : Fin cfg0.N) : mrow (512 * t.val) < 8 := (by decide +kernel : ∀ t : Fin grid0.N, mrow (512 * t.val) < 8) t

theorem blk0 (t : Fin cfg0.N) (p : Fin 512) (k : Fin 2048) (R : Fin 12288) (hR : R.val = 512 * t.val + p.val) :
    iblk m c 0 t (ix2 p k) = m ((c : Thread nD τ).loc main_arg0) (ix2 R k) := by
  have ht := t_lt t
  unfold iblk
  rw [show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    refine Eq.trans ?_ hR.symm
    try omega
  | ⟨1, _⟩ =>
    blk_simp [e0]

theorem blk1 (t : Fin cfg0.N) : iblk m c 1 t = m ((c : Thread nD τ).loc main_arg1) := by
  unfold iblk
  rw [show V m c (Pipeline.arrRef spec0 1) = m ((c : Thread nD τ).loc main_arg1) from V_main_arg1 m c]
  funext i
  show m ((c : Thread nD τ).loc main_arg1) _ = _
  congr 1
  funext a
  apply Fin.ext
  match a with
  | ⟨0, _⟩ =>
    blk_simp [e1]
  | ⟨1, _⟩ =>
    blk_simp [e1]

theorem blk2 (t : Fin cfg0.N) (p : Fin 512) (k : Fin 1024) (R : Fin 12288) (hR : R.val = 512 * t.val + p.val) :
    iblk m c 2 t (ix2 p k) = m ((c : Thread nD τ).loc main_arg2) (ix2 R k) := by
  have ht := t_lt t
  unfold iblk
  rw [show V m c (Pipeline.arrRef spec0 2) = m ((c : Thread nD τ).loc main_arg2) from V_main_arg2 m c]
  show m ((c : Thread nD τ).loc main_arg2) _ = _
  congr 1
  funext a
  apply Fin.ext
  match a with
  | ⟨0, _⟩ =>
    blk_simp [e2]
    refine Eq.trans ?_ hR.symm
    try omega
  | ⟨1, _⟩ =>
    blk_simp [e2]

theorem blk3 (t : Fin cfg0.N) (k : Fin 1024) : iblk m c 3 t (ix3 0 0 k) = md (m ((c : Thread nD τ).loc main_arg3)) 2 (512 * t.val) k := by
  have hm := mrow_lt t
  unfold iblk md
  rw [dif_pos hm, show V m c (Pipeline.arrRef spec0 3) = m ((c : Thread nD τ).loc main_arg3) from V_main_arg3 m c]
  show m ((c : Thread nD τ).loc main_arg3) _ = _
  congr 1
  funext a
  apply Fin.ext
  match a with
  | ⟨0, _⟩ =>
    blk_simp [e3]
    rfl
  | ⟨1, _⟩ =>
    blk_simp [e3]
  | ⟨2, _⟩ =>
    blk_simp [e3]
    show _ = 1024 * 2 + k.val
    try omega

/-- One block's result, element by element. -/
theorem pay_at (x : Vec Ideal S512x1024 .f32) (g : Vec Ideal S1x1x1024 .f32) (y : Vec Ideal S512x2048 .bf16) (w : Vec Ideal S2048x1024 .bf16)
    (p : Fin 512) (d : Fin 1024) : k0_pay1 (F := Ideal) x g y w (ix2 p d) = x (ix2 p d) + g (ix3 0 0 d) * ∑ k : Fin 2048, y (ix2 p k) * w (ix2 k d) := by
  pointwise [k0_pay1]

theorem out_at (x0 : Vec Ideal S512x2048 .bf16) (x1 : Vec Ideal S2048x1024 .bf16) (x2 : Vec Ideal S512x1024 .f32) (x3 : Vec Ideal S1x1x1024 .f32)
    (p : Fin 512) (d : Fin 1024) :
    out0_4 (F := Ideal) x0 x1 x2 x3 (ix2 p d) = x2 (ix2 p d) + x3 (ix3 0 0 d) * ∑ k : Fin 2048, x0 (ix2 p k) * x1 (ix2 k d) := by
  rw [← pay_at]
  unfold out0_4
  frame_out

/-- The result array after the run, at row `R`. -/
theorem arr_at (R : Fin 12288) (d : Fin 1024) : (dats m 0 c).arrAt 4 cfg0.N (ix2 R d)
    = RES (fun R k => m ((c : Thread nD τ).loc main_arg0) (ix2 R k)) (fun k d => m ((c : Thread nD τ).loc main_arg1) (ix2 k d))
      (m ((c : Thread nD τ).loc main_arg2)) (m ((c : Thread nD τ).loc main_arg3)) R d := by
  have hR := R.isLt
  have ht : R.val / 512 < 24 := by omega
  let t : Fin cfg0.N := ⟨R.val / 512, ht⟩
  let p : Fin 512 := ⟨R.val % 512, by omega⟩
  have hp : R.val = 512 * t.val + p.val := by show R.val = 512 * (R.val / 512) + R.val % 512; omega
  have hw := congrFun (Cert.Kernel3Ideal.Value.blocks4 m c t (flush0_4 t)) (ix2 p d)
  rw [Cert.Kernel3Ideal.Value.flushed4] at hw
  refine Eq.trans ?_ (hw.trans ((out_at _ _ _ _ p d).trans ?_))
  · generalize (dats m 0 c).arrAt 4 cfg0.N = X
    show X _ = X _
    congr 1
    funext a
    apply Fin.ext
    match a with
    | ⟨0, _⟩ =>
      blk_simp [e4]
      show R.val = R.val / 512 * 512 + R.val % 512
      omega
    | ⟨1, _⟩ =>
      blk_simp [e4]
  · rw [blk1, blk2 m c t p d R hp, blk3]
    simp only [blk0 m c t p _ R hp]
    unfold RES xr
    rw [dif_pos hR, md_congr _ 2 (512 * t.val) R.val (by unfold mrow; split_ifs <;> omega)]

end Cert.Kernel3Ideal.Out

namespace Cert.Reference3Ideal.Out

open Idealize.ShloMosaic Idealize.SL.Sem Cert.Reference3Ideal Cert.Reference3Ideal.Gen Cert.Reference3Ideal.Read Idealize.ShloMosaic.TcCoe
open Cert.Kernel2Ideal.Ffn (xr md mrow)
open Cert.Proof.Out (RES)

variable (x0 : Vec Ideal S12288x2048 .bf16) (x1 : Vec Ideal S2048x1024 .bf16) (x2 : Vec Ideal S12288x1024 .f32) (x3 : Vec Ideal S8x1x6144 .f32)

/-- The prompt rows. -/
theorem halfP (b : Fin 16) (s : Fin 256) (d : Fin 1024) (R : Fin 12288) (hR : R.val = 256 * b.val + s.val) :
    val_main_v11 (F := Ideal) x0 x1 x2 x3 (ix3 b s d) = RES (fun R k => x0 (ix2 R k)) (fun k d => x1 (ix2 k d)) x2 x3 R d := by
  have hb := b.isLt
  have hs := s.isLt
  have hd := d.isLt
  have h : val_main_v11 (F := Ideal) x0 x1 x2 x3 (ix3 b s d)
      = val_main_v1 (F := Ideal) x2 (ix3 b s d) + val_main_v5 (F := Ideal) x3 (ix3 0 0 d) * val_main_v8 (F := Ideal) x0 x1 (ix3 b s d) := by
    pointwise [val_main_v11, val_main_v10, val_main_v9]
  rw [h, val_main_v8_apply]
  unfold RES xr md
  have hm : mrow R.val < 8 := by unfold mrow; split_ifs <;> omega
  rw [dif_pos R.isLt, dif_pos hm, val_main_v1_apply, val_main_v0_apply, val_main_v5_apply, val_main_v4_apply]
  refine congrArg₂ (· + ·) (congrArg x2 (funext fun a => Fin.ext ?_)) (congrArg₂ (· * ·) (congrArg x3 (funext fun a => Fin.ext ?_)) ?_)
  · match a with
    | ⟨0, _⟩ => show ((b.val * 256 + s.val) * 1024 + d.val) / 1024 = R.val; omega
    | ⟨1, _⟩ => show ((b.val * 256 + s.val) * 1024 + d.val) % 1024 = d.val; omega
  · match a with
    | ⟨0, _⟩ =>
      show 0 = mrow _
      unfold mrow
      rw [if_pos (by omega)]
    | ⟨1, _⟩ => rfl
    | ⟨2, _⟩ => rfl
  · refine Finset.sum_congr rfl fun k _ => congrArg₂ (· * ·) ?_ ?_
    · refine (val_main_v6_apply x0 _).trans ((val_main_v3_apply x0 _).trans ((val_main_v2_apply x0 _).trans (congrArg x0 (funext fun a => Fin.ext ?_))))
      have hk := k.isLt
      match a with
      | ⟨0, _⟩ => show ((b.val * 256 + s.val) * 2048 + k.val) / 2048 = R.val; omega
      | ⟨1, _⟩ => show ((b.val * 256 + s.val) * 2048 + k.val) % 2048 = k.val; omega
    · refine (val_main_v7_apply x1 _).trans (congrArg x1 (funext fun a => Fin.ext ?_))
      match a with
      | ⟨0, _⟩ => rfl
      | ⟨1, _⟩ => rfl

/-- The sample rows. -/
theorem halfS (b : Fin 4) (s : Fin 2048) (d : Fin 1024) (R : Fin 12288) (hR : R.val = 4096 + 2048 * b.val + s.val) :
    val_main_v23 (F := Ideal) x0 x1 x2 x3 (ix3 b s d) = RES (fun R k => x0 (ix2 R k)) (fun k d => x1 (ix2 k d)) x2 x3 R d := by
  have hb := b.isLt
  have hs := s.isLt
  have hd := d.isLt
  have h : val_main_v23 (F := Ideal) x0 x1 x2 x3 (ix3 b s d)
      = val_main_v13 (F := Ideal) x2 (ix3 b s d) + val_main_v17 (F := Ideal) x3 (ix3 b 0 d) * val_main_v20 (F := Ideal) x0 x1 (ix3 b s d) := by
    pointwise [val_main_v23, val_main_v22, val_main_v21]
  rw [h, val_main_v20_apply]
  unfold RES xr md
  have hm : mrow R.val < 8 := by unfold mrow; split_ifs <;> omega
  rw [dif_pos R.isLt, dif_pos hm, val_main_v13_apply, val_main_v12_apply, val_main_v17_apply, val_main_v16_apply]
  refine congrArg₂ (· + ·) (congrArg x2 (funext fun a => Fin.ext ?_)) (congrArg₂ (· * ·) (congrArg x3 (funext fun a => Fin.ext ?_)) ?_)
  · match a with
    | ⟨0, _⟩ => show 4096 + ((b.val * 2048 + s.val) * 1024 + d.val) / 1024 = R.val; omega
    | ⟨1, _⟩ => show ((b.val * 2048 + s.val) * 1024 + d.val) % 1024 = d.val; omega
  · match a with
    | ⟨0, _⟩ =>
      show 1 + b.val = mrow _
      unfold mrow
      rw [if_neg (by omega)]
      omega
    | ⟨1, _⟩ => rfl
    | ⟨2, _⟩ => rfl
  · refine Finset.sum_congr rfl fun k _ => congrArg₂ (· * ·) ?_ ?_
    · refine (val_main_v18_apply x0 _).trans ((val_main_v15_apply x0 _).trans ((val_main_v14_apply x0 _).trans (congrArg x0 (funext fun a => Fin.ext ?_))))
      have hk := k.isLt
      match a with
      | ⟨0, _⟩ => show 4096 + ((b.val * 2048 + s.val) * 2048 + k.val) / 2048 = R.val; omega
      | ⟨1, _⟩ => show ((b.val * 2048 + s.val) * 2048 + k.val) % 2048 = k.val; omega
    · refine (val_main_v19_apply x1 _).trans (congrArg x1 (funext fun a => Fin.ext ?_))
      match a with
      | ⟨0, _⟩ => rfl
      | ⟨1, _⟩ => rfl

/-- The two halves joined. -/
theorem result (R : Fin 12288) (d : Fin 1024) :
    val_main_v26 (F := Ideal) x0 x1 x2 x3 (ix2 R d) = RES (fun R k => x0 (ix2 R k)) (fun k d => x1 (ix2 k d)) x2 x3 R d := by
  have hR := R.isLt
  have hd := d.isLt
  have h : val_main_v26 (F := Ideal) x0 x1 x2 x3 (ix2 R d)
      = if h : R.val < 4096 then val_main_v24 (F := Ideal) x0 x1 x2 x3 (ix2 ⟨R.val, h⟩ d)
        else val_main_v25 (F := Ideal) x0 x1 x2 x3 (ix2 ⟨R.val - 4096, by omega⟩ d) := by
    pointwise [val_main_v26]
  rw [h]
  by_cases hp : R.val < 4096
  · rw [dif_pos hp, val_main_v24_apply]
    rw [show idx_main_v24 (ix2 ⟨R.val, hp⟩ d) = ix3 ⟨R.val / 256, by omega⟩ ⟨R.val % 256, by omega⟩ d from funext fun a => Fin.ext (by
      match a with
      | ⟨0, _⟩ => show (R.val * 1024 + d.val) / 262144 = R.val / 256; omega
      | ⟨1, _⟩ => show (R.val * 1024 + d.val) / 1024 % 256 = R.val % 256; omega
      | ⟨2, _⟩ => show (R.val * 1024 + d.val) % 1024 = d.val; omega)]
    exact halfP x0 x1 x2 x3 _ _ d R (by simp only; omega)
  · rw [dif_neg hp, val_main_v25_apply]
    rw [show idx_main_v25 (ix2 ⟨R.val - 4096, by omega⟩ d) = ix3 ⟨(R.val - 4096) / 2048, by omega⟩ ⟨(R.val - 4096) % 2048, by omega⟩ d from
      funext fun a => Fin.ext (by
      match a with
      | ⟨0, _⟩ => show ((R.val - 4096) * 1024 + d.val) / 2097152 = (R.val - 4096) / 2048; omega
      | ⟨1, _⟩ => show ((R.val - 4096) * 1024 + d.val) / 1024 % 2048 = (R.val - 4096) % 2048; omega
      | ⟨2, _⟩ => show ((R.val - 4096) * 1024 + d.val) % 1024 = d.val; omega)]
    exact halfS x0 x1 x2 x3 _ _ d R (by simp only; omega)

end Cert.Reference3Ideal.Out

namespace Cert.Kernel3Ideal.Out

open Idealize.ShloMosaic Idealize.SL.Sem Idealize.ShloMosaic.TcCoe
open Cert.Kernel3Ideal.Gen

/-- The whole result array is the reference's. -/
theorem arr_eq (m : (ℓ : Loc nD τ sig) → Buf (Elt Ideal) ℓ) (c : Dev nD) : (dats m 0 c).arrAt 4 cfg0.N
    = Cert.Reference3Ideal.Read.val_main_v26 (F := Ideal) (m ((c : Thread nD τ).loc main_arg0)) (m ((c : Thread nD τ).loc main_arg1))
      (m ((c : Thread nD τ).loc main_arg2)) (m ((c : Thread nD τ).loc main_arg3)) := by
  funext (i : S12288x1024.Idx)
  obtain ⟨R, d, rfl⟩ : ∃ (R : Fin 12288) (d : Fin 1024), i = ix2 R d := ⟨i 0, i 1, funext fun a => match a with | ⟨0, _⟩ => rfl | ⟨1, _⟩ => rfl⟩
  exact (arr_at m c R d).trans (Cert.Reference3Ideal.Out.result _ _ _ _ R d).symm

end Cert.Kernel3Ideal.Out

end
-- ==== Proof.Out.Att.lean ====
/- The call `proj_res` over the attention mixer's 1024 columns: the blocks each grid point reads, the result array after the run, and that the
   reference's result is the same array. -/
module

public import proofs.«01_k».proof.Proof.Gen.Kernel4Ideal.Value
public import proofs.«01_k».proof.Proof.Gen.Kernel4Ideal.Points
public import proofs.«01_k».proof.Proof.Gen.Reference4Ideal.Read
public import proofs.«01_k».proof.Proof.Out.Spec
public import Idealize.ShloMosaic.Lib.Pointwise
public import Idealize.ShloMosaic.Lib.KernelVsHost
public import Idealize.ShloMosaic.Lib.Pipeline.ValueKit

@[expose] public section

set_option maxRecDepth 16384

noncomputable section

namespace Cert.Kernel4Ideal.Out

open Idealize.ShloMosaic Idealize.SL.Sem Cert.Kernel4Ideal Cert.Kernel4Ideal.Gen Idealize.ShloMosaic.TcCoe
open Cert.Kernel2Ideal.Ffn (xr md mrow md_congr)
open Cert.Proof.Out (RES)

variable (m : (ℓ : Loc nD τ sig) → Buf (Elt Ideal) ℓ) (c : Dev nD)

theorem e0 : ∀ t, win0_0.index t = ![t.val, 0] := (by decide +kernel : ∀ t : Fin grid0.N, win0_0.index t = ![t.val, 0])
theorem e1 : ∀ t, win0_1.index t = ![0, 0] := (by decide +kernel : ∀ t : Fin grid0.N, win0_1.index t = ![0, 0])
theorem e2 : ∀ t, win0_2.index t = ![t.val, 0] := (by decide +kernel : ∀ t : Fin grid0.N, win0_2.index t = ![t.val, 0])
theorem e3 : ∀ t, win0_3.index t = ![mrow (512 * t.val), 0, 2] := (by decide +kernel : ∀ t : Fin grid0.N, win0_3.index t = ![mrow (512 * t.val), 0, 2])
theorem e4 : ∀ t, win0_4.index t = ![t.val, 0] := (by decide +kernel : ∀ t : Fin grid0.N, win0_4.index t = ![t.val, 0])

theorem t_lt (t : Fin cfg0.N) : t.val < 24 := (by decide +kernel : ∀ t : Fin grid0.N, t.val < 24) t
theorem mrow_lt (t : Fin cfg0.N) : mrow (512 * t.val) < 8 := (by decide +kernel : ∀ t : Fin grid0.N, mrow (512 * t.val) < 8) t

theorem blk0 (t : Fin cfg0.N) (p : Fin 512) (k : Fin 1024) (R : Fin 12288) (hR : R.val = 512 * t.val + p.val) :
    iblk m c 0 t (ix2 p k) = m ((c : Thread nD τ).loc main_arg0) (ix2 R k) := by
  have ht := t_lt t
  unfold iblk
  rw [show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    refine Eq.trans ?_ hR.symm
    try omega
  | ⟨1, _⟩ =>
    blk_simp [e0]

theorem blk1 (t : Fin cfg0.N) : iblk m c 1 t = m ((c : Thread nD τ).loc main_arg1) := by
  unfold iblk
  rw [show V m c (Pipeline.arrRef spec0 1) = m ((c : Thread nD τ).loc main_arg1) from V_main_arg1 m c]
  funext i
  show m ((c : Thread nD τ).loc main_arg1) _ = _
  congr 1
  funext a
  apply Fin.ext
  match a with
  | ⟨0, _⟩ =>
    blk_simp [e1]
  | ⟨1, _⟩ =>
    blk_simp [e1]

theorem blk2 (t : Fin cfg0.N) (p : Fin 512) (k : Fin 1024) (R : Fin 12288) (hR : R.val = 512 * t.val + p.val) :
    iblk m c 2 t (ix2 p k) = m ((c : Thread nD τ).loc main_arg2) (ix2 R k) := by
  have ht := t_lt t
  unfold iblk
  rw [show V m c (Pipeline.arrRef spec0 2) = m ((c : Thread nD τ).loc main_arg2) from V_main_arg2 m c]
  show m ((c : Thread nD τ).loc main_arg2) _ = _
  congr 1
  funext a
  apply Fin.ext
  match a with
  | ⟨0, _⟩ =>
    blk_simp [e2]
    refine Eq.trans ?_ hR.symm
    try omega
  | ⟨1, _⟩ =>
    blk_simp [e2]

theorem blk3 (t : Fin cfg0.N) (k : Fin 1024) : iblk m c 3 t (ix3 0 0 k) = md (m ((c : Thread nD τ).loc main_arg3)) 2 (512 * t.val) k := by
  have hm := mrow_lt t
  unfold iblk md
  rw [dif_pos hm, show V m c (Pipeline.arrRef spec0 3) = m ((c : Thread nD τ).loc main_arg3) from V_main_arg3 m c]
  show m ((c : Thread nD τ).loc main_arg3) _ = _
  congr 1
  funext a
  apply Fin.ext
  match a with
  | ⟨0, _⟩ =>
    blk_simp [e3]
    rfl
  | ⟨1, _⟩ =>
    blk_simp [e3]
  | ⟨2, _⟩ =>
    blk_simp [e3]
    show _ = 1024 * 2 + k.val
    try omega

/-- One block's result, element by element. -/
theorem pay_at (x : Vec Ideal S512x1024 .f32) (g : Vec Ideal S1x1x1024 .f32) (y : Vec Ideal S512x1024 .bf16) (w : Vec Ideal S1024x1024 .bf16)
    (p : Fin 512) (d : Fin 1024) : k0_pay1 (F := Ideal) x g y w (ix2 p d) = x (ix2 p d) + g (ix3 0 0 d) * ∑ k : Fin 1024, y (ix2 p k) * w (ix2 k d) := by
  pointwise [k0_pay1]

theorem out_at (x0 : Vec Ideal S512x1024 .bf16) (x1 : Vec Ideal S1024x1024 .bf16) (x2 : Vec Ideal S512x1024 .f32) (x3 : Vec Ideal S1x1x1024 .f32)
    (p : Fin 512) (d : Fin 1024) :
    out0_4 (F := Ideal) x0 x1 x2 x3 (ix2 p d) = x2 (ix2 p d) + x3 (ix3 0 0 d) * ∑ k : Fin 1024, x0 (ix2 p k) * x1 (ix2 k d) := by
  rw [← pay_at]
  unfold out0_4
  frame_out

/-- The result array after the run, at row `R`. -/
theorem arr_at (R : Fin 12288) (d : Fin 1024) : (dats m 0 c).arrAt 4 cfg0.N (ix2 R d)
    = RES (fun R k => m ((c : Thread nD τ).loc main_arg0) (ix2 R k)) (fun k d => m ((c : Thread nD τ).loc main_arg1) (ix2 k d))
      (m ((c : Thread nD τ).loc main_arg2)) (m ((c : Thread nD τ).loc main_arg3)) R d := by
  have hR := R.isLt
  have ht : R.val / 512 < 24 := by omega
  let t : Fin cfg0.N := ⟨R.val / 512, ht⟩
  let p : Fin 512 := ⟨R.val % 512, by omega⟩
  have hp : R.val = 512 * t.val + p.val := by show R.val = 512 * (R.val / 512) + R.val % 512; omega
  have hw := congrFun (Cert.Kernel4Ideal.Value.blocks4 m c t (flush0_4 t)) (ix2 p d)
  rw [Cert.Kernel4Ideal.Value.flushed4] at hw
  refine Eq.trans ?_ (hw.trans ((out_at _ _ _ _ p d).trans ?_))
  · generalize (dats m 0 c).arrAt 4 cfg0.N = X
    show X _ = X _
    congr 1
    funext a
    apply Fin.ext
    match a with
    | ⟨0, _⟩ =>
      blk_simp [e4]
      show R.val = R.val / 512 * 512 + R.val % 512
      omega
    | ⟨1, _⟩ =>
      blk_simp [e4]
  · rw [blk1, blk2 m c t p d R hp, blk3]
    simp only [blk0 m c t p _ R hp]
    unfold RES xr
    rw [dif_pos hR, md_congr _ 2 (512 * t.val) R.val (by unfold mrow; split_ifs <;> omega)]

end Cert.Kernel4Ideal.Out

namespace Cert.Reference4Ideal.Out

open Idealize.ShloMosaic Idealize.SL.Sem Cert.Reference4Ideal Cert.Reference4Ideal.Gen Cert.Reference4Ideal.Read Idealize.ShloMosaic.TcCoe
open Cert.Kernel2Ideal.Ffn (xr md mrow)
open Cert.Proof.Out (RES)

variable (x0 : Vec Ideal S12288x1024 .bf16) (x1 : Vec Ideal S1024x1024 .bf16) (x2 : Vec Ideal S12288x1024 .f32) (x3 : Vec Ideal S8x1x6144 .f32)

/-- The prompt rows. -/
theorem halfP (b : Fin 16) (s : Fin 256) (d : Fin 1024) (R : Fin 12288) (hR : R.val = 256 * b.val + s.val) :
    val_main_v11 (F := Ideal) x0 x1 x2 x3 (ix3 b s d) = RES (fun R k => x0 (ix2 R k)) (fun k d => x1 (ix2 k d)) x2 x3 R d := by
  have hb := b.isLt
  have hs := s.isLt
  have hd := d.isLt
  have h : val_main_v11 (F := Ideal) x0 x1 x2 x3 (ix3 b s d)
      = val_main_v1 (F := Ideal) x2 (ix3 b s d) + val_main_v5 (F := Ideal) x3 (ix3 0 0 d) * val_main_v8 (F := Ideal) x0 x1 (ix3 b s d) := by
    pointwise [val_main_v11, val_main_v10, val_main_v9]
  rw [h, val_main_v8_apply]
  unfold RES xr md
  have hm : mrow R.val < 8 := by unfold mrow; split_ifs <;> omega
  rw [dif_pos R.isLt, dif_pos hm, val_main_v1_apply, val_main_v0_apply, val_main_v5_apply, val_main_v4_apply]
  refine congrArg₂ (· + ·) (congrArg x2 (funext fun a => Fin.ext ?_)) (congrArg₂ (· * ·) (congrArg x3 (funext fun a => Fin.ext ?_)) ?_)
  · match a with
    | ⟨0, _⟩ => show ((b.val * 256 + s.val) * 1024 + d.val) / 1024 = R.val; omega
    | ⟨1, _⟩ => show ((b.val * 256 + s.val) * 1024 + d.val) % 1024 = d.val; omega
  · match a with
    | ⟨0, _⟩ =>
      show 0 = mrow _
      unfold mrow
      rw [if_pos (by omega)]
    | ⟨1, _⟩ => rfl
    | ⟨2, _⟩ => rfl
  · refine Finset.sum_congr rfl fun k _ => congrArg₂ (· * ·) ?_ ?_
    · refine (val_main_v6_apply x0 _).trans ((val_main_v3_apply x0 _).trans ((val_main_v2_apply x0 _).trans (congrArg x0 (funext fun a => Fin.ext ?_))))
      have hk := k.isLt
      match a with
      | ⟨0, _⟩ => show ((b.val * 256 + s.val) * 1024 + k.val) / 1024 = R.val; omega
      | ⟨1, _⟩ => show ((b.val * 256 + s.val) * 1024 + k.val) % 1024 = k.val; omega
    · refine (val_main_v7_apply x1 _).trans (congrArg x1 (funext fun a => Fin.ext ?_))
      match a with
      | ⟨0, _⟩ => rfl
      | ⟨1, _⟩ => rfl

/-- The sample rows. -/
theorem halfS (b : Fin 4) (s : Fin 2048) (d : Fin 1024) (R : Fin 12288) (hR : R.val = 4096 + 2048 * b.val + s.val) :
    val_main_v23 (F := Ideal) x0 x1 x2 x3 (ix3 b s d) = RES (fun R k => x0 (ix2 R k)) (fun k d => x1 (ix2 k d)) x2 x3 R d := by
  have hb := b.isLt
  have hs := s.isLt
  have hd := d.isLt
  have h : val_main_v23 (F := Ideal) x0 x1 x2 x3 (ix3 b s d)
      = val_main_v13 (F := Ideal) x2 (ix3 b s d) + val_main_v17 (F := Ideal) x3 (ix3 b 0 d) * val_main_v20 (F := Ideal) x0 x1 (ix3 b s d) := by
    pointwise [val_main_v23, val_main_v22, val_main_v21]
  rw [h, val_main_v20_apply]
  unfold RES xr md
  have hm : mrow R.val < 8 := by unfold mrow; split_ifs <;> omega
  rw [dif_pos R.isLt, dif_pos hm, val_main_v13_apply, val_main_v12_apply, val_main_v17_apply, val_main_v16_apply]
  refine congrArg₂ (· + ·) (congrArg x2 (funext fun a => Fin.ext ?_)) (congrArg₂ (· * ·) (congrArg x3 (funext fun a => Fin.ext ?_)) ?_)
  · match a with
    | ⟨0, _⟩ => show 4096 + ((b.val * 2048 + s.val) * 1024 + d.val) / 1024 = R.val; omega
    | ⟨1, _⟩ => show ((b.val * 2048 + s.val) * 1024 + d.val) % 1024 = d.val; omega
  · match a with
    | ⟨0, _⟩ =>
      show 1 + b.val = mrow _
      unfold mrow
      rw [if_neg (by omega)]
      omega
    | ⟨1, _⟩ => rfl
    | ⟨2, _⟩ => rfl
  · refine Finset.sum_congr rfl fun k _ => congrArg₂ (· * ·) ?_ ?_
    · refine (val_main_v18_apply x0 _).trans ((val_main_v15_apply x0 _).trans ((val_main_v14_apply x0 _).trans (congrArg x0 (funext fun a => Fin.ext ?_))))
      have hk := k.isLt
      match a with
      | ⟨0, _⟩ => show 4096 + ((b.val * 2048 + s.val) * 1024 + k.val) / 1024 = R.val; omega
      | ⟨1, _⟩ => show ((b.val * 2048 + s.val) * 1024 + k.val) % 1024 = k.val; omega
    · refine (val_main_v19_apply x1 _).trans (congrArg x1 (funext fun a => Fin.ext ?_))
      match a with
      | ⟨0, _⟩ => rfl
      | ⟨1, _⟩ => rfl

/-- The two halves joined. -/
theorem result (R : Fin 12288) (d : Fin 1024) :
    val_main_v26 (F := Ideal) x0 x1 x2 x3 (ix2 R d) = RES (fun R k => x0 (ix2 R k)) (fun k d => x1 (ix2 k d)) x2 x3 R d := by
  have hR := R.isLt
  have hd := d.isLt
  have h : val_main_v26 (F := Ideal) x0 x1 x2 x3 (ix2 R d)
      = if h : R.val < 4096 then val_main_v24 (F := Ideal) x0 x1 x2 x3 (ix2 ⟨R.val, h⟩ d)
        else val_main_v25 (F := Ideal) x0 x1 x2 x3 (ix2 ⟨R.val - 4096, by omega⟩ d) := by
    pointwise [val_main_v26]
  rw [h]
  by_cases hp : R.val < 4096
  · rw [dif_pos hp, val_main_v24_apply]
    rw [show idx_main_v24 (ix2 ⟨R.val, hp⟩ d) = ix3 ⟨R.val / 256, by omega⟩ ⟨R.val % 256, by omega⟩ d from funext fun a => Fin.ext (by
      match a with
      | ⟨0, _⟩ => show (R.val * 1024 + d.val) / 262144 = R.val / 256; omega
      | ⟨1, _⟩ => show (R.val * 1024 + d.val) / 1024 % 256 = R.val % 256; omega
      | ⟨2, _⟩ => show (R.val * 1024 + d.val) % 1024 = d.val; omega)]
    exact halfP x0 x1 x2 x3 _ _ d R (by simp only; omega)
  · rw [dif_neg hp, val_main_v25_apply]
    rw [show idx_main_v25 (ix2 ⟨R.val - 4096, by omega⟩ d) = ix3 ⟨(R.val - 4096) / 2048, by omega⟩ ⟨(R.val - 4096) % 2048, by omega⟩ d from
      funext fun a => Fin.ext (by
      match a with
      | ⟨0, _⟩ => show ((R.val - 4096) * 1024 + d.val) / 2097152 = (R.val - 4096) / 2048; omega
      | ⟨1, _⟩ => show ((R.val - 4096) * 1024 + d.val) / 1024 % 2048 = (R.val - 4096) % 2048; omega
      | ⟨2, _⟩ => show ((R.val - 4096) * 1024 + d.val) % 1024 = d.val; omega)]
    exact halfS x0 x1 x2 x3 _ _ d R (by simp only; omega)

end Cert.Reference4Ideal.Out

namespace Cert.Kernel4Ideal.Out

open Idealize.ShloMosaic Idealize.SL.Sem Idealize.ShloMosaic.TcCoe
open Cert.Kernel4Ideal.Gen

/-- The whole result array is the reference's. -/
theorem arr_eq (m : (ℓ : Loc nD τ sig) → Buf (Elt Ideal) ℓ) (c : Dev nD) : (dats m 0 c).arrAt 4 cfg0.N
    = Cert.Reference4Ideal.Read.val_main_v26 (F := Ideal) (m ((c : Thread nD τ).loc main_arg0)) (m ((c : Thread nD τ).loc main_arg1))
      (m ((c : Thread nD τ).loc main_arg2)) (m ((c : Thread nD τ).loc main_arg3)) := by
  funext (i : S12288x1024.Idx)
  obtain ⟨R, d, rfl⟩ : ∃ (R : Fin 12288) (d : Fin 1024), i = ix2 R d := ⟨i 0, i 1, funext fun a => match a with | ⟨0, _⟩ => rfl | ⟨1, _⟩ => rfl⟩
  exact (arr_at m c R d).trans (Cert.Reference4Ideal.Out.result _ _ _ _ R d).symm

end Cert.Kernel4Ideal.Out

end
-- ==== Proof.Qkv.Ctx.lean ====
/- The call `qkv_context`: what one grid point stores into the two caches. -/
module

public import proofs.«01_k».proof.Proof.Gen.Kernel6Ideal.Value
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.Kernel6Ideal.Qkv

open Idealize.ShloMosaic Idealize.SL.Sem Cert.Kernel6Ideal Cert.Kernel6Ideal.Gen Idealize.ShloMosaic.TcCoe

variable {F : FTy → Type} [FloatOps F]

/-- The block's normalised and modulated rows, -/
abbrev own (m : (ℓ : Loc nD τ sig) → Buf (Elt F) ℓ) (c : Dev nD) (t : Fin cfg0.N) :=
  k0_pay1 (F := F) (iblk m c 0 t) (iblk m c 1 t) (iblk m c 2 t) (iblk m c 3 t)

/-- and one chunk of a cache's columns, as the first of them computes it. -/
abbrev cchunk (H : Vec F S512x1024 .bf16) (w : Vec F S1024x256 .bf16) : FVec F S2x1x256x256 .f32 := k0_pay9 (F := F) (k0_pay6 H w)

theorem outsAt_k (m : (ℓ : Loc nD τ sig) → Buf (Elt F) ℓ) (c : Dev nD) (t : Fin cfg0.N) :
    (outsAt0 m c t).2.2.2.1 = View.canon [
      ⟨Rect.unit ![0, 0, 0, 768] ![2, 1, 256, 256] inb_S2x1x256x1024_S2x1x256x256_0_0_0_768,
        cchunk (own m c t) (View.ld (iblk m c 4 t) (Rect.unit ![0, 1792] ![1024, 256] inb_S1024x3072_S1024x256_0_1792))⟩,
      ⟨Rect.unit ![0, 0, 0, 512] ![2, 1, 256, 256] inb_S2x1x256x1024_S2x1x256x256_0_0_0_512,
        cchunk (own m c t) (View.ld (iblk m c 4 t) (Rect.unit ![0, 1536] ![1024, 256] inb_S1024x3072_S1024x256_0_1536))⟩,
      ⟨Rect.unit ![0, 0, 0, 256] ![2, 1, 256, 256] inb_S2x1x256x1024_S2x1x256x256_0_0_0_256,
        cchunk (own m c t) (View.ld (iblk m c 4 t) (Rect.unit ![0, 1280] ![1024, 256] inb_S1024x3072_S1024x256_0_1280))⟩,
      ⟨Rect.unit ![0, 0, 0, 0] ![2, 1, 256, 256] inb_S2x1x256x1024_S2x1x256x256_0_0_0_0,
        cchunk (own m c t) (View.ld (iblk m c 4 t) (Rect.unit ![0, 1024] ![1024, 256] inb_S1024x3072_S1024x256_0_1024))⟩] := by
  unfold outsAt0
  frame_out
  rfl

theorem outsAt_v (m : (ℓ : Loc nD τ sig) → Buf (Elt F) ℓ) (c : Dev nD) (t : Fin cfg0.N) :
    (outsAt0 m c t).2.2.2.2 = View.canon [
      ⟨Rect.unit ![0, 0, 0, 768] ![2, 1, 256, 256] inb_S2x1x256x1024_S2x1x256x256_0_0_0_768,
        cchunk (own m c t) (View.ld (iblk m c 4 t) (Rect.unit ![0, 2816] ![1024, 256] inb_S1024x3072_S1024x256_0_2816))⟩,
      ⟨Rect.unit ![0, 0, 0, 512] ![2, 1, 256, 256] inb_S2x1x256x1024_S2x1x256x256_0_0_0_512,
        cchunk (own m c t) (View.ld (iblk m c 4 t) (Rect.unit ![0, 2560] ![1024, 256] inb_S1024x3072_S1024x256_0_2560))⟩,
      ⟨Rect.unit ![0, 0, 0, 256] ![2, 1, 256, 256] inb_S2x1x256x1024_S2x1x256x256_0_0_0_256,
        cchunk (own m c t) (View.ld (iblk m c 4 t) (Rect.unit ![0, 2304] ![1024, 256] inb_S1024x3072_S1024x256_0_2304))⟩,
      ⟨Rect.unit ![0, 0, 0, 0] ![2, 1, 256, 256] inb_S2x1x256x1024_S2x1x256x256_0_0_0_0,
        cchunk (own m c t) (View.ld (iblk m c 4 t) (Rect.unit ![0, 2048] ![1024, 256] inb_S1024x3072_S1024x256_0_2048))⟩] := by
  unfold outsAt0
  frame_out
  rfl

end Cert.Kernel6Ideal.Qkv

end
-- ==== Proof.In.Block.lean ====
/- What one grid point of the call `ssd_in` stores, block by block: the six chunks of the convolved columns, the four of the gate's, and the time steps. -/
module

public import proofs.«01_k».proof.Proof.Gen.Kernel5Ideal.Value
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.Kernel5Ideal.In

open Idealize.ShloMosaic Idealize.SL.Sem Cert.Kernel5Ideal Cert.Kernel5Ideal.Gen Idealize.ShloMosaic.TcCoe

variable {F : FTy → Type} [FloatOps F]

/-- What a buffer of two slots reads at slot 0 when slot 1 was stored last, -/
theorem read_slot0 {sg : RefSig} {κ : Kind} {sp : Space} (v : View sg κ sp S2x1040x512 .f32) (A B : Vec F S1x1040x512 .f32)
    (L : List (View.Piece (Elt F) S2x1040x512 .f32)) :
    v.readCov (⟨Rect.unit ![1, 0, 0] ![1, 1040, 512] inb_S2x1040x512_S1x1040x512_1_0_0, B⟩
      :: ⟨Rect.unit ![0, 0, 0] ![1, 1040, 512] inb_S2x1040x512_S1x1040x512_0_0_0, A⟩ :: L)
      (Rect.unit (s := S2x1040x512) ![0, 0, 0] ![1, 1040, 512] inb_S2x1040x512_S1x1040x512_0_0_0).toLoadRect = A :=
  (View.readCov_skip v _ _ _ _ (by decide)).trans (View.readCov_cons_toLoadRect ..)

/-- and at slot 1 when slot 0 was. -/
theorem read_slot1 {sg : RefSig} {κ : Kind} {sp : Space} (v : View sg κ sp S2x1040x512 .f32) (A B : Vec F S1x1040x512 .f32)
    (L : List (View.Piece (Elt F) S2x1040x512 .f32)) :
    v.readCov (⟨Rect.unit ![0, 0, 0] ![1, 1040, 512] inb_S2x1040x512_S1x1040x512_0_0_0, B⟩
      :: ⟨Rect.unit ![1, 0, 0] ![1, 1040, 512] inb_S2x1040x512_S1x1040x512_1_0_0, A⟩ :: L)
      (Rect.unit (s := S2x1040x512) ![1, 0, 0] ![1, 1040, 512] inb_S2x1040x512_S1x1040x512_1_0_0).toLoadRect = A :=
  (View.readCov_skip v _ _ _ _ (by decide)).trans (View.readCov_cons_toLoadRect ..)

/-- The normalised rows with their halo, -/
abbrev rows (m : (ℓ : Loc nD τ sig) → Buf (Elt F) ℓ) (c : Dev nD) (t : Fin cfg0.N) :=
  k0_pay14 (F := F) (k0_pay4 (grid0.coords t)) (k0_pay9 (k0_pay3 (grid0.coords t)) (k0_pay5 (iblk m c 4 t)) (k0_pay6 (iblk m c 5 t))
      (k0_pay7 (iblk m c 0 t)) (k0_pay8 (iblk m c 3 t)))
    (k0_pay10 (iblk m c 3 t) (k0_pay5 (iblk m c 4 t)) (k0_pay6 (iblk m c 5 t)) (iblk m c 1 t))
    (k0_pay11 (iblk m c 3 t) (k0_pay5 (iblk m c 4 t)) (k0_pay6 (iblk m c 5 t)) (iblk m c 2 t))

/-- the block's own rows of them, -/
abbrev own (m : (ℓ : Loc nD τ sig) → Buf (Elt F) ℓ) (c : Dev nD) (t : Fin cfg0.N) :=
  k0_pay15 (F := F) (k0_pay4 (grid0.coords t)) (k0_pay9 (k0_pay3 (grid0.coords t)) (k0_pay5 (iblk m c 4 t)) (k0_pay6 (iblk m c 5 t))
      (k0_pay7 (iblk m c 0 t)) (k0_pay8 (iblk m c 3 t)))
    (k0_pay10 (iblk m c 3 t) (k0_pay5 (iblk m c 4 t)) (k0_pay6 (iblk m c 5 t)) (iblk m c 1 t))
    (k0_pay11 (iblk m c 3 t) (k0_pay5 (iblk m c 4 t)) (k0_pay6 (iblk m c 5 t)) (iblk m c 2 t))

/-- one chunk's convolution and activation, as the first of the six computes it, -/
abbrev chunk (kc : F .f32) (u : Vec F S1x1040x512 .f32) (w : Vec F S3x512 .f32) (b : Vec F S1x512 .f32) : FVec F S1024x512 .bf16 :=
  k0_pay22 (F := F) w b (k0_pay19 u) (k0_pay20 kc u) (k0_pay21 kc u)

/-- and one chunk of the gate's columns. -/
abbrev zchunk (H : Vec F S1024x1024 .bf16) (w : Vec F S1024x512 .bf16) : FVec F S1024x512 .bf16 := k0_pay23 (F := F) (k0_pay18 H w)

theorem outsAt_z (m : (ℓ : Loc nD τ sig) → Buf (Elt F) ℓ) (c : Dev nD) (t : Fin cfg0.N) :
    (outsAt0 m c t).1 = View.canon [
      ⟨Rect.unit ![0, 1536] ![1024, 512] inb_S1024x2048_S1024x512_0_1536,
        zchunk (own m c t) (View.ld (iblk m c 6 t) (Rect.unit ![0, 1536] ![1024, 512] inb_S1024x5120_S1024x512_0_1536))⟩,
      ⟨Rect.unit ![0, 1024] ![1024, 512] inb_S1024x2048_S1024x512_0_1024,
        zchunk (own m c t) (View.ld (iblk m c 6 t) (Rect.unit ![0, 1024] ![1024, 512] inb_S1024x5120_S1024x512_0_1024))⟩,
      ⟨Rect.unit ![0, 512] ![1024, 512] inb_S1024x2048_S1024x512_0_512,
        zchunk (own m c t) (View.ld (iblk m c 6 t) (Rect.unit ![0, 512] ![1024, 512] inb_S1024x5120_S1024x512_0_512))⟩,
      ⟨Rect.unit ![0, 0] ![1024, 512] inb_S1024x2048_S1024x512_0_0,
        zchunk (own m c t) (View.ld (iblk m c 6 t) (Rect.unit ![0, 0] ![1024, 512] inb_S1024x5120_S1024x512_0_0))⟩] := by
  unfold outsAt0
  frame_out
  rfl

theorem outsAt_dt (m : (ℓ : Loc nD τ sig) → Buf (Elt F) ℓ) (c : Dev nD) (t : Fin cfg0.N) :
    (outsAt0 m c t).2.2 = k0_pay2 (own m c t) (iblk m c 7 t) (iblk m c 10 t) := by
  unfold outsAt0
  frame_out

theorem outsAt_xbc (m : (ℓ : Loc nD τ sig) → Buf (Elt F) ℓ) (c : Dev nD) (t : Fin cfg0.N) :
    (outsAt0 m c t).2.1 = View.canon [
      ⟨Rect.unit ![0, 2560] ![1024, 512] inb_S1024x3072_S1024x512_0_2560,
        chunk (k0_pay13 (F := F) (BitVec.ofNat 32 (grid0.coords t 0).val)) (k0_pay16 (rows m c t) (View.ld (iblk m c 6 t) (Rect.unit ![0, 4608] ![1024, 512] inb_S1024x5120_S1024x512_0_4608)))
          (View.ld (iblk m c 8 t) (Rect.unit ![0, 2560] ![3, 512] inb_S3x3072_S3x512_0_2560))
          (View.ld (iblk m c 9 t) (Rect.unit ![0, 2560] ![1, 512] inb_S1x3072_S1x512_0_2560))⟩,
      ⟨Rect.unit ![0, 2048] ![1024, 512] inb_S1024x3072_S1024x512_0_2048,
        chunk (k0_pay13 (F := F) (BitVec.ofNat 32 (grid0.coords t 0).val)) (k0_pay16 (rows m c t) (View.ld (iblk m c 6 t) (Rect.unit ![0, 4096] ![1024, 512] inb_S1024x5120_S1024x512_0_4096)))
          (View.ld (iblk m c 8 t) (Rect.unit ![0, 2048] ![3, 512] inb_S3x3072_S3x512_0_2048))
          (View.ld (iblk m c 9 t) (Rect.unit ![0, 2048] ![1, 512] inb_S1x3072_S1x512_0_2048))⟩,
      ⟨Rect.unit ![0, 1536] ![1024, 512] inb_S1024x3072_S1024x512_0_1536,
        chunk (k0_pay13 (F := F) (BitVec.ofNat 32 (grid0.coords t 0).val)) (k0_pay16 (rows m c t) (View.ld (iblk m c 6 t) (Rect.unit ![0, 3584] ![1024, 512] inb_S1024x5120_S1024x512_0_3584)))
          (View.ld (iblk m c 8 t) (Rect.unit ![0, 1536] ![3, 512] inb_S3x3072_S3x512_0_1536))
          (View.ld (iblk m c 9 t) (Rect.unit ![0, 1536] ![1, 512] inb_S1x3072_S1x512_0_1536))⟩,
      ⟨Rect.unit ![0, 1024] ![1024, 512] inb_S1024x3072_S1024x512_0_1024,
        chunk (k0_pay13 (F := F) (BitVec.ofNat 32 (grid0.coords t 0).val)) (k0_pay16 (rows m c t) (View.ld (iblk m c 6 t) (Rect.unit ![0, 3072] ![1024, 512] inb_S1024x5120_S1024x512_0_3072)))
          (View.ld (iblk m c 8 t) (Rect.unit ![0, 1024] ![3, 512] inb_S3x3072_S3x512_0_1024))
          (View.ld (iblk m c 9 t) (Rect.unit ![0, 1024] ![1, 512] inb_S1x3072_S1x512_0_1024))⟩,
      ⟨Rect.unit ![0, 512] ![1024, 512] inb_S1024x3072_S1024x512_0_512,
        chunk (k0_pay13 (F := F) (BitVec.ofNat 32 (grid0.coords t 0).val)) (k0_pay16 (rows m c t) (View.ld (iblk m c 6 t) (Rect.unit ![0, 2560] ![1024, 512] inb_S1024x5120_S1024x512_0_2560)))
          (View.ld (iblk m c 8 t) (Rect.unit ![0, 512] ![3, 512] inb_S3x3072_S3x512_0_512))
          (View.ld (iblk m c 9 t) (Rect.unit ![0, 512] ![1, 512] inb_S1x3072_S1x512_0_512))⟩,
      ⟨Rect.unit ![0, 0] ![1024, 512] inb_S1024x3072_S1024x512_0_0,
        chunk (k0_pay13 (F := F) (BitVec.ofNat 32 (grid0.coords t 0).val)) (k0_pay16 (rows m c t) (View.ld (iblk m c 6 t) (Rect.unit ![0, 2048] ![1024, 512] inb_S1024x5120_S1024x512_0_2048)))
          (View.ld (iblk m c 8 t) (Rect.unit ![0, 0] ![3, 512] inb_S3x3072_S3x512_0_0))
          (View.ld (iblk m c 9 t) (Rect.unit ![0, 0] ![1, 512] inb_S1x3072_S1x512_0_0))⟩] := by
  unfold outsAt0
  frame_out
  simp only [↓read_slot0, ↓read_slot1, View.readCov_cons_toLoadRect]
  rfl

end Cert.Kernel5Ideal.In

end
-- ==== Proof.In.Conv.lean ====
/- What the convolution and the activations of one chunk of columns compute, element by element. -/
module

public import proofs.«01_k».proof.Proof.In.Block
public import proofs.«01_k».proof.Proof.Ffn.Spec

@[expose] public section

set_option maxRecDepth 16384

noncomputable section

namespace Cert.Kernel5Ideal.In

open Idealize.ShloMosaic Idealize.ShloMosaic.TcCoe
open Cert.Kernel5Ideal.Gen
open Cert.Kernel2Ideal.Ffn (cutb cuta cv word0 word1 lane_eq hr)

/-- Row `r`, column `c` of a tile of the projected rows. -/
def cell (u : Vec Ideal S1x1040x512 .f32) (r : ℕ) (c : Fin 512) : EReal :=
  if h : r < 1040 then u (ix3 0 ⟨r, h⟩ c) else 0

theorem cell_eq (u : Vec Ideal S1x1040x512 .f32) (r : ℕ) (h : r < 1040) (c : Fin 512) : u (ix3 0 ⟨r, h⟩ c) = cell u r c := by
  unfold cell
  rw [dif_pos h]

/-- The activation, -/
def sl (a : EReal) : EReal := Ideal.div a (1 + Ideal.exp (0 - a))
/-- and the one of the time steps. -/
def sp (v : EReal) : EReal := max v 0 + Ideal.log (1 + Ideal.exp (0 - max v (-v)))

variable (kc : EReal) (u : Vec Ideal S1x1040x512 .f32) (w : Vec Ideal S3x512 .f32) (b : Vec Ideal S1x512 .f32)

theorem after_at (n : Fin 128) (l : Fin 8) (c : Fin 512) :
    k0_pay21 (F := Ideal) kc u (ix3 n l c) = cell u (8 * n.val + l.val + 9) c * cuta kc (8 * n.val + l.val) := by
  pointwise [k0_pay21, k0_pay19]
  simp only [cell_eq]
  rw [show (7#32 : BitVec 32) = BitVec.ofNat 32 (7 : Fin 8).val from rfl, lane_eq]
  by_cases hl : l = 7
  · subst hl
    rw [if_pos rfl]
    unfold cuta
    split_ifs <;> first
      | (exfalso; simp at *; omega)
      | exact congrArg (fun r => cell u r c * kc) (by simp; omega)
      | (rw [mul_one]; exact congrArg (fun r => cell u r c) (by simp; omega))
  · rw [if_neg hl]
    have h7 : l.val ≠ 7 := fun e => hl (Fin.ext e)
    unfold cuta
    rw [if_neg (by omega), mul_one]
    exact congrArg (fun r => cell u r c) (by omega)

theorem before_at (n : Fin 128) (l : Fin 8) (c : Fin 512) :
    k0_pay20 (F := Ideal) kc u (ix3 n l c) = cell u (8 * n.val + l.val + 7) c * cutb kc (8 * n.val + l.val) := by
  pointwise [k0_pay20, k0_pay19]
  simp only [cell_eq]
  rw [show (0#32 : BitVec 32) = BitVec.ofNat 32 (0 : Fin 8).val from rfl, lane_eq]
  by_cases hl : l = 0
  · subst hl
    rw [if_pos rfl]
    unfold cutb
    split_ifs <;> first
      | (exfalso; simp at *; omega)
      | exact congrArg (fun r => cell u r c * kc) (by simp; omega)
      | (rw [mul_one]; exact congrArg (fun r => cell u r c) (by simp; omega))
  · rw [if_neg hl]
    have h7 : l.val ≠ 0 := fun e => hl (Fin.ext e)
    unfold cutb
    rw [if_neg (by omega), mul_one]
    exact congrArg (fun r => cell u r c) (by omega)

theorem chunk_at (p : Fin 1024) (c : Fin 512) : chunk (F := Ideal) kc u w b (ix2 p c)
    = sl (cv kc (fun r => cell u r c) (w (ix2 0 c)) (w (ix2 1 c)) (w (ix2 2 c)) (b (ix2 0 c)) p.val) := by
  unfold chunk
  pointwise [k0_pay22, k0_pay19]
  simp only [cell_eq]
  rw [after_at, before_at]
  have e : 8 * (p.val / 8) + p.val % 8 = p.val := by omega
  have e' : (1 + p.val / 8) * 8 + p.val % 8 = p.val + 8 := by omega
  simp only [e, e']
  rfl

/-- One column of the projection of the rows with their halo, -/
theorem cell_mm (H : Vec Ideal S1040x1024 .bf16) (Y : Vec Ideal S1024x512 .bf16) (r : ℕ) (c : Fin 512) :
    cell (k0_pay16 (F := Ideal) H Y) r c = ∑ k : Fin 1024, hr H r k * Y (ix2 k c) := by
  unfold cell
  by_cases h : r < 1040
  · rw [dif_pos h]
    pointwise [k0_pay16]
    refine Finset.sum_congr rfl fun k _ => ?_
    unfold hr
    rw [dif_pos h]
  · rw [dif_neg h]
    symm
    refine Finset.sum_eq_zero fun k _ => ?_
    unfold hr
    rw [dif_neg h, zero_mul]

/-- and of the block's own rows. -/
theorem zchunk_at (H : Vec Ideal S1024x1024 .bf16) (Y : Vec Ideal S1024x512 .bf16) (p : Fin 1024) (c : Fin 512) :
    zchunk (F := Ideal) H Y (ix2 p c) = sl (∑ k : Fin 1024, H (ix2 p k) * Y (ix2 k c)) := by
  unfold zchunk
  pointwise [k0_pay23, k0_pay18]
  rfl

theorem dt_at (H : Vec Ideal S1024x1024 .bf16) (Y : Vec Ideal S1024x512 .bf16) (p : Fin 1024) (c : Fin 512) :
    k0_pay2 (F := Ideal) H Y b (ix2 p c) = sp (∑ k : Fin 1024, H (ix2 p k) * Y (ix2 k c) + b (ix2 0 c)) := by
  pointwise [k0_pay2]
  rfl

variable (kp kn : EReal) (x0 : Vec Ideal S8x1024 .f32) (x1 : Vec Ideal S1024x1024 .f32) (x2 : Vec Ideal S8x1024 .f32)
    (g : Vec Ideal S1x1024 .f32) (sh sc : Vec Ideal S1x1x1024 .f32)

/-- The rows with their halo are those of the feed-forward network. -/
theorem rows_eq : k0_pay14 (F := Ideal) kn (k0_pay9 kp (k0_pay5 sh) (k0_pay6 sc) (k0_pay7 x0) (k0_pay8 g)) (k0_pay10 g (k0_pay5 sh) (k0_pay6 sc) x1)
    (k0_pay11 g (k0_pay5 sh) (k0_pay6 sc) x2) = Cert.Kernel2Ideal.Ffn.halo kp kn x0 x1 x2 g sh sc := rfl

theorem own_at (A : FVec Ideal S8x1024 .f32) (B : FVec Ideal S1024x1024 .f32) (C : FVec Ideal S8x1024 .f32) (p k : Fin 1024) :
    k0_pay15 (F := Ideal) kn A B C (ix2 p k) = hr (k0_pay14 (F := Ideal) kn A B C) (p.val + 8) k := by
  unfold hr
  rw [dif_pos (by omega)]
  pointwise [k0_pay15, k0_pay14]
  exact congrArg (fun r => k0_pay12 (F := Ideal) kn A B C (ix2 r k)) (Fin.ext (Nat.add_comm 8 p.val))

end Cert.Kernel5Ideal.In

end
-- ==== Proof.In.Spec.lean ====
/- The scan mixer's input projection as functions of the whole arrays, and one block's rows of them. -/
module

public import proofs.«01_k».proof.Proof.In.Conv

@[expose] public section

set_option maxRecDepth 16384

noncomputable section

namespace Cert.Kernel5Ideal.In

open Idealize.ShloMosaic Idealize.ShloMosaic.TcCoe
open Cert.Kernel5Ideal.Gen
open Cert.Kernel2Ideal.Ffn (cutb cuta cv hr nrm halo halo_main halo_prev halo_next mrow mrow_block opens closes xr md md_congr)

variable (x0 : Vec Ideal S12288x1024 .f32) (x1 : Vec Ideal S8x1x6144 .f32) (x2 : Vec Ideal S1x1024 .f32) (x3 : Vec Ideal S1024x5120 .bf16)
    (x4 : Vec Ideal S1024x512 .bf16) (x5 : Vec Ideal S3x3072 .f32) (x6 : Vec Ideal S1x3072 .f32) (x7 : Vec Ideal S1x512 .f32)

/-- The modulated norm of row `R`, -/
def HI (R : ℕ) (d : Fin 1024) : EReal := nrm (xr x0 R) (fun k => x2 (ix2 0 k)) (md x1 0 R) (md x1 1 R) d
/-- its product with one column, -/
def PJ (w : Fin 1024 → EReal) (R : ℕ) : EReal := ∑ k : Fin 1024, HI x0 x1 x2 R k * w k
/-- and the convolution of one column's products along the sequence. -/
def CI (w : Fin 1024 → EReal) (t0 t1 t2 b : EReal) (R : ℕ) : EReal :=
  (if opens R then 0 else PJ x0 x1 x2 w (R - 1)) * t0 + PJ x0 x1 x2 w R * t1 + (if closes R then 0 else PJ x0 x1 x2 w (R + 1)) * t2 + b

/-- The gate's columns, -/
def ZR (R : ℕ) (q : Fin 2048) : EReal := sl (PJ x0 x1 x2 (fun k => x3 (ix2 k ⟨q.val, by omega⟩)) R)
/-- the convolved columns -/
def XR (R : ℕ) (q : Fin 3072) : EReal :=
  sl (CI x0 x1 x2 (fun k => x3 (ix2 k ⟨2048 + q.val, by omega⟩)) (x5 (ix2 0 q)) (x5 (ix2 1 q)) (x5 (ix2 2 q)) (x6 (ix2 0 q)) R)
/-- and the time steps. -/
def DR (R : ℕ) (q : Fin 512) : EReal := sp (PJ x0 x1 x2 (fun k => x4 (ix2 k q)) R + x7 (ix2 0 q))

theorem HI_congr (R R' : ℕ) (h : mrow R = mrow R') (x : Fin 1024 → EReal) (hx : ∀ k, x k = xr x0 R k) (d : Fin 1024) :
    nrm x (fun k => x2 (ix2 0 k)) (md x1 0 R') (md x1 1 R') d = HI x0 x1 x2 R d := by
  unfold HI
  rw [show x = xr x0 R from funext hx, show md x1 0 R' = md x1 0 R from funext fun d => md_congr x1 0 _ _ h.symm d,
    show md x1 1 R' = md x1 1 R from funext fun d => md_congr x1 1 _ _ h.symm d]

variable (t : ℕ) (ht : t < 12) (kc kp kn : EReal) (X0 : Vec Ideal S8x1024 .f32) (X1 : Vec Ideal S1024x1024 .f32) (X2 : Vec Ideal S8x1024 .f32)
    (sh sc : Vec Ideal S1x1x1024 .f32)
    (hkc : kc = if 1024 * t < 4096 then 0 else 1) (hkp : kp = if opens (1024 * t) then 0 else 1)
    (hkn : kn = if closes (1024 * t + 1023) then 0 else 1)
    (h0 : 0 < t → ∀ k, X0 (ix2 7 k) = xr x0 (1024 * t - 1) k) (h1 : ∀ (p : Fin 1024) (k : Fin 1024), X1 (ix2 p k) = xr x0 (1024 * t + p.val) k)
    (h2 : t < 11 → ∀ k, X2 (ix2 0 k) = xr x0 (1024 * t + 1024) k)
    (hsh : ∀ k, sh (ix3 0 0 k) = md x1 0 (1024 * t) k) (hsc : ∀ k, sc (ix3 0 0 k) = md x1 1 (1024 * t) k)

include ht h1 hsh hsc in
theorem main_row (p : ℕ) (hp : p < 1024) (w : Fin 1024 → EReal) :
    ∑ k : Fin 1024, hr (halo kp kn X0 X1 X2 x2 sh sc) (p + 8) k * w k = PJ x0 x1 x2 w (1024 * t + p) := by
  unfold PJ
  refine Finset.sum_congr rfl fun k _ => congrArg (· * w k) ?_
  rw [halo_main kp kn X0 X1 X2 x2 sh sc p hp k]
  rw [show (fun k => sh (ix3 0 0 k)) = md x1 0 (1024 * t) from funext hsh, show (fun k => sc (ix3 0 0 k)) = md x1 1 (1024 * t) from funext hsc]
  exact HI_congr x0 x1 x2 (1024 * t + p) (1024 * t) (mrow_block t ht p hp) _ (fun k => h1 ⟨p, hp⟩ k) k

include ht hkp h0 hsh hsc in
theorem prev_row (w : Fin 1024 → EReal) : ∑ k : Fin 1024, hr (halo kp kn X0 X1 X2 x2 sh sc) 7 k * w k
    = if opens (1024 * t) then 0 else PJ x0 x1 x2 w (1024 * t - 1) := by
  simp only [halo_prev kp kn X0 X1 X2 x2 sh sc]
  rw [hkp]
  split
  · simp only [mul_zero, zero_mul, Finset.sum_const_zero]
  · rename_i ho
    unfold PJ
    refine Finset.sum_congr rfl fun k _ => congrArg (· * w k) ?_
    rw [mul_one, show (fun k => sh (ix3 0 0 k)) = md x1 0 (1024 * t) from funext hsh, show (fun k => sc (ix3 0 0 k)) = md x1 1 (1024 * t) from funext hsc]
    refine HI_congr x0 x1 x2 (1024 * t - 1) (1024 * t) ?_ _ (h0 (by omega)) k
    unfold mrow
    split_ifs <;> omega

include ht hkn h2 hsh hsc in
theorem next_row (w : Fin 1024 → EReal) : ∑ k : Fin 1024, hr (halo kp kn X0 X1 X2 x2 sh sc) 1032 k * w k
    = if closes (1024 * t + 1023) then 0 else PJ x0 x1 x2 w (1024 * t + 1024) := by
  simp only [halo_next kp kn X0 X1 X2 x2 sh sc]
  rw [hkn]
  split
  · simp only [mul_zero, zero_mul, Finset.sum_const_zero]
  · rename_i ho
    unfold PJ
    refine Finset.sum_congr rfl fun k _ => congrArg (· * w k) ?_
    rw [mul_one, show (fun k => sh (ix3 0 0 k)) = md x1 0 (1024 * t) from funext hsh, show (fun k => sc (ix3 0 0 k)) = md x1 1 (1024 * t) from funext hsc]
    refine HI_congr x0 x1 x2 (1024 * t + 1024) (1024 * t) ?_ _ (h2 (by omega)) k
    unfold mrow
    split_ifs <;> omega

include ht hkc hkp hkn h0 h1 h2 hsh hsc in
theorem conv_row (p : Fin 1024) (w : Fin 1024 → EReal) (t0 t1 t2 b : EReal) :
    cv kc (fun r => ∑ k : Fin 1024, hr (halo kp kn X0 X1 X2 x2 sh sc) r k * w k) t0 t1 t2 b p.val = CI x0 x1 x2 w t0 t1 t2 b (1024 * t + p.val) := by
  have hp := p.isLt
  have hm := fun p hp => main_row x0 x1 x2 t ht kp kn X0 X1 X2 sh sc h1 hsh hsc p hp w
  have eb : (∑ k : Fin 1024, hr (halo kp kn X0 X1 X2 x2 sh sc) (p.val + 7) k * w k) * cutb kc p.val
      = if opens (1024 * t + p.val) then 0 else PJ x0 x1 x2 w (1024 * t + p.val - 1) := by
    by_cases h : p.val = 0
    · rw [h, Nat.zero_add, prev_row x0 x1 x2 t ht kp kn X0 X1 X2 sh sc hkp h0 hsh hsc w]
      unfold cutb
      rw [if_neg (show ¬((0 : ℕ) = 256 ∨ (0 : ℕ) = 512 ∨ (0 : ℕ) = 768) by omega), mul_one]
      rfl
    · have e := hm (p.val - 1) (by omega)
      rw [show p.val - 1 + 8 = p.val + 7 by omega, show 1024 * t + (p.val - 1) = 1024 * t + p.val - 1 by omega] at e
      rw [e]
      unfold cutb
      rw [hkc]
      split_ifs <;> first
        | (exfalso; omega)
        | rw [mul_zero]
        | rw [mul_one]
  have ea : (∑ k : Fin 1024, hr (halo kp kn X0 X1 X2 x2 sh sc) (p.val + 9) k * w k) * cuta kc p.val
      = if closes (1024 * t + p.val) then 0 else PJ x0 x1 x2 w (1024 * t + p.val + 1) := by
    by_cases h : p.val = 1023
    · rw [h, next_row x0 x1 x2 t ht kp kn X0 X1 X2 sh sc hkn h2 hsh hsc w]
      unfold cuta
      rw [if_neg (show ¬((1023 : ℕ) = 255 ∨ (1023 : ℕ) = 511 ∨ (1023 : ℕ) = 767) by omega), mul_one]
    · have e := hm (p.val + 1) (by omega)
      rw [show p.val + 1 + 8 = p.val + 9 by omega, show 1024 * t + (p.val + 1) = 1024 * t + p.val + 1 by omega] at e
      rw [e]
      unfold cuta
      rw [hkc]
      split_ifs <;> first
        | (exfalso; omega)
        | rw [mul_zero]
        | rw [mul_one]
  unfold cv CI
  dsimp only
  rw [eb, ea, hm p.val hp]

end Cert.Kernel5Ideal.In

end
-- ==== Proof.Qkv.CtxAt.lean ====
/- The blocks each grid point of the call `qkv_context` reads, and the two caches after the run. -/
module

public import proofs.«01_k».proof.Proof.Qkv.Ctx
public import proofs.«01_k».proof.Proof.In.Spec
public import proofs.«01_k».proof.Proof.Gen.Kernel6Ideal.Points
public import Idealize.ShloMosaic.Lib.Pointwise
public import Idealize.ShloMosaic.Lib.Pipeline.ValueKit.Geometry
public import Idealize.ShloMosaic.Lib.Pipeline.ValueKit.Tiles
public import Idealize.ShloMosaic.Lib.VecWindow

@[expose] public section

set_option maxRecDepth 16384

noncomputable section

namespace Cert.Kernel6Ideal.Qkv

open Idealize.ShloMosaic Idealize.SL.Sem Cert.Kernel6Ideal Cert.Kernel6Ideal.Gen Idealize.ShloMosaic.TcCoe
open Cert.Kernel2Ideal.Ffn (xr md mrow nrm md_congr)
open Cert.Kernel5Ideal.In (HI PJ HI_congr)

variable (m : (ℓ : Loc nD τ sig) → Buf (Elt Ideal) ℓ) (c : Dev nD)

theorem e0 : ∀ t, win0_0.index t = ![t.val, 0] := (by decide +kernel : ∀ t : Fin grid0.N, win0_0.index t = ![t.val, 0])
theorem e1 : ∀ t, win0_1.index t = ![0, 0] := (by decide +kernel : ∀ t : Fin grid0.N, win0_1.index t = ![0, 0])
theorem e2 : ∀ t, win0_2.index t = ![0, 0, 0] := (by decide +kernel : ∀ t : Fin grid0.N, win0_2.index t = ![0, 0, 0])
theorem e3 : ∀ t, win0_3.index t = ![0, 0, 1] := (by decide +kernel : ∀ t : Fin grid0.N, win0_3.index t = ![0, 0, 1])
theorem e4 : ∀ t, win0_4.index t = ![0, 0] := (by decide +kernel : ∀ t : Fin grid0.N, win0_4.index t = ![0, 0])
theorem e8 : ∀ t, win0_8.index t = ![t.val, 1, 0, 0] := (by decide +kernel : ∀ t : Fin grid0.N, win0_8.index t = ![t.val, 1, 0, 0])
theorem e9 : ∀ t, win0_9.index t = ![t.val, 1, 0, 0] := (by decide +kernel : ∀ t : Fin grid0.N, win0_9.index t = ![t.val, 1, 0, 0])

theorem t_lt (t : Fin cfg0.N) : t.val < 8 := (by decide +kernel : ∀ t : Fin grid0.N, t.val < 8) t

theorem mrow_lt (t : Fin cfg0.N) : mrow (512 * t.val) = 0 := (by decide +kernel : ∀ t : Fin grid0.N, mrow (512 * t.val) = 0) t

theorem blk0 (t : Fin cfg0.N) (p : Fin 512) (k : Fin 1024) : iblk m c 0 t (ix2 p k) = xr (m ((c : Thread nD τ).loc main_arg0)) (512 * t.val + p.val) k := by
  have ht := t_lt t
  unfold iblk xr
  rw [dif_pos (by omega), show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    show _ = 512 * t.val + p.val
    try omega
  | ⟨1, _⟩ =>
    blk_simp [e0]

theorem blk1 (t : Fin cfg0.N) : iblk m c 1 t = m ((c : Thread nD τ).loc main_arg2) := by
  unfold iblk
  rw [show V m c (Pipeline.arrRef spec0 1) = m ((c : Thread nD τ).loc main_arg2) from V_main_arg2 m c]
  funext i
  show m ((c : Thread nD τ).loc main_arg2) _ = _
  congr 1
  funext a
  apply Fin.ext
  match a with
  | ⟨0, _⟩ =>
    blk_simp [e1]
  | ⟨1, _⟩ =>
    blk_simp [e1]

theorem blk4 (t : Fin cfg0.N) : iblk m c 4 t = m ((c : Thread nD τ).loc main_arg3) := by
  unfold iblk
  rw [show V m c (Pipeline.arrRef spec0 4) = m ((c : Thread nD τ).loc main_arg3) from V_main_arg3 m c]
  funext i
  show m ((c : Thread nD τ).loc main_arg3) _ = _
  congr 1
  funext a
  apply Fin.ext
  match a with
  | ⟨0, _⟩ =>
    blk_simp [e4]
  | ⟨1, _⟩ =>
    blk_simp [e4]

theorem blk2 (t : Fin cfg0.N) (k : Fin 1024) : iblk m c 2 t (ix3 0 0 k) = md (m ((c : Thread nD τ).loc main_arg1)) 0 (512 * t.val) k := by
  have hm := mrow_lt t
  unfold iblk md
  rw [dif_pos (by omega), show V m c (Pipeline.arrRef spec0 2) = m ((c : Thread nD τ).loc main_arg1) from V_main_arg1 m c]
  show m ((c : Thread nD τ).loc main_arg1) _ = _
  congr 1
  funext a
  apply Fin.ext
  match a with
  | ⟨0, _⟩ =>
    blk_simp [e2]
    exact hm.symm
  | ⟨1, _⟩ =>
    blk_simp [e2]
  | ⟨2, _⟩ =>
    blk_simp [e2]
    show _ = 1024 * 0 + k.val
    try omega

theorem blk3 (t : Fin cfg0.N) (k : Fin 1024) : iblk m c 3 t (ix3 0 0 k) = md (m ((c : Thread nD τ).loc main_arg1)) 1 (512 * t.val) k := by
  have hm := mrow_lt t
  unfold iblk md
  rw [dif_pos (by omega), show V m c (Pipeline.arrRef spec0 3) = m ((c : Thread nD τ).loc main_arg1) from V_main_arg1 m c]
  show m ((c : Thread nD τ).loc main_arg1) _ = _
  congr 1
  funext a
  apply Fin.ext
  match a with
  | ⟨0, _⟩ =>
    blk_simp [e3]
    exact hm.symm
  | ⟨1, _⟩ =>
    blk_simp [e3]
  | ⟨2, _⟩ =>
    blk_simp [e3]
    show _ = 1024 * 1 + k.val
    try omega

theorem norm_at (x : Vec Ideal S512x1024 .f32) (g : Vec Ideal S1x1024 .f32) (sh sc : Vec Ideal S1x1x1024 .f32) (p : Fin 512) (d : Fin 1024) :
    k0_pay1 (F := Ideal) x g sh sc (ix2 p d)
      = nrm (fun k => x (ix2 p k)) (fun k => g (ix2 0 k)) (fun k => sh (ix3 0 0 k)) (fun k => sc (ix3 0 0 k)) d := by
  pointwise [k0_pay1, nrm]

/-- One chunk of a cache, element by element: row `r` of sequence `s` of the block's two. -/
theorem cchunk_at (H : Vec Ideal S512x1024 .bf16) (w : Vec Ideal S1024x256 .bf16) (s : Fin 2) (r l : Fin 256) :
    cchunk (F := Ideal) H w (ix4 s 0 r l) = ∑ k : Fin 1024, H (ix2 ⟨256 * s.val + r.val, by omega⟩ k) * w (ix2 k l) := by
  pointwise [cchunk, k0_pay9, k0_pay6]
  simp only [Nat.mul_comm]

theorem own_at (t : Fin cfg0.N) (p : Fin 512) (d : Fin 1024) :
    own (F := Ideal) m c t (ix2 p d)
      = HI (m ((c : Thread nD τ).loc main_arg0)) (m ((c : Thread nD τ).loc main_arg1)) (m ((c : Thread nD τ).loc main_arg2)) (512 * t.val + p.val) d := by
  have ht := t_lt t
  refine (norm_at _ _ _ _ p d).trans ?_
  rw [blk1, show (fun k => iblk m c 2 t (ix3 0 0 k)) = md (m ((c : Thread nD τ).loc main_arg1)) 0 (512 * t.val) from funext fun k => blk2 m c t k,
    show (fun k => iblk m c 3 t (ix3 0 0 k)) = md (m ((c : Thread nD τ).loc main_arg1)) 1 (512 * t.val) from funext fun k => blk3 m c t k]
  exact HI_congr _ _ _ _ _ (by unfold mrow; split_ifs <;> omega) _ (fun k => blk0 m c t p k) d

/-- The caches' new columns at the array's row `R`, of the call's arguments: column `q` of the weights. -/
abbrev pj (R : ℕ) (q : Fin 3072) : EReal :=
  PJ (m ((c : Thread nD τ).loc main_arg0)) (m ((c : Thread nD τ).loc main_arg1)) (m ((c : Thread nD τ).loc main_arg2)) (fun k => (m ((c : Thread nD τ).loc main_arg3)) (ix2 k q)) R

theorem chunk_at (t : Fin cfg0.N) (o : ℕ) (inb : ∀ a, (![0, o] : Fin 2 → ℕ) a + (![1024, 256] : Fin 2 → ℕ) a ≤ S1024x3072.size a)
    (s : Fin 2) (r l : Fin 256) (q : Fin 3072) (hq : q.val = o + l.val) :
    cchunk (F := Ideal) (own m c t) (View.ld (iblk m c 4 t) (Rect.unit (s := S1024x3072) ![0, o] ![1024, 256] inb)) (ix4 s 0 r l)
      = pj m c (512 * t.val + (256 * s.val + r.val)) q := by
  rw [cchunk_at, blk4]
  unfold pj PJ
  refine Finset.sum_congr rfl fun k _ => congrArg₂ (· * ·) (own_at m c t _ k) ?_
  refine View.ld_unit_apply_of (S := S1024x3072) (m ((c : Thread nD τ).loc main_arg3)) ![0, o] ![1024, 256] inb (ix2 k l) _ fun a => ?_
  match a with
  | ⟨0, _⟩ => exact (Nat.zero_add _).symm
  | ⟨1, _⟩ => exact hq

theorem at_row (s : Fin 2) (r : Fin 256) (x : S2x1x256x256.Idx) (h0 : s.val = (x 0).val) (h2 : r.val = (x 2).val) : x = ix4 s 0 r (x 3) := by
  funext a
  match a with
  | ⟨0, _⟩ => exact Fin.ext h0.symm
  | ⟨1, _⟩ => exact Fin.fin_one_eq_zero _
  | ⟨2, _⟩ => exact Fin.ext h2.symm
  | ⟨3, _⟩ => rfl

theorem k_at (t : Fin cfg0.N) (s : Fin 2) (r : Fin 256) (q : Fin 1024) :
    (outsAt0 m c t).2.2.2.1 (ix4 s 0 r q) = pj m c (512 * t.val + (256 * s.val + r.val)) ⟨1024 + q.val, by omega⟩ := by
  rw [outsAt_k]
  canon_tiles x h
  · rw [at_row s r x h0 h2]
    exact chunk_at m c t 1792 _ s r (x 3) _ (by have h3 : q.val = 768 + (x 3).val := h3; show 1024 + q.val = 1792 + (x 3).val; omega)
  · rw [at_row s r x h0 h2]
    exact chunk_at m c t 1536 _ s r (x 3) _ (by have h3 : q.val = 512 + (x 3).val := h3; show 1024 + q.val = 1536 + (x 3).val; omega)
  · rw [at_row s r x h0 h2]
    exact chunk_at m c t 1280 _ s r (x 3) _ (by have h3 : q.val = 256 + (x 3).val := h3; show 1024 + q.val = 1280 + (x 3).val; omega)
  · rw [at_row s r x h0 h2]
    exact chunk_at m c t 1024 _ s r (x 3) _ (by have h3 : q.val = (x 3).val := h3; show 1024 + q.val = 1024 + (x 3).val; omega)

theorem v_at (t : Fin cfg0.N) (s : Fin 2) (r : Fin 256) (q : Fin 1024) :
    (outsAt0 m c t).2.2.2.2 (ix4 s 0 r q) = pj m c (512 * t.val + (256 * s.val + r.val)) ⟨2048 + q.val, by omega⟩ := by
  rw [outsAt_v]
  canon_tiles x h
  · rw [at_row s r x h0 h2]
    exact chunk_at m c t 2816 _ s r (x 3) _ (by have h3 : q.val = 768 + (x 3).val := h3; show 2048 + q.val = 2816 + (x 3).val; omega)
  · rw [at_row s r x h0 h2]
    exact chunk_at m c t 2560 _ s r (x 3) _ (by have h3 : q.val = 512 + (x 3).val := h3; show 2048 + q.val = 2560 + (x 3).val; omega)
  · rw [at_row s r x h0 h2]
    exact chunk_at m c t 2304 _ s r (x 3) _ (by have h3 : q.val = 256 + (x 3).val := h3; show 2048 + q.val = 2304 + (x 3).val; omega)
  · rw [at_row s r x h0 h2]
    exact chunk_at m c t 2048 _ s r (x 3) _ (by have h3 : q.val = (x 3).val := h3; show 2048 + q.val = 2048 + (x 3).val; omega)

/-- The caches after the run, in the slot the call writes, -/
theorem arr8_new (b : Fin 16) (r : Fin 256) (q : Fin 1024) :
    (dats m 0 c).arrAt 8 cfg0.N (ix4 b 1 r q) = pj m c (256 * b.val + r.val) ⟨1024 + q.val, by omega⟩ := by
  have hb := b.isLt
  have ht : b.val / 2 < 8 := by omega
  let t : Fin cfg0.N := ⟨b.val / 2, ht⟩
  let s : Fin 2 := ⟨b.val % 2, by omega⟩
  have hp : 512 * t.val + (256 * s.val + r.val) = 256 * b.val + r.val := by show 512 * (b.val / 2) + (256 * (b.val % 2) + r.val) = _; omega
  have hw := congrFun (Cert.Kernel6Ideal.Value.blocks8 m c t (flush0_8 t)) (ix4 s 0 r q)
  rw [Cert.Kernel6Ideal.Value.flushed8] at hw
  refine Eq.trans ?_ (hw.trans ((k_at m c t s r q).trans (by rw [hp])))
  generalize (dats m 0 c).arrAt 8 cfg0.N = X
  show X _ = X _
  congr 1
  funext a
  apply Fin.ext
  match a with
  | ⟨0, _⟩ =>
    blk_simp [e8]
    show b.val = b.val / 2 * 2 + b.val % 2
    omega
  | ⟨1, _⟩ =>
    blk_simp [e8]
    rfl
  | ⟨2, _⟩ =>
    blk_simp [e8]
  | ⟨3, _⟩ =>
    blk_simp [e8]

theorem arr9_new (b : Fin 16) (r : Fin 256) (q : Fin 1024) :
    (dats m 0 c).arrAt 9 cfg0.N (ix4 b 1 r q) = pj m c (256 * b.val + r.val) ⟨2048 + q.val, by omega⟩ := by
  have hb := b.isLt
  have ht : b.val / 2 < 8 := by omega
  let t : Fin cfg0.N := ⟨b.val / 2, ht⟩
  let s : Fin 2 := ⟨b.val % 2, by omega⟩
  have hp : 512 * t.val + (256 * s.val + r.val) = 256 * b.val + r.val := by show 512 * (b.val / 2) + (256 * (b.val % 2) + r.val) = _; omega
  have hw := congrFun (Cert.Kernel6Ideal.Value.blocks9 m c t (flush0_9 t)) (ix4 s 0 r q)
  rw [Cert.Kernel6Ideal.Value.flushed9] at hw
  refine Eq.trans ?_ (hw.trans ((v_at m c t s r q).trans (by rw [hp])))
  generalize (dats m 0 c).arrAt 9 cfg0.N = X
  show X _ = X _
  congr 1
  funext a
  apply Fin.ext
  match a with
  | ⟨0, _⟩ =>
    blk_simp [e9]
    show b.val = b.val / 2 * 2 + b.val % 2
    omega
  | ⟨1, _⟩ =>
    blk_simp [e9]
    rfl
  | ⟨2, _⟩ =>
    blk_simp [e9]
  | ⟨3, _⟩ =>
    blk_simp [e9]

theorem V_v0_3 : V m c main_v0_3 = m ((c : Thread nD τ).loc main_arg4) := by
  unfold_abbrev_sides
  after_results
  rfl

theorem V_v0_4 : V m c main_v0_4 = m ((c : Thread nD τ).loc main_arg5) := by
  unfold_abbrev_sides
  after_results
  rfl

/-- and in the other: the cache the call was given. -/
theorem arr8_old (b : Fin 16) (r : Fin 256) (q : Fin 1024) :
    (dats m 0 c).arrAt 8 cfg0.N (ix4 b 0 r q) = m ((c : Thread nD τ).loc main_arg4) (ix4 b 0 r q) := by
  refine (Cert.Kernel6Ideal.Value.entry8 m c _ fun t _ hm => ?_).trans (congrFun (V_v0_3 m c) _)
  mem_blk [e8] at hm
  obtain ⟨-, ⟨h, -⟩, -⟩ := hm
  exact absurd h (show ¬ (1 ≤ 0) by decide)

theorem arr9_old (b : Fin 16) (r : Fin 256) (q : Fin 1024) :
    (dats m 0 c).arrAt 9 cfg0.N (ix4 b 0 r q) = m ((c : Thread nD τ).loc main_arg5) (ix4 b 0 r q) := by
  refine (Cert.Kernel6Ideal.Value.entry9 m c _ fun t _ hm => ?_).trans (congrFun (V_v0_4 m c) _)
  mem_blk [e9] at hm
  obtain ⟨-, ⟨h, -⟩, -⟩ := hm
  exact absurd h (show ¬ (1 ≤ 0) by decide)

end Cert.Kernel6Ideal.Qkv

end
-- ==== Proof.Qkv.CtxRef.lean ====
/- The reference's two caches, element by element, and that the call's are the same. -/
module

public import proofs.«01_k».proof.Proof.Gen.Reference6Ideal.Read
public import proofs.«01_k».proof.Proof.Qkv.CtxAt
public import proofs.«01_k».proof.Proof.Ffn.Ref

@[expose] public section

set_option maxRecDepth 16384

noncomputable section

namespace Cert.Reference6Ideal.Qkv

open Idealize.ShloMosaic Idealize.SL.Sem Cert.Reference6Ideal Cert.Reference6Ideal.Gen Cert.Reference6Ideal.Read Idealize.ShloMosaic.TcCoe
open Cert.Kernel2Ideal.Ffn (xr md mrow nrm)
open Cert.Kernel5Ideal.In (HI PJ)
open Cert.Reference2Ideal.Ffn (mrowP)

variable (x0 : Vec Ideal S12288x1024 .f32) (x1 : Vec Ideal S8x1x6144 .f32) (x2 : Vec Ideal S1x1024 .f32) (x3 : Vec Ideal S1024x3072 .bf16)
    (x4 x5 : Vec Ideal S16x2x256x1024 .f32)

theorem rowP (b : Fin 16) (s : Fin 256) (d : Fin 1024) : val_main_v1 (F := Ideal) x0 (ix3 b s d) = xr x0 (256 * b.val + s.val) d := by
  have hb := b.isLt
  have hs := s.isLt
  have hd := d.isLt
  unfold xr
  rw [dif_pos (by omega), val_main_v1_apply, val_main_v0_apply]
  refine congrArg x0 (funext fun a => Fin.ext ?_)
  match a with
  | ⟨0, _⟩ => show ((b.val * 256 + s.val) * 1024 + d.val) / 1024 = 256 * b.val + s.val; omega
  | ⟨1, _⟩ => show ((b.val * 256 + s.val) * 1024 + d.val) % 1024 = d.val; omega

theorem mod0P (b : Fin 16) (s : Fin 256) (d : Fin 1024) :
    val_main_v2 (F := Ideal) x1 (ix3 0 0 d) = md x1 0 (256 * b.val + s.val) d := by
  have hb := b.isLt
  have hm := mrowP b s
  unfold md
  rw [dif_pos (by omega), val_main_v2_apply]
  refine congrArg x1 (funext fun a => Fin.ext ?_)
  match a with
  | ⟨0, _⟩ => exact hm.symm
  | ⟨1, _⟩ => rfl
  | ⟨2, _⟩ => show d.val = 1024 * 0 + d.val; omega

theorem mod1P (b : Fin 16) (s : Fin 256) (d : Fin 1024) :
    val_main_v3 (F := Ideal) x1 (ix3 0 0 d) = md x1 1 (256 * b.val + s.val) d := by
  have hb := b.isLt
  have hm := mrowP b s
  unfold md
  rw [dif_pos (by omega), val_main_v3_apply]
  refine congrArg x1 (funext fun a => Fin.ext ?_)
  match a with
  | ⟨0, _⟩ => exact hm.symm
  | ⟨1, _⟩ => rfl
  | ⟨2, _⟩ => rfl

/-- The modulated norm. -/
theorem normP (b : Fin 16) (s : Fin 256) (d : Fin 1024) : val_main_v23 (F := Ideal) x0 x1 x2 (ix3 b s d) = HI x0 x1 x2 (256 * b.val + s.val) d := by
  have h : val_main_v23 (F := Ideal) x0 x1 x2 (ix3 b s d) = nrm (fun k => val_main_v1 (F := Ideal) x0 (ix3 b s k)) (fun k => x2 (ix2 0 k))
      (fun k => val_main_v2 (F := Ideal) x1 (ix3 0 0 k)) (fun k => val_main_v3 (F := Ideal) x1 (ix3 0 0 k)) d := by
    pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, nrm]
  rw [h]
  unfold HI
  simp only [rowP]
  rw [show (fun k => val_main_v2 (F := Ideal) x1 (ix3 0 0 k)) = md x1 0 (256 * b.val + s.val) from funext fun k => mod0P x1 b s k,
    show (fun k => val_main_v3 (F := Ideal) x1 (ix3 0 0 k)) = md x1 1 (256 * b.val + s.val) from funext fun k => mod1P x1 b s k]

/-- Its product with the weights. -/
theorem wideP (b : Fin 16) (s : Fin 256) (q : Fin 3072) :
    val_main_v25 (F := Ideal) x0 x1 x2 x3 (ix3 b s q) = PJ x0 x1 x2 (fun k => x3 (ix2 k q)) (256 * b.val + s.val) := by
  rw [val_main_v25_apply]
  unfold PJ
  refine Finset.sum_congr rfl fun k _ => ?_
  rw [← normP x0 x1 x2 b s k]
  refine congrArg₂ (· * ·) (congrArg _ ?_) ((val_main_v24_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

theorem k_old (b : Fin 16) (r : Fin 256) (q : Fin 1024) : val_main_v33 (F := Ideal) x0 x1 x2 x3 x4 (ix4 b 0 r q) = x4 (ix4 b 0 r q) := by
  pointwise [val_main_v33, val_main_v31, val_main_v30, val_main_v29]

theorem v_old (b : Fin 16) (r : Fin 256) (q : Fin 1024) : val_main_v38 (F := Ideal) x0 x1 x2 x3 x5 (ix4 b 0 r q) = x5 (ix4 b 0 r q) := by
  pointwise [val_main_v38, val_main_v36, val_main_v35, val_main_v34]

theorem k_new (b : Fin 16) (r : Fin 256) (q : Fin 1024) : val_main_v33 (F := Ideal) x0 x1 x2 x3 x4 (ix4 b 1 r q)
    = PJ x0 x1 x2 (fun k => x3 (ix2 k ⟨1024 + q.val, by omega⟩)) (256 * b.val + r.val) := by
  rw [← wideP]
  pointwise [val_main_v33, val_main_v32, val_main_v27]

theorem v_new (b : Fin 16) (r : Fin 256) (q : Fin 1024) : val_main_v38 (F := Ideal) x0 x1 x2 x3 x5 (ix4 b 1 r q)
    = PJ x0 x1 x2 (fun k => x3 (ix2 k ⟨2048 + q.val, by omega⟩)) (256 * b.val + r.val) := by
  rw [← wideP]
  pointwise [val_main_v38, val_main_v37, val_main_v28]

end Cert.Reference6Ideal.Qkv

namespace Cert.Kernel6Ideal.Qkv

open Idealize.ShloMosaic Idealize.SL.Sem Cert.Kernel6Ideal Cert.Kernel6Ideal.Gen Idealize.ShloMosaic.TcCoe

variable (m : (ℓ : Loc nD τ sig) → Buf (Elt Ideal) ℓ) (c : Dev nD)

/-- An index of a cache, by its slot. -/
theorem slot (i : S16x2x256x1024.Idx) : i = ix4 (i 0) 0 (i 2) (i 3) ∨ i = ix4 (i 0) 1 (i 2) (i 3) := by
  have h : (i 1).val = 0 ∨ (i 1).val = 1 := by
    have h : (i 1).val < 2 := (i 1).isLt
    omega
  refine h.imp (fun h => ?_) (fun h => ?_) <;> funext a
  · match a with
    | ⟨0, _⟩ => rfl
    | ⟨1, _⟩ => exact Fin.ext h
    | ⟨2, _⟩ => rfl
    | ⟨3, _⟩ => rfl
  · match a with
    | ⟨0, _⟩ => rfl
    | ⟨1, _⟩ => exact Fin.ext h
    | ⟨2, _⟩ => rfl
    | ⟨3, _⟩ => rfl

theorem arr8_eq : (dats m 0 c).arrAt 8 cfg0.N = Cert.Reference6Ideal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  rcases slot i with h | h <;> rw [h]
  · exact (arr8_old m c _ _ _).trans (Cert.Reference6Ideal.Qkv.k_old _ _ _ _ _ _ _ _).symm
  · exact (arr8_new m c _ _ _).trans (Cert.Reference6Ideal.Qkv.k_new _ _ _ _ _ _ _ _).symm

theorem arr9_eq : (dats m 0 c).arrAt 9 cfg0.N = Cert.Reference6Ideal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg5)) := by
  funext i
  rcases slot i with h | h <;> rw [h]
  · exact (arr9_old m c _ _ _).trans (Cert.Reference6Ideal.Qkv.v_old _ _ _ _ _ _ _ _).symm
  · exact (arr9_new m c _ _ _).trans (Cert.Reference6Ideal.Qkv.v_new _ _ _ _ _ _ _ _).symm

end Cert.Kernel6Ideal.Qkv

end
-- ==== Proof.Qkv.Rope.lean ====
/- The call `qkv_rope`: what one grid point stores into the queries, keys and values. -/
module

public import proofs.«01_k».proof.Proof.Gen.Kernel7Ideal.Value
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.Kernel7Ideal.Rope

open Idealize.ShloMosaic Idealize.SL.Sem Cert.Kernel7Ideal Cert.Kernel7Ideal.Gen Idealize.ShloMosaic.TcCoe

variable {F : FTy → Type} [FloatOps F]

/-- The block's normalised and modulated rows, -/
abbrev own (m : (ℓ : Loc nD τ sig) → Buf (Elt F) ℓ) (c : Dev nD) (t : Fin cfg0.N) :=
  k0_pay8 (F := F) (iblk m c 0 t) (iblk m c 1 t) (iblk m c 2 t) (iblk m c 3 t)

/-- the two tiles of a chunk of the queries, turned by the three tables, -/
abbrev qtile0 (C A B : Vec F S512x128 .f32) (H : Vec F S512x1024 .bf16) (w : Vec F S1024x256 .bf16) : FVec F S512x128 .bf16 :=
  k0_pay11 (F := F) (k0_pay5 C) (k0_pay6 A) (k0_pay7 B) H w
abbrev qtile1 (C A B : Vec F S512x128 .f32) (H : Vec F S512x1024 .bf16) (w : Vec F S1024x256 .bf16) : FVec F S512x128 .bf16 :=
  k0_pay12 (F := F) (k0_pay5 C) (k0_pay6 A) (k0_pay7 B) H w

/-- those of the keys, -/
abbrev ktile0 (C A B : Vec F S512x128 .f32) (H : Vec F S512x1024 .bf16) (w : Vec F S1024x256 .bf16) : FVec F S512x128 .bf16 :=
  k0_pay24 (F := F) (k0_pay5 C) (k0_pay6 A) (k0_pay7 B) (k0_pay13 H w)
abbrev ktile1 (C A B : Vec F S512x128 .f32) (H : Vec F S512x1024 .bf16) (w : Vec F S1024x256 .bf16) : FVec F S512x128 .bf16 :=
  k0_pay25 (F := F) (k0_pay5 C) (k0_pay6 A) (k0_pay7 B) (k0_pay13 H w)

/-- and a chunk of the values. -/
abbrev vtile (H : Vec F S512x1024 .bf16) (w : Vec F S1024x256 .bf16) : FVec F S512x256 .bf16 := k0_pay2 (F := F) H w

theorem outsAt_q (m : (ℓ : Loc nD τ sig) → Buf (Elt F) ℓ) (c : Dev nD) (t : Fin cfg0.N) :
    (outsAt0 m c t).1 = View.canon [
      ⟨Rect.unit ![0, 896] ![512, 128] inb_S512x1024_S512x128_0_896,
        qtile1 (iblk m c 5 t) (iblk m c 6 t) (iblk m c 7 t) (own m c t) (View.ld (iblk m c 4 t) (Rect.unit ![0, 768] ![1024, 256] inb_S1024x3072_S1024x256_0_768))⟩,
      ⟨Rect.unit ![0, 768] ![512, 128] inb_S512x1024_S512x128_0_768,
        qtile0 (iblk m c 5 t) (iblk m c 6 t) (iblk m c 7 t) (own m c t) (View.ld (iblk m c 4 t) (Rect.unit ![0, 768] ![1024, 256] inb_S1024x3072_S1024x256_0_768))⟩,
      ⟨Rect.unit ![0, 640] ![512, 128] inb_S512x1024_S512x128_0_640,
        qtile1 (iblk m c 5 t) (iblk m c 6 t) (iblk m c 7 t) (own m c t) (View.ld (iblk m c 4 t) (Rect.unit ![0, 512] ![1024, 256] inb_S1024x3072_S1024x256_0_512))⟩,
      ⟨Rect.unit ![0, 512] ![512, 128] inb_S512x1024_S512x128_0_512,
        qtile0 (iblk m c 5 t) (iblk m c 6 t) (iblk m c 7 t) (own m c t) (View.ld (iblk m c 4 t) (Rect.unit ![0, 512] ![1024, 256] inb_S1024x3072_S1024x256_0_512))⟩,
      ⟨Rect.unit ![0, 384] ![512, 128] inb_S512x1024_S512x128_0_384,
        qtile1 (iblk m c 5 t) (iblk m c 6 t) (iblk m c 7 t) (own m c t) (View.ld (iblk m c 4 t) (Rect.unit ![0, 256] ![1024, 256] inb_S1024x3072_S1024x256_0_256))⟩,
      ⟨Rect.unit ![0, 256] ![512, 128] inb_S512x1024_S512x128_0_256,
        qtile0 (iblk m c 5 t) (iblk m c 6 t) (iblk m c 7 t) (own m c t) (View.ld (iblk m c 4 t) (Rect.unit ![0, 256] ![1024, 256] inb_S1024x3072_S1024x256_0_256))⟩,
      ⟨Rect.unit ![0, 128] ![512, 128] inb_S512x1024_S512x128_0_128,
        qtile1 (iblk m c 5 t) (iblk m c 6 t) (iblk m c 7 t) (own m c t) (View.ld (iblk m c 4 t) (Rect.unit ![0, 0] ![1024, 256] inb_S1024x3072_S1024x256_0_0))⟩,
      ⟨Rect.unit ![0, 0] ![512, 128] inb_S512x1024_S512x128_0_0,
        qtile0 (iblk m c 5 t) (iblk m c 6 t) (iblk m c 7 t) (own m c t) (View.ld (iblk m c 4 t) (Rect.unit ![0, 0] ![1024, 256] inb_S1024x3072_S1024x256_0_0))⟩] := by
  unfold outsAt0
  frame_out
  rfl

theorem outsAt_k (m : (ℓ : Loc nD τ sig) → Buf (Elt F) ℓ) (c : Dev nD) (t : Fin cfg0.N) :
    (outsAt0 m c t).2.1 = View.canon [
      ⟨Rect.unit ![0, 896] ![512, 128] inb_S512x1024_S512x128_0_896,
        ktile1 (iblk m c 5 t) (iblk m c 6 t) (iblk m c 7 t) (own m c t) (View.ld (iblk m c 4 t) (Rect.unit ![0, 1792] ![1024, 256] inb_S1024x3072_S1024x256_0_1792))⟩,
      ⟨Rect.unit ![0, 768] ![512, 128] inb_S512x1024_S512x128_0_768,
        ktile0 (iblk m c 5 t) (iblk m c 6 t) (iblk m c 7 t) (own m c t) (View.ld (iblk m c 4 t) (Rect.unit ![0, 1792] ![1024, 256] inb_S1024x3072_S1024x256_0_1792))⟩,
      ⟨Rect.unit ![0, 640] ![512, 128] inb_S512x1024_S512x128_0_640,
        ktile1 (iblk m c 5 t) (iblk m c 6 t) (iblk m c 7 t) (own m c t) (View.ld (iblk m c 4 t) (Rect.unit ![0, 1536] ![1024, 256] inb_S1024x3072_S1024x256_0_1536))⟩,
      ⟨Rect.unit ![0, 512] ![512, 128] inb_S512x1024_S512x128_0_512,
        ktile0 (iblk m c 5 t) (iblk m c 6 t) (iblk m c 7 t) (own m c t) (View.ld (iblk m c 4 t) (Rect.unit ![0, 1536] ![1024, 256] inb_S1024x3072_S1024x256_0_1536))⟩,
      ⟨Rect.unit ![0, 384] ![512, 128] inb_S512x1024_S512x128_0_384,
        ktile1 (iblk m c 5 t) (iblk m c 6 t) (iblk m c 7 t) (own m c t) (View.ld (iblk m c 4 t) (Rect.unit ![0, 1280] ![1024, 256] inb_S1024x3072_S1024x256_0_1280))⟩,
      ⟨Rect.unit ![0, 256] ![512, 128] inb_S512x1024_S512x128_0_256,
        ktile0 (iblk m c 5 t) (iblk m c 6 t) (iblk m c 7 t) (own m c t) (View.ld (iblk m c 4 t) (Rect.unit ![0, 1280] ![1024, 256] inb_S1024x3072_S1024x256_0_1280))⟩,
      ⟨Rect.unit ![0, 128] ![512, 128] inb_S512x1024_S512x128_0_128,
        ktile1 (iblk m c 5 t) (iblk m c 6 t) (iblk m c 7 t) (own m c t) (View.ld (iblk m c 4 t) (Rect.unit ![0, 1024] ![1024, 256] inb_S1024x3072_S1024x256_0_1024))⟩,
      ⟨Rect.unit ![0, 0] ![512, 128] inb_S512x1024_S512x128_0_0,
        ktile0 (iblk m c 5 t) (iblk m c 6 t) (iblk m c 7 t) (own m c t) (View.ld (iblk m c 4 t) (Rect.unit ![0, 1024] ![1024, 256] inb_S1024x3072_S1024x256_0_1024))⟩] := by
  unfold outsAt0
  frame_out
  rfl

theorem outsAt_v (m : (ℓ : Loc nD τ sig) → Buf (Elt F) ℓ) (c : Dev nD) (t : Fin cfg0.N) :
    (outsAt0 m c t).2.2 = View.canon [
      ⟨Rect.unit ![0, 768] ![512, 256] inb_S512x1024_S512x256_0_768,
        vtile (own m c t) (View.ld (iblk m c 4 t) (Rect.unit ![0, 2816] ![1024, 256] inb_S1024x3072_S1024x256_0_2816))⟩,
      ⟨Rect.unit ![0, 512] ![512, 256] inb_S512x1024_S512x256_0_512,
        vtile (own m c t) (View.ld (iblk m c 4 t) (Rect.unit ![0, 2560] ![1024, 256] inb_S1024x3072_S1024x256_0_2560))⟩,
      ⟨Rect.unit ![0, 256] ![512, 256] inb_S512x1024_S512x256_0_256,
        vtile (own m c t) (View.ld (iblk m c 4 t) (Rect.unit ![0, 2304] ![1024, 256] inb_S1024x3072_S1024x256_0_2304))⟩,
      ⟨Rect.unit ![0, 0] ![512, 256] inb_S512x1024_S512x256_0_0,
        vtile (own m c t) (View.ld (iblk m c 4 t) (Rect.unit ![0, 2048] ![1024, 256] inb_S1024x3072_S1024x256_0_2048))⟩] := by
  unfold outsAt0
  frame_out
  rfl

end Cert.Kernel7Ideal.Rope

end
-- ==== Proof.Qkv.RopeTile.lean ====
/- The call `qkv_rope`: a tile turned by the tables, element by element. -/
module

public import proofs.«01_k».proof.Proof.Qkv.Rope
public import proofs.«01_k».proof.Proof.In.Spec
public import Idealize.ShloMosaic.Lib.Pointwise

@[expose] public section

set_option maxRecDepth 16384

noncomputable section

namespace Cert.Kernel7Ideal.Rope

open Idealize.ShloMosaic Idealize.SL.Sem Cert.Kernel7Ideal Cert.Kernel7Ideal.Gen Idealize.ShloMosaic.TcCoe

/-- A row's product with a column of a chunk, the column as a number. -/
def yy (H : Vec Ideal S512x1024 .bf16) (w : Vec Ideal S1024x256 .bf16) (p : Fin 512) (n : ℕ) : EReal :=
  if h : n < 256 then ∑ k : Fin 1024, H (ix2 p k) * w (ix2 k ⟨n, h⟩) else 0

variable (C A B : Vec Ideal S512x128 .f32) (H : Vec Ideal S512x1024 .bf16) (w : Vec Ideal S1024x256 .bf16) (p : Fin 512) (l : Fin 128)

theorem qtile0_at : qtile0 (F := Ideal) C A B H w (ix2 p l)
    = (yy H w p l.val * C (ix2 p l) + yy H w p ((l.val + 128 - 112) % 128) * A (ix2 p l) + yy H w p ((l.val + 128 - 16) % 128) * B (ix2 p l)) * (Scalar.ofBits .f32 0x3E38AA3B#32 : Ideal .f32) := by
  unfold yy
  rw [dif_pos (by omega), dif_pos (by omega), dif_pos (by omega)]
  pointwise [qtile0, k0_pay11, k0_pay9, k0_pay5, k0_pay6, k0_pay7]

theorem qtile1_at : qtile1 (F := Ideal) C A B H w (ix2 p l)
    = (yy H w p (128 + l.val) * C (ix2 p l) + yy H w p (128 + (l.val + 128 - 112) % 128) * A (ix2 p l) + yy H w p (128 + (l.val + 128 - 16) % 128) * B (ix2 p l)) * (Scalar.ofBits .f32 0x3E38AA3B#32 : Ideal .f32) := by
  unfold yy
  rw [dif_pos (by omega), dif_pos (by omega), dif_pos (by omega)]
  pointwise [qtile1, k0_pay12, k0_pay9, k0_pay5, k0_pay6, k0_pay7]

theorem ktile0_at : ktile0 (F := Ideal) C A B H w (ix2 p l)
    = yy H w p l.val * C (ix2 p l) + yy H w p ((l.val + 128 - 112) % 128) * A (ix2 p l) + yy H w p ((l.val + 128 - 16) % 128) * B (ix2 p l) := by
  unfold yy
  rw [dif_pos (by omega), dif_pos (by omega), dif_pos (by omega)]
  pointwise [ktile0, k0_pay24, k0_pay13, k0_pay5, k0_pay6, k0_pay7]

theorem ktile1_at : ktile1 (F := Ideal) C A B H w (ix2 p l)
    = yy H w p (128 + l.val) * C (ix2 p l) + yy H w p (128 + (l.val + 128 - 112) % 128) * A (ix2 p l) + yy H w p (128 + (l.val + 128 - 16) % 128) * B (ix2 p l) := by
  unfold yy
  rw [dif_pos (by omega), dif_pos (by omega), dif_pos (by omega)]
  pointwise [ktile1, k0_pay25, k0_pay13, k0_pay5, k0_pay6, k0_pay7]

theorem vtile_at (p : Fin 512) (l : Fin 256) : vtile (F := Ideal) H w (ix2 p l) = yy H w p l.val := by
  unfold yy
  rw [dif_pos (by omega)]
  pointwise [vtile, k0_pay2]

theorem own_norm (x : Vec Ideal S512x1024 .f32) (g : Vec Ideal S1x1024 .f32) (sh sc : Vec Ideal S1x1x1024 .f32) (p : Fin 512) (d : Fin 1024) :
    k0_pay8 (F := Ideal) x g sh sc (ix2 p d)
      = Cert.Kernel2Ideal.Ffn.nrm (fun k => x (ix2 p k)) (fun k => g (ix2 0 k)) (fun k => sh (ix3 0 0 k)) (fun k => sc (ix3 0 0 k)) d := by
  pointwise [k0_pay8, Cert.Kernel2Ideal.Ffn.nrm]

end Cert.Kernel7Ideal.Rope

end
-- ==== Proof.Qkv.RopeTab.lean ====
/- The call `qkv_rope`: the three tables of cosines and sines, and a tile turned by them, element by element. -/
module

public import proofs.«01_k».proof.Proof.Qkv.Rope
public import proofs.«01_k».proof.Proof.Gen.Reference7Ideal.Read
public import Idealize.ShloMosaic.Lib.Pointwise
public import Idealize.ShloMosaic.Lib.Pipeline.ValueKit.Geometry
public import Idealize.ShloMosaic.Lib.Pipeline.ValueKit.Tiles
public import Idealize.ShloMosaic.Lib.VecWindow

@[expose] public section

set_option maxRecDepth 16384

noncomputable section

namespace Cert.Kernel7Ideal.Rope

open Idealize.ShloMosaic Idealize.SL.Sem Cert.Kernel7Ideal Cert.Kernel7Ideal.Gen Idealize.ShloMosaic.TcCoe
open Cert.Reference7Ideal.Read (val_main_v52 val_main_v58)

/-- Four tables of sixteen columns side by side, twice. -/
def tab (a b c d : Vec Ideal S2048x16 .f32) : Vec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x16, a⟩, ⟨S2048x16, b⟩, ⟨S2048x16, c⟩, ⟨S2048x16, d⟩]
      concatenates_S2048x16_S2048x16_S2048x16_S2048x16_S2048x64_d1) shapeCasts_S2048x64_S1x2048x1x64)) shapeCasts_S1x2048x2x64_S2048x128

abbrev zer : Vec Ideal S2048x16 .f32 := broadcastInDim S2048x16 ![] bcast_S_S2048x16 (constant (F := Ideal) S_ .f32 0x00000000#32)

variable (m : (ℓ : Loc nD τ sig) → Buf (Elt Ideal) ℓ) (c : Dev nD)

/-- The angles of a row's place and of its column's, and their cosines and sines. -/
abbrev aR : Vec Ideal S2048x16 .f32 := val_main_v52 (F := Ideal)
abbrev aC : Vec Ideal S2048x16 .f32 := val_main_v58 (F := Ideal)
abbrev tcos (a : Vec Ideal S2048x16 .f32) : Vec Ideal S2048x16 .f32 := Host.cos (F := Ideal) (s := S2048x16) (φ := .f32) a
abbrev tsin (a : Vec Ideal S2048x16 .f32) : Vec Ideal S2048x16 .f32 := Host.sin (F := Ideal) (s := S2048x16) (φ := .f32) a
abbrev tneg (a : Vec Ideal S2048x16 .f32) : Vec Ideal S2048x16 .f32 := Host.negf (F := Ideal) (s := S2048x16) (φ := .f32) a

theorem V_v40 : V m c main_v40 = tab (tcos aR) (tcos aR) (tcos aC) (tcos aC) := by
  unfold_abbrev_sides
  after_results
  rfl

theorem V_v43 : V m c main_v43 = tab (tneg (tsin aR)) zer (tneg (tsin aC)) zer := by
  unfold_abbrev_sides
  after_results
  rfl

theorem V_v46 : V m c main_v46 = tab zer (tsin aR) zer (tsin aC) := by
  unfold_abbrev_sides
  after_results
  rfl

theorem tab_at (a b c d : Vec Ideal S2048x16 .f32) (p : Fin 2048) (l : Fin 128) :
    tab a b c d (ix2 p l) = (if h : l.val % 64 < 16 then a (ix2 p ⟨l.val % 64, h⟩)
      else if h : l.val % 64 - 16 < 16 then b (ix2 p ⟨l.val % 64 - 16, h⟩)
      else if h : l.val % 64 - 16 - 16 < 16 then c (ix2 p ⟨l.val % 64 - 16 - 16, h⟩)
      else d (ix2 p ⟨l.val % 64 - 16 - 16 - 16, by omega⟩)) := by
  pointwise [tab]

theorem zer_at (p : Fin 2048) (j : Fin 16) : zer (ix2 p j) = (0 : EReal) := by
  pointwise [zer]

theorem tneg_at (a : Vec Ideal S2048x16 .f32) (p : Fin 2048) (j : Fin 16) : tneg a (ix2 p j) = (-(a (ix2 p j) : EReal) : EReal) := by
  pointwise [tneg]

/-- The cosine and the sine that column `n` of a head's two maps is turned by, at a row's place and at its column's. -/
def cR (p : Fin 2048) (n : ℕ) : EReal := tcos aR (ix2 p ⟨n % 16, by omega⟩)
def sR (p : Fin 2048) (n : ℕ) : EReal := tsin aR (ix2 p ⟨n % 16, by omega⟩)
def cC (p : Fin 2048) (n : ℕ) : EReal := tcos aC (ix2 p ⟨n % 16, by omega⟩)
def sC (p : Fin 2048) (n : ℕ) : EReal := tsin aC (ix2 p ⟨n % 16, by omega⟩)

/-- Column `n` of a row `Y`, turned. -/
def ROPE (Y : ℕ → EReal) (p : Fin 2048) (n : ℕ) : EReal :=
  if n % 64 < 16 then Y n * cR p n - Y (n + 16) * sR p n
  else if n % 64 < 32 then Y (n - 16) * sR p n + Y n * cR p n
  else if n % 64 < 48 then Y n * cC p n - Y (n + 16) * sC p n
  else Y (n - 16) * sC p n + Y n * cC p n

theorem turn_at (Y Y' : ℕ → EReal) (q0 : ℕ) (hq : q0 % 64 = 0) (hY : ∀ n, n < 128 → Y n = Y' (q0 + n)) (p : Fin 2048) (l : Fin 128) :
    Y l.val * tab (tcos aR) (tcos aR) (tcos aC) (tcos aC) (ix2 p l)
      + Y ((l.val + 128 - 112) % 128) * tab (tneg (tsin aR)) zer (tneg (tsin aC)) zer (ix2 p l)
      + Y ((l.val + 128 - 16) % 128) * tab zer (tsin aR) zer (tsin aC) (ix2 p l)
      = ROPE Y' p (q0 + l.val) := by
  have hl := l.isLt
  have e : (q0 + l.val) % 64 = l.val % 64 := by omega
  unfold ROPE cR sR cC sC
  rw [tab_at, tab_at, tab_at, e]
  by_cases h0 : l.val % 64 < 16
  · have hj : (⟨(q0 + l.val) % 16, by omega⟩ : Fin 16) = ⟨l.val % 64, h0⟩ := Fin.ext (by show (q0 + l.val) % 16 = l.val % 64; omega)
    rw [dif_pos h0, dif_pos h0, dif_pos h0, if_pos h0, hj, hY _ hl, hY _ (Nat.mod_lt _ (by omega)), tneg_at, zer_at, mul_zero, add_zero,
      show q0 + (l.val + 128 - 112) % 128 = q0 + l.val + 16 by omega, mul_neg, sub_eq_add_neg]
  by_cases h1 : l.val % 64 < 32
  · have h1' : l.val % 64 - 16 < 16 := by omega
    have hj : (⟨(q0 + l.val) % 16, by omega⟩ : Fin 16) = ⟨l.val % 64 - 16, h1'⟩ := Fin.ext (by show (q0 + l.val) % 16 = l.val % 64 - 16; omega)
    rw [dif_neg h0, dif_neg h0, dif_neg h0, dif_pos h1', dif_pos h1', dif_pos h1', if_neg h0, if_pos h1, hj, hY _ hl, hY ((l.val + 128 - 16) % 128) (Nat.mod_lt _ (by omega)), zer_at, mul_zero, add_zero,
      show q0 + (l.val + 128 - 16) % 128 = q0 + l.val - 16 by omega, add_comm]
  have h1' : ¬ l.val % 64 - 16 < 16 := by omega
  by_cases h2 : l.val % 64 < 48
  · have h2' : l.val % 64 - 16 - 16 < 16 := by omega
    have hj : (⟨(q0 + l.val) % 16, by omega⟩ : Fin 16) = ⟨l.val % 64 - 16 - 16, h2'⟩ := Fin.ext (by show (q0 + l.val) % 16 = l.val % 64 - 16 - 16; omega)
    rw [dif_neg h0, dif_neg h0, dif_neg h0, dif_neg h1', dif_neg h1', dif_neg h1', dif_pos h2', dif_pos h2', dif_pos h2', if_neg h0, if_neg h1, if_pos h2, hj, hY _ hl, hY _ (Nat.mod_lt _ (by omega)), tneg_at, zer_at, mul_zero, add_zero,
      show q0 + (l.val + 128 - 112) % 128 = q0 + l.val + 16 by omega, mul_neg, sub_eq_add_neg]
  · have h2' : ¬ l.val % 64 - 16 - 16 < 16 := by omega
    have hj : (⟨(q0 + l.val) % 16, by omega⟩ : Fin 16) = ⟨l.val % 64 - 16 - 16 - 16, by omega⟩ := Fin.ext (by show (q0 + l.val) % 16 = l.val % 64 - 16 - 16 - 16; omega)
    rw [dif_neg h0, dif_neg h0, dif_neg h0, dif_neg h1', dif_neg h1', dif_neg h1', dif_neg h2', dif_neg h2', dif_neg h2', if_neg h0, if_neg h1, if_neg h2, hj, hY _ hl, hY ((l.val + 128 - 16) % 128) (Nat.mod_lt _ (by omega)), zer_at, mul_zero, add_zero,
      show q0 + (l.val + 128 - 16) % 128 = q0 + l.val - 16 by omega, add_comm]

end Cert.Kernel7Ideal.Rope

end
-- ==== Proof.Qkv.RopeAt.lean ====
/- The blocks each grid point of the call `qkv_rope` reads, and the three arrays after the run. -/
module

public import proofs.«01_k».proof.Proof.Qkv.RopeTile
public import proofs.«01_k».proof.Proof.Qkv.RopeTab
public import proofs.«01_k».proof.Proof.In.Spec
public import proofs.«01_k».proof.Proof.Gen.Kernel7Ideal.Points
public import Idealize.ShloMosaic.Lib.Pointwise
public import Idealize.ShloMosaic.Lib.Pipeline.ValueKit.Geometry
public import Idealize.ShloMosaic.Lib.Pipeline.ValueKit.Tiles
public import Idealize.ShloMosaic.Lib.VecWindow

@[expose] public section

set_option maxRecDepth 16384

noncomputable section

namespace Cert.Kernel7Ideal.Rope

open Idealize.ShloMosaic Idealize.SL.Sem Cert.Kernel7Ideal Cert.Kernel7Ideal.Gen Idealize.ShloMosaic.TcCoe
open Cert.Kernel2Ideal.Ffn (xr md mrow nrm md_congr)
open Cert.Kernel5Ideal.In (HI PJ HI_congr)

variable (m : (ℓ : Loc nD τ sig) → Buf (Elt Ideal) ℓ) (c : Dev nD)

theorem e0 : ∀ t, win0_0.index t = ![8 + t.val, 0] := (by decide +kernel : ∀ t : Fin grid0.N, win0_0.index t = ![8 + t.val, 0])
theorem e1 : ∀ t, win0_1.index t = ![0, 0] := (by decide +kernel : ∀ t : Fin grid0.N, win0_1.index t = ![0, 0])
theorem e2 : ∀ t, win0_2.index t = ![1 + t.val / 4, 0, 0] := (by decide +kernel : ∀ t : Fin grid0.N, win0_2.index t = ![1 + t.val / 4, 0, 0])
theorem e3 : ∀ t, win0_3.index t = ![1 + t.val / 4, 0, 1] := (by decide +kernel : ∀ t : Fin grid0.N, win0_3.index t = ![1 + t.val / 4, 0, 1])
theorem e4 : ∀ t, win0_4.index t = ![0, 0] := (by decide +kernel : ∀ t : Fin grid0.N, win0_4.index t = ![0, 0])
theorem e5 : ∀ t, win0_5.index t = ![t.val % 4, 0] := (by decide +kernel : ∀ t : Fin grid0.N, win0_5.index t = ![t.val % 4, 0])
theorem e6 : ∀ t, win0_6.index t = ![t.val % 4, 0] := (by decide +kernel : ∀ t : Fin grid0.N, win0_6.index t = ![t.val % 4, 0])
theorem e7 : ∀ t, win0_7.index t = ![t.val % 4, 0] := (by decide +kernel : ∀ t : Fin grid0.N, win0_7.index t = ![t.val % 4, 0])
theorem e8 : ∀ t, win0_8.index t = ![8 + t.val, 0] := (by decide +kernel : ∀ t : Fin grid0.N, win0_8.index t = ![8 + t.val, 0])
theorem e9 : ∀ t, win0_9.index t = ![8 + t.val, 0] := (by decide +kernel : ∀ t : Fin grid0.N, win0_9.index t = ![8 + t.val, 0])
theorem e10 : ∀ t, win0_10.index t = ![8 + t.val, 0] := (by decide +kernel : ∀ t : Fin grid0.N, win0_10.index t = ![8 + t.val, 0])

theorem t_lt (t : Fin cfg0.N) : t.val < 16 := (by decide +kernel : ∀ t : Fin grid0.N, t.val < 16) t

/-- The array's row of the block's row `p`. -/
abbrev rw7 (t : Fin cfg0.N) (p : ℕ) : ℕ := 4096 + 512 * t.val + p

theorem mrow_lt (t : Fin cfg0.N) : mrow (rw7 t 0) = 1 + t.val / 4 := (by decide +kernel : ∀ t : Fin grid0.N, mrow (4096 + 512 * t.val + 0) = 1 + t.val / 4) t

theorem blk0 (t : Fin cfg0.N) (p : Fin 512) (k : Fin 1024) : iblk m c 0 t (ix2 p k) = xr (m ((c : Thread nD τ).loc main_arg0)) (rw7 t p.val) k := by
  have ht := t_lt t
  unfold iblk xr
  rw [dif_pos (by unfold rw7; omega), show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    show _ = 4096 + 512 * t.val + p.val
    try omega
  | ⟨1, _⟩ =>
    blk_simp [e0]

theorem blk1 (t : Fin cfg0.N) : iblk m c 1 t = m ((c : Thread nD τ).loc main_arg2) := by
  unfold iblk
  rw [show V m c (Pipeline.arrRef spec0 1) = m ((c : Thread nD τ).loc main_arg2) from V_main_arg2 m c]
  funext i
  show m ((c : Thread nD τ).loc main_arg2) _ = _
  congr 1
  funext a
  apply Fin.ext
  match a with
  | ⟨0, _⟩ =>
    blk_simp [e1]
  | ⟨1, _⟩ =>
    blk_simp [e1]

theorem blk4 (t : Fin cfg0.N) : iblk m c 4 t = m ((c : Thread nD τ).loc main_arg3) := by
  unfold iblk
  rw [show V m c (Pipeline.arrRef spec0 4) = m ((c : Thread nD τ).loc main_arg3) from V_main_arg3 m c]
  funext i
  show m ((c : Thread nD τ).loc main_arg3) _ = _
  congr 1
  funext a
  apply Fin.ext
  match a with
  | ⟨0, _⟩ =>
    blk_simp [e4]
  | ⟨1, _⟩ =>
    blk_simp [e4]

theorem blk2 (t : Fin cfg0.N) (k : Fin 1024) : iblk m c 2 t (ix3 0 0 k) = md (m ((c : Thread nD τ).loc main_arg1)) 0 (rw7 t 0) k := by
  have ht := t_lt t
  have hm := mrow_lt t
  unfold iblk md
  rw [dif_pos (by omega), show V m c (Pipeline.arrRef spec0 2) = m ((c : Thread nD τ).loc main_arg1) from V_main_arg1 m c]
  show m ((c : Thread nD τ).loc main_arg1) _ = _
  congr 1
  funext a
  apply Fin.ext
  match a with
  | ⟨0, _⟩ =>
    blk_simp [e2]
    exact hm.symm
  | ⟨1, _⟩ =>
    blk_simp [e2]
  | ⟨2, _⟩ =>
    blk_simp [e2]
    show _ = 1024 * 0 + k.val
    try omega

theorem blk3 (t : Fin cfg0.N) (k : Fin 1024) : iblk m c 3 t (ix3 0 0 k) = md (m ((c : Thread nD τ).loc main_arg1)) 1 (rw7 t 0) k := by
  have ht := t_lt t
  have hm := mrow_lt t
  unfold iblk md
  rw [dif_pos (by omega), show V m c (Pipeline.arrRef spec0 3) = m ((c : Thread nD τ).loc main_arg1) from V_main_arg1 m c]
  show m ((c : Thread nD τ).loc main_arg1) _ = _
  congr 1
  funext a
  apply Fin.ext
  match a with
  | ⟨0, _⟩ =>
    blk_simp [e3]
    exact hm.symm
  | ⟨1, _⟩ =>
    blk_simp [e3]
  | ⟨2, _⟩ =>
    blk_simp [e3]
    show _ = 1024 * 1 + k.val
    try omega

theorem blk5 (t : Fin cfg0.N) (p : Fin 512) (l : Fin 128) : iblk m c 5 t (ix2 p l) = V m c main_v40 (ix2 ⟨512 * (t.val % 4) + p.val, by omega⟩ l) := by
  unfold iblk
  show V m c main_v40 _ = _
  generalize V m c main_v40 = X
  congr 1
  funext a
  apply Fin.ext
  match a with
  | ⟨0, _⟩ =>
    blk_simp [e5]
    show _ = 512 * (t.val % 4) + p.val
    try omega
  | ⟨1, _⟩ =>
    blk_simp [e5]

theorem blk6 (t : Fin cfg0.N) (p : Fin 512) (l : Fin 128) : iblk m c 6 t (ix2 p l) = V m c main_v43 (ix2 ⟨512 * (t.val % 4) + p.val, by omega⟩ l) := by
  unfold iblk
  show V m c main_v43 _ = _
  generalize V m c main_v43 = X
  congr 1
  funext a
  apply Fin.ext
  match a with
  | ⟨0, _⟩ =>
    blk_simp [e6]
    show _ = 512 * (t.val % 4) + p.val
    try omega
  | ⟨1, _⟩ =>
    blk_simp [e6]

theorem blk7 (t : Fin cfg0.N) (p : Fin 512) (l : Fin 128) : iblk m c 7 t (ix2 p l) = V m c main_v46 (ix2 ⟨512 * (t.val % 4) + p.val, by omega⟩ l) := by
  unfold iblk
  show V m c main_v46 _ = _
  generalize V m c main_v46 = X
  congr 1
  funext a
  apply Fin.ext
  match a with
  | ⟨0, _⟩ =>
    blk_simp [e7]
    show _ = 512 * (t.val % 4) + p.val
    try omega
  | ⟨1, _⟩ =>
    blk_simp [e7]

theorem own_at (t : Fin cfg0.N) (p : Fin 512) (d : Fin 1024) :
    own (F := Ideal) m c t (ix2 p d)
      = HI (m ((c : Thread nD τ).loc main_arg0)) (m ((c : Thread nD τ).loc main_arg1)) (m ((c : Thread nD τ).loc main_arg2)) (rw7 t p.val) d := by
  have ht := t_lt t
  refine (own_norm _ _ _ _ p d).trans ?_
  rw [blk1, show (fun k => iblk m c 2 t (ix3 0 0 k)) = md (m ((c : Thread nD τ).loc main_arg1)) 0 (rw7 t 0) from funext fun k => blk2 m c t k,
    show (fun k => iblk m c 3 t (ix3 0 0 k)) = md (m ((c : Thread nD τ).loc main_arg1)) 1 (rw7 t 0) from funext fun k => blk3 m c t k]
  exact HI_congr _ _ _ _ _ (by unfold mrow rw7; split_ifs <;> omega) _ (fun k => blk0 m c t p k) d

/-- The projection's row `R`, of the call's arguments, at the column `q` of the weights. -/
def pj (R : ℕ) (q : ℕ) : EReal := if h : q < 3072 then
  PJ (m ((c : Thread nD τ).loc main_arg0)) (m ((c : Thread nD τ).loc main_arg1)) (m ((c : Thread nD τ).loc main_arg2)) (fun k => (m ((c : Thread nD τ).loc main_arg3)) (ix2 k ⟨q, h⟩)) R else 0

theorem yy_own (t : Fin cfg0.N) (o : ℕ) (inb : ∀ a, (![0, o] : Fin 2 → ℕ) a + (![1024, 256] : Fin 2 → ℕ) a ≤ S1024x3072.size a)
    (p : Fin 512) (n : ℕ) (hn : n < 256) (q : ℕ) (hq : q = o + n) :
    yy (own (F := Ideal) m c t) (View.ld (iblk m c 4 t) (Rect.unit (s := S1024x3072) ![0, o] ![1024, 256] inb)) p n = pj m c (rw7 t p.val) q := by
  have ho : o + 256 ≤ 3072 := inb 1
  unfold yy pj PJ
  rw [dif_pos hn, dif_pos (by omega), blk4]
  refine Finset.sum_congr rfl fun k _ => congrArg₂ (· * ·) (own_at m c t _ k) ?_
  refine View.ld_unit_apply_of (S := S1024x3072) (m ((c : Thread nD τ).loc main_arg3)) ![0, o] ![1024, 256] inb (ix2 k ⟨n, hn⟩) _ fun a => ?_
  match a with
  | ⟨0, _⟩ => exact (Nat.zero_add _).symm
  | ⟨1, _⟩ => exact hq

/-- The factor of the queries. -/
abbrev qf : EReal := (Scalar.ofBits .f32 0x3E38AA3B#32 : Ideal .f32)

abbrev pos (t : Fin cfg0.N) (p : Fin 512) : Fin 2048 := ⟨512 * (t.val % 4) + p.val, by omega⟩

theorem turned (t : Fin cfg0.N) (o n0 b : ℕ) (inb : ∀ a, (![0, o] : Fin 2 → ℕ) a + (![1024, 256] : Fin 2 → ℕ) a ≤ S1024x3072.size a)
    (hn : n0 + 128 ≤ 256) (q0 : ℕ) (h64 : q0 % 64 = 0) (ho : b + q0 = o + n0) (p : Fin 512) (l : Fin 128) :
    yy (own (F := Ideal) m c t) (View.ld (iblk m c 4 t) (Rect.unit (s := S1024x3072) ![0, o] ![1024, 256] inb)) p (n0 + l.val) * iblk m c 5 t (ix2 p l)
      + yy (own (F := Ideal) m c t) (View.ld (iblk m c 4 t) (Rect.unit (s := S1024x3072) ![0, o] ![1024, 256] inb)) p (n0 + (l.val + 128 - 112) % 128) * iblk m c 6 t (ix2 p l)
      + yy (own (F := Ideal) m c t) (View.ld (iblk m c 4 t) (Rect.unit (s := S1024x3072) ![0, o] ![1024, 256] inb)) p (n0 + (l.val + 128 - 16) % 128) * iblk m c 7 t (ix2 p l)
      = ROPE (fun n => pj m c (rw7 t p.val) (b + n)) (pos t p) (q0 + l.val) := by
  rw [blk5, blk6, blk7, V_v40, V_v43, V_v46]
  exact turn_at (fun n => yy (own (F := Ideal) m c t) (View.ld (iblk m c 4 t) (Rect.unit (s := S1024x3072) ![0, o] ![1024, 256] inb)) p (n0 + n)) (fun n => pj m c (rw7 t p.val) (b + n)) q0 h64
    (fun n h => yy_own m c t o inb p (n0 + n) (by omega) _ (by show b + (q0 + n) = o + (n0 + n); omega)) (pos t p) l

theorem at_row (p : Fin 512) (x : S512x128.Idx) (h0 : p.val = (x 0).val) : x = ix2 p (x 1) := by
  funext a
  match a with
  | ⟨0, _⟩ => exact Fin.ext h0.symm
  | ⟨1, _⟩ => rfl

theorem at_row_wide (p : Fin 512) (x : S512x256.Idx) (h0 : p.val = (x 0).val) : x = ix2 p (x 1) := by
  funext a
  match a with
  | ⟨0, _⟩ => exact Fin.ext h0.symm
  | ⟨1, _⟩ => rfl

theorem q_at (t : Fin cfg0.N) (p : Fin 512) (q : Fin 1024) :
    (outsAt0 m c t).1 (ix2 p q) = ROPE (fun n => pj m c (rw7 t p.val) (0 + n)) (pos t p) q.val * qf := by
  rw [outsAt_q]
  canon_tiles x h
  · have h1 : q.val = 896 + (x 1).val := h1
    rw [at_row p x h0, h1]
    refine (qtile1_at _ _ _ _ _ p (x 1)).trans ?_
    have e := turned m c t 768 128 0 inb_S1024x3072_S1024x256_0_768 (by omega) 896 (by omega) (by omega) p (x 1)
    simp only [Nat.zero_add] at e ⊢
    exact congrArg (· * qf) e
  · have h1 : q.val = 768 + (x 1).val := h1
    rw [at_row p x h0, h1]
    refine (qtile0_at _ _ _ _ _ p (x 1)).trans ?_
    have e := turned m c t 768 0 0 inb_S1024x3072_S1024x256_0_768 (by omega) 768 (by omega) (by omega) p (x 1)
    simp only [Nat.zero_add] at e ⊢
    exact congrArg (· * qf) e
  · have h1 : q.val = 640 + (x 1).val := h1
    rw [at_row p x h0, h1]
    refine (qtile1_at _ _ _ _ _ p (x 1)).trans ?_
    have e := turned m c t 512 128 0 inb_S1024x3072_S1024x256_0_512 (by omega) 640 (by omega) (by omega) p (x 1)
    simp only [Nat.zero_add] at e ⊢
    exact congrArg (· * qf) e
  · have h1 : q.val = 512 + (x 1).val := h1
    rw [at_row p x h0, h1]
    refine (qtile0_at _ _ _ _ _ p (x 1)).trans ?_
    have e := turned m c t 512 0 0 inb_S1024x3072_S1024x256_0_512 (by omega) 512 (by omega) (by omega) p (x 1)
    simp only [Nat.zero_add] at e ⊢
    exact congrArg (· * qf) e
  · have h1 : q.val = 384 + (x 1).val := h1
    rw [at_row p x h0, h1]
    refine (qtile1_at _ _ _ _ _ p (x 1)).trans ?_
    have e := turned m c t 256 128 0 inb_S1024x3072_S1024x256_0_256 (by omega) 384 (by omega) (by omega) p (x 1)
    simp only [Nat.zero_add] at e ⊢
    exact congrArg (· * qf) e
  · have h1 : q.val = 256 + (x 1).val := h1
    rw [at_row p x h0, h1]
    refine (qtile0_at _ _ _ _ _ p (x 1)).trans ?_
    have e := turned m c t 256 0 0 inb_S1024x3072_S1024x256_0_256 (by omega) 256 (by omega) (by omega) p (x 1)
    simp only [Nat.zero_add] at e ⊢
    exact congrArg (· * qf) e
  · have h1 : q.val = 128 + (x 1).val := h1
    rw [at_row p x h0, h1]
    refine (qtile1_at _ _ _ _ _ p (x 1)).trans ?_
    have e := turned m c t 0 128 0 inb_S1024x3072_S1024x256_0_0 (by omega) 128 (by omega) (by omega) p (x 1)
    simp only [Nat.zero_add] at e ⊢
    exact congrArg (· * qf) e
  · have h1 : q.val = (x 1).val := h1
    rw [at_row p x h0, h1]
    refine (qtile0_at _ _ _ _ _ p (x 1)).trans ?_
    have e := turned m c t 0 0 0 inb_S1024x3072_S1024x256_0_0 (by omega) 0 (by omega) (by omega) p (x 1)
    simp only [Nat.zero_add] at e ⊢
    exact congrArg (· * qf) e

theorem k_at (t : Fin cfg0.N) (p : Fin 512) (q : Fin 1024) :
    (outsAt0 m c t).2.1 (ix2 p q) = ROPE (fun n => pj m c (rw7 t p.val) (1024 + n)) (pos t p) q.val := by
  rw [outsAt_k]
  canon_tiles x h
  · have h1 : q.val = 896 + (x 1).val := h1
    rw [at_row p x h0, h1]
    refine (ktile1_at _ _ _ _ _ p (x 1)).trans ?_
    have e := turned m c t 1792 128 1024 inb_S1024x3072_S1024x256_0_1792 (by omega) 896 (by omega) (by omega) p (x 1)
    exact e
  · have h1 : q.val = 768 + (x 1).val := h1
    rw [at_row p x h0, h1]
    refine (ktile0_at _ _ _ _ _ p (x 1)).trans ?_
    have e := turned m c t 1792 0 1024 inb_S1024x3072_S1024x256_0_1792 (by omega) 768 (by omega) (by omega) p (x 1)
    simp only [Nat.zero_add] at e ⊢
    exact e
  · have h1 : q.val = 640 + (x 1).val := h1
    rw [at_row p x h0, h1]
    refine (ktile1_at _ _ _ _ _ p (x 1)).trans ?_
    have e := turned m c t 1536 128 1024 inb_S1024x3072_S1024x256_0_1536 (by omega) 640 (by omega) (by omega) p (x 1)
    exact e
  · have h1 : q.val = 512 + (x 1).val := h1
    rw [at_row p x h0, h1]
    refine (ktile0_at _ _ _ _ _ p (x 1)).trans ?_
    have e := turned m c t 1536 0 1024 inb_S1024x3072_S1024x256_0_1536 (by omega) 512 (by omega) (by omega) p (x 1)
    simp only [Nat.zero_add] at e ⊢
    exact e
  · have h1 : q.val = 384 + (x 1).val := h1
    rw [at_row p x h0, h1]
    refine (ktile1_at _ _ _ _ _ p (x 1)).trans ?_
    have e := turned m c t 1280 128 1024 inb_S1024x3072_S1024x256_0_1280 (by omega) 384 (by omega) (by omega) p (x 1)
    exact e
  · have h1 : q.val = 256 + (x 1).val := h1
    rw [at_row p x h0, h1]
    refine (ktile0_at _ _ _ _ _ p (x 1)).trans ?_
    have e := turned m c t 1280 0 1024 inb_S1024x3072_S1024x256_0_1280 (by omega) 256 (by omega) (by omega) p (x 1)
    simp only [Nat.zero_add] at e ⊢
    exact e
  · have h1 : q.val = 128 + (x 1).val := h1
    rw [at_row p x h0, h1]
    refine (ktile1_at _ _ _ _ _ p (x 1)).trans ?_
    have e := turned m c t 1024 128 1024 inb_S1024x3072_S1024x256_0_1024 (by omega) 128 (by omega) (by omega) p (x 1)
    exact e
  · have h1 : q.val = (x 1).val := h1
    rw [at_row p x h0, h1]
    refine (ktile0_at _ _ _ _ _ p (x 1)).trans ?_
    have e := turned m c t 1024 0 1024 inb_S1024x3072_S1024x256_0_1024 (by omega) 0 (by omega) (by omega) p (x 1)
    simp only [Nat.zero_add] at e ⊢
    exact e

theorem v_at (t : Fin cfg0.N) (p : Fin 512) (q : Fin 1024) :
    (outsAt0 m c t).2.2 (ix2 p q) = pj m c (rw7 t p.val) (2048 + q.val) := by
  rw [outsAt_v]
  canon_tiles x h
  · have h1 : q.val = 768 + (x 1).val := h1
    rw [at_row_wide p x h0]
    refine (vtile_at _ _ p (x 1)).trans ?_
    exact yy_own m c t 2816 inb_S1024x3072_S1024x256_0_2816 p _ (x 1).isLt _ (by omega)
  · have h1 : q.val = 512 + (x 1).val := h1
    rw [at_row_wide p x h0]
    refine (vtile_at _ _ p (x 1)).trans ?_
    exact yy_own m c t 2560 inb_S1024x3072_S1024x256_0_2560 p _ (x 1).isLt _ (by omega)
  · have h1 : q.val = 256 + (x 1).val := h1
    rw [at_row_wide p x h0]
    refine (vtile_at _ _ p (x 1)).trans ?_
    exact yy_own m c t 2304 inb_S1024x3072_S1024x256_0_2304 p _ (x 1).isLt _ (by omega)
  · have h1 : q.val = (x 1).val := h1
    rw [at_row_wide p x h0]
    refine (vtile_at _ _ p (x 1)).trans ?_
    exact yy_own m c t 2048 inb_S1024x3072_S1024x256_0_2048 p _ (x 1).isLt _ (by omega)

theorem arr8_new (R : Fin 8192) (q : Fin 1024) :
    (dats m 0 c).arrAt 8 cfg0.N (ix2 ⟨4096 + R.val, by omega⟩ q) = ROPE (fun n => pj m c (4096 + R.val) (0 + n)) ⟨R.val % 2048, by omega⟩ q.val * qf := by
  have hR := R.isLt
  have ht : R.val / 512 < 16 := by omega
  let t : Fin cfg0.N := ⟨R.val / 512, ht⟩
  let p : Fin 512 := ⟨R.val % 512, by omega⟩
  have hp : rw7 t p.val = 4096 + R.val := by show 4096 + 512 * (R.val / 512) + R.val % 512 = _; omega
  have hq : pos t p = ⟨R.val % 2048, by omega⟩ := Fin.ext (by show 512 * (R.val / 512 % 4) + R.val % 512 = R.val % 2048; omega)
  have hw := congrFun (Cert.Kernel7Ideal.Value.blocks8 m c t (flush0_8 t)) (ix2 p q)
  rw [Cert.Kernel7Ideal.Value.flushed8] at hw
  refine Eq.trans ?_ (hw.trans ((q_at m c t p q).trans (by rw [hp, hq])))
  generalize (dats m 0 c).arrAt 8 cfg0.N = X
  show X _ = X _
  congr 1
  funext a
  apply Fin.ext
  match a with
  | ⟨0, _⟩ =>
    blk_simp [e8]
    show 4096 + R.val = (8 + R.val / 512) * 512 + R.val % 512
    omega
  | ⟨1, _⟩ =>
    blk_simp [e8]

theorem arr9_new (R : Fin 8192) (q : Fin 1024) :
    (dats m 0 c).arrAt 9 cfg0.N (ix2 ⟨4096 + R.val, by omega⟩ q) = ROPE (fun n => pj m c (4096 + R.val) (1024 + n)) ⟨R.val % 2048, by omega⟩ q.val := by
  have hR := R.isLt
  have ht : R.val / 512 < 16 := by omega
  let t : Fin cfg0.N := ⟨R.val / 512, ht⟩
  let p : Fin 512 := ⟨R.val % 512, by omega⟩
  have hp : rw7 t p.val = 4096 + R.val := by show 4096 + 512 * (R.val / 512) + R.val % 512 = _; omega
  have hq : pos t p = ⟨R.val % 2048, by omega⟩ := Fin.ext (by show 512 * (R.val / 512 % 4) + R.val % 512 = R.val % 2048; omega)
  have hw := congrFun (Cert.Kernel7Ideal.Value.blocks9 m c t (flush0_9 t)) (ix2 p q)
  rw [Cert.Kernel7Ideal.Value.flushed9] at hw
  refine Eq.trans ?_ (hw.trans ((k_at m c t p q).trans (by rw [hp, hq])))
  generalize (dats m 0 c).arrAt 9 cfg0.N = X
  show X _ = X _
  congr 1
  funext a
  apply Fin.ext
  match a with
  | ⟨0, _⟩ =>
    blk_simp [e9]
    show 4096 + R.val = (8 + R.val / 512) * 512 + R.val % 512
    omega
  | ⟨1, _⟩ =>
    blk_simp [e9]

theorem arr10_new (R : Fin 8192) (q : Fin 1024) :
    (dats m 0 c).arrAt 10 cfg0.N (ix2 ⟨4096 + R.val, by omega⟩ q) = pj m c (4096 + R.val) (2048 + q.val) := by
  have hR := R.isLt
  have ht : R.val / 512 < 16 := by omega
  let t : Fin cfg0.N := ⟨R.val / 512, ht⟩
  let p : Fin 512 := ⟨R.val % 512, by omega⟩
  have hp : rw7 t p.val = 4096 + R.val := by show 4096 + 512 * (R.val / 512) + R.val % 512 = _; omega
  have hq : pos t p = ⟨R.val % 2048, by omega⟩ := Fin.ext (by show 512 * (R.val / 512 % 4) + R.val % 512 = R.val % 2048; omega)
  have hw := congrFun (Cert.Kernel7Ideal.Value.blocks10 m c t (flush0_10 t)) (ix2 p q)
  rw [Cert.Kernel7Ideal.Value.flushed10] at hw
  refine Eq.trans ?_ (hw.trans ((v_at m c t p q).trans (by rw [hp])))
  generalize (dats m 0 c).arrAt 10 cfg0.N = X
  show X _ = X _
  congr 1
  funext a
  apply Fin.ext
  match a with
  | ⟨0, _⟩ =>
    blk_simp [e10]
    show 4096 + R.val = (8 + R.val / 512) * 512 + R.val % 512
    omega
  | ⟨1, _⟩ =>
    blk_simp [e10]

theorem V_v47_0 : V m c main_v47_0 = m ((c : Thread nD τ).loc main_arg4) := by
  unfold_abbrev_sides
  after_results
  rfl

theorem arr8_old (R : Fin 4096) (q : Fin 1024) :
    (dats m 0 c).arrAt 8 cfg0.N (ix2 ⟨R.val, by omega⟩ q) = m ((c : Thread nD τ).loc main_arg4) (ix2 ⟨R.val, by omega⟩ q) := by
  refine (Cert.Kernel7Ideal.Value.entry8 m c _ fun t _ hm => ?_).trans (congrFun (V_v47_0 m c) _)
  mem_blk [e8] at hm
  obtain ⟨⟨h, -⟩, -⟩ := hm
  have hR := R.isLt
  have h : (8 + t.val) * 512 ≤ R.val := h
  omega

theorem V_v47_1 : V m c main_v47_1 = m ((c : Thread nD τ).loc main_arg5) := by
  unfold_abbrev_sides
  after_results
  rfl

theorem arr9_old (R : Fin 4096) (q : Fin 1024) :
    (dats m 0 c).arrAt 9 cfg0.N (ix2 ⟨R.val, by omega⟩ q) = m ((c : Thread nD τ).loc main_arg5) (ix2 ⟨R.val, by omega⟩ q) := by
  refine (Cert.Kernel7Ideal.Value.entry9 m c _ fun t _ hm => ?_).trans (congrFun (V_v47_1 m c) _)
  mem_blk [e9] at hm
  obtain ⟨⟨h, -⟩, -⟩ := hm
  have hR := R.isLt
  have h : (8 + t.val) * 512 ≤ R.val := h
  omega

theorem V_v47_2 : V m c main_v47_2 = m ((c : Thread nD τ).loc main_arg6) := by
  unfold_abbrev_sides
  after_results
  rfl

theorem arr10_old (R : Fin 4096) (q : Fin 1024) :
    (dats m 0 c).arrAt 10 cfg0.N (ix2 ⟨R.val, by omega⟩ q) = m ((c : Thread nD τ).loc main_arg6) (ix2 ⟨R.val, by omega⟩ q) := by
  refine (Cert.Kernel7Ideal.Value.entry10 m c _ fun t _ hm => ?_).trans (congrFun (V_v47_2 m c) _)
  mem_blk [e10] at hm
  obtain ⟨⟨h, -⟩, -⟩ := hm
  have hR := R.isLt
  have h : (8 + t.val) * 512 ≤ R.val := h
  omega

end Cert.Kernel7Ideal.Rope

end
-- ==== Proof.Qkv.RopeRef.lean ====
/- The reference's turned queries and keys and its values, element by element. -/
module

public import proofs.«01_k».proof.Proof.Qkv.RopeAt
public import proofs.«01_k».proof.Proof.Ffn.Ref

@[expose] public section

set_option maxRecDepth 16384

noncomputable section

namespace Cert.Reference7Ideal.Rope

open Idealize.ShloMosaic Idealize.SL.Sem Cert.Reference7Ideal Cert.Reference7Ideal.Gen Cert.Reference7Ideal.Read Idealize.ShloMosaic.TcCoe
open Cert.Kernel2Ideal.Ffn (xr md mrow nrm)
open Cert.Kernel5Ideal.In (HI PJ)
open Cert.Kernel7Ideal.Rope (ROPE cR sR cC sC tcos tsin aR aC qf)

variable (x0 : Vec Ideal S12288x1024 .f32) (x1 : Vec Ideal S8x1x6144 .f32) (x2 : Vec Ideal S1x1024 .f32) (x3 : Vec Ideal S1024x3072 .bf16)
    (x4 x5 x6 : Vec Ideal S12288x1024 .bf16)

/-- The array's row of a sequence's. -/
abbrev rw7 (b : Fin 4) (s : Fin 2048) : ℕ := 4096 + (2048 * b.val + s.val)

theorem mrowS (b : Fin 4) (s : Fin 2048) : mrow (rw7 b s) = 1 + b.val := by
  unfold mrow rw7
  split_ifs <;> omega

theorem rowS (b : Fin 4) (s : Fin 2048) (d : Fin 1024) : val_main_v1 (F := Ideal) x0 (ix3 b s d) = xr x0 (rw7 b s) d := by
  have hb := b.isLt
  have hs := s.isLt
  have hd := d.isLt
  unfold xr
  rw [dif_pos (by unfold rw7; omega), val_main_v1_apply, val_main_v0_apply]
  refine congrArg x0 (funext fun a => Fin.ext ?_)
  match a with
  | ⟨0, _⟩ => show 4096 + ((b.val * 2048 + s.val) * 1024 + d.val) / 1024 = 4096 + (2048 * b.val + s.val); omega
  | ⟨1, _⟩ => show ((b.val * 2048 + s.val) * 1024 + d.val) % 1024 = d.val; omega

theorem mod0S (b : Fin 4) (s : Fin 2048) (d : Fin 1024) :
    val_main_v2 (F := Ideal) x1 (ix3 b 0 d) = md x1 0 (rw7 b s) d := by
  have hm := mrowS b s
  unfold md
  rw [dif_pos (by omega), val_main_v2_apply]
  refine congrArg x1 (funext fun a => Fin.ext ?_)
  match a with
  | ⟨0, _⟩ => exact hm.symm
  | ⟨1, _⟩ => rfl
  | ⟨2, _⟩ => show d.val = 1024 * 0 + d.val; omega

theorem mod1S (b : Fin 4) (s : Fin 2048) (d : Fin 1024) :
    val_main_v3 (F := Ideal) x1 (ix3 b 0 d) = md x1 1 (rw7 b s) d := by
  have hm := mrowS b s
  unfold md
  rw [dif_pos (by omega), val_main_v3_apply]
  refine congrArg x1 (funext fun a => Fin.ext ?_)
  match a with
  | ⟨0, _⟩ => exact hm.symm
  | ⟨1, _⟩ => rfl
  | ⟨2, _⟩ => rfl

/-- The modulated norm. -/
theorem normS (b : Fin 4) (s : Fin 2048) (d : Fin 1024) : val_main_v23 (F := Ideal) x0 x1 x2 (ix3 b s d) = HI x0 x1 x2 (rw7 b s) d := by
  have h : val_main_v23 (F := Ideal) x0 x1 x2 (ix3 b s d) = nrm (fun k => val_main_v1 (F := Ideal) x0 (ix3 b s k)) (fun k => x2 (ix2 0 k))
      (fun k => val_main_v2 (F := Ideal) x1 (ix3 b 0 k)) (fun k => val_main_v3 (F := Ideal) x1 (ix3 b 0 k)) d := by
    pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, nrm]
  rw [h]
  unfold HI
  simp only [rowS]
  rw [show (fun k => val_main_v2 (F := Ideal) x1 (ix3 b 0 k)) = md x1 0 (rw7 b s) from funext fun k => mod0S x1 b s k,
    show (fun k => val_main_v3 (F := Ideal) x1 (ix3 b 0 k)) = md x1 1 (rw7 b s) from funext fun k => mod1S x1 b s k]

/-- The projection's row `R` at the column `q`. -/
def pjr (R : ℕ) (q : ℕ) : EReal := if h : q < 3072 then PJ x0 x1 x2 (fun k => x3 (ix2 k ⟨q, h⟩)) R else 0

/-- Its product with the weights. -/
theorem wideS (b : Fin 4) (s : Fin 2048) (q : Fin 3072) (n : ℕ) (hn : n = q.val) :
    val_main_v25 (F := Ideal) x0 x1 x2 x3 (ix3 b s q) = pjr x0 x1 x2 x3 (rw7 b s) n := by
  subst hn
  rw [val_main_v25_apply]
  unfold pjr PJ
  rw [dif_pos q.isLt]
  refine Finset.sum_congr rfl fun k _ => ?_
  rw [← normS x0 x1 x2 b s k]
  refine congrArg₂ (· * ·) (congrArg _ ?_) ((val_main_v24_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

theorem q5 (b : Fin 4) (s : Fin 2048) (h : Fin 8) (u : Fin 2) (l : Fin 64) :
    val_main_v29 (F := Ideal) x0 x1 x2 x3 (ix5 b s h u l) = pjr x0 x1 x2 x3 (rw7 b s) (128 * h.val + 64 * u.val + l.val) := by
  rw [← wideS x0 x1 x2 x3 b s ⟨128 * h.val + 64 * u.val + l.val, by omega⟩ _ rfl]
  pointwise [val_main_v29, val_main_v26]
  simp only [Nat.mul_comm]

theorem k5 (b : Fin 4) (s : Fin 2048) (h : Fin 8) (u : Fin 2) (l : Fin 64) :
    val_main_v95 (F := Ideal) x0 x1 x2 x3 (ix5 b s h u l) = pjr x0 x1 x2 x3 (rw7 b s) (1024 + (128 * h.val + 64 * u.val + l.val)) := by
  rw [← wideS x0 x1 x2 x3 b s ⟨1024 + (128 * h.val + 64 * u.val + l.val), by omega⟩ _ rfl]
  pointwise [val_main_v95, val_main_v27]
  simp only [Nat.mul_comm]

/-- A map's sixty-four columns `Z`, turned as the reference turns them: each half by its own angles, the halves' halves joined. -/
def turned (Z : Fin 64 → EReal) (s : Fin 2048) (l : Fin 64) : EReal :=
  if h : l.val < 32 then
    if h' : l.val < 16 then
      Z l * Ideal.cos (val_main_v52 (F := Ideal) (ix2 s ⟨l.val, h'⟩)) - Z ⟨16 + l.val, by omega⟩ * Ideal.sin (val_main_v52 (F := Ideal) (ix2 s ⟨l.val, h'⟩))
    else
      Z ⟨l.val - 16, by omega⟩ * Ideal.sin (val_main_v52 (F := Ideal) (ix2 s ⟨l.val - 16, by omega⟩))
        + Z ⟨16 + (l.val - 16), by omega⟩ * Ideal.cos (val_main_v52 (F := Ideal) (ix2 s ⟨l.val - 16, by omega⟩))
  else
    if h' : l.val - 32 < 16 then
      Z ⟨32 + (l.val - 32), by omega⟩ * Ideal.cos (val_main_v58 (F := Ideal) (ix2 s ⟨l.val - 32, h'⟩))
        - Z ⟨32 + (16 + (l.val - 32)), by omega⟩ * Ideal.sin (val_main_v58 (F := Ideal) (ix2 s ⟨l.val - 32, h'⟩))
    else
      Z ⟨32 + (l.val - 32 - 16), by omega⟩ * Ideal.sin (val_main_v58 (F := Ideal) (ix2 s ⟨l.val - 32 - 16, by omega⟩))
        + Z ⟨32 + (16 + (l.val - 32 - 16)), by omega⟩ * Ideal.cos (val_main_v58 (F := Ideal) (ix2 s ⟨l.val - 32 - 16, by omega⟩))

theorem cR_of (s : Fin 2048) (n : ℕ) (j : Fin 16) (h : n % 16 = j.val) : cR s n = Ideal.cos (val_main_v52 (F := Ideal) (ix2 s j)) := by
  unfold cR
  rw [show (⟨n % 16, by omega⟩ : Fin 16) = j from Fin.ext h]
  rfl

theorem sR_of (s : Fin 2048) (n : ℕ) (j : Fin 16) (h : n % 16 = j.val) : sR s n = Ideal.sin (val_main_v52 (F := Ideal) (ix2 s j)) := by
  unfold sR
  rw [show (⟨n % 16, by omega⟩ : Fin 16) = j from Fin.ext h]
  rfl

theorem cC_of (s : Fin 2048) (n : ℕ) (j : Fin 16) (h : n % 16 = j.val) : cC s n = Ideal.cos (val_main_v58 (F := Ideal) (ix2 s j)) := by
  unfold cC
  rw [show (⟨n % 16, by omega⟩ : Fin 16) = j from Fin.ext h]
  rfl

theorem sC_of (s : Fin 2048) (n : ℕ) (j : Fin 16) (h : n % 16 = j.val) : sC s n = Ideal.sin (val_main_v58 (F := Ideal) (ix2 s j)) := by
  unfold sC
  rw [show (⟨n % 16, by omega⟩ : Fin 16) = j from Fin.ext h]
  rfl

theorem turned_eq (Z : Fin 64 → EReal) (Y : ℕ → EReal) (q0 : ℕ) (hq : q0 % 64 = 0) (hZ : ∀ l : Fin 64, Z l = Y (q0 + l.val)) (s : Fin 2048) (l : Fin 64) :
    turned Z s l = ROPE Y s (q0 + l.val) := by
  have hl := l.isLt
  have hz : ∀ (n : ℕ) (hn : n < 64) (k : ℕ), k = q0 + n → Z ⟨n, hn⟩ = Y k := fun n hn k hk => by rw [hk]; exact hZ ⟨n, hn⟩
  unfold turned ROPE
  by_cases h0 : l.val < 16
  · rw [dif_pos (by omega), dif_pos h0, if_pos (by omega), hZ l, hz (16 + l.val) _ (q0 + l.val + 16) (by omega),
      cR_of s _ ⟨l.val, h0⟩ (by show (q0 + l.val) % 16 = l.val; omega), sR_of s _ ⟨l.val, h0⟩ (by show (q0 + l.val) % 16 = l.val; omega)]
  by_cases h1 : l.val < 32
  · rw [dif_pos h1, dif_neg h0, if_neg (by omega), if_pos (by omega), hz (l.val - 16) _ (q0 + l.val - 16) (by omega), hz (16 + (l.val - 16)) _ (q0 + l.val) (by omega),
      cR_of s _ ⟨l.val - 16, by omega⟩ (by show (q0 + l.val) % 16 = l.val - 16; omega), sR_of s _ ⟨l.val - 16, by omega⟩ (by show (q0 + l.val) % 16 = l.val - 16; omega)]
  by_cases h2 : l.val - 32 < 16
  · rw [dif_neg h1, dif_pos h2, if_neg (by omega), if_neg (by omega), if_pos (by omega), hz (32 + (l.val - 32)) _ (q0 + l.val) (by omega), hz (32 + (16 + (l.val - 32))) _ (q0 + l.val + 16) (by omega),
      cC_of s _ ⟨l.val - 32, h2⟩ (by show (q0 + l.val) % 16 = l.val - 32; omega), sC_of s _ ⟨l.val - 32, h2⟩ (by show (q0 + l.val) % 16 = l.val - 32; omega)]
  · rw [dif_neg h1, dif_neg h2, if_neg (by omega), if_neg (by omega), if_neg (by omega), hz (32 + (l.val - 32 - 16)) _ (q0 + l.val - 16) (by omega), hz (32 + (16 + (l.val - 32 - 16))) _ (q0 + l.val) (by omega),
      cC_of s _ ⟨l.val - 32 - 16, by omega⟩ (by show (q0 + l.val) % 16 = l.val - 32 - 16; omega), sC_of s _ ⟨l.val - 32 - 16, by omega⟩ (by show (q0 + l.val) % 16 = l.val - 32 - 16; omega)]

theorem q_turn (b : Fin 4) (s : Fin 2048) (h : Fin 8) (u : Fin 2) (l : Fin 64) :
    val_main_v94 (F := Ideal) x0 x1 x2 x3 (ix5 b s h u l)
      = ROPE (fun n => pjr x0 x1 x2 x3 (rw7 b s) (0 + n)) s (128 * h.val + 64 * u.val + l.val) * qf := by
  have e : val_main_v94 (F := Ideal) x0 x1 x2 x3 (ix5 b s h u l) = turned (fun l => val_main_v29 (F := Ideal) x0 x1 x2 x3 (ix5 b s h u l)) s l * qf := by
    unfold turned
    pointwise [val_main_v94, val_main_v93, val_main_cst_8, val_main_v92, val_main_v91, val_main_v76, val_main_v75, val_main_v70, val_main_v85, val_main_v90, val_main_v67, val_main_v69, val_main_v72, val_main_v74, val_main_v82, val_main_v84, val_main_v87, val_main_v89, val_main_v66, val_main_v68, val_main_v71, val_main_v73, val_main_v81, val_main_v83, val_main_v86, val_main_v88, val_main_v62, val_main_v63, val_main_v77, val_main_v78, val_main_v64, val_main_v65, val_main_v79, val_main_v80, val_main_v60, val_main_v61, val_main_v53, val_main_v59]
  rw [e, turned_eq _ (fun n => pjr x0 x1 x2 x3 (rw7 b s) (0 + n)) (128 * h.val + 64 * u.val) (by omega) (fun l => (q5 x0 x1 x2 x3 b s h u l).trans (by rw [Nat.zero_add])) s l]

theorem angR : val_main_v118 (F := Ideal) = val_main_v52 (F := Ideal) := rfl
theorem angC : val_main_v124 (F := Ideal) = val_main_v58 (F := Ideal) := rfl

theorem k_turn (b : Fin 4) (s : Fin 2048) (h : Fin 8) (u : Fin 2) (l : Fin 64) :
    val_main_v158 (F := Ideal) x0 x1 x2 x3 (ix5 b s h u l)
      = ROPE (fun n => pjr x0 x1 x2 x3 (rw7 b s) (1024 + n)) s (128 * h.val + 64 * u.val + l.val) := by
  have e : val_main_v158 (F := Ideal) x0 x1 x2 x3 (ix5 b s h u l) = turned (fun l => val_main_v95 (F := Ideal) x0 x1 x2 x3 (ix5 b s h u l)) s l := by
    unfold turned
    rw [← angR, ← angC]
    pointwise [val_main_v158, val_main_v157, val_main_v142, val_main_v141, val_main_v136, val_main_v151, val_main_v156, val_main_v133, val_main_v135, val_main_v138, val_main_v140, val_main_v148, val_main_v150, val_main_v153, val_main_v155, val_main_v132, val_main_v134, val_main_v137, val_main_v139, val_main_v147, val_main_v149, val_main_v152, val_main_v154, val_main_v128, val_main_v129, val_main_v143, val_main_v144, val_main_v130, val_main_v131, val_main_v145, val_main_v146, val_main_v126, val_main_v127, val_main_v119, val_main_v125]
  rw [e, turned_eq _ (fun n => pjr x0 x1 x2 x3 (rw7 b s) (1024 + n)) (128 * h.val + 64 * u.val) (by omega) (fun l => k5 x0 x1 x2 x3 b s h u l) s l]

/-- The three arrays at the rows of the prompts, which are the buffers', -/
theorem q_old (R : Fin 4096) (q : Fin 1024) : val_main_v162 (F := Ideal) x0 x1 x2 x3 x4 (ix2 ⟨R.val, by omega⟩ q) = x4 (ix2 ⟨R.val, by omega⟩ q) := by
  pointwise [val_main_v162, val_main_v159]

theorem k_old (R : Fin 4096) (q : Fin 1024) : val_main_v166 (F := Ideal) x0 x1 x2 x3 x5 (ix2 ⟨R.val, by omega⟩ q) = x5 (ix2 ⟨R.val, by omega⟩ q) := by
  pointwise [val_main_v166, val_main_v163]

theorem v_old (R : Fin 4096) (q : Fin 1024) : val_main_v170 (F := Ideal) x0 x1 x2 x3 x6 (ix2 ⟨R.val, by omega⟩ q) = x6 (ix2 ⟨R.val, by omega⟩ q) := by
  pointwise [val_main_v170, val_main_v167]

/-- and at the samples' rows. -/
theorem q_new (R : Fin 8192) (q : Fin 1024) : val_main_v162 (F := Ideal) x0 x1 x2 x3 x4 (ix2 ⟨4096 + R.val, by omega⟩ q)
    = ROPE (fun n => pjr x0 x1 x2 x3 (4096 + R.val) (0 + n)) ⟨R.val % 2048, by omega⟩ q.val * qf := by
  have hR := R.isLt
  have hq := q.isLt
  have e := q_turn x0 x1 x2 x3 ⟨R.val / 2048, by omega⟩ ⟨R.val % 2048, by omega⟩ ⟨q.val / 128, by omega⟩ ⟨q.val / 64 % 2, by omega⟩ ⟨q.val % 64, by omega⟩
  rw [show rw7 ⟨R.val / 2048, by omega⟩ ⟨R.val % 2048, by omega⟩ = 4096 + R.val by show 4096 + (2048 * (R.val / 2048) + R.val % 2048) = _; omega,
    show 128 * (q.val / 128) + 64 * (q.val / 64 % 2) + q.val % 64 = q.val by omega] at e
  rw [← e]
  pointwise [val_main_v162, val_main_v161, val_main_v160]

theorem k_new (R : Fin 8192) (q : Fin 1024) : val_main_v166 (F := Ideal) x0 x1 x2 x3 x5 (ix2 ⟨4096 + R.val, by omega⟩ q)
    = ROPE (fun n => pjr x0 x1 x2 x3 (4096 + R.val) (1024 + n)) ⟨R.val % 2048, by omega⟩ q.val := by
  have hR := R.isLt
  have hq := q.isLt
  have e := k_turn x0 x1 x2 x3 ⟨R.val / 2048, by omega⟩ ⟨R.val % 2048, by omega⟩ ⟨q.val / 128, by omega⟩ ⟨q.val / 64 % 2, by omega⟩ ⟨q.val % 64, by omega⟩
  rw [show rw7 ⟨R.val / 2048, by omega⟩ ⟨R.val % 2048, by omega⟩ = 4096 + R.val by show 4096 + (2048 * (R.val / 2048) + R.val % 2048) = _; omega,
    show 128 * (q.val / 128) + 64 * (q.val / 64 % 2) + q.val % 64 = q.val by omega] at e
  rw [← e]
  pointwise [val_main_v166, val_main_v165, val_main_v164]

theorem v_new (R : Fin 8192) (q : Fin 1024) : val_main_v170 (F := Ideal) x0 x1 x2 x3 x6 (ix2 ⟨4096 + R.val, by omega⟩ q)
    = pjr x0 x1 x2 x3 (4096 + R.val) (2048 + q.val) := by
  have hR := R.isLt
  have e := wideS x0 x1 x2 x3 ⟨R.val / 2048, by omega⟩ ⟨R.val % 2048, by omega⟩ ⟨2048 + q.val, by omega⟩ _ rfl
  rw [show rw7 ⟨R.val / 2048, by omega⟩ ⟨R.val % 2048, by omega⟩ = 4096 + R.val by show 4096 + (2048 * (R.val / 2048) + R.val % 2048) = _; omega] at e
  rw [← e]
  pointwise [val_main_v170, val_main_v169, val_main_v168, val_main_v28]

end Cert.Reference7Ideal.Rope

namespace Cert.Kernel7Ideal.Rope

open Idealize.ShloMosaic Idealize.SL.Sem Cert.Kernel7Ideal Cert.Kernel7Ideal.Gen Idealize.ShloMosaic.TcCoe

variable (m : (ℓ : Loc nD τ sig) → Buf (Elt Ideal) ℓ) (c : Dev nD)

/-- An index of one of the three arrays: a row of the prompts or one of the samples. -/
theorem part (i : S12288x1024.Idx) : (∃ (R : Fin 4096) (q : Fin 1024), i = ix2 ⟨R.val, by omega⟩ q) ∨ ∃ (R : Fin 8192) (q : Fin 1024), i = ix2 ⟨4096 + R.val, by omega⟩ q := by
  have h : (i 0).val < 12288 := (i 0).isLt
  by_cases h0 : (i 0).val < 4096
  · refine .inl ⟨⟨(i 0).val, h0⟩, i 1, ?_⟩
    funext a
    match a with
    | ⟨0, _⟩ => rfl
    | ⟨1, _⟩ => rfl
  · refine .inr ⟨⟨(i 0).val - 4096, by omega⟩, i 1, ?_⟩
    funext a
    match a with
    | ⟨0, _⟩ => exact Fin.ext (by show (i 0).val = 4096 + ((i 0).val - 4096); omega)
    | ⟨1, _⟩ => rfl

theorem arr8_eq : (dats m 0 c).arrAt 8 cfg0.N = Cert.Reference7Ideal.Read.val_main_v162 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  obtain ⟨R, q, h⟩ | ⟨R, q, h⟩ := part i <;> rw [h]
  · exact (arr8_old m c R q).trans (Cert.Reference7Ideal.Rope.q_old _ _ _ _ _ R q).symm
  · exact (arr8_new m c R q).trans (Cert.Reference7Ideal.Rope.q_new _ _ _ _ _ R q).symm

theorem arr9_eq : (dats m 0 c).arrAt 9 cfg0.N = Cert.Reference7Ideal.Read.val_main_v166 (F := Ideal) (m ((c : Thread nD τ).loc main_arg0)) (m ((c : Thread nD τ).loc main_arg1))
    (m ((c : Thread nD τ).loc main_arg2)) (m ((c : Thread nD τ).loc main_arg3)) (m ((c : Thread nD τ).loc main_arg5)) := by
  funext i
  obtain ⟨R, q, h⟩ | ⟨R, q, h⟩ := part i <;> rw [h]
  · exact (arr9_old m c R q).trans (Cert.Reference7Ideal.Rope.k_old _ _ _ _ _ R q).symm
  · exact (arr9_new m c R q).trans (Cert.Reference7Ideal.Rope.k_new _ _ _ _ _ R q).symm

theorem arr10_eq : (dats m 0 c).arrAt 10 cfg0.N = Cert.Reference7Ideal.Read.val_main_v170 (F := Ideal) (m ((c : Thread nD τ).loc main_arg0)) (m ((c : Thread nD τ).loc main_arg1))
    (m ((c : Thread nD τ).loc main_arg2)) (m ((c : Thread nD τ).loc main_arg3)) (m ((c : Thread nD τ).loc main_arg6)) := by
  funext i
  obtain ⟨R, q, h⟩ | ⟨R, q, h⟩ := part i <;> rw [h]
  · exact (arr10_old m c R q).trans (Cert.Reference7Ideal.Rope.v_old _ _ _ _ _ R q).symm
  · exact (arr10_new m c R q).trans (Cert.Reference7Ideal.Rope.v_new _ _ _ _ _ R q).symm

end Cert.Kernel7Ideal.Rope

end
-- ==== Proof.Fin.Norm.lean ====
/- The call `final_norm`, over the prompts' rows and over the samples': the blocks each grid point reads, the result after the run, and that the
   reference's result is the same array. -/
module

public import proofs.«01_k».proof.Proof.Gen.Kernel8Ideal.Value
public import proofs.«01_k».proof.Proof.Gen.Kernel8Ideal.Points
public import proofs.«01_k».proof.Proof.Gen.Reference8Ideal.Read
public import proofs.«01_k».proof.Proof.Gen.Kernel9Ideal.Value
public import proofs.«01_k».proof.Proof.Gen.Kernel9Ideal.Points
public import proofs.«01_k».proof.Proof.Gen.Reference9Ideal.Read
public import Idealize.ShloMosaic.Lib.Pointwise
public import Idealize.ShloMosaic.Lib.KernelVsHost
public import Idealize.ShloMosaic.Lib.Pipeline.ValueKit

@[expose] public section

set_option maxRecDepth 16384

noncomputable section

namespace Cert.Proof.Fin

open Idealize.ShloMosaic

/-- The norm of one row. -/
def NF (x g : Fin 1024 → EReal) (d : Fin 1024) : EReal :=
  x d * Ideal.rsqrt (Ideal.div (∑ k, x k * x k) (Ideal.ofBits .f32 0x44800000#32) + Ideal.ofBits .f32 0x358637BD#32) * g d

end Cert.Proof.Fin

namespace Cert.Kernel8Ideal.Fin

open Idealize.ShloMosaic Idealize.SL.Sem Cert.Kernel8Ideal Cert.Kernel8Ideal.Gen Idealize.ShloMosaic.TcCoe
open Cert.Proof.Fin (NF)

variable (m : (ℓ : Loc nD τ sig) → Buf (Elt Ideal) ℓ) (c : Dev nD)

theorem e0 : ∀ t, win0_0.index t = ![t.val, 0] := (by decide +kernel : ∀ t : Fin grid0.N, win0_0.index t = ![t.val, 0])
theorem e1 : ∀ t, win0_1.index t = ![0, 0] := (by decide +kernel : ∀ t : Fin grid0.N, win0_1.index t = ![0, 0])
theorem e2 : ∀ t, win0_2.index t = ![t.val, 0] := (by decide +kernel : ∀ t : Fin grid0.N, win0_2.index t = ![t.val, 0])

theorem t_lt (t : Fin cfg0.N) : t.val < 8 := (by decide +kernel : ∀ t : Fin grid0.N, t.val < 8) t

theorem blk0 (t : Fin cfg0.N) (p : Fin 512) (k : Fin 1024) (R : Fin 12288) (hR : R.val = 0 + 512 * t.val + p.val) :
    iblk m c 0 t (ix2 p k) = m ((c : Thread nD τ).loc main_arg0) (ix2 R k) := by
  have ht := t_lt t
  unfold iblk
  show m ((c : Thread nD τ).loc main_arg0) _ = _
  congr 1
  funext a
  apply Fin.ext
  match a with
  | ⟨0, _⟩ =>
    blk_simp [e0]
    refine Eq.trans ?_ hR.symm
    try omega
  | ⟨1, _⟩ =>
    blk_simp [e0]

theorem blk1 (t : Fin cfg0.N) : iblk m c 1 t = m ((c : Thread nD τ).loc main_arg1) := by
  unfold iblk
  funext i
  show m ((c : Thread nD τ).loc main_arg1) _ = _
  congr 1
  funext a
  apply Fin.ext
  match a with
  | ⟨0, _⟩ =>
    blk_simp [e1]
  | ⟨1, _⟩ =>
    blk_simp [e1]

theorem pay_at (x : Vec Ideal S512x1024 .f32) (g : Vec Ideal S1x1024 .f32) (p : Fin 512) (d : Fin 1024) :
    k0_pay1 (F := Ideal) x g (ix2 p d) = NF (fun k => x (ix2 p k)) (fun k => g (ix2 0 k)) d := by
  pointwise [k0_pay1, NF]

theorem out_at (x : Vec Ideal S512x1024 .f32) (g : Vec Ideal S1x1024 .f32) (p : Fin 512) (d : Fin 1024) :
    out0_2 (F := Ideal) x g (ix2 p d) = NF (fun k => x (ix2 p k)) (fun k => g (ix2 0 k)) d := by
  rw [← pay_at]
  unfold out0_2
  frame_out

/-- The result array after the run, at row `r`. -/
theorem arr_at (r : Fin 4096) (d : Fin 1024) : (dats m 0 c).arrAt 2 cfg0.N (ix2 r d)
    = NF (fun k => m ((c : Thread nD τ).loc main_arg0) (ix2 ⟨0 + r.val, by omega⟩ k)) (fun k => m ((c : Thread nD τ).loc main_arg1) (ix2 0 k)) d := by
  have hr := r.isLt
  have ht : r.val / 512 < 8 := by omega
  let t : Fin cfg0.N := ⟨r.val / 512, ht⟩
  let p : Fin 512 := ⟨r.val % 512, by omega⟩
  have hp : 0 + r.val = 0 + 512 * t.val + p.val := by show 0 + r.val = 0 + 512 * (r.val / 512) + r.val % 512; omega
  have hw := congrFun (Cert.Kernel8Ideal.Value.blocks2 m c t (flush0_2 t)) (ix2 p d)
  rw [Cert.Kernel8Ideal.Value.flushed2] at hw
  refine Eq.trans ?_ (hw.trans ((out_at _ _ p d).trans ?_))
  · generalize (dats m 0 c).arrAt 2 cfg0.N = X
    show X _ = X _
    congr 1
    funext a
    apply Fin.ext
    match a with
    | ⟨0, _⟩ =>
      blk_simp [e2]
      show r.val = r.val / 512 * 512 + r.val % 512
      omega
    | ⟨1, _⟩ =>
      blk_simp [e2]
  · rw [blk1]
    simp only [fun k => blk0 m c t p k ⟨0 + r.val, by omega⟩ hp]

end Cert.Kernel8Ideal.Fin

namespace Cert.Reference8Ideal.Fin

open Idealize.ShloMosaic Idealize.SL.Sem Cert.Reference8Ideal Cert.Reference8Ideal.Gen Cert.Reference8Ideal.Read Idealize.ShloMosaic.TcCoe
open Cert.Proof.Fin (NF)

variable (x0 : Vec Ideal S12288x1024 .f32) (x1 : Vec Ideal S1x1024 .f32)

theorem result (r : Fin 4096) (d : Fin 1024) : val_main_v14 (F := Ideal) x0 x1 (ix2 r d)
    = NF (fun k => x0 (ix2 ⟨0 + r.val, by omega⟩ k)) (fun k => x1 (ix2 0 k)) d := by
  have h : val_main_v14 (F := Ideal) x0 x1 (ix2 r d) = NF (fun k => val_main_v0 (F := Ideal) x0 (ix2 r k)) (fun k => x1 (ix2 0 k)) d := by
    pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, NF]
  have hx : (fun k => val_main_v0 (F := Ideal) x0 (ix2 r k)) = fun k => x0 (ix2 ⟨0 + r.val, by omega⟩ k) := by
    funext k
    rw [val_main_v0_apply]
    refine congrArg x0 (funext fun a => Fin.ext ?_)
    match a with
    | ⟨0, _⟩ => show _ = 0 + r.val; first | rfl | (dsimp only [ix2]; omega)
    | ⟨1, _⟩ => rfl
  rw [h, hx]

end Cert.Reference8Ideal.Fin

namespace Cert.Kernel8Ideal.Fin

open Idealize.ShloMosaic Idealize.SL.Sem Cert.Kernel8Ideal Cert.Kernel8Ideal.Gen Idealize.ShloMosaic.TcCoe

theorem arr_eq (m : (ℓ : Loc nD τ sig) → Buf (Elt Ideal) ℓ) (c : Dev nD) : (dats m 0 c).arrAt 2 cfg0.N
    = Cert.Reference8Ideal.Read.val_main_v14 (F := Ideal) (m ((c : Thread nD τ).loc main_arg0)) (m ((c : Thread nD τ).loc main_arg1)) := by
  funext i
  rw [show i = ix2 (i 0) (i 1) from funext fun a => match a with | ⟨0, _⟩ => rfl | ⟨1, _⟩ => rfl]
  exact (arr_at m c _ _).trans (Cert.Reference8Ideal.Fin.result _ _ _ _).symm

end Cert.Kernel8Ideal.Fin

namespace Cert.Kernel9Ideal.Fin

open Idealize.ShloMosaic Idealize.SL.Sem Cert.Kernel9Ideal Cert.Kernel9Ideal.Gen Idealize.ShloMosaic.TcCoe
open Cert.Proof.Fin (NF)

variable (m : (ℓ : Loc nD τ sig) → Buf (Elt Ideal) ℓ) (c : Dev nD)

theorem e0 : ∀ t, win0_0.index t = ![8 + t.val, 0] := (by decide +kernel : ∀ t : Fin grid0.N, win0_0.index t = ![8 + t.val, 0])
theorem e1 : ∀ t, win0_1.index t = ![0, 0] := (by decide +kernel : ∀ t : Fin grid0.N, win0_1.index t = ![0, 0])
theorem e2 : ∀ t, win0_2.index t = ![t.val, 0] := (by decide +kernel : ∀ t : Fin grid0.N, win0_2.index t = ![t.val, 0])

theorem t_lt (t : Fin cfg0.N) : t.val < 16 := (by decide +kernel : ∀ t : Fin grid0.N, t.val < 16) t

theorem blk0 (t : Fin cfg0.N) (p : Fin 512) (k : Fin 1024) (R : Fin 12288) (hR : R.val = 4096 + 512 * t.val + p.val) :
    iblk m c 0 t (ix2 p k) = m ((c : Thread nD τ).loc main_arg0) (ix2 R k) := by
  have ht := t_lt t
  unfold iblk
  show m ((c : Thread nD τ).loc main_arg0) _ = _
  congr 1
  funext a
  apply Fin.ext
  match a with
  | ⟨0, _⟩ =>
    blk_simp [e0]
    refine Eq.trans ?_ hR.symm
    try omega
  | ⟨1, _⟩ =>
    blk_simp [e0]

theorem blk1 (t : Fin cfg0.N) : iblk m c 1 t = m ((c : Thread nD τ).loc main_arg1) := by
  unfold iblk
  funext i
  show m ((c : Thread nD τ).loc main_arg1) _ = _
  congr 1
  funext a
  apply Fin.ext
  match a with
  | ⟨0, _⟩ =>
    blk_simp [e1]
  | ⟨1, _⟩ =>
    blk_simp [e1]

theorem pay_at (x : Vec Ideal S512x1024 .f32) (g : Vec Ideal S1x1024 .f32) (p : Fin 512) (d : Fin 1024) :
    k0_pay1 (F := Ideal) x g (ix2 p d) = NF (fun k => x (ix2 p k)) (fun k => g (ix2 0 k)) d := by
  pointwise [k0_pay1, NF]

theorem out_at (x : Vec Ideal S512x1024 .f32) (g : Vec Ideal S1x1024 .f32) (p : Fin 512) (d : Fin 1024) :
    out0_2 (F := Ideal) x g (ix2 p d) = NF (fun k => x (ix2 p k)) (fun k => g (ix2 0 k)) d := by
  rw [← pay_at]
  unfold out0_2
  frame_out

/-- The result array after the run, at row `r`. -/
theorem arr_at (r : Fin 8192) (d : Fin 1024) : (dats m 0 c).arrAt 2 cfg0.N (ix2 r d)
    = NF (fun k => m ((c : Thread nD τ).loc main_arg0) (ix2 ⟨4096 + r.val, by omega⟩ k)) (fun k => m ((c : Thread nD τ).loc main_arg1) (ix2 0 k)) d := by
  have hr := r.isLt
  have ht : r.val / 512 < 16 := by omega
  let t : Fin cfg0.N := ⟨r.val / 512, ht⟩
  let p : Fin 512 := ⟨r.val % 512, by omega⟩
  have hp : 4096 + r.val = 4096 + 512 * t.val + p.val := by show 4096 + r.val = 4096 + 512 * (r.val / 512) + r.val % 512; omega
  have hw := congrFun (Cert.Kernel9Ideal.Value.blocks2 m c t (flush0_2 t)) (ix2 p d)
  rw [Cert.Kernel9Ideal.Value.flushed2] at hw
  refine Eq.trans ?_ (hw.trans ((out_at _ _ p d).trans ?_))
  · generalize (dats m 0 c).arrAt 2 cfg0.N = X
    show X _ = X _
    congr 1
    funext a
    apply Fin.ext
    match a with
    | ⟨0, _⟩ =>
      blk_simp [e2]
      show r.val = r.val / 512 * 512 + r.val % 512
      omega
    | ⟨1, _⟩ =>
      blk_simp [e2]
  · rw [blk1]
    simp only [fun k => blk0 m c t p k ⟨4096 + r.val, by omega⟩ hp]

end Cert.Kernel9Ideal.Fin

namespace Cert.Reference9Ideal.Fin

open Idealize.ShloMosaic Idealize.SL.Sem Cert.Reference9Ideal Cert.Reference9Ideal.Gen Cert.Reference9Ideal.Read Idealize.ShloMosaic.TcCoe
open Cert.Proof.Fin (NF)

variable (x0 : Vec Ideal S12288x1024 .f32) (x1 : Vec Ideal S1x1024 .f32)

theorem result (r : Fin 8192) (d : Fin 1024) : val_main_v14 (F := Ideal) x0 x1 (ix2 r d)
    = NF (fun k => x0 (ix2 ⟨4096 + r.val, by omega⟩ k)) (fun k => x1 (ix2 0 k)) d := by
  have h : val_main_v14 (F := Ideal) x0 x1 (ix2 r d) = NF (fun k => val_main_v0 (F := Ideal) x0 (ix2 r k)) (fun k => x1 (ix2 0 k)) d := by
    pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, NF]
  have hx : (fun k => val_main_v0 (F := Ideal) x0 (ix2 r k)) = fun k => x0 (ix2 ⟨4096 + r.val, by omega⟩ k) := by
    funext k
    rw [val_main_v0_apply]
    refine congrArg x0 (funext fun a => Fin.ext ?_)
    match a with
    | ⟨0, _⟩ => show _ = 4096 + r.val; first | rfl | (dsimp only [ix2]; omega)
    | ⟨1, _⟩ => rfl
  rw [h, hx]

end Cert.Reference9Ideal.Fin

namespace Cert.Kernel9Ideal.Fin

open Idealize.ShloMosaic Idealize.SL.Sem Cert.Kernel9Ideal Cert.Kernel9Ideal.Gen Idealize.ShloMosaic.TcCoe

theorem arr_eq (m : (ℓ : Loc nD τ sig) → Buf (Elt Ideal) ℓ) (c : Dev nD) : (dats m 0 c).arrAt 2 cfg0.N
    = Cert.Reference9Ideal.Read.val_main_v14 (F := Ideal) (m ((c : Thread nD τ).loc main_arg0)) (m ((c : Thread nD τ).loc main_arg1)) := by
  funext i
  rw [show i = ix2 (i 0) (i 1) from funext fun a => match a with | ⟨0, _⟩ => rfl | ⟨1, _⟩ => rfl]
  exact (arr_at m c _ _).trans (Cert.Reference9Ideal.Fin.result _ _ _ _).symm

end Cert.Kernel9Ideal.Fin

end
-- ==== Proof.In.Blocks.lean ====
/- The blocks each grid point of the call `ssd_in` reads, what it stores, and the three result arrays after the run. -/
module

public import proofs.«01_k».proof.Proof.In.Spec
public import proofs.«01_k».proof.Proof.Gen.Kernel5Ideal.Points
public import Idealize.ShloMosaic.Lib.Pipeline.ValueKit.Geometry
public import Idealize.ShloMosaic.Lib.Pipeline.ValueKit.Tiles
public import Idealize.ShloMosaic.Lib.VecWindow

@[expose] public section

set_option maxRecDepth 16384

noncomputable section

namespace Cert.Kernel5Ideal.In

open Idealize.ShloMosaic Idealize.SL.Sem Cert.Kernel5Ideal Cert.Kernel5Ideal.Gen Idealize.ShloMosaic.TcCoe
open Cert.Kernel2Ideal.Ffn (cv hr halo mrow opens closes xr md md_congr word0 word1)

variable (m : (ℓ : Loc nD τ sig) → Buf (Elt Ideal) ℓ) (c : Dev nD)

theorem e0 : ∀ t, win0_0.index t = ![128 * t.val - 1, 0] := (by decide +kernel : ∀ t : Fin grid0.N, win0_0.index t = ![128 * t.val - 1, 0])
theorem e1 : ∀ t, win0_1.index t = ![t.val, 0] := (by decide +kernel : ∀ t : Fin grid0.N, win0_1.index t = ![t.val, 0])
theorem e2 : ∀ t, win0_2.index t = ![min (128 * t.val + 128) 1535, 0] := (by decide +kernel : ∀ t : Fin grid0.N, win0_2.index t = ![min (128 * t.val + 128) 1535, 0])
theorem e3 : ∀ t, win0_3.index t = ![0, 0] := (by decide +kernel : ∀ t : Fin grid0.N, win0_3.index t = ![0, 0])
theorem e4 : ∀ t, win0_4.index t = ![mrow (1024 * t.val), 0, 0] := (by decide +kernel : ∀ t : Fin grid0.N, win0_4.index t = ![mrow (1024 * t.val), 0, 0])
theorem e5 : ∀ t, win0_5.index t = ![mrow (1024 * t.val), 0, 1] := (by decide +kernel : ∀ t : Fin grid0.N, win0_5.index t = ![mrow (1024 * t.val), 0, 1])
theorem e6 : ∀ t, win0_6.index t = ![0, 0] := (by decide +kernel : ∀ t : Fin grid0.N, win0_6.index t = ![0, 0])
theorem e7 : ∀ t, win0_7.index t = ![0, 0] := (by decide +kernel : ∀ t : Fin grid0.N, win0_7.index t = ![0, 0])
theorem e8 : ∀ t, win0_8.index t = ![0, 0] := (by decide +kernel : ∀ t : Fin grid0.N, win0_8.index t = ![0, 0])
theorem e9 : ∀ t, win0_9.index t = ![0, 0] := (by decide +kernel : ∀ t : Fin grid0.N, win0_9.index t = ![0, 0])
theorem e10 : ∀ t, win0_10.index t = ![0, 0] := (by decide +kernel : ∀ t : Fin grid0.N, win0_10.index t = ![0, 0])
theorem e11 : ∀ t, win0_11.index t = ![t.val, 0] := (by decide +kernel : ∀ t : Fin grid0.N, win0_11.index t = ![t.val, 0])
theorem e12 : ∀ t, win0_12.index t = ![t.val, 0] := (by decide +kernel : ∀ t : Fin grid0.N, win0_12.index t = ![t.val, 0])
theorem e13 : ∀ t, win0_13.index t = ![t.val, 0] := (by decide +kernel : ∀ t : Fin grid0.N, win0_13.index t = ![t.val, 0])

theorem t_lt (t : Fin cfg0.N) : t.val < 12 := (by decide +kernel : ∀ t : Fin grid0.N, t.val < 12) t
theorem mrow_lt (t : Fin cfg0.N) : mrow (1024 * t.val) < 8 := (by decide +kernel : ∀ t : Fin grid0.N, mrow (1024 * t.val) < 8) t

theorem blk0 (t : Fin cfg0.N) (ht0 : 0 < t.val) (k : Fin 1024) (i : S12288x1024.Idx) (h0 : (i 0).val = 1024 * t.val - 1) (h1 : (i 1).val = k.val) :
    iblk m c 0 t (ix2 7 k) = m ((c : Thread nD τ).loc main_arg0) i := by
  have ht := t_lt t
  unfold iblk
  rw [show V m c (Pipeline.arrRef spec0 0) = m ((c : Thread nD τ).loc main_arg0) from V_main_arg0 m c]
  show m ((c : Thread nD τ).loc main_arg0) _ = _
  congr 1
  funext a
  apply Fin.ext
  match a with
  | ⟨0, _⟩ =>
    blk_simp [e0]
    refine Eq.trans ?_ h0.symm
    try omega
  | ⟨1, _⟩ =>
    blk_simp [e0]
    refine Eq.trans ?_ h1.symm
    try omega

theorem blk1 (t : Fin cfg0.N) (p k : Fin 1024) (i : S12288x1024.Idx) (h0 : (i 0).val = 1024 * t.val + p.val) (h1 : (i 1).val = k.val) :
    iblk m c 1 t (ix2 p k) = m ((c : Thread nD τ).loc main_arg0) i := by
  have ht := t_lt t
  unfold iblk
  rw [show V m c (Pipeline.arrRef spec0 1) = m ((c : Thread nD τ).loc main_arg0) from V_main_arg0 m c]
  show m ((c : Thread nD τ).loc main_arg0) _ = _
  congr 1
  funext a
  apply Fin.ext
  match a with
  | ⟨0, _⟩ =>
    blk_simp [e1]
    refine Eq.trans ?_ h0.symm
    try omega
  | ⟨1, _⟩ =>
    blk_simp [e1]
    refine Eq.trans ?_ h1.symm
    try omega

theorem blk2 (t : Fin cfg0.N) (ht0 : t.val < 11) (k : Fin 1024) (i : S12288x1024.Idx) (h0 : (i 0).val = 1024 * t.val + 1024) (h1 : (i 1).val = k.val) :
    iblk m c 2 t (ix2 0 k) = m ((c : Thread nD τ).loc main_arg0) i := by
  have ht := t_lt t
  unfold iblk
  rw [show V m c (Pipeline.arrRef spec0 2) = m ((c : Thread nD τ).loc main_arg0) from V_main_arg0 m c]
  show m ((c : Thread nD τ).loc main_arg0) _ = _
  congr 1
  funext a
  apply Fin.ext
  match a with
  | ⟨0, _⟩ =>
    blk_simp [e2]
    refine Eq.trans ?_ h0.symm
    try omega
  | ⟨1, _⟩ =>
    blk_simp [e2]
    refine Eq.trans ?_ h1.symm
    try omega

theorem blk4 (t : Fin cfg0.N) (k : Fin 1024) (i : S8x1x6144.Idx) (h0 : (i 0).val = mrow (1024 * t.val)) (h1 : (i 1).val = 0) (h2 : (i 2).val = k.val) :
    iblk m c 4 t (ix3 0 0 k) = m ((c : Thread nD τ).loc main_arg1) i := by
  have ht := t_lt t
  unfold iblk
  rw [show V m c (Pipeline.arrRef spec0 4) = m ((c : Thread nD τ).loc main_arg1) from V_main_arg1 m c]
  show m ((c : Thread nD τ).loc main_arg1) _ = _
  congr 1
  funext a
  apply Fin.ext
  match a with
  | ⟨0, _⟩ =>
    blk_simp [e4]
    refine Eq.trans ?_ h0.symm
    try omega
  | ⟨1, _⟩ =>
    blk_simp [e4]
    first | rfl | omega
  | ⟨2, _⟩ =>
    blk_simp [e4]
    refine Eq.trans ?_ h2.symm
    try omega

theorem blk5 (t : Fin cfg0.N) (k : Fin 1024) (i : S8x1x6144.Idx) (h0 : (i 0).val = mrow (1024 * t.val)) (h1 : (i 1).val = 0) (h2 : (i 2).val = 1024 + k.val) :
    iblk m c 5 t (ix3 0 0 k) = m ((c : Thread nD τ).loc main_arg1) i := by
  have ht := t_lt t
  unfold iblk
  rw [show V m c (Pipeline.arrRef spec0 5) = m ((c : Thread nD τ).loc main_arg1) from V_main_arg1 m c]
  show m ((c : Thread nD τ).loc main_arg1) _ = _
  congr 1
  funext a
  apply Fin.ext
  match a with
  | ⟨0, _⟩ =>
    blk_simp [e5]
    refine Eq.trans ?_ h0.symm
    try omega
  | ⟨1, _⟩ =>
    blk_simp [e5]
    first | rfl | omega
  | ⟨2, _⟩ =>
    blk_simp [e5]
    refine Eq.trans ?_ h2.symm
    try omega

theorem blk3 (t : Fin cfg0.N) : iblk m c 3 t = m ((c : Thread nD τ).loc main_arg2) := by
  unfold iblk
  rw [show V m c (Pipeline.arrRef spec0 3) = m ((c : Thread nD τ).loc main_arg2) from V_main_arg2 m c]
  funext i
  show m ((c : Thread nD τ).loc main_arg2) _ = _
  congr 1
  funext a
  apply Fin.ext
  match a with
  | ⟨0, _⟩ =>
    blk_simp [e3]
  | ⟨1, _⟩ =>
    blk_simp [e3]

theorem blk6 (t : Fin cfg0.N) : iblk m c 6 t = m ((c : Thread nD τ).loc main_arg3) := by
  unfold iblk
  rw [show V m c (Pipeline.arrRef spec0 6) = m ((c : Thread nD τ).loc main_arg3) from V_main_arg3 m c]
  funext i
  show m ((c : Thread nD τ).loc main_arg3) _ = _
  congr 1
  funext a
  apply Fin.ext
  match a with
  | ⟨0, _⟩ =>
    blk_simp [e6]
  | ⟨1, _⟩ =>
    blk_simp [e6]

theorem blk7 (t : Fin cfg0.N) : iblk m c 7 t = m ((c : Thread nD τ).loc main_arg4) := by
  unfold iblk
  rw [show V m c (Pipeline.arrRef spec0 7) = m ((c : Thread nD τ).loc main_arg4) from V_main_arg4 m c]
  funext i
  show m ((c : Thread nD τ).loc main_arg4) _ = _
  congr 1
  funext a
  apply Fin.ext
  match a with
  | ⟨0, _⟩ =>
    blk_simp [e7]
  | ⟨1, _⟩ =>
    blk_simp [e7]

theorem blk8 (t : Fin cfg0.N) : iblk m c 8 t = m ((c : Thread nD τ).loc main_arg5) := by
  unfold iblk
  rw [show V m c (Pipeline.arrRef spec0 8) = m ((c : Thread nD τ).loc main_arg5) from V_main_arg5 m c]
  funext i
  show m ((c : Thread nD τ).loc main_arg5) _ = _
  congr 1
  funext a
  apply Fin.ext
  match a with
  | ⟨0, _⟩ =>
    blk_simp [e8]
  | ⟨1, _⟩ =>
    blk_simp [e8]

theorem blk9 (t : Fin cfg0.N) : iblk m c 9 t = m ((c : Thread nD τ).loc main_arg6) := by
  unfold iblk
  rw [show V m c (Pipeline.arrRef spec0 9) = m ((c : Thread nD τ).loc main_arg6) from V_main_arg6 m c]
  funext i
  show m ((c : Thread nD τ).loc main_arg6) _ = _
  congr 1
  funext a
  apply Fin.ext
  match a with
  | ⟨0, _⟩ =>
    blk_simp [e9]
  | ⟨1, _⟩ =>
    blk_simp [e9]

theorem blk10 (t : Fin cfg0.N) : iblk m c 10 t = m ((c : Thread nD τ).loc main_arg7) := by
  unfold iblk
  rw [show V m c (Pipeline.arrRef spec0 10) = m ((c : Thread nD τ).loc main_arg7) from V_main_arg7 m c]
  funext i
  show m ((c : Thread nD τ).loc main_arg7) _ = _
  congr 1
  funext a
  apply Fin.ext
  match a with
  | ⟨0, _⟩ =>
    blk_simp [e10]
  | ⟨1, _⟩ =>
    blk_simp [e10]

/-- The three factors that cut the rows of other sequences off. -/
theorem cut_at : ∀ t : Fin cfg0.N, k0_pay13 (F := Ideal) (BitVec.ofNat 32 (grid0.coords t 0).val) = if 1024 * t.val < 4096 then 0 else 1 := by
  have h : ∀ t : Fin grid0.N, Scalar.cmpi .slt (Scalar.muli (BitVec.ofNat 32 (grid0.coords t 0).val) 1024#32) 4096#32
      = if 1024 * t.val < 4096 then 1#1 else 0#1 := by decide +kernel
  intro t
  unfold k0_pay13
  dsimp only
  rw [h t]
  split
  · exact word0
  · exact word1

theorem first_at : ∀ t : Fin cfg0.N, k0_pay3 (F := Ideal) (grid0.coords t) = if opens (1024 * t.val) then 0 else 1 := by
  have h : ∀ t : Fin grid0.N, Scalar.cmpi .eq (Scalar.andi (Scalar.muli (BitVec.ofNat 32 (grid0.coords t 0).val) 1024#32)
      (Scalar.subi (Scalar.select (Scalar.cmpi .slt (Scalar.muli (BitVec.ofNat 32 (grid0.coords t 0).val) 1024#32) 4096#32) 256#32 2048#32) 1#32)) 0#32
      = if opens (1024 * t.val) then 1#1 else 0#1 := by decide +kernel
  intro t
  unfold k0_pay3
  dsimp only
  rw [h t]
  split
  · exact word0
  · exact word1

theorem last_at : ∀ t : Fin cfg0.N, k0_pay4 (F := Ideal) (grid0.coords t) = if closes (1024 * t.val + 1023) then 0 else 1 := by
  have h : ∀ t : Fin grid0.N, Scalar.cmpi .eq (Scalar.andi (Scalar.muli (Scalar.addi (BitVec.ofNat 32 (grid0.coords t 0).val) 1#32) 1024#32)
      (Scalar.subi (Scalar.select (Scalar.cmpi .slt (Scalar.muli (BitVec.ofNat 32 (grid0.coords t 0).val) 1024#32) 4096#32) 256#32 2048#32) 1#32)) 0#32
      = if closes (1024 * t.val + 1023) then 1#1 else 0#1 := by decide +kernel
  intro t
  unfold k0_pay4
  dsimp only
  rw [h t]
  split
  · exact word0
  · exact word1

theorem mod_at (t : Fin cfg0.N) (j : Fin 6) (k : Fin 1024) (z : EReal)
    (hz : ∀ i : S8x1x6144.Idx, (i 0).val = mrow (1024 * t.val) → (i 1).val = 0 → (i 2).val = 1024 * j.val + k.val → z = m ((c : Thread nD τ).loc main_arg1) i) :
    z = md (m ((c : Thread nD τ).loc main_arg1)) j (1024 * t.val) k := by
  unfold md
  rw [dif_pos (mrow_lt t)]
  exact hz _ rfl rfl rfl

theorem row_at (R : ℕ) (hR : R < 12288) (k : Fin 1024) (z : EReal)
    (hz : ∀ i : S12288x1024.Idx, (i 0).val = R → (i 1).val = k.val → z = m ((c : Thread nD τ).loc main_arg0) i) :
    z = xr (m ((c : Thread nD τ).loc main_arg0)) R k := by
  unfold xr
  rw [dif_pos hR]
  exact hz _ rfl rfl

/-- The three results at the array's row `R`, of the call's arguments. -/
abbrev zm (R : ℕ) (q : Fin 2048) : EReal := ZR (m ((c : Thread nD τ).loc main_arg0)) (m ((c : Thread nD τ).loc main_arg1)) (m ((c : Thread nD τ).loc main_arg2)) (m ((c : Thread nD τ).loc main_arg3)) R q
abbrev xm (R : ℕ) (q : Fin 3072) : EReal := XR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) R q
abbrev dm (R : ℕ) (q : Fin 512) : EReal := DR (m ((c : Thread nD τ).loc main_arg0)) (m ((c : Thread nD τ).loc main_arg1)) (m ((c : Thread nD τ).loc main_arg2)) (m ((c : Thread nD τ).loc main_arg4)) (m ((c : Thread nD τ).loc main_arg7)) R q

/-- The block's own rows, times one column, -/
theorem own_row (t : Fin cfg0.N) (p : Fin 1024) (w : Fin 1024 → EReal) :
    ∑ k : Fin 1024, own (F := Ideal) m c t (ix2 p k) * w k = PJ (m ((c : Thread nD τ).loc main_arg0)) (m ((c : Thread nD τ).loc main_arg1)) (m ((c : Thread nD τ).loc main_arg2)) w (1024 * t.val + p.val) := by
  have ht := t_lt t
  simp only [own_at]
  rw [rows_eq, blk3]
  exact main_row _ _ _ t.val ht _ _ (iblk m c 0 t) (iblk m c 1 t) (iblk m c 2 t) (iblk m c 4 t) (iblk m c 5 t)
    (fun p k => row_at m c _ (by omega) k _ fun i i0 i1 => blk1 m c t p k i i0 i1)
    (fun k => mod_at m c t 0 k _ fun i i0 i1 i2 => blk4 m c t k i i0 i1 (i2.trans (Nat.zero_add _)))
    (fun k => mod_at m c t 1 k _ fun i i0 i1 i2 => blk5 m c t k i i0 i1 i2) p.val p.isLt w

/-- and convolved. -/
theorem own_conv (t : Fin cfg0.N) (p : Fin 1024) (w : Fin 1024 → EReal) (t0 t1 t2 b : EReal) :
    cv (k0_pay13 (F := Ideal) (BitVec.ofNat 32 (grid0.coords t 0).val)) (fun r => ∑ k : Fin 1024, hr (rows (F := Ideal) m c t) r k * w k) t0 t1 t2 b p.val
      = CI (m ((c : Thread nD τ).loc main_arg0)) (m ((c : Thread nD τ).loc main_arg1)) (m ((c : Thread nD τ).loc main_arg2)) w t0 t1 t2 b (1024 * t.val + p.val) := by
  have ht := t_lt t
  unfold rows
  rw [rows_eq, blk3]
  exact conv_row _ _ _ t.val ht _ _ _ (iblk m c 0 t) (iblk m c 1 t) (iblk m c 2 t) (iblk m c 4 t) (iblk m c 5 t)
    (cut_at t) (first_at t) (last_at t)
    (fun h k => row_at m c _ (by omega) k _ fun i i0 i1 => blk0 m c t h k i i0 i1)
    (fun p k => row_at m c _ (by omega) k _ fun i i0 i1 => blk1 m c t p k i i0 i1)
    (fun h k => row_at m c _ (by omega) k _ fun i i0 i1 => blk2 m c t h k i i0 i1)
    (fun k => mod_at m c t 0 k _ fun i i0 i1 i2 => blk4 m c t k i i0 i1 (i2.trans (Nat.zero_add _)))
    (fun k => mod_at m c t 1 k _ fun i i0 i1 i2 => blk5 m c t k i i0 i1 i2) p w t0 t1 t2 b

/-- One chunk of the gate's columns, -/
theorem z_chunk (t : Fin cfg0.N) (o : ℕ) (inb : ∀ a, (![0, o] : Fin 2 → ℕ) a + (![1024, 512] : Fin 2 → ℕ) a ≤ S1024x5120.size a)
    (p : Fin 1024) (l : Fin 512) (q : Fin 2048) (hq : q.val = o + l.val) :
    zchunk (F := Ideal) (own m c t) (View.ld (iblk m c 6 t) (Rect.unit (s := S1024x5120) ![0, o] ![1024, 512] inb)) (ix2 p l) = zm m c (1024 * t.val + p.val) q := by
  rw [zchunk_at, blk6]
  have hY : ∀ k : Fin 1024, View.ld (m ((c : Thread nD τ).loc main_arg3)) (Rect.unit (s := S1024x5120) ![0, o] ![1024, 512] inb) (ix2 k l) = (m ((c : Thread nD τ).loc main_arg3)) (ix2 k ⟨q.val, by omega⟩) := fun k => by
    refine View.ld_unit_apply_of (S := S1024x5120) (m ((c : Thread nD τ).loc main_arg3)) ![0, o] ![1024, 512] inb (ix2 k l) _ fun a => ?_
    match a with
    | ⟨0, _⟩ => exact (Nat.zero_add _).symm
    | ⟨1, _⟩ => exact hq
  simp only [hY]
  exact congrArg sl (own_row m c t p _)

/-- and one of the convolved. -/
theorem x_chunk (t : Fin cfg0.N) (o o' : ℕ) (ho : o' = 2048 + o) (inb : ∀ a, (![0, o'] : Fin 2 → ℕ) a + (![1024, 512] : Fin 2 → ℕ) a ≤ S1024x5120.size a)
    (inb1 : ∀ a, (![0, o] : Fin 2 → ℕ) a + (![3, 512] : Fin 2 → ℕ) a ≤ S3x3072.size a)
    (inb2 : ∀ a, (![0, o] : Fin 2 → ℕ) a + (![1, 512] : Fin 2 → ℕ) a ≤ S1x3072.size a)
    (p : Fin 1024) (l : Fin 512) (q : Fin 3072) (hq : q.val = o + l.val) :
    chunk (F := Ideal) (k0_pay13 (F := Ideal) (BitVec.ofNat 32 (grid0.coords t 0).val))
      (k0_pay16 (rows m c t) (View.ld (iblk m c 6 t) (Rect.unit (s := S1024x5120) ![0, o'] ![1024, 512] inb)))
      (View.ld (iblk m c 8 t) (Rect.unit (s := S3x3072) ![0, o] ![3, 512] inb1)) (View.ld (iblk m c 9 t) (Rect.unit (s := S1x3072) ![0, o] ![1, 512] inb2)) (ix2 p l)
      = xm m c (1024 * t.val + p.val) q := by
  subst ho
  rw [chunk_at, blk6, blk8, blk9]
  simp only [cell_mm]
  have hY : ∀ k : Fin 1024, View.ld (m ((c : Thread nD τ).loc main_arg3)) (Rect.unit (s := S1024x5120) ![0, 2048 + o] ![1024, 512] inb) (ix2 k l)
      = (m ((c : Thread nD τ).loc main_arg3)) (ix2 k ⟨2048 + q.val, by omega⟩) := fun k => by
    refine View.ld_unit_apply_of (S := S1024x5120) (m ((c : Thread nD τ).loc main_arg3)) ![0, 2048 + o] ![1024, 512] inb (ix2 k l) _ fun a => ?_
    match a with
    | ⟨0, _⟩ => exact (Nat.zero_add _).symm
    | ⟨1, _⟩ => show 2048 + q.val = 2048 + o + l.val; omega
  have hT : ∀ j : Fin 3, View.ld (m ((c : Thread nD τ).loc main_arg5)) (Rect.unit (s := S3x3072) ![0, o] ![3, 512] inb1) (ix2 j l) = (m ((c : Thread nD τ).loc main_arg5)) (ix2 j q) := fun j => by
    refine View.ld_unit_apply_of (S := S3x3072) (m ((c : Thread nD τ).loc main_arg5)) ![0, o] ![3, 512] inb1 (ix2 j l) _ fun a => ?_
    match a with
    | ⟨0, _⟩ => exact (Nat.zero_add _).symm
    | ⟨1, _⟩ => exact hq
  have hB : View.ld (m ((c : Thread nD τ).loc main_arg6)) (Rect.unit (s := S1x3072) ![0, o] ![1, 512] inb2) (ix2 0 l) = (m ((c : Thread nD τ).loc main_arg6)) (ix2 0 q) := by
    refine View.ld_unit_apply_of (S := S1x3072) (m ((c : Thread nD τ).loc main_arg6)) ![0, o] ![1, 512] inb2 (ix2 0 l) _ fun a => ?_
    match a with
    | ⟨0, _⟩ => rfl
    | ⟨1, _⟩ => exact hq
  simp only [hY]
  rw [hT, hT, hT, hB]
  exact congrArg sl (own_conv m c t p _ _ _ _ _)

theorem at_row (p : Fin 1024) (x : S1024x512.Idx) (h : p.val = (x 0).val) : x = ix2 p (x 1) := by
  funext a
  match a with
  | ⟨0, _⟩ => exact Fin.ext h.symm
  | ⟨1, _⟩ => rfl

theorem z_at (t : Fin cfg0.N) (p : Fin 1024) (q : Fin 2048) : (outsAt0 m c t).1 (ix2 p q) = zm m c (1024 * t.val + p.val) q := by
  rw [outsAt_z]
  canon_tiles x h
  · rw [at_row p x h0]
    exact z_chunk m c t 1536 _ p (x 1) q h1
  · rw [at_row p x h0]
    exact z_chunk m c t 1024 _ p (x 1) q h1
  · rw [at_row p x h0]
    exact z_chunk m c t 512 _ p (x 1) q h1
  · rw [at_row p x h0]
    exact z_chunk m c t 0 _ p (x 1) q (h1.trans (Nat.zero_add _).symm)

theorem x_at (t : Fin cfg0.N) (p : Fin 1024) (q : Fin 3072) : (outsAt0 m c t).2.1 (ix2 p q) = xm m c (1024 * t.val + p.val) q := by
  rw [outsAt_xbc]
  canon_tiles x h
  · rw [at_row p x h0]
    exact x_chunk m c t 2560 4608 rfl _ _ _ p (x 1) q h1
  · rw [at_row p x h0]
    exact x_chunk m c t 2048 4096 rfl _ _ _ p (x 1) q h1
  · rw [at_row p x h0]
    exact x_chunk m c t 1536 3584 rfl _ _ _ p (x 1) q h1
  · rw [at_row p x h0]
    exact x_chunk m c t 1024 3072 rfl _ _ _ p (x 1) q h1
  · rw [at_row p x h0]
    exact x_chunk m c t 512 2560 rfl _ _ _ p (x 1) q h1
  · rw [at_row p x h0]
    exact x_chunk m c t 0 2048 rfl _ _ _ p (x 1) q (h1.trans (Nat.zero_add _).symm)

theorem d_at (t : Fin cfg0.N) (p : Fin 1024) (q : Fin 512) : (outsAt0 m c t).2.2 (ix2 p q) = dm m c (1024 * t.val + p.val) q := by
  rw [outsAt_dt, dt_at, blk7, blk10]
  exact congrArg (fun v => sp (v + _)) (own_row m c t p _)

theorem arr11_at (R : Fin 12288) (q : Fin 2048) : (dats m 0 c).arrAt 11 cfg0.N (ix2 R q) = zm m c R.val q := by
  have hR := R.isLt
  have ht : R.val / 1024 < 12 := by omega
  let t : Fin cfg0.N := ⟨R.val / 1024, ht⟩
  let p : Fin 1024 := ⟨R.val % 1024, by omega⟩
  have hp : 1024 * t.val + p.val = R.val := by show 1024 * (R.val / 1024) + R.val % 1024 = R.val; omega
  have hw := congrFun (Cert.Kernel5Ideal.Value.blocks11 m c t (flush0_11 t)) (ix2 p q)
  rw [Cert.Kernel5Ideal.Value.flushed11] at hw
  refine Eq.trans ?_ (hw.trans ((z_at m c t p q).trans (by rw [hp])))
  generalize (dats m 0 c).arrAt 11 cfg0.N = X
  show X _ = X _
  congr 1
  funext a
  apply Fin.ext
  match a with
  | ⟨0, _⟩ =>
    blk_simp [e11]
    show R.val = R.val / 1024 * 1024 + R.val % 1024
    omega
  | ⟨1, _⟩ =>
    blk_simp [e11]

theorem arr12_at (R : Fin 12288) (q : Fin 3072) : (dats m 0 c).arrAt 12 cfg0.N (ix2 R q) = xm m c R.val q := by
  have hR := R.isLt
  have ht : R.val / 1024 < 12 := by omega
  let t : Fin cfg0.N := ⟨R.val / 1024, ht⟩
  let p : Fin 1024 := ⟨R.val % 1024, by omega⟩
  have hp : 1024 * t.val + p.val = R.val := by show 1024 * (R.val / 1024) + R.val % 1024 = R.val; omega
  have hw := congrFun (Cert.Kernel5Ideal.Value.blocks12 m c t (flush0_12 t)) (ix2 p q)
  rw [Cert.Kernel5Ideal.Value.flushed12] at hw
  refine Eq.trans ?_ (hw.trans ((x_at m c t p q).trans (by rw [hp])))
  generalize (dats m 0 c).arrAt 12 cfg0.N = X
  show X _ = X _
  congr 1
  funext a
  apply Fin.ext
  match a with
  | ⟨0, _⟩ =>
    blk_simp [e12]
    show R.val = R.val / 1024 * 1024 + R.val % 1024
    omega
  | ⟨1, _⟩ =>
    blk_simp [e12]

theorem arr13_at (R : Fin 12288) (q : Fin 512) : (dats m 0 c).arrAt 13 cfg0.N (ix2 R q) = dm m c R.val q := by
  have hR := R.isLt
  have ht : R.val / 1024 < 12 := by omega
  let t : Fin cfg0.N := ⟨R.val / 1024, ht⟩
  let p : Fin 1024 := ⟨R.val % 1024, by omega⟩
  have hp : 1024 * t.val + p.val = R.val := by show 1024 * (R.val / 1024) + R.val % 1024 = R.val; omega
  have hw := congrFun (Cert.Kernel5Ideal.Value.blocks13 m c t (flush0_13 t)) (ix2 p q)
  rw [Cert.Kernel5Ideal.Value.flushed13] at hw
  refine Eq.trans ?_ (hw.trans ((d_at m c t p q).trans (by rw [hp])))
  generalize (dats m 0 c).arrAt 13 cfg0.N = X
  show X _ = X _
  congr 1
  funext a
  apply Fin.ext
  match a with
  | ⟨0, _⟩ =>
    blk_simp [e13]
    show R.val = R.val / 1024 * 1024 + R.val % 1024
    omega
  | ⟨1, _⟩ =>
    blk_simp [e13]

end Cert.Kernel5Ideal.In

end
-- ==== Proof.In.Ref.lean ====
/- The reference's three results of the call `ssd_in`, element by element, and that the kernel's arrays are the same. -/
module

public import proofs.«01_k».proof.Proof.Gen.Reference5Ideal.Read
public import proofs.«01_k».proof.Proof.In.Blocks
public import proofs.«01_k».proof.Proof.Ffn.Ref

@[expose] public section

set_option maxRecDepth 16384

noncomputable section

namespace Cert.Reference5Ideal.In

open Idealize.ShloMosaic Idealize.SL.Sem Cert.Reference5Ideal Cert.Reference5Ideal.Gen Cert.Reference5Ideal.Read Idealize.ShloMosaic.TcCoe
open Cert.Kernel2Ideal.Ffn (xr md mrow nrm act opens closes word0 word1)
open Cert.Kernel5Ideal.In (HI PJ CI ZR XR DR sl sp)
open Cert.Reference2Ideal.Ffn (silu mrowP mrowS)

variable (x0 : Vec Ideal S12288x1024 .f32) (x1 : Vec Ideal S8x1x6144 .f32) (x2 : Vec Ideal S1x1024 .f32) (x3 : Vec Ideal S1024x5120 .bf16)
    (x4 : Vec Ideal S1024x512 .bf16) (x5 : Vec Ideal S3x3072 .f32) (x6 : Vec Ideal S1x3072 .f32) (x7 : Vec Ideal S1x512 .f32)

theorem silu1 (a : EReal) :
    a * Ideal.div (Ideal.ofBits .f32 0x3F800000#32) (Ideal.ofBits .f32 0x3F800000#32 + Ideal.exp (-a)) = sl a := by
  have h := silu a 1
  rw [mul_one] at h
  rw [h]
  unfold act sl
  rw [mul_one]

/-- The reference's form of the time steps' activation, as it is for a number: the branch for no number is never taken. -/
theorem softplus (v : EReal) : Scalar.select (Ideal.cmp .une (v - Ideal.ofBits .f32 0x00000000#32) (v - Ideal.ofBits .f32 0x00000000#32))
    (v + Ideal.ofBits .f32 0x00000000#32)
    (max v (Ideal.ofBits .f32 0x00000000#32)
      + Ideal.log1p (Ideal.exp (-max (v - Ideal.ofBits .f32 0x00000000#32) (-(v - Ideal.ofBits .f32 0x00000000#32))))) = sp v := by
  have hc : ∀ a : EReal, Ideal.cmp .une a a = 0#1 := fun a => by simp [Ideal.cmp]
  rw [hc, word0, sub_zero]
  unfold sp Ideal.log1p
  rw [zero_sub]
  rfl

section Prompts

/-- Row `b`, `s` of this half of the rows. -/
theorem rowP (b : Fin 16) (s : Fin 256) (d : Fin 1024) : val_main_v1 (F := Ideal) x0 (ix3 b s d) = xr x0 (256 * b.val + s.val) d := by
  have hb := b.isLt
  have hs := s.isLt
  have hd := d.isLt
  unfold xr
  rw [dif_pos (by omega), val_main_v1_apply, val_main_v0_apply]
  refine congrArg x0 (funext fun a => Fin.ext ?_)
  match a with
  | ⟨0, _⟩ => show ((b.val * 256 + s.val) * 1024 + d.val) / 1024 = 256 * b.val + s.val; omega
  | ⟨1, _⟩ => show ((b.val * 256 + s.val) * 1024 + d.val) % 1024 = d.val; omega

/-- The shift. -/
theorem mod0P (b : Fin 16) (s : Fin 256) (d : Fin 1024) :
    val_main_v3 (F := Ideal) x1 (ix3 0 0 d) = md x1 0 (256 * b.val + s.val) d := by
  have hb := b.isLt
  have hm := mrowP b s
  unfold md
  rw [dif_pos (by omega), val_main_v3_apply, val_main_v2_apply]
  refine congrArg x1 (funext fun a => Fin.ext ?_)
  match a with
  | ⟨0, _⟩ => exact hm.symm
  | ⟨1, _⟩ => rfl
  | ⟨2, _⟩ => show d.val = 1024 * 0 + d.val; omega

/-- and the scale. -/
theorem mod1P (b : Fin 16) (s : Fin 256) (d : Fin 1024) :
    val_main_v4 (F := Ideal) x1 (ix3 0 0 d) = md x1 1 (256 * b.val + s.val) d := by
  have hb := b.isLt
  have hm := mrowP b s
  unfold md
  rw [dif_pos (by omega), val_main_v4_apply, val_main_v2_apply]
  refine congrArg x1 (funext fun a => Fin.ext ?_)
  match a with
  | ⟨0, _⟩ => exact hm.symm
  | ⟨1, _⟩ => rfl
  | ⟨2, _⟩ => rfl

/-- The modulated norm. -/
theorem normP (b : Fin 16) (s : Fin 256) (d : Fin 1024) : val_main_v24 (F := Ideal) x0 x1 x2 (ix3 b s d) = HI x0 x1 x2 (256 * b.val + s.val) d := by
  have h : val_main_v24 (F := Ideal) x0 x1 x2 (ix3 b s d) = nrm (fun k => val_main_v1 (F := Ideal) x0 (ix3 b s k)) (fun k => x2 (ix2 0 k))
      (fun k => val_main_v3 (F := Ideal) x1 (ix3 0 0 k)) (fun k => val_main_v4 (F := Ideal) x1 (ix3 0 0 k)) d := by
    pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2, nrm]
  rw [h]
  unfold HI
  simp only [rowP]
  rw [show (fun k => val_main_v3 (F := Ideal) x1 (ix3 0 0 k)) = md x1 0 (256 * b.val + s.val) from funext fun k => mod0P x1 b s k,
    show (fun k => val_main_v4 (F := Ideal) x1 (ix3 0 0 k)) = md x1 1 (256 * b.val + s.val) from funext fun k => mod1P x1 b s k]

/-- Its product with the wide weights, -/
theorem wideP (b : Fin 16) (s : Fin 256) (q : Fin 5120) :
    val_main_v26 (F := Ideal) x0 x1 x2 x3 (ix3 b s q) = PJ x0 x1 x2 (fun k => x3 (ix2 k q)) (256 * b.val + s.val) := by
  rw [val_main_v26_apply]
  unfold PJ
  refine Finset.sum_congr rfl fun k _ => ?_
  rw [← normP x0 x1 x2 b s k]
  refine congrArg₂ (· * ·) (congrArg _ ?_) ((val_main_v25_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

/-- and with those of the time steps. -/
theorem stepP (b : Fin 16) (s : Fin 256) (q : Fin 512) :
    val_main_v56 (F := Ideal) x0 x1 x2 x4 (ix3 b s q) = PJ x0 x1 x2 (fun k => x4 (ix2 k q)) (256 * b.val + s.val) := by
  rw [val_main_v56_apply]
  unfold PJ
  refine Finset.sum_congr rfl fun k _ => ?_
  rw [← normP x0 x1 x2 b s k]
  refine congrArg₂ (· * ·) (congrArg _ ?_) ((val_main_v55_apply x4 _).trans (congrArg x4 ?_))
  · funext a
    match a with
    | ⟨0, _⟩ => rfl
    | ⟨1, _⟩ => rfl
    | ⟨2, _⟩ => rfl
  · funext a
    match a with
    | ⟨0, _⟩ => rfl
    | ⟨1, _⟩ => rfl

/-- The convolved columns, -/
theorem wcolP (b : Fin 16) (s : Fin 256) (q : Fin 3072) :
    val_main_v28 (F := Ideal) x0 x1 x2 x3 (ix3 b s q) = PJ x0 x1 x2 (fun k => x3 (ix2 k ⟨2048 + q.val, by omega⟩)) (256 * b.val + s.val) := by
  have h : val_main_v28 (F := Ideal) x0 x1 x2 x3 (ix3 b s q) = val_main_v26 (F := Ideal) x0 x1 x2 x3 (ix3 b s ⟨2048 + q.val, by omega⟩) := by
    pointwise [val_main_v28]
  rw [h, wideP]

/-- at the row before, nothing before the first, -/
theorem beforeP (b : Fin 16) (s : Fin 256) (q : Fin 3072) : val_main_v31 (F := Ideal) x0 x1 x2 x3 (ix3 b s q)
    = if opens (256 * b.val + s.val) then 0 else PJ x0 x1 x2 (fun k => x3 (ix2 k ⟨2048 + q.val, by omega⟩)) (256 * b.val + s.val - 1) := by
  have hb := b.isLt
  have hs := s.isLt
  have h : val_main_v31 (F := Ideal) x0 x1 x2 x3 (ix3 b s q)
      = if h : s.val < 1 then Ideal.ofBits .f32 0x00000000#32 else val_main_v28 (F := Ideal) x0 x1 x2 x3 (ix3 b ⟨s.val - 1, by omega⟩ q) := by
    pointwise [val_main_v31, val_main_v29, val_main_cst_3, val_main_v30]
  rw [h]
  by_cases h0 : s.val < 1
  · rw [dif_pos h0, if_pos (by omega), word0]
  · rw [dif_neg h0, if_neg (by omega), wcolP]
    exact congrArg (PJ x0 x1 x2 (fun k => x3 (ix2 k ⟨2048 + q.val, by omega⟩))) (by simp only; omega)

/-- and at the row after, nothing after the last. -/
theorem afterP (b : Fin 16) (s : Fin 256) (q : Fin 3072) : val_main_v33 (F := Ideal) x0 x1 x2 x3 (ix3 b s q)
    = if closes (256 * b.val + s.val) then 0 else PJ x0 x1 x2 (fun k => x3 (ix2 k ⟨2048 + q.val, by omega⟩)) (256 * b.val + s.val + 1) := by
  have hb := b.isLt
  have hs := s.isLt
  have h : val_main_v33 (F := Ideal) x0 x1 x2 x3 (ix3 b s q)
      = if h : s.val < 255 then val_main_v28 (F := Ideal) x0 x1 x2 x3 (ix3 b ⟨1 + s.val, by omega⟩ q) else Ideal.ofBits .f32 0x00000000#32 := by
    pointwise [val_main_v33, val_main_v29, val_main_cst_3, val_main_v32]
  rw [h]
  by_cases h0 : s.val < 255
  · rw [dif_pos h0, if_neg (by omega), wcolP]
    exact congrArg (PJ x0 x1 x2 (fun k => x3 (ix2 k ⟨2048 + q.val, by omega⟩))) (by simp only; omega)
  · rw [dif_neg h0, if_pos (by omega), word0]

theorem convP (b : Fin 16) (s : Fin 256) (q : Fin 3072) : val_main_v54 (F := Ideal) x0 x1 x2 x3 x5 x6 (ix3 b s q)
    = CI x0 x1 x2 (fun k => x3 (ix2 k ⟨2048 + q.val, by omega⟩)) (x5 (ix2 0 q)) (x5 (ix2 1 q)) (x5 (ix2 2 q)) (x6 (ix2 0 q)) (256 * b.val + s.val) := by
  have h : val_main_v54 (F := Ideal) x0 x1 x2 x3 x5 x6 (ix3 b s q)
      = val_main_v31 (F := Ideal) x0 x1 x2 x3 (ix3 b s q) * x5 (ix2 0 q) + val_main_v28 (F := Ideal) x0 x1 x2 x3 (ix3 b s q) * x5 (ix2 1 q)
        + val_main_v33 (F := Ideal) x0 x1 x2 x3 (ix3 b s q) * x5 (ix2 2 q) + x6 (ix2 0 q) := by
    pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34]
  rw [h, beforeP, afterP, wcolP]
  rfl

/-- The activated convolution, -/
theorem xP (b : Fin 16) (s : Fin 256) (q : Fin 3072) : val_main_v62 (F := Ideal) x0 x1 x2 x3 x5 x6 (ix3 b s q) = XR x0 x1 x2 x3 x5 x6 (256 * b.val + s.val) q := by
  have h : val_main_v62 (F := Ideal) x0 x1 x2 x3 x5 x6 (ix3 b s q)
      = val_main_v54 (F := Ideal) x0 x1 x2 x3 x5 x6 (ix3 b s q) * Ideal.div (Ideal.ofBits .f32 0x3F800000#32)
          (Ideal.ofBits .f32 0x3F800000#32 + Ideal.exp (-val_main_v54 (F := Ideal) x0 x1 x2 x3 x5 x6 (ix3 b s q))) := by
    pointwise [val_main_v62, val_main_call1_v5, val_main_call1_v4, val_main_call1_v3, val_main_call1_v2, val_main_call1_v1, val_main_call1_v0, val_main_call1_cst, val_main_call1_cst_0]
  rw [h, convP, silu1]
  rfl

/-- the activated gate -/
theorem zP (b : Fin 16) (s : Fin 256) (q : Fin 2048) : val_main_v61 (F := Ideal) x0 x1 x2 x3 (ix3 b s q) = ZR x0 x1 x2 x3 (256 * b.val + s.val) q := by
  have h : val_main_v61 (F := Ideal) x0 x1 x2 x3 (ix3 b s q)
      = val_main_v27 (F := Ideal) x0 x1 x2 x3 (ix3 b s q) * Ideal.div (Ideal.ofBits .f32 0x3F800000#32)
          (Ideal.ofBits .f32 0x3F800000#32 + Ideal.exp (-val_main_v27 (F := Ideal) x0 x1 x2 x3 (ix3 b s q))) := by
    pointwise [val_main_v61, val_main_call0_v5, val_main_call0_v4, val_main_call0_v3, val_main_call0_v2, val_main_call0_v1, val_main_call0_v0, val_main_call0_cst, val_main_call0_cst_0]
  have h' : val_main_v27 (F := Ideal) x0 x1 x2 x3 (ix3 b s q) = val_main_v26 (F := Ideal) x0 x1 x2 x3 (ix3 b s ⟨q.val, by omega⟩) := by
    pointwise [val_main_v27]
  rw [h, silu1, h', wideP]
  rfl

/-- and the time steps. -/
theorem dP (b : Fin 16) (s : Fin 256) (q : Fin 512) : val_main_v63 (F := Ideal) x0 x1 x2 x4 x7 (ix3 b s q) = DR x0 x1 x2 x4 x7 (256 * b.val + s.val) q := by
  have h' : val_main_v60 (F := Ideal) x0 x1 x2 x4 x7 (ix3 b s q) = val_main_v56 (F := Ideal) x0 x1 x2 x4 (ix3 b s q) + x7 (ix2 0 q) := by
    pointwise [val_main_v60, val_main_v59, val_main_v58, val_main_v57]
  unfold DR
  rw [← stepP, ← h', ← softplus]
  pointwise [val_main_v63, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst]
  rfl

end Prompts

section Samples

/-- Row `b`, `s` of this half of the rows. -/
theorem rowS (b : Fin 4) (s : Fin 2048) (d : Fin 1024) : val_main_v68 (F := Ideal) x0 (ix3 b s d) = xr x0 (4096 + 2048 * b.val + s.val) d := by
  have hb := b.isLt
  have hs := s.isLt
  have hd := d.isLt
  unfold xr
  rw [dif_pos (by omega), val_main_v68_apply, val_main_v67_apply]
  refine congrArg x0 (funext fun a => Fin.ext ?_)
  match a with
  | ⟨0, _⟩ => show 4096 + ((b.val * 2048 + s.val) * 1024 + d.val) / 1024 = 4096 + 2048 * b.val + s.val; omega
  | ⟨1, _⟩ => show ((b.val * 2048 + s.val) * 1024 + d.val) % 1024 = d.val; omega

/-- The shift. -/
theorem mod0S (b : Fin 4) (s : Fin 2048) (d : Fin 1024) :
    val_main_v70 (F := Ideal) x1 (ix3 b 0 d) = md x1 0 (4096 + 2048 * b.val + s.val) d := by
  have hb := b.isLt
  have hm := mrowS b s
  unfold md
  rw [dif_pos (by omega), val_main_v70_apply, val_main_v69_apply]
  refine congrArg x1 (funext fun a => Fin.ext ?_)
  match a with
  | ⟨0, _⟩ => exact (Nat.add_comm 1 b.val).trans hm.symm
  | ⟨1, _⟩ => rfl
  | ⟨2, _⟩ => show d.val = 1024 * 0 + d.val; omega

/-- and the scale. -/
theorem mod1S (b : Fin 4) (s : Fin 2048) (d : Fin 1024) :
    val_main_v71 (F := Ideal) x1 (ix3 b 0 d) = md x1 1 (4096 + 2048 * b.val + s.val) d := by
  have hb := b.isLt
  have hm := mrowS b s
  unfold md
  rw [dif_pos (by omega), val_main_v71_apply, val_main_v69_apply]
  refine congrArg x1 (funext fun a => Fin.ext ?_)
  match a with
  | ⟨0, _⟩ => exact (Nat.add_comm 1 b.val).trans hm.symm
  | ⟨1, _⟩ => rfl
  | ⟨2, _⟩ => rfl

/-- The modulated norm. -/
theorem normS (b : Fin 4) (s : Fin 2048) (d : Fin 1024) : val_main_v91 (F := Ideal) x0 x1 x2 (ix3 b s d) = HI x0 x1 x2 (4096 + 2048 * b.val + s.val) d := by
  have h : val_main_v91 (F := Ideal) x0 x1 x2 (ix3 b s d) = nrm (fun k => val_main_v68 (F := Ideal) x0 (ix3 b s k)) (fun k => x2 (ix2 0 k))
      (fun k => val_main_v70 (F := Ideal) x1 (ix3 b 0 k)) (fun k => val_main_v71 (F := Ideal) x1 (ix3 b 0 k)) d := by
    pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_4, val_main_cst_5, val_main_cst_6, val_main_cst_7, nrm]
  rw [h]
  unfold HI
  simp only [rowS]
  rw [show (fun k => val_main_v70 (F := Ideal) x1 (ix3 b 0 k)) = md x1 0 (4096 + 2048 * b.val + s.val) from funext fun k => mod0S x1 b s k,
    show (fun k => val_main_v71 (F := Ideal) x1 (ix3 b 0 k)) = md x1 1 (4096 + 2048 * b.val + s.val) from funext fun k => mod1S x1 b s k]

/-- Its product with the wide weights, -/
theorem wideS (b : Fin 4) (s : Fin 2048) (q : Fin 5120) :
    val_main_v93 (F := Ideal) x0 x1 x2 x3 (ix3 b s q) = PJ x0 x1 x2 (fun k => x3 (ix2 k q)) (4096 + 2048 * b.val + s.val) := by
  rw [val_main_v93_apply]
  unfold PJ
  refine Finset.sum_congr rfl fun k _ => ?_
  rw [← normS x0 x1 x2 b s k]
  refine congrArg₂ (· * ·) (congrArg _ ?_) ((val_main_v92_apply x3 _).trans (congrArg x3 ?_))
  · funext a
    match a with
    | ⟨0, _⟩ => rfl
    | ⟨1, _⟩ => rfl
    | ⟨2, _⟩ => rfl
  · funext a
    match a with
    | ⟨0, _⟩ => rfl
    | ⟨1, _⟩ => rfl

/-- and with those of the time steps. -/
theorem stepS (b : Fin 4) (s : Fin 2048) (q : Fin 512) :
    val_main_v123 (F := Ideal) x0 x1 x2 x4 (ix3 b s q) = PJ x0 x1 x2 (fun k => x4 (ix2 k q)) (4096 + 2048 * b.val + s.val) := by
  rw [val_main_v123_apply]
  unfold PJ
  refine Finset.sum_congr rfl fun k _ => ?_
  rw [← normS x0 x1 x2 b s k]
  refine congrArg₂ (· * ·) (congrArg _ ?_) ((val_main_v122_apply x4 _).trans (congrArg x4 ?_))
  · funext a
    match a with
    | ⟨0, _⟩ => rfl
    | ⟨1, _⟩ => rfl
    | ⟨2, _⟩ => rfl
  · funext a
    match a with
    | ⟨0, _⟩ => rfl
    | ⟨1, _⟩ => rfl

/-- The convolved columns, -/
theorem wcolS (b : Fin 4) (s : Fin 2048) (q : Fin 3072) :
    val_main_v95 (F := Ideal) x0 x1 x2 x3 (ix3 b s q) = PJ x0 x1 x2 (fun k => x3 (ix2 k ⟨2048 + q.val, by omega⟩)) (4096 + 2048 * b.val + s.val) := by
  have h : val_main_v95 (F := Ideal) x0 x1 x2 x3 (ix3 b s q) = val_main_v93 (F := Ideal) x0 x1 x2 x3 (ix3 b s ⟨2048 + q.val, by omega⟩) := by
    pointwise [val_main_v95]
  rw [h, wideS]

/-- at the row before, nothing before the first, -/
theorem beforeS (b : Fin 4) (s : Fin 2048) (q : Fin 3072) : val_main_v98 (F := Ideal) x0 x1 x2 x3 (ix3 b s q)
    = if opens (4096 + 2048 * b.val + s.val) then 0 else PJ x0 x1 x2 (fun k => x3 (ix2 k ⟨2048 + q.val, by omega⟩)) (4096 + 2048 * b.val + s.val - 1) := by
  have hb := b.isLt
  have hs := s.isLt
  have h : val_main_v98 (F := Ideal) x0 x1 x2 x3 (ix3 b s q)
      = if h : s.val < 1 then Ideal.ofBits .f32 0x00000000#32 else val_main_v95 (F := Ideal) x0 x1 x2 x3 (ix3 b ⟨s.val - 1, by omega⟩ q) := by
    pointwise [val_main_v98, val_main_v96, val_main_cst_8, val_main_v97]
  rw [h]
  by_cases h0 : s.val < 1
  · rw [dif_pos h0, if_pos (by omega), word0]
  · rw [dif_neg h0, if_neg (by omega), wcolS]
    exact congrArg (PJ x0 x1 x2 (fun k => x3 (ix2 k ⟨2048 + q.val, by omega⟩))) (by simp only; omega)

/-- and at the row after, nothing after the last. -/
theorem afterS (b : Fin 4) (s : Fin 2048) (q : Fin 3072) : val_main_v100 (F := Ideal) x0 x1 x2 x3 (ix3 b s q)
    = if closes (4096 + 2048 * b.val + s.val) then 0 else PJ x0 x1 x2 (fun k => x3 (ix2 k ⟨2048 + q.val, by omega⟩)) (4096 + 2048 * b.val + s.val + 1) := by
  have hb := b.isLt
  have hs := s.isLt
  have h : val_main_v100 (F := Ideal) x0 x1 x2 x3 (ix3 b s q)
      = if h : s.val < 2047 then val_main_v95 (F := Ideal) x0 x1 x2 x3 (ix3 b ⟨1 + s.val, by omega⟩ q) else Ideal.ofBits .f32 0x00000000#32 := by
    pointwise [val_main_v100, val_main_v96, val_main_cst_8, val_main_v99]
  rw [h]
  by_cases h0 : s.val < 2047
  · rw [dif_pos h0, if_neg (by omega), wcolS]
    exact congrArg (PJ x0 x1 x2 (fun k => x3 (ix2 k ⟨2048 + q.val, by omega⟩))) (by simp only; omega)
  · rw [dif_neg h0, if_pos (by omega), word0]

theorem convS (b : Fin 4) (s : Fin 2048) (q : Fin 3072) : val_main_v121 (F := Ideal) x0 x1 x2 x3 x5 x6 (ix3 b s q)
    = CI x0 x1 x2 (fun k => x3 (ix2 k ⟨2048 + q.val, by omega⟩)) (x5 (ix2 0 q)) (x5 (ix2 1 q)) (x5 (ix2 2 q)) (x6 (ix2 0 q)) (4096 + 2048 * b.val + s.val) := by
  have h : val_main_v121 (F := Ideal) x0 x1 x2 x3 x5 x6 (ix3 b s q)
      = val_main_v98 (F := Ideal) x0 x1 x2 x3 (ix3 b s q) * x5 (ix2 0 q) + val_main_v95 (F := Ideal) x0 x1 x2 x3 (ix3 b s q) * x5 (ix2 1 q)
        + val_main_v100 (F := Ideal) x0 x1 x2 x3 (ix3 b s q) * x5 (ix2 2 q) + x6 (ix2 0 q) := by
    pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101]
  rw [h, beforeS, afterS, wcolS]
  rfl

/-- The activated convolution, -/
theorem xS (b : Fin 4) (s : Fin 2048) (q : Fin 3072) : val_main_v129 (F := Ideal) x0 x1 x2 x3 x5 x6 (ix3 b s q) = XR x0 x1 x2 x3 x5 x6 (4096 + 2048 * b.val + s.val) q := by
  have h : val_main_v129 (F := Ideal) x0 x1 x2 x3 x5 x6 (ix3 b s q)
      = val_main_v121 (F := Ideal) x0 x1 x2 x3 x5 x6 (ix3 b s q) * Ideal.div (Ideal.ofBits .f32 0x3F800000#32)
          (Ideal.ofBits .f32 0x3F800000#32 + Ideal.exp (-val_main_v121 (F := Ideal) x0 x1 x2 x3 x5 x6 (ix3 b s q))) := by
    pointwise [val_main_v129, val_main_call4_v5, val_main_call4_v4, val_main_call4_v3, val_main_call4_v2, val_main_call4_v1, val_main_call4_v0, val_main_call4_cst, val_main_call4_cst_0]
  rw [h, convS, silu1]
  rfl

/-- the activated gate -/
theorem zS (b : Fin 4) (s : Fin 2048) (q : Fin 2048) : val_main_v128 (F := Ideal) x0 x1 x2 x3 (ix3 b s q) = ZR x0 x1 x2 x3 (4096 + 2048 * b.val + s.val) q := by
  have h : val_main_v128 (F := Ideal) x0 x1 x2 x3 (ix3 b s q)
      = val_main_v94 (F := Ideal) x0 x1 x2 x3 (ix3 b s q) * Ideal.div (Ideal.ofBits .f32 0x3F800000#32)
          (Ideal.ofBits .f32 0x3F800000#32 + Ideal.exp (-val_main_v94 (F := Ideal) x0 x1 x2 x3 (ix3 b s q))) := by
    pointwise [val_main_v128, val_main_call3_v5, val_main_call3_v4, val_main_call3_v3, val_main_call3_v2, val_main_call3_v1, val_main_call3_v0, val_main_call3_cst, val_main_call3_cst_0]
  have h' : val_main_v94 (F := Ideal) x0 x1 x2 x3 (ix3 b s q) = val_main_v93 (F := Ideal) x0 x1 x2 x3 (ix3 b s ⟨q.val, by omega⟩) := by
    pointwise [val_main_v94]
  rw [h, silu1, h', wideS]
  rfl

/-- and the time steps. -/
theorem dS (b : Fin 4) (s : Fin 2048) (q : Fin 512) : val_main_v130 (F := Ideal) x0 x1 x2 x4 x7 (ix3 b s q) = DR x0 x1 x2 x4 x7 (4096 + 2048 * b.val + s.val) q := by
  have h' : val_main_v127 (F := Ideal) x0 x1 x2 x4 x7 (ix3 b s q) = val_main_v123 (F := Ideal) x0 x1 x2 x4 (ix3 b s q) + x7 (ix2 0 q) := by
    pointwise [val_main_v127, val_main_v126, val_main_v125, val_main_v124]
  unfold DR
  rw [← stepS, ← h', ← softplus]
  pointwise [val_main_v130, val_main_call5_v11, val_main_call5_v10, val_main_call5_v9, val_main_call5_v8, val_main_call5_v7, val_main_call5_v6, val_main_call5_v5, val_main_call5_v4, val_main_call5_v3, val_main_call5_v2, val_main_call5_v1, val_main_call5_v0, val_main_call5_cst]
  rfl

end Samples

theorem result_z (R : Fin 12288) (q : Fin 2048) : val_main_v137 (F := Ideal) x0 x1 x2 x3 (ix2 R q) = ZR x0 x1 x2 x3 R.val q := by
  have hR := R.isLt
  have hd := q.isLt
  have h : val_main_v137 (F := Ideal) x0 x1 x2 x3 (ix2 R q)
      = if h : R.val < 4096 then val_main_v64 (F := Ideal) x0 x1 x2 x3 (ix2 ⟨R.val, h⟩ q)
        else val_main_v131 (F := Ideal) x0 x1 x2 x3 (ix2 ⟨R.val - 4096, by omega⟩ q) := by
    pointwise [val_main_v137, val_main_v134]
  rw [h]
  by_cases hp : R.val < 4096
  · rw [dif_pos hp, val_main_v64_apply]
    rw [show idx_main_v64 (ix2 ⟨R.val, hp⟩ q) = ix3 ⟨R.val / 256, by omega⟩ ⟨R.val % 256, by omega⟩ q from funext fun a => Fin.ext (by
      match a with
      | ⟨0, _⟩ => show (R.val * 2048 + q.val) / 524288 = R.val / 256; omega
      | ⟨1, _⟩ => show (R.val * 2048 + q.val) / 2048 % 256 = R.val % 256; omega
      | ⟨2, _⟩ => show (R.val * 2048 + q.val) % 2048 = q.val; omega), zP]
    exact congrArg (ZR x0 x1 x2 x3 · q) (by simp only; omega)
  · rw [dif_neg hp, val_main_v131_apply]
    rw [show idx_main_v131 (ix2 ⟨R.val - 4096, by omega⟩ q) = ix3 ⟨(R.val - 4096) / 2048, by omega⟩ ⟨(R.val - 4096) % 2048, by omega⟩ q from
      funext fun a => Fin.ext (by
      match a with
      | ⟨0, _⟩ => show ((R.val - 4096) * 2048 + q.val) / 4194304 = (R.val - 4096) / 2048; omega
      | ⟨1, _⟩ => show ((R.val - 4096) * 2048 + q.val) / 2048 % 2048 = (R.val - 4096) % 2048; omega
      | ⟨2, _⟩ => show ((R.val - 4096) * 2048 + q.val) % 2048 = q.val; omega), zS]
    exact congrArg (ZR x0 x1 x2 x3 · q) (by simp only; omega)

theorem result_x (R : Fin 12288) (q : Fin 3072) : val_main_v138 (F := Ideal) x0 x1 x2 x3 x5 x6 (ix2 R q) = XR x0 x1 x2 x3 x5 x6 R.val q := by
  have hR := R.isLt
  have hd := q.isLt
  have h : val_main_v138 (F := Ideal) x0 x1 x2 x3 x5 x6 (ix2 R q)
      = if h : R.val < 4096 then val_main_v65 (F := Ideal) x0 x1 x2 x3 x5 x6 (ix2 ⟨R.val, h⟩ q)
        else val_main_v132 (F := Ideal) x0 x1 x2 x3 x5 x6 (ix2 ⟨R.val - 4096, by omega⟩ q) := by
    pointwise [val_main_v138, val_main_v135]
  rw [h]
  by_cases hp : R.val < 4096
  · rw [dif_pos hp, val_main_v65_apply]
    rw [show idx_main_v65 (ix2 ⟨R.val, hp⟩ q) = ix3 ⟨R.val / 256, by omega⟩ ⟨R.val % 256, by omega⟩ q from funext fun a => Fin.ext (by
      match a with
      | ⟨0, _⟩ => show (R.val * 3072 + q.val) / 786432 = R.val / 256; omega
      | ⟨1, _⟩ => show (R.val * 3072 + q.val) / 3072 % 256 = R.val % 256; omega
      | ⟨2, _⟩ => show (R.val * 3072 + q.val) % 3072 = q.val; omega), xP]
    exact congrArg (XR x0 x1 x2 x3 x5 x6 · q) (by simp only; omega)
  · rw [dif_neg hp, val_main_v132_apply]
    rw [show idx_main_v132 (ix2 ⟨R.val - 4096, by omega⟩ q) = ix3 ⟨(R.val - 4096) / 2048, by omega⟩ ⟨(R.val - 4096) % 2048, by omega⟩ q from
      funext fun a => Fin.ext (by
      match a with
      | ⟨0, _⟩ => show ((R.val - 4096) * 3072 + q.val) / 6291456 = (R.val - 4096) / 2048; omega
      | ⟨1, _⟩ => show ((R.val - 4096) * 3072 + q.val) / 3072 % 2048 = (R.val - 4096) % 2048; omega
      | ⟨2, _⟩ => show ((R.val - 4096) * 3072 + q.val) % 3072 = q.val; omega), xS]
    exact congrArg (XR x0 x1 x2 x3 x5 x6 · q) (by simp only; omega)

theorem result_d (R : Fin 12288) (q : Fin 512) : val_main_v136 (F := Ideal) x0 x1 x2 x4 x7 (ix2 R q) = DR x0 x1 x2 x4 x7 R.val q := by
  have hR := R.isLt
  have hd := q.isLt
  have h : val_main_v136 (F := Ideal) x0 x1 x2 x4 x7 (ix2 R q)
      = if h : R.val < 4096 then val_main_v66 (F := Ideal) x0 x1 x2 x4 x7 (ix2 ⟨R.val, h⟩ q)
        else val_main_v133 (F := Ideal) x0 x1 x2 x4 x7 (ix2 ⟨R.val - 4096, by omega⟩ q) := by
    pointwise [val_main_v136]
  rw [h]
  by_cases hp : R.val < 4096
  · rw [dif_pos hp, val_main_v66_apply]
    rw [show idx_main_v66 (ix2 ⟨R.val, hp⟩ q) = ix3 ⟨R.val / 256, by omega⟩ ⟨R.val % 256, by omega⟩ q from funext fun a => Fin.ext (by
      match a with
      | ⟨0, _⟩ => show (R.val * 512 + q.val) / 131072 = R.val / 256; omega
      | ⟨1, _⟩ => show (R.val * 512 + q.val) / 512 % 256 = R.val % 256; omega
      | ⟨2, _⟩ => show (R.val * 512 + q.val) % 512 = q.val; omega), dP]
    exact congrArg (DR x0 x1 x2 x4 x7 · q) (by simp only; omega)
  · rw [dif_neg hp, val_main_v133_apply]
    rw [show idx_main_v133 (ix2 ⟨R.val - 4096, by omega⟩ q) = ix3 ⟨(R.val - 4096) / 2048, by omega⟩ ⟨(R.val - 4096) % 2048, by omega⟩ q from
      funext fun a => Fin.ext (by
      match a with
      | ⟨0, _⟩ => show ((R.val - 4096) * 512 + q.val) / 1048576 = (R.val - 4096) / 2048; omega
      | ⟨1, _⟩ => show ((R.val - 4096) * 512 + q.val) / 512 % 2048 = (R.val - 4096) % 2048; omega
      | ⟨2, _⟩ => show ((R.val - 4096) * 512 + q.val) % 512 = q.val; omega), dS]
    exact congrArg (DR x0 x1 x2 x4 x7 · q) (by simp only; omega)

end Cert.Reference5Ideal.In

namespace Cert.Kernel5Ideal.In

open Idealize.ShloMosaic Idealize.SL.Sem Idealize.ShloMosaic.TcCoe
open Cert.Kernel5Ideal Cert.Kernel5Ideal.Gen

variable (m : (ℓ : Loc nD τ sig) → Buf (Elt Ideal) ℓ) (c : Dev nD)

/-- The array of the gate's columns is the reference's. -/
theorem arr11_eq : (dats m 0 c).arrAt 11 cfg0.N
    = Cert.Reference5Ideal.Read.val_main_v137 (F := Ideal) (m ((c : Thread nD τ).loc main_arg0)) (m ((c : Thread nD τ).loc main_arg1)) (m ((c : Thread nD τ).loc main_arg2)) (m ((c : Thread nD τ).loc main_arg3)) := by
  funext (i : S12288x2048.Idx)
  obtain ⟨R, q, rfl⟩ : ∃ (R : Fin 12288) (q : Fin 2048), i = ix2 R q := ⟨i 0, i 1, funext fun a => match a with | ⟨0, _⟩ => rfl | ⟨1, _⟩ => rfl⟩
  exact (arr11_at m c R q).trans (Cert.Reference5Ideal.In.result_z _ _ _ _ R q).symm

/-- The array of the convolved columns is the reference's. -/
theorem arr12_eq : (dats m 0 c).arrAt 12 cfg0.N
    = Cert.Reference5Ideal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  funext (i : S12288x3072.Idx)
  obtain ⟨R, q, rfl⟩ : ∃ (R : Fin 12288) (q : Fin 3072), i = ix2 R q := ⟨i 0, i 1, funext fun a => match a with | ⟨0, _⟩ => rfl | ⟨1, _⟩ => rfl⟩
  exact (arr12_at m c R q).trans (Cert.Reference5Ideal.In.result_x _ _ _ _ _ _ R q).symm

/-- The array of the time steps is the reference's. -/
theorem arr13_eq : (dats m 0 c).arrAt 13 cfg0.N
    = Cert.Reference5Ideal.Read.val_main_v136 (F := Ideal) (m ((c : Thread nD τ).loc main_arg0)) (m ((c : Thread nD τ).loc main_arg1)) (m ((c : Thread nD τ).loc main_arg2)) (m ((c : Thread nD τ).loc main_arg4)) (m ((c : Thread nD τ).loc main_arg7)) := by
  funext (i : S12288x512.Idx)
  obtain ⟨R, q, rfl⟩ : ∃ (R : Fin 12288) (q : Fin 512), i = ix2 R q := ⟨i 0, i 1, funext fun a => match a with | ⟨0, _⟩ => rfl | ⟨1, _⟩ => rfl⟩
  exact (arr13_at m c R q).trans (Cert.Reference5Ideal.In.result_d _ _ _ _ _ R q).symm

end Cert.Kernel5Ideal.In

end
-- ==== Proof.lean ====
module

public import proofs.«01_k».proof.Proof.Gen.KernelIdeal.Value
public import proofs.«01_k».proof.Proof.Gen.ReferenceIdeal.Read
public import proofs.«01_k».proof.Defs
public import proofs.«01_k».proof.Proof.Pre
public import proofs.«01_k».proof.Proof.Alg
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2.Points
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Ffn.FrameBits
public import proofs.«01_k».proof.Proof.Ffn.Alg
public import proofs.«01_k».proof.Proof.Out.Ssd
public import proofs.«01_k».proof.Proof.Out.Att
public import proofs.«01_k».proof.Proof.Qkv.CtxRef
public import proofs.«01_k».proof.Proof.Qkv.RopeRef
public import proofs.«01_k».proof.Proof.Fin.Norm
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.In.Ref
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite_scores := by
  intro m g m' g' hpre hargs
  refine ⟨fun c => (Cert.KernelIdeal.Gen.dats m 0 c).arrAt 7 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  obtain ⟨⟨X0, h0⟩, ⟨X1, h1⟩, X5, h5⟩ := Pre.reals _ _ _ _ _ _ _ _ (hpre c)
  obtain ⟨e0, e1, e2, e3, e4, e5, e6, e7⟩ := hargs c
  refine (h c).1.trans (Eq.trans ?_ (Alg.arr_eq X0 X1 X5 m c h0 h1 h5).symm)
  rw [Cert.ReferenceIdeal.Read.val_main_v77_eq, e0, e1, e2, e3, e4, e5, e6, e7]

theorem frame_ref : Cert.quiescent_ReferenceIdeal := fun m g _ =>
  (θ_run Cert.ReferenceIdeal.defs _ _).mono (fun r h => And.intro (fun c => (h c).2) (sem_eq_zero_of_no_sems (by decide) r.2))
    (Cert.ReferenceIdeal.Value.run m g)

theorem algebraic2 : Cert.algebraic_Kernel2Ideal_Reference2Ideal := by
  intro m g m' g' _ hargs
  refine ⟨fun c => (Cert.Kernel2Ideal.Ffn.dats m (Cert.Kernel2Ideal.Ffn.outs m) 0 c).arrAt 11 Cert.Kernel2Ideal.cfg0.N, Cert.Kernel2Ideal.Ffn.run_result m g, ?_⟩
  refine (θ_run Cert.Reference2Ideal.defs _ _).mono (fun r h c => ⟨?_, (h c).2⟩) (Cert.Reference2Ideal.Value.run m' g')
  obtain ⟨e0, e1, e2, e3, e4, e5, e6⟩ := hargs c
  refine (h c).1.trans (Eq.trans ?_ (Cert.Kernel2Ideal.Ffn.arr_eq m c).symm)
  rw [Cert.Reference2Ideal.Read.val_main_v128_eq, e0, e1, e2, e3, e4, e5, e6]

theorem frame_ref2 : Cert.quiescent_Reference2Ideal := fun m g _ =>
  (θ_run Cert.Reference2Ideal.defs _ _).mono (fun r h => And.intro (fun c => (h c).2) (sem_eq_zero_of_no_sems (by decide) r.2))
    (Cert.Reference2Ideal.Value.run m g)

theorem algebraic3 : Cert.algebraic_Kernel3Ideal_Reference3Ideal := by
  intro m g m' g' _ hargs
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ⟨?_, (h c).2⟩) (Cert.Reference3Ideal.Value.run m' g')
  obtain ⟨e0, e1, e2, e3⟩ := hargs c
  refine (h c).1.trans (Eq.trans ?_ (Cert.Kernel3Ideal.Out.arr_eq m c).symm)
  rw [Cert.Reference3Ideal.Read.val_main_v26_eq, e0, e1, e2, e3]

theorem frame_ref3 : Cert.quiescent_Reference3Ideal := fun m g _ =>
  (θ_run Cert.Reference3Ideal.defs _ _).mono (fun r h => And.intro (fun c => (h c).2) (sem_eq_zero_of_no_sems (by decide) r.2))
    (Cert.Reference3Ideal.Value.run m g)

theorem algebraic4 : Cert.algebraic_Kernel4Ideal_Reference4Ideal := by
  intro m g m' g' _ hargs
  refine ⟨fun c => (Cert.Kernel4Ideal.Gen.dats m 0 c).arrAt 4 Cert.Kernel4Ideal.cfg0.N, Cert.Kernel4Ideal.Value.run_blocks m g, ?_⟩
  refine (θ_run Cert.Reference4Ideal.defs _ _).mono (fun r h c => ⟨?_, (h c).2⟩) (Cert.Reference4Ideal.Value.run m' g')
  obtain ⟨e0, e1, e2, e3⟩ := hargs c
  refine (h c).1.trans (Eq.trans ?_ (Cert.Kernel4Ideal.Out.arr_eq m c).symm)
  rw [Cert.Reference4Ideal.Read.val_main_v26_eq, e0, e1, e2, e3]

theorem frame_ref4 : Cert.quiescent_Reference4Ideal := fun m g _ =>
  (θ_run Cert.Reference4Ideal.defs _ _).mono (fun r h => And.intro (fun c => (h c).2) (sem_eq_zero_of_no_sems (by decide) r.2))
    (Cert.Reference4Ideal.Value.run m g)

theorem algebraic5 : Cert.algebraic_Kernel5Ideal_Reference5Ideal := by
  intro m g m' g' _ hargs
  refine ⟨fun c => (Cert.Kernel5Ideal.Gen.dats m 0 c).arrAt 11 Cert.Kernel5Ideal.cfg0.N, fun c => (Cert.Kernel5Ideal.Gen.dats m 0 c).arrAt 12 Cert.Kernel5Ideal.cfg0.N,
    fun c => (Cert.Kernel5Ideal.Gen.dats m 0 c).arrAt 13 Cert.Kernel5Ideal.cfg0.N, Cert.Kernel5Ideal.Value.run_blocks m g, ?_⟩
  refine (θ_run Cert.Reference5Ideal.defs _ _).mono (fun r h c => ⟨?_, ?_, ?_, (h c).2.2.2⟩) (Cert.Reference5Ideal.Value.run m' g')
  all_goals obtain ⟨e0, e1, e2, e3, e4, e5, e6, e7⟩ := hargs c
  · refine (h c).1.trans (Eq.trans ?_ (Cert.Kernel5Ideal.In.arr11_eq m c).symm)
    rw [← e0, ← e1, ← e2, ← e3]
    exact Cert.Reference5Ideal.Read.val_main_v137_eq (StableHlo.launchContents m' c)
  · refine (h c).2.1.trans (Eq.trans ?_ (Cert.Kernel5Ideal.In.arr12_eq m c).symm)
    rw [← e0, ← e1, ← e2, ← e3, ← e5, ← e6]
    exact Cert.Reference5Ideal.Read.val_main_v138_eq (StableHlo.launchContents m' c)
  · refine (h c).2.2.1.trans (Eq.trans ?_ (Cert.Kernel5Ideal.In.arr13_eq m c).symm)
    rw [← e0, ← e1, ← e2, ← e4, ← e7]
    exact Cert.Reference5Ideal.Read.val_main_v136_eq (StableHlo.launchContents m' c)

theorem frame_ref5 : Cert.quiescent_Reference5Ideal := fun m g _ =>
  (θ_run Cert.Reference5Ideal.defs _ _).mono (fun r h => And.intro (fun c => (h c).2.2.2) (sem_eq_zero_of_no_sems (by decide) r.2))
    (Cert.Reference5Ideal.Value.run m g)

theorem algebraic6 : Cert.algebraic_Kernel6Ideal_Reference6Ideal := by
  intro m g m' g' _ hargs
  refine ⟨fun c => (Cert.Kernel6Ideal.Gen.dats m 0 c).arrAt 8 Cert.Kernel6Ideal.cfg0.N, fun c => (Cert.Kernel6Ideal.Gen.dats m 0 c).arrAt 9 Cert.Kernel6Ideal.cfg0.N,
    (θ_run Cert.Kernel6Ideal.defs _ _).mono (fun r h c => (h c).2.2.2) (Cert.Kernel6Ideal.Value.run_blocks m g), ?_⟩
  refine (θ_run Cert.Reference6Ideal.defs _ _).mono (fun r h c => ⟨?_, ?_, (h c).2.2⟩) (Cert.Reference6Ideal.Value.run m' g')
  all_goals obtain ⟨e0, e1, e2, e3, e4, e5⟩ := hargs c
  · refine (h c).1.trans (Eq.trans ?_ (Cert.Kernel6Ideal.Qkv.arr8_eq m c).symm)
    rw [Cert.Reference6Ideal.Read.val_main_v33_eq, e0, e1, e2, e3, e4]
  · refine (h c).2.1.trans (Eq.trans ?_ (Cert.Kernel6Ideal.Qkv.arr9_eq m c).symm)
    rw [Cert.Reference6Ideal.Read.val_main_v38_eq, e0, e1, e2, e3, e5]

theorem frame_ref6 : Cert.quiescent_Reference6Ideal := fun m g _ =>
  (θ_run Cert.Reference6Ideal.defs _ _).mono (fun r h => And.intro (fun c => (h c).2.2) (sem_eq_zero_of_no_sems (by decide) r.2))
    (Cert.Reference6Ideal.Value.run m g)

theorem algebraic7 : Cert.algebraic_Kernel7Ideal_Reference7Ideal := by
  intro m g m' g' _ hargs
  refine ⟨fun c => (Cert.Kernel7Ideal.Gen.dats m 0 c).arrAt 8 Cert.Kernel7Ideal.cfg0.N, fun c => (Cert.Kernel7Ideal.Gen.dats m 0 c).arrAt 9 Cert.Kernel7Ideal.cfg0.N,
    fun c => (Cert.Kernel7Ideal.Gen.dats m 0 c).arrAt 10 Cert.Kernel7Ideal.cfg0.N, Cert.Kernel7Ideal.Value.run_blocks m g, ?_⟩
  refine (θ_run Cert.Reference7Ideal.defs _ _).mono (fun r h c => ⟨?_, ?_, ?_, (h c).2.2.2⟩) (Cert.Reference7Ideal.Value.run m' g')
  all_goals obtain ⟨e0, e1, e2, e3, e4, e5, e6⟩ := hargs c
  · refine (h c).1.trans (Eq.trans ?_ (Cert.Kernel7Ideal.Rope.arr8_eq m c).symm)
    rw [← e0, ← e1, ← e2, ← e3, ← e4]
    exact Cert.Reference7Ideal.Read.val_main_v162_eq (StableHlo.launchContents m' c)
  · refine (h c).2.1.trans (Eq.trans ?_ (Cert.Kernel7Ideal.Rope.arr9_eq m c).symm)
    rw [← e0, ← e1, ← e2, ← e3, ← e5]
    exact Cert.Reference7Ideal.Read.val_main_v166_eq (StableHlo.launchContents m' c)
  · refine (h c).2.2.1.trans (Eq.trans ?_ (Cert.Kernel7Ideal.Rope.arr10_eq m c).symm)
    rw [← e0, ← e1, ← e2, ← e3, ← e6]
    exact Cert.Reference7Ideal.Read.val_main_v170_eq (StableHlo.launchContents m' c)

theorem frame_ref7 : Cert.quiescent_Reference7Ideal := fun m g _ =>
  (θ_run Cert.Reference7Ideal.defs _ _).mono (fun r h => And.intro (fun c => (h c).2.2.2) (sem_eq_zero_of_no_sems (by decide) r.2))
    (Cert.Reference7Ideal.Value.run m g)

theorem algebraic8 : Cert.algebraic_Kernel8Ideal_Reference8Ideal := by
  intro m g m' g' _ hargs
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨?_, (h c).2⟩) (Cert.Reference8Ideal.Value.run m' g')
  obtain ⟨e0, e1⟩ := hargs c
  refine (h c).1.trans (Eq.trans ?_ (Cert.Kernel8Ideal.Fin.arr_eq m c).symm)
  rw [Cert.Reference8Ideal.Read.val_main_v14_eq, e0, e1]

theorem frame_ref8 : Cert.quiescent_Reference8Ideal := fun m g _ =>
  (θ_run Cert.Reference8Ideal.defs _ _).mono (fun r h => And.intro (fun c => (h c).2) (sem_eq_zero_of_no_sems (by decide) r.2))
    (Cert.Reference8Ideal.Value.run m g)

theorem algebraic9 : Cert.algebraic_Kernel9Ideal_Reference9Ideal := by
  intro m g m' g' _ hargs
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ⟨?_, (h c).2⟩) (Cert.Reference9Ideal.Value.run m' g')
  obtain ⟨e0, e1⟩ := hargs c
  refine (h c).1.trans (Eq.trans ?_ (Cert.Kernel9Ideal.Fin.arr_eq m c).symm)
  rw [Cert.Reference9Ideal.Read.val_main_v14_eq, e0, e1]

theorem frame_ref9 : Cert.quiescent_Reference9Ideal := fun m g _ =>
  (θ_run Cert.Reference9Ideal.defs _ _).mono (fun r h => And.intro (fun c => (h c).2) (sem_eq_zero_of_no_sems (by decide) r.2))
    (Cert.Reference9Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Pre.facts,
  fun m g _ => Cert.Kernel.Gen.frame m g, fun m g _ => Cert.KernelIdeal.Gen.frame m g, fun m g _ => Cert.KernelIdeal.Gen.frame m g,
  frame_ref, fun m g _ => frame_ref m g trivial,
  fun m g _ => Cert.Kernel2.Ffn.frame m g, fun m g _ => Cert.Kernel2Ideal.Ffn.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Gen.frame m g, fun m g _ => Cert.Kernel6Ideal.Gen.frame m g, frame_ref6,
  fun m g _ => Cert.Kernel7.Gen.frame m g, fun m g _ => Cert.Kernel7Ideal.Gen.frame m g, frame_ref7,
  fun m g _ => Cert.Kernel8.Gen.frame m g, fun m g _ => Cert.Kernel8Ideal.Gen.frame m g, frame_ref8,
  fun m g _ => Cert.Kernel9.Gen.frame m g, fun m g _ => Cert.Kernel9Ideal.Gen.frame m g, frame_ref9,
  trivial, algebraic, trivial, algebraic2, trivial, algebraic3, trivial, algebraic4, trivial, algebraic5,
  trivial, algebraic6, trivial, algebraic7, trivial, algebraic8, trivial, algebraic9⟩

end Cert.Proof

end
